-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v334) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_drawn : Cert.Pre_drawn.Facts),
    quiescent_Kernel (hKernel := hKernel) (hPre_in_range := hPre_in_range)
    ∧ quiescent_KernelIdeal (hKernelIdeal := hKernelIdeal) (hPre_in_range := hPre_in_range)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S8192x4096 : Shape := ⟨2, ![8192, 4096]⟩
abbrev S8x4096 : Shape := ⟨2, ![8, 4096]⟩
abbrev S8x2048 : Shape := ⟨2, ![8, 2048]⟩
abbrev S1x4096 : Shape := ⟨2, ![1, 4096]⟩
abbrev S_ : Shape := ⟨0, ![]⟩
abbrev S4096 : Shape := ⟨1, ![4096]⟩
abbrev S32x128 : Shape := ⟨2, ![32, 128]⟩
abbrev S128 : Shape := ⟨1, ![128]⟩
abbrev S32x128x1 : Shape := ⟨3, ![32, 128, 1]⟩
abbrev S32x1x128 : Shape := ⟨3, ![32, 1, 128]⟩
abbrev S32x128x128 : Shape := ⟨3, ![32, 128, 128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8x2048 : S_.BroadcastsInDim S8x2048 (![] : Fin 0 → Fin S8x2048.rank)
  reducesTo_S8x2048_S_d0_1 : S8x2048.ReducesTo [0, 1] S_
  bcast_S_S1x4096 : S_.BroadcastsInDim S1x4096 (![] : Fin 0 → Fin S1x4096.rank)
  reducesTo_S1x4096_S_d0_1 : S1x4096.ReducesTo [0, 1] S_
  bcast_S_S8x4096 : S_.BroadcastsInDim S8x4096 (![] : Fin 0 → Fin S8x4096.rank)
  reducesTo_S8x4096_S_d0_1 : S8x4096.ReducesTo [0, 1] S_
  slices_S8x4096_S1x4096_0_0 : S8x4096.Slices ![0, 0] S1x4096
  bcast_S1x4096_S8x4096_0_1 : S1x4096.BroadcastsInDim S8x4096 (![0, 1] : Fin 2 → Fin S8x4096.rank)
  shapeCasts_S1x4096_S4096 : S1x4096.ShapeCasts S4096
  shapeCasts_S4096_S32x128 : S4096.ShapeCasts S32x128
  bcast_S32x128_S32x128x1_0_1 : S32x128.BroadcastsInDim S32x128x1 (![0, 1] : Fin 2 → Fin S32x128x1.rank)
  bcast_S32x128_S32x1x128_0_2 : S32x128.BroadcastsInDim S32x1x128 (![0, 2] : Fin 2 → Fin S32x1x128.rank)
  bcast_S32x128x1_S32x128x128_0_1_2 : S32x128x1.BroadcastsInDim S32x128x128 (![0, 1, 2] : Fin 3 → Fin S32x128x128.rank)
  bcast_S32x1x128_S32x128x128_0_1_2 : S32x1x128.BroadcastsInDim S32x128x128 (![0, 1, 2] : Fin 3 → Fin S32x128x128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S128x128_S1x128x128_1_2 : S128x128.BroadcastsInDim S1x128x128 (![1, 2] : Fin 2 → Fin S1x128x128.rank)
  bcast_S1x128x128_S32x128x128_0_1_2 : S1x128x128.BroadcastsInDim S32x128x128 (![0, 1, 2] : Fin 3 → Fin S32x128x128.rank)
  reducesTo_S32x128x128_S_d0_1_2 : S32x128x128.ReducesTo [0, 1, 2] S_

variable [Facts]

def fn_part2 {F : FTy → Type} [FloatOps F] (main_v13 : IVec S_ 1) (main_v19 : IVec S_ 1) (main_v23 : IVec S_ 1) (main_v32 : IVec S32x128x128 1) (main_v37 : IVec S128x128 1) : IVec S_ 1 :=
  let main_v38 : IVec S1x128x128 1 := broadcastInDim S1x128x128 ![1, 2] bcast_S128x128_S1x128x128_1_2 main_v37
  let main_v39 : IVec S32x128x128 1 := broadcastInDim S32x128x128 ![0, 1, 2] bcast_S1x128x128_S32x128x128_0_1_2 main_v38
  let main_v40 : IVec S32x128x128 1 := ori main_v32 main_v39
  let main_c_8 : IVec S_ 1 := constantI S_ 1 1#1
  let main_v41 : IVec S_ 1 := (fun x v => Host.reduce IntOp.andi x v reducesTo_S32x128x128_S_d0_1_2 h_S_) main_v40 main_c_8
  let main_v42 : IVec S_ 1 := andi main_v13 main_v19
  let main_v43 : IVec S_ 1 := andi main_v42 main_v23
  let main_v44 : IVec S_ 1 := andi main_v43 main_v41
  main_v44

def fn_part1 {F : FTy → Type} [FloatOps F] (main_arg1 : IVec S8x4096 32) (main_v13 : IVec S_ 1) (main_v15 : IVec S8x4096 1) (main_c_5 : IVec S_ 32) : IVec S_ 1 :=
  let main_v16 : IVec S8x4096 32 := broadcastInDim S8x4096 ![] bcast_S_S8x4096 main_c_5
  let main_v17 : IVec S8x4096 1 := cmpi .slt main_arg1 main_v16
  let main_v18 : IVec S8x4096 1 := andi main_v15 main_v17
  let main_c_6 : IVec S_ 1 := constantI S_ 1 1#1
  let main_v19 : IVec S_ 1 := (fun x v => Host.reduce IntOp.andi x v reducesTo_S8x4096_S_d0_1 h_S_) main_v18 main_c_6
  let main_v20 : IVec S1x4096 32 := (extractStridedSlice S1x4096 ![0, 0] · slices_S8x4096_S1x4096_0_0) main_arg1
  let main_v21 : IVec S8x4096 32 := broadcastInDim S8x4096 ![0, 1] bcast_S1x4096_S8x4096_0_1 main_v20
  let main_v22 : IVec S8x4096 1 := cmpi .eq main_arg1 main_v21
  let main_c_7 : IVec S_ 1 := constantI S_ 1 1#1
  let main_v23 : IVec S_ 1 := (fun x v => Host.reduce IntOp.andi x v reducesTo_S8x4096_S_d0_1 h_S_) main_v22 main_c_7
  let main_v24 : IVec S1x4096 32 := (extractStridedSlice S1x4096 ![0, 0] · slices_S8x4096_S1x4096_0_0) main_arg1
  let main_v25 : IVec S4096 32 := shapeCast S4096 main_v24 shapeCasts_S1x4096_S4096
  let main_v26 : IVec S32x128 32 := shapeCast S32x128 main_v25 shapeCasts_S4096_S32x128
  let main_v27 : IVec S128 32 := iotaInDim S128 32 0
  let main_v28 : IVec S32x128x1 32 := broadcastInDim S32x128x1 ![0, 1] bcast_S32x128_S32x128x1_0_1 main_v26
  let main_v29 : IVec S32x1x128 32 := broadcastInDim S32x1x128 ![0, 2] bcast_S32x128_S32x1x128_0_2 main_v26
  let main_v30 : IVec S32x128x128 32 := broadcastInDim S32x128x128 ![0, 1, 2] bcast_S32x128x1_S32x128x128_0_1_2 main_v28
  let main_v31 : IVec S32x128x128 32 := broadcastInDim S32x128x128 ![0, 1, 2] bcast_S32x1x128_S32x128x128_0_1_2 main_v29
  let main_v32 : IVec S32x128x128 1 := cmpi .ne main_v30 main_v31
  let main_v33 : IVec S128x1 32 := broadcastInDim S128x1 ![0] bcast_S128_S128x1_0 main_v27
  let main_v34 : IVec S1x128 32 := broadcastInDim S1x128 ![1] bcast_S128_S1x128_1 main_v27
  let main_v35 : IVec S128x128 32 := broadcastInDim S128x128 ![0, 1] bcast_S128x1_S128x128_0_1 main_v33
  let main_v36 : IVec S128x128 32 := broadcastInDim S128x128 ![0, 1] bcast_S1x128_S128x128_0_1 main_v34
  let main_v37 : IVec S128x128 1 := cmpi .eq main_v35 main_v36
  fn_part2 (F := F) main_v13 main_v19 main_v23 main_v32 main_v37

def fn {F : FTy → Type} [FloatOps F] (main_arg0 : FVec F S8192x4096 .f32) (main_arg1 : IVec S8x4096 32) (main_arg2 : FVec F S8x2048 .f32) (main_arg3 : FVec F S1x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8x2048 .f32 := Host.absf main_arg2
  let main_cst_0 : FVec F S_ .f32 := constant S_ .f32 0x7F800000#32
  let main_v5 : FVec F S8x2048 .f32 := broadcastInDim S8x2048 ![] bcast_S_S8x2048 main_cst_0
  let main_v6 : IVec S8x2048 1 := cmpf .olt main_v4 main_v5
  let main_c_1 : IVec S_ 1 := constantI S_ 1 1#1
  let main_v7 : IVec S_ 1 := (fun x v => Host.reduce IntOp.andi x v reducesTo_S8x2048_S_d0_1 h_S_) main_v6 main_c_1
  let main_v8 : IVec S_ 1 := andi main_v3 main_v7
  let main_v9 : FVec F S1x4096 .f32 := Host.absf main_arg3
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_c_4 : IVec S_ 32 := constantI S_ 32 0#32
  let main_v14 : IVec S8x4096 32 := broadcastInDim S8x4096 ![] bcast_S_S8x4096 main_c_4
  let main_v15 : IVec S8x4096 1 := cmpi .sge main_arg1 main_v14
  let main_c_5 : IVec S_ 32 := constantI S_ 32 128#32
  fn_part1 (F := F) main_arg1 main_v13 main_v15 main_c_5
-- ==== Pre_in_range.lean ====
abbrev S8192x4096 : Shape := ⟨2, ![8192, 4096]⟩
abbrev S8x4096 : Shape := ⟨2, ![8, 4096]⟩
abbrev S8x2048 : Shape := ⟨2, ![8, 2048]⟩
abbrev S1x4096 : Shape := ⟨2, ![1, 4096]⟩
abbrev S_ : Shape := ⟨0, ![]⟩

class Facts : Prop where
  bcast_S_S8x4096 : S_.BroadcastsInDim S8x4096 (![] : Fin 0 → Fin S8x4096.rank)

variable [Facts]

def fn {F : FTy → Type} [FloatOps F] (main_arg0 : FVec F S8192x4096 .f32) (main_arg1 : IVec S8x4096 32) (main_arg2 : FVec F S8x2048 .f32) (main_arg3 : FVec F S1x4096 .f32) : IVec S8x4096 1 :=
  let main_c : IVec S_ 32 := constantI S_ 32 0#32
  let main_v0 : IVec S8x4096 32 := broadcastInDim S8x4096 ![] bcast_S_S8x4096 main_c
  let main_v1 : IVec S8x4096 1 := cmpi .sge main_arg1 main_v0
  let main_c_0 : IVec S_ 32 := constantI S_ 32 128#32
  let main_v2 : IVec S8x4096 32 := broadcastInDim S8x4096 ![] bcast_S_S8x4096 main_c_0
  let main_v3 : IVec S8x4096 1 := cmpi .slt main_arg1 main_v2
  let main_v4 : IVec S8x4096 1 := andi main_v1 main_v3
  main_v4
-- ==== Kernel.lean ====
abbrev S8192x4096 : Shape := ⟨2, ![8192, 4096]⟩
abbrev S8x4096 : Shape := ⟨2, ![8, 4096]⟩
abbrev S8x2048 : Shape := ⟨2, ![8, 2048]⟩
abbrev S1x4096 : Shape := ⟨2, ![1, 4096]⟩
abbrev S32 : Shape := ⟨1, ![32]⟩
abbrev S_ : Shape := ⟨0, ![]⟩
abbrev S32x128 : Shape := ⟨2, ![32, 128]⟩
abbrev S4096 : Shape := ⟨1, ![4096]⟩
abbrev S2048 : Shape := ⟨1, ![2048]⟩
abbrev S3584x4096 : Shape := ⟨2, ![3584, 4096]⟩
abbrev S4x4096 : Shape := ⟨2, ![4, 4096]⟩
abbrev S16 : Shape := ⟨1, ![16]⟩
abbrev S32x64 : Shape := ⟨2, ![32, 64]⟩
abbrev S128 : Shape := ⟨1, ![128]⟩
abbrev S32x64x1 : Shape := ⟨3, ![32, 64, 1]⟩
abbrev S1x1x128 : Shape := ⟨3, ![1, 1, 128]⟩
abbrev S32x64x128 : Shape := ⟨3, ![32, 64, 128]⟩
abbrev S32x64x1x128 : Shape := ⟨4, ![32, 64, 1, 128]⟩
abbrev S32x128x128 : Shape := ⟨3, ![32, 128, 128]⟩
abbrev S4608x4096 : Shape := ⟨2, ![4608, 4096]⟩
abbrev S512x4096 : Shape := ⟨2, ![512, 4096]⟩
abbrev S512x128 : Shape := ⟨2, ![512, 128]⟩
abbrev S1x128x128 : Shape := ⟨3, ![1, 128, 128]⟩
abbrev S128x128 : Shape := ⟨2, ![128, 128]⟩

abbrev nBuf : Table → Nat
  | .hbm => 110
  | .local .tc .vmem => 5
  | .local .scVector .vmem => 13
  | _ => 0

abbrev bufTy : (tb : Table) → Fin (nBuf tb) → BufTy
  | .hbm, ⟨0, _⟩ => ⟨S8192x4096, .f32⟩
  | .hbm, ⟨1, _⟩ => ⟨S8x4096, .i32⟩
  | .hbm, ⟨2, _⟩ => ⟨S8x2048, .f32⟩
  | .hbm, ⟨3, _⟩ => ⟨S1x4096, .f32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S32x128, .i32⟩
  | .hbm, ⟨9, _⟩ => ⟨S4096, .i32⟩
  | .hbm, ⟨10, _⟩ => ⟨S1x4096, .i32⟩
  | .hbm, ⟨11, _⟩ => ⟨S4096, .i32⟩
  | .hbm, ⟨12, _⟩ => ⟨S4096, .i32⟩
  | .hbm, ⟨13, _⟩ => ⟨S2048, .i32⟩
  | .hbm, ⟨14, _⟩ => ⟨S2048, .i32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S4096, .f32⟩
  | .hbm, ⟨20, _⟩ => ⟨S3584x4096, .f32⟩
  | .hbm, ⟨21, _⟩ => ⟨S32x128, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S_, .i32⟩
  | .hbm, ⟨31, _⟩ => ⟨S2048, .i32⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S_, .i32⟩
  | .hbm, ⟨37, _⟩ => ⟨S_, .i1⟩
  | .hbm, ⟨38, _⟩ => ⟨S2048, .i1⟩
  | .hbm, ⟨39, _⟩ => ⟨S2048, .i1⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S32x64, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S_, .i32⟩
  | .hbm, ⟨54, _⟩ => ⟨S2048, .i32⟩
  | .hbm, ⟨55, _⟩ => ⟨S2048, .i1⟩
  | .hbm, ⟨56, _⟩ => ⟨S_, .i32⟩
  | .hbm, ⟨57, _⟩ => ⟨S2048, .i32⟩
  | .hbm, ⟨58, _⟩ => ⟨S2048, .i1⟩
  | .hbm, ⟨59, _⟩ => ⟨S_, .i32⟩
  | .hbm, ⟨60, _⟩ => ⟨S_, .i1⟩
  | .hbm, ⟨61, _⟩ => ⟨S2048, .i1⟩
  | .hbm, ⟨62, _⟩ => ⟨S2048, .i1⟩
  | .hbm, ⟨63, _⟩ => ⟨S2048, .i1⟩
  | .hbm, ⟨64, _⟩ => ⟨S2048, .i32⟩
  | .hbm, ⟨65, _⟩ => ⟨S2048, .i32⟩
  | .hbm, ⟨66, _⟩ => ⟨S2048, .i32⟩
  | .hbm, ⟨67, _⟩ => ⟨S32x64, .i32⟩
  | .hbm, ⟨68, _⟩ => ⟨S128, .i32⟩
  | .hbm, ⟨69, _⟩ => ⟨S32x64x1, .i32⟩
  | .hbm, ⟨70, _⟩ => ⟨S1x1x128, .i32⟩
  | .hbm, ⟨71, _⟩ => ⟨S32x64x128, .i32⟩
  | .hbm, ⟨72, _⟩ => ⟨S32x64x128, .i32⟩
  | .hbm, ⟨73, _⟩ => ⟨S32x64x128, .i1⟩
  | .hbm, ⟨74, _⟩ => ⟨S32x64x128, .f32⟩
  | .hbm, ⟨75, _⟩ => ⟨S32x64x1, .i32⟩
  | .hbm, ⟨76, _⟩ => ⟨S1x1x128, .i32⟩
  | .hbm, ⟨77, _⟩ => ⟨S32x64x128, .i32⟩
  | .hbm, ⟨78, _⟩ => ⟨S32x64x128, .i32⟩
  | .hbm, ⟨79, _⟩ => ⟨S32x64x128, .i1⟩
  | .hbm, ⟨80, _⟩ => ⟨S32x64x128, .f32⟩
  | .hbm, ⟨81, _⟩ => ⟨S32x64, .f32⟩
  | .hbm, ⟨82, _⟩ => ⟨S32x64, .f32⟩
  | .hbm, ⟨83, _⟩ => ⟨S32x64, .f32⟩
  | .hbm, ⟨84, _⟩ => ⟨S32x64, .f32⟩
  | .hbm, ⟨85, _⟩ => ⟨S32x64, .f32⟩
  | .hbm, ⟨86, _⟩ => ⟨S32x64, .f32⟩
  | .hbm, ⟨87, _⟩ => ⟨S32x64, .f32⟩
  | .hbm, ⟨88, _⟩ => ⟨S32x64, .f32⟩
  | .hbm, ⟨89, _⟩ => ⟨S32x64x1, .f32⟩
  | .hbm, ⟨90, _⟩ => ⟨S32x64x1x128, .f32⟩
  | .hbm, ⟨91, _⟩ => ⟨S32x64x128, .f32⟩
  | .hbm, ⟨92, _⟩ => ⟨S32x128x128, .f32⟩
  | .hbm, ⟨93, _⟩ => ⟨S32x64x1, .f32⟩
  | .hbm, ⟨94, _⟩ => ⟨S32x64x1x128, .f32⟩
  | .hbm, ⟨95, _⟩ => ⟨S32x64x128, .f32⟩
  | .hbm, ⟨96, _⟩ => ⟨S32x128x128, .f32⟩
  | .hbm, ⟨97, _⟩ => ⟨S32x128x128, .f32⟩
  | .hbm, ⟨98, _⟩ => ⟨S32x64x1, .f32⟩
  | .hbm, ⟨99, _⟩ => ⟨S32x64x1x128, .f32⟩
  | .hbm, ⟨100, _⟩ => ⟨S32x64x128, .f32⟩
  | .hbm, ⟨101, _⟩ => ⟨S32x128x128, .f32⟩
  | .hbm, ⟨102, _⟩ => ⟨S32x128x128, .f32⟩
  | .hbm, ⟨103, _⟩ => ⟨S32x64x1, .f32⟩
  | .hbm, ⟨104, _⟩ => ⟨S32x64x1x128, .f32⟩
  | .hbm, ⟨105, _⟩ => ⟨S32x64x128, .f32⟩
  | .hbm, ⟨106, _⟩ => ⟨S32x128x128, .f32⟩
  | .hbm, ⟨107, _⟩ => ⟨S32x128x128, .f32⟩
  | .hbm, ⟨108, _⟩ => ⟨S4608x4096, .f32⟩
  | .hbm, ⟨109, _⟩ => ⟨S8192x4096, .f32⟩
  | .local .tc .vmem, ⟨0, _⟩ => ⟨S512x4096, .f32⟩
  | .local .tc .vmem, ⟨1, _⟩ => ⟨S512x4096, .f32⟩
  | .local .tc .vmem, ⟨2, _⟩ => ⟨S32x128x128, .f32⟩
  | .local .tc .vmem, ⟨3, _⟩ => ⟨S512x4096, .f32⟩
  | .local .tc .vmem, ⟨4, _⟩ => ⟨S512x4096, .f32⟩
  | .local .scVector .vmem, ⟨0, _⟩ => ⟨S4x4096, .f32⟩
  | .local .scVector .vmem, ⟨1, _⟩ => ⟨S4x4096, .f32⟩
  | .local .scVector .vmem, ⟨2, _⟩ => ⟨S4x4096, .f32⟩
  | .local .scVector .vmem, ⟨3, _⟩ => ⟨S4x4096, .f32⟩
  | .local .scVector .vmem, ⟨4, _⟩ => ⟨S2048, .i32⟩
  | .local .scVector .vmem, ⟨5, _⟩ => ⟨S2048, .i32⟩
  | .local .scVector .vmem, ⟨6, _⟩ => ⟨S2048, .f32⟩
  | .local .scVector .vmem, ⟨7, _⟩ => ⟨S2048, .f32⟩
  | .local .scVector .vmem, ⟨8, _⟩ => ⟨S4096, .f32⟩
  | .local .scVector .vmem, ⟨9, _⟩ => ⟨S2048, .f32⟩
  | .local .scVector .vmem, ⟨10, _⟩ => ⟨S2048, .f32⟩
  | .local .scVector .vmem, ⟨11, _⟩ => ⟨S2048, .f32⟩
  | .local .scVector .vmem, ⟨12, _⟩ => ⟨S2048, .f32⟩
  | _, _ => ⟨S8192x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_v5 : Ref sig .tc := ⟨.hbm, 31, rfl⟩
abbrev main_call0_v6 : Ref sig .tc := ⟨.hbm, 32, rfl⟩
abbrev main_call0_c_2 : Ref sig .tc := ⟨.hbm, 33, rfl⟩
abbrev main_call0_v7 : Ref sig .tc := ⟨.hbm, 34, rfl⟩
abbrev main_call0_v8 : Ref sig .tc := ⟨.hbm, 35, rfl⟩
abbrev main_call0_c_3 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_v16 : Ref sig .tc := ⟨.hbm, 43, rfl⟩
abbrev main_v17 : Ref sig .tc := ⟨.hbm, 44, rfl⟩
abbrev main_c_1 : Ref sig .tc := ⟨.hbm, 45, rfl⟩
abbrev main_call1_v0 : Ref sig .tc := ⟨.hbm, 46, rfl⟩
abbrev main_call1_c : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_1 : Ref sig .tc := ⟨.hbm, 53, rfl⟩
abbrev main_call1_v5 : Ref sig .tc := ⟨.hbm, 54, rfl⟩
abbrev main_call1_v6 : Ref sig .tc := ⟨.hbm, 55, rfl⟩
abbrev main_call1_c_2 : Ref sig .tc := ⟨.hbm, 56, rfl⟩
abbrev main_call1_v7 : Ref sig .tc := ⟨.hbm, 57, rfl⟩
abbrev main_call1_v8 : Ref sig .tc := ⟨.hbm, 58, rfl⟩
abbrev main_call1_c_3 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_arg0_scv : Ref sig .scVector := ⟨.hbm, 0, rfl⟩
abbrev main_v8_scv : Ref sig .scVector := ⟨.hbm, 13, rfl⟩
abbrev main_v9_scv : Ref sig .scVector := ⟨.hbm, 14, rfl⟩
abbrev main_v11_scv : Ref sig .scVector := ⟨.hbm, 17, rfl⟩
abbrev main_v12_scv : Ref sig .scVector := ⟨.hbm, 18, rfl⟩
abbrev main_v13_scv : Ref sig .scVector := ⟨.hbm, 19, rfl⟩
abbrev main_v14_scv : Ref sig .scVector := ⟨.hbm, 20, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c128_i32 : BitVec 32 := 128#32
  let v2 : BitVec 32 := Scalar.addi c0_i32 c128_i32
  let c1_i32 : BitVec 32 := 1#32
  ⟨c0_i32, v2, c1_i32⟩
def k0_off1 (k0_t1 : Fin k0_t1_loop.trips) : Fin 1 → Nat :=
  let c0_i32_15 : BitVec 32 := 0#32
  let c0_i32 : BitVec 32 := 0#32
  let c1_i32 : BitVec 32 := 1#32
  let arg30 : BitVec 32 := Scf.iv c0_i32 c1_i32 k0_t1
  let c1_i32_14 : BitVec 32 := 1#32
  let v17 : BitVec 32 := Scalar.muli arg30 c1_i32_14
  let v18 : BitVec 32 := Scalar.addi c0_i32_15 v17
  let c16_i32 : BitVec 32 := 16#32
  let v19 : BitVec 32 := Scalar.muli v18 c16_i32
  let v20 : Index := Scalar.indexCast v19
  ![v20.toNat]

def k0_chk1 (v21 : IVec S16 32) : Prop :=
  (∀ a x, ((![v21] : Fin 1 → IVec S16 32) a x).toNat < S4096.size a)
theorem k0_idx1_inb : ∀ (v21 : IVec S16 32) (k0_hw1 : k0_chk1 v21), ∀ a x, ((![v21] : Fin 1 → IVec S16 32) a x).toNat < S4096.size a := fun v21 k0_hw1 => k0_hw1

def k0_chk2 (v23 : IVec S16 32) : Prop :=
  (∀ a x, ((![v23] : Fin 1 → IVec S16 32) a x).toNat < S4096.size a)
theorem k0_idx2_inb : ∀ (v23 : IVec S16 32) (k0_hw2 : k0_chk2 v23), ∀ a x, ((![v23] : Fin 1 → IVec S16 32) a x).toNat < S4096.size a := fun v23 k0_hw2 => k0_hw2
def k0_off2 (k0_t1 : Fin k0_t1_loop.trips) : Fin 1 → Nat :=
  let c0_i32_15 : BitVec 32 := 0#32
  let c0_i32 : BitVec 32 := 0#32
  let c1_i32 : BitVec 32 := 1#32
  let arg30 : BitVec 32 := Scf.iv c0_i32 c1_i32 k0_t1
  let c1_i32_14 : BitVec 32 := 1#32
  let v17 : BitVec 32 := Scalar.muli arg30 c1_i32_14
  let v18 : BitVec 32 := Scalar.addi c0_i32_15 v17
  let c16_i32 : BitVec 32 := 16#32
  let v19 : BitVec 32 := Scalar.muli v18 c16_i32
  let v31 : Index := Scalar.indexCast v19
  ![v31.toNat]
def k0_off3 (i : grid0.Coords) (c0_i32_1 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v3 : BitVec 32 := Scalar.muli v1 c112_i32
  let v4 : BitVec 32 := Scalar.addi v3 c0_i32_1
  let c0_i32_2 : BitVec 32 := 0#32
  ![v4.toNat, 0]
@[reducible] def k0_t2_loop : Scf.Loop 32 :=
  let c0_i32_9 : BitVec 32 := 0#32
  let c7_i32 : BitVec 32 := 7#32
  let v13 : BitVec 32 := Scalar.addi c0_i32_9 c7_i32
  let c1_i32_10 : BitVec 32 := 1#32
  ⟨c0_i32_9, v13, c1_i32_10⟩
def k0_cond1 (k0_t2 : Fin k0_t2_loop.trips) : BitVec 1 :=
  let c4_i32_14 : BitVec 32 := 4#32
  let c0_i32_9 : BitVec 32 := 0#32
  let c1_i32_10 : BitVec 32 := 1#32
  let arg30 : BitVec 32 := Scf.iv c0_i32_9 c1_i32_10 k0_t2
  let v17 : BitVec 32 := Scalar.muli c4_i32_14 arg30
  let c0_i32_15 : BitVec 32 := 0#32
  let v18 : BitVec 32 := Scalar.addi v17 c0_i32_15
  let c1_i32_16 : BitVec 32 := 1#32
  let v19 : BitVec 1 := Scalar.cmpi .sge v18 c1_i32_16
  let v20 : BitVec 32 := Scalar.extui v19
  let c0_i32_17 : BitVec 32 := 0#32
  let v21 : BitVec 1 := Scalar.cmpi .ne v20 c0_i32_17
  v21

def k0_off4 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v3 : BitVec 32 := Scalar.muli v1 c112_i32
  let c4_i32_14 : BitVec 32 := 4#32
  let c0_i32_9 : BitVec 32 := 0#32
  let c1_i32_10 : BitVec 32 := 1#32
  let arg30 : BitVec 32 := Scf.iv c0_i32_9 c1_i32_10 k0_t2
  let v17 : BitVec 32 := Scalar.muli c4_i32_14 arg30
  let c0_i32_15 : BitVec 32 := 0#32
  let v18 : BitVec 32 := Scalar.addi v17 c0_i32_15
  let c1_i32_84 : BitVec 32 := 1#32
  let v93 : BitVec 32 := Scalar.subi v18 c1_i32_84
  let c4_i32_85 : BitVec 32 := 4#32
  let v94 : BitVec 32 := Scalar.muli v93 c4_i32_85
  let v95 : BitVec 32 := Scalar.addi v3 v94
  let c0_i32_86 : BitVec 32 := 0#32
  ![v95.toNat, 0]
def k0_cond2 (k0_t2 : Fin k0_t2_loop.trips) : BitVec 1 :=
  let c4_i32_14 : BitVec 32 := 4#32
  let c0_i32_9 : BitVec 32 := 0#32
  let c1_i32_10 : BitVec 32 := 1#32
  let arg30 : BitVec 32 := Scf.iv c0_i32_9 c1_i32_10 k0_t2
  let v17 : BitVec 32 := Scalar.muli c4_i32_14 arg30
  let c0_i32_15 : BitVec 32 := 0#32
  let v18 : BitVec 32 := Scalar.addi v17 c0_i32_15
  let c4_i32_18 : BitVec 32 := 4#32
  let v22 : BitVec 32 := Scalar.addi v18 c4_i32_18
  let c1_i32_19 : BitVec 32 := 1#32
  let v23 : BitVec 32 := Scalar.subi v22 c1_i32_19
  let c28_i32 : BitVec 32 := 28#32
  let v24 : BitVec 1 := Scalar.cmpi .slt v23 c28_i32
  let v25 : BitVec 32 := Scalar.extui v24
  let c0_i32_20 : BitVec 32 := 0#32
  let v26 : BitVec 1 := Scalar.cmpi .ne v25 c0_i32_20
  v26

def k0_off5 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v3 : BitVec 32 := Scalar.muli v1 c112_i32
  let c4_i32_14 : BitVec 32 := 4#32
  let c0_i32_9 : BitVec 32 := 0#32
  let c1_i32_10 : BitVec 32 := 1#32
  let arg30 : BitVec 32 := Scf.iv c0_i32_9 c1_i32_10 k0_t2
  let v17 : BitVec 32 := Scalar.muli c4_i32_14 arg30
  let c0_i32_15 : BitVec 32 := 0#32
  let v18 : BitVec 32 := Scalar.addi v17 c0_i32_15
  let c4_i32_84 : BitVec 32 := 4#32
  let v93 : BitVec 32 := Scalar.addi v18 c4_i32_84
  let c1_i32_85 : BitVec 32 := 1#32
  let v94 : BitVec 32 := Scalar.subi v93 c1_i32_85
  let c4_i32_86 : BitVec 32 := 4#32
  let v95 : BitVec 32 := Scalar.muli v94 c4_i32_86
  let v96 : BitVec 32 := Scalar.addi v3 v95
  let c0_i32_87 : BitVec 32 := 0#32
  ![v96.toNat, 0]
def k0_off6 (i : grid0.Coords) (k0_t2 : Fin k0_t2_loop.trips) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v3 : BitVec 32 := Scalar.muli v1 c112_i32
  let c4_i32_14 : BitVec 32 := 4#32
  let c0_i32_9 : BitVec 32 := 0#32
  let c1_i32_10 : BitVec 32 := 1#32
  let arg30 : BitVec 32 := Scf.iv c0_i32_9 c1_i32_10 k0_t2
  let v17 : BitVec 32 := Scalar.muli c4_i32_14 arg30
  let v18 : BitVec 32 := Scalar.addi v17 c0_i32_15
  let c4_i32_21 : BitVec 32 := 4#32
  let v27 : BitVec 32 := Scalar.muli v18 c4_i32_21
  let v28 : BitVec 32 := Scalar.addi v3 v27
  let c0_i32_22 : BitVec 32 := 0#32
  ![v28.toNat, 0]
@[reducible] def k0_t3_loop : Scf.Loop 32 :=
  let c0_i32_24 : BitVec 32 := 0#32
  let c128_i32_25 : BitVec 32 := 128#32
  let v31 : BitVec 32 := Scalar.addi c0_i32_24 c128_i32_25
  let c1_i32_26 : BitVec 32 := 1#32
  ⟨c0_i32_24, v31, c1_i32_26⟩
def k0_off7 (k0_t3 : Fin k0_t3_loop.trips) : Fin 1 → Nat :=
  let c0_i32_85 : BitVec 32 := 0#32
  let c0_i32_24 : BitVec 32 := 0#32
  let c1_i32_26 : BitVec 32 := 1#32
  let arg31 : BitVec 32 := Scf.iv c0_i32_24 c1_i32_26 k0_t3
  let c1_i32_84 : BitVec 32 := 1#32
  let v93 : BitVec 32 := Scalar.muli arg31 c1_i32_84
  let v94 : BitVec 32 := Scalar.addi c0_i32_85 v93
  let c16_i32 : BitVec 32 := 16#32
  let v95 : BitVec 32 := Scalar.muli v94 c16_i32
  let v96 : Index := Scalar.indexCast v95
  ![v96.toNat]

def k0_chk3 (v97 : IVec S16 32) (v99 : IVec S16 32) (v108 : IVec S16 32) : Prop :=
  (∀ a x, ((![v108, v97] : Fin 2 → IVec S16 32) a x).toNat < S4x4096.size a) ∧
  (∀ a x, ((![v108, v99] : Fin 2 → IVec S16 32) a x).toNat < S4x4096.size a) ∧
  (∀ a x, ((![v108, v97] : Fin 2 → IVec S16 32) a x).toNat < S4x4096.size a) ∧
  (∀ a x, ((![v108, v99] : Fin 2 → IVec S16 32) a x).toNat < S4x4096.size a)
theorem k0_idx3_inb : ∀ (v97 : IVec S16 32) (v99 : IVec S16 32) (v108 : IVec S16 32) (k0_hw3 : k0_chk3 v97 v99 v108), ∀ a x, ((![v108, v97] : Fin 2 → IVec S16 32) a x).toNat < S4x4096.size a := fun v97 v99 v108 k0_hw3 => k0_hw3.1
theorem k0_idx4_inb : ∀ (v97 : IVec S16 32) (v99 : IVec S16 32) (v108 : IVec S16 32) (k0_hw3 : k0_chk3 v97 v99 v108), ∀ a x, ((![v108, v99] : Fin 2 → IVec S16 32) a x).toNat < S4x4096.size a := fun v97 v99 v108 k0_hw3 => k0_hw3.2.1
theorem k0_idx5_inb : ∀ (v97 : IVec S16 32) (v99 : IVec S16 32) (v108 : IVec S16 32) (k0_hw3 : k0_chk3 v97 v99 v108), ∀ a x, ((![v108, v97] : Fin 2 → IVec S16 32) a x).toNat < S4x4096.size a := fun v97 v99 v108 k0_hw3 => k0_hw3.2.2.1
theorem k0_idx6_inb : ∀ (v97 : IVec S16 32) (v99 : IVec S16 32) (v108 : IVec S16 32) (k0_hw3 : k0_chk3 v97 v99 v108), ∀ a x, ((![v108, v99] : Fin 2 → IVec S16 32) a x).toNat < S4x4096.size a := fun v97 v99 v108 k0_hw3 => k0_hw3.2.2.2

def k0_chk4 (v97 : IVec S16 32) (v99 : IVec S16 32) (v117 : IVec S16 32) : Prop :=
  (∀ a x, ((![v117, v97] : Fin 2 → IVec S16 32) a x).toNat < S4x4096.size a) ∧
  (∀ a x, ((![v117, v99] : Fin 2 → IVec S16 32) a x).toNat < S4x4096.size a) ∧
  (∀ a x, ((![v117, v97] : Fin 2 → IVec S16 32) a x).toNat < S4x4096.size a) ∧
  (∀ a x, ((![v117, v99] : Fin 2 → IVec S16 32) a x).toNat < S4x4096.size a)
theorem k0_idx7_inb : ∀ (v97 : IVec S16 32) (v99 : IVec S16 32) (v117 : IVec S16 32) (k0_hw4 : k0_chk4 v97 v99 v117), ∀ a x, ((![v117, v97] : Fin 2 → IVec S16 32) a x).toNat < S4x4096.size a := fun v97 v99 v117 k0_hw4 => k0_hw4.1
theorem k0_idx8_inb : ∀ (v97 : IVec S16 32) (v99 : IVec S16 32) (v117 : IVec S16 32) (k0_hw4 : k0_chk4 v97 v99 v117), ∀ a x, ((![v117, v99] : Fin 2 → IVec S16 32) a x).toNat < S4x4096.size a := fun v97 v99 v117 k0_hw4 => k0_hw4.2.1
theorem k0_idx9_inb : ∀ (v97 : IVec S16 32) (v99 : IVec S16 32) (v117 : IVec S16 32) (k0_hw4 : k0_chk4 v97 v99 v117), ∀ a x, ((![v117, v97] : Fin 2 → IVec S16 32) a x).toNat < S4x4096.size a := fun v97 v99 v117 k0_hw4 => k0_hw4.2.2.1
theorem k0_idx10_inb : ∀ (v97 : IVec S16 32) (v99 : IVec S16 32) (v117 : IVec S16 32) (k0_hw4 : k0_chk4 v97 v99 v117), ∀ a x, ((![v117, v99] : Fin 2 → IVec S16 32) a x).toNat < S4x4096.size a := fun v97 v99 v117 k0_hw4 => k0_hw4.2.2.2

def k0_chk5 (v97 : IVec S16 32) (v99 : IVec S16 32) (v126 : IVec S16 32) : Prop :=
  (∀ a x, ((![v126, v97] : Fin 2 → IVec S16 32) a x).toNat < S4x4096.size a) ∧
  (∀ a x, ((![v126, v99] : Fin 2 → IVec S16 32) a x).toNat < S4x4096.size a) ∧
  (∀ a x, ((![v126, v97] : Fin 2 → IVec S16 32) a x).toNat < S4x4096.size a) ∧
  (∀ a x, ((![v126, v99] : Fin 2 → IVec S16 32) a x).toNat < S4x4096.size a)
theorem k0_idx11_inb : ∀ (v97 : IVec S16 32) (v99 : IVec S16 32) (v126 : IVec S16 32) (k0_hw5 : k0_chk5 v97 v99 v126), ∀ a x, ((![v126, v97] : Fin 2 → IVec S16 32) a x).toNat < S4x4096.size a := fun v97 v99 v126 k0_hw5 => k0_hw5.1
theorem k0_idx12_inb : ∀ (v97 : IVec S16 32) (v99 : IVec S16 32) (v126 : IVec S16 32) (k0_hw5 : k0_chk5 v97 v99 v126), ∀ a x, ((![v126, v99] : Fin 2 → IVec S16 32) a x).toNat < S4x4096.size a := fun v97 v99 v126 k0_hw5 => k0_hw5.2.1
theorem k0_idx13_inb : ∀ (v97 : IVec S16 32) (v99 : IVec S16 32) (v126 : IVec S16 32) (k0_hw5 : k0_chk5 v97 v99 v126), ∀ a x, ((![v126, v97] : Fin 2 → IVec S16 32) a x).toNat < S4x4096.size a := fun v97 v99 v126 k0_hw5 => k0_hw5.2.2.1
theorem k0_idx14_inb : ∀ (v97 : IVec S16 32) (v99 : IVec S16 32) (v126 : IVec S16 32) (k0_hw5 : k0_chk5 v97 v99 v126), ∀ a x, ((![v126, v99] : Fin 2 → IVec S16 32) a x).toNat < S4x4096.size a := fun v97 v99 v126 k0_hw5 => k0_hw5.2.2.2

def k0_chk6 (v97 : IVec S16 32) (v99 : IVec S16 32) (v135 : IVec S16 32) : Prop :=
  (∀ a x, ((![v135, v97] : Fin 2 → IVec S16 32) a x).toNat < S4x4096.size a) ∧
  (∀ a x, ((![v135, v99] : Fin 2 → IVec S16 32) a x).toNat < S4x4096.size a) ∧
  (∀ a x, ((![v135, v97] : Fin 2 → IVec S16 32) a x).toNat < S4x4096.size a) ∧
  (∀ a x, ((![v135, v99] : Fin 2 → IVec S16 32) a x).toNat < S4x4096.size a)
theorem k0_idx15_inb : ∀ (v97 : IVec S16 32) (v99 : IVec S16 32) (v135 : IVec S16 32) (k0_hw6 : k0_chk6 v97 v99 v135), ∀ a x, ((![v135, v97] : Fin 2 → IVec S16 32) a x).toNat < S4x4096.size a := fun v97 v99 v135 k0_hw6 => k0_hw6.1
theorem k0_idx16_inb : ∀ (v97 : IVec S16 32) (v99 : IVec S16 32) (v135 : IVec S16 32) (k0_hw6 : k0_chk6 v97 v99 v135), ∀ a x, ((![v135, v99] : Fin 2 → IVec S16 32) a x).toNat < S4x4096.size a := fun v97 v99 v135 k0_hw6 => k0_hw6.2.1
theorem k0_idx17_inb : ∀ (v97 : IVec S16 32) (v99 : IVec S16 32) (v135 : IVec S16 32) (k0_hw6 : k0_chk6 v97 v99 v135), ∀ a x, ((![v135, v97] : Fin 2 → IVec S16 32) a x).toNat < S4x4096.size a := fun v97 v99 v135 k0_hw6 => k0_hw6.2.2.1
theorem k0_idx18_inb : ∀ (v97 : IVec S16 32) (v99 : IVec S16 32) (v135 : IVec S16 32) (k0_hw6 : k0_chk6 v97 v99 v135), ∀ a x, ((![v135, v99] : Fin 2 → IVec S16 32) a x).toNat < S4x4096.size a := fun v97 v99 v135 k0_hw6 => k0_hw6.2.2.2
def k0_off8 (i : grid0.Coords) (k0_t2 : Fin k0_t2_loop.trips) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v3 : BitVec 32 := Scalar.muli v1 c112_i32
  let c4_i32_14 : BitVec 32 := 4#32
  let c0_i32_9 : BitVec 32 := 0#32
  let c1_i32_10 : BitVec 32 := 1#32
  let arg30 : BitVec 32 := Scf.iv c0_i32_9 c1_i32_10 k0_t2
  let v17 : BitVec 32 := Scalar.muli c4_i32_14 arg30
  let v18 : BitVec 32 := Scalar.addi v17 c0_i32_15
  let c4_i32_28 : BitVec 32 := 4#32
  let v32 : BitVec 32 := Scalar.muli v18 c4_i32_28
  let v33 : BitVec 32 := Scalar.addi v3 v32
  let c0_i32_29 : BitVec 32 := 0#32
  ![v33.toNat, 0]
def k0_cond3 (k0_t2 : Fin k0_t2_loop.trips) : BitVec 1 :=
  let c4_i32_31 : BitVec 32 := 4#32
  let c0_i32_9 : BitVec 32 := 0#32
  let c1_i32_10 : BitVec 32 := 1#32
  let arg30 : BitVec 32 := Scf.iv c0_i32_9 c1_i32_10 k0_t2
  let v36 : BitVec 32 := Scalar.muli c4_i32_31 arg30
  let c1_i32_32 : BitVec 32 := 1#32
  let v37 : BitVec 32 := Scalar.addi v36 c1_i32_32
  let c1_i32_33 : BitVec 32 := 1#32
  let v38 : BitVec 1 := Scalar.cmpi .sge v37 c1_i32_33
  let v39 : BitVec 32 := Scalar.extui v38
  let c0_i32_34 : BitVec 32 := 0#32
  let v40 : BitVec 1 := Scalar.cmpi .ne v39 c0_i32_34
  v40

def k0_off9 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v3 : BitVec 32 := Scalar.muli v1 c112_i32
  let c4_i32_31 : BitVec 32 := 4#32
  let c0_i32_9 : BitVec 32 := 0#32
  let c1_i32_10 : BitVec 32 := 1#32
  let arg30 : BitVec 32 := Scf.iv c0_i32_9 c1_i32_10 k0_t2
  let v36 : BitVec 32 := Scalar.muli c4_i32_31 arg30
  let c1_i32_32 : BitVec 32 := 1#32
  let v37 : BitVec 32 := Scalar.addi v36 c1_i32_32
  let c1_i32_84 : BitVec 32 := 1#32
  let v93 : BitVec 32 := Scalar.subi v37 c1_i32_84
  let c4_i32_85 : BitVec 32 := 4#32
  let v94 : BitVec 32 := Scalar.muli v93 c4_i32_85
  let v95 : BitVec 32 := Scalar.addi v3 v94
  let c0_i32_86 : BitVec 32 := 0#32
  ![v95.toNat, 0]
def k0_cond4 (k0_t2 : Fin k0_t2_loop.trips) : BitVec 1 :=
  let c4_i32_31 : BitVec 32 := 4#32
  let c0_i32_9 : BitVec 32 := 0#32
  let c1_i32_10 : BitVec 32 := 1#32
  let arg30 : BitVec 32 := Scf.iv c0_i32_9 c1_i32_10 k0_t2
  let v36 : BitVec 32 := Scalar.muli c4_i32_31 arg30
  let c1_i32_32 : BitVec 32 := 1#32
  let v37 : BitVec 32 := Scalar.addi v36 c1_i32_32
  let c4_i32_35 : BitVec 32 := 4#32
  let v41 : BitVec 32 := Scalar.addi v37 c4_i32_35
  let c1_i32_36 : BitVec 32 := 1#32
  let v42 : BitVec 32 := Scalar.subi v41 c1_i32_36
  let c28_i32_37 : BitVec 32 := 28#32
  let v43 : BitVec 1 := Scalar.cmpi .slt v42 c28_i32_37
  let v44 : BitVec 32 := Scalar.extui v43
  let c0_i32_38 : BitVec 32 := 0#32
  let v45 : BitVec 1 := Scalar.cmpi .ne v44 c0_i32_38
  v45

def k0_off10 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v3 : BitVec 32 := Scalar.muli v1 c112_i32
  let c4_i32_31 : BitVec 32 := 4#32
  let c0_i32_9 : BitVec 32 := 0#32
  let c1_i32_10 : BitVec 32 := 1#32
  let arg30 : BitVec 32 := Scf.iv c0_i32_9 c1_i32_10 k0_t2
  let v36 : BitVec 32 := Scalar.muli c4_i32_31 arg30
  let c1_i32_32 : BitVec 32 := 1#32
  let v37 : BitVec 32 := Scalar.addi v36 c1_i32_32
  let c4_i32_84 : BitVec 32 := 4#32
  let v93 : BitVec 32 := Scalar.addi v37 c4_i32_84
  let c1_i32_85 : BitVec 32 := 1#32
  let v94 : BitVec 32 := Scalar.subi v93 c1_i32_85
  let c4_i32_86 : BitVec 32 := 4#32
  let v95 : BitVec 32 := Scalar.muli v94 c4_i32_86
  let v96 : BitVec 32 := Scalar.addi v3 v95
  let c0_i32_87 : BitVec 32 := 0#32
  ![v96.toNat, 0]
@[reducible] def k0_t4_loop : Scf.Loop 32 :=
  let c0_i32_42 : BitVec 32 := 0#32
  let c128_i32_43 : BitVec 32 := 128#32
  let v50 : BitVec 32 := Scalar.addi c0_i32_42 c128_i32_43
  let c1_i32_44 : BitVec 32 := 1#32
  ⟨c0_i32_42, v50, c1_i32_44⟩
def k0_off11 (k0_t4 : Fin k0_t4_loop.trips) : Fin 1 → Nat :=
  let c0_i32_85 : BitVec 32 := 0#32
  let c0_i32_42 : BitVec 32 := 0#32
  let c1_i32_44 : BitVec 32 := 1#32
  let arg31 : BitVec 32 := Scf.iv c0_i32_42 c1_i32_44 k0_t4
  let c1_i32_84 : BitVec 32 := 1#32
  let v93 : BitVec 32 := Scalar.muli arg31 c1_i32_84
  let v94 : BitVec 32 := Scalar.addi c0_i32_85 v93
  let c16_i32 : BitVec 32 := 16#32
  let v95 : BitVec 32 := Scalar.muli v94 c16_i32
  let v96 : Index := Scalar.indexCast v95
  ![v96.toNat]

def k0_chk7 (v97 : IVec S16 32) (v99 : IVec S16 32) (v108 : IVec S16 32) : Prop :=
  (∀ a x, ((![v108, v97] : Fin 2 → IVec S16 32) a x).toNat < S4x4096.size a) ∧
  (∀ a x, ((![v108, v99] : Fin 2 → IVec S16 32) a x).toNat < S4x4096.size a) ∧
  (∀ a x, ((![v108, v97] : Fin 2 → IVec S16 32) a x).toNat < S4x4096.size a) ∧
  (∀ a x, ((![v108, v99] : Fin 2 → IVec S16 32) a x).toNat < S4x4096.size a)
theorem k0_idx19_inb : ∀ (v97 : IVec S16 32) (v99 : IVec S16 32) (v108 : IVec S16 32) (k0_hw7 : k0_chk7 v97 v99 v108), ∀ a x, ((![v108, v97] : Fin 2 → IVec S16 32) a x).toNat < S4x4096.size a := fun v97 v99 v108 k0_hw7 => k0_hw7.1
theorem k0_idx20_inb : ∀ (v97 : IVec S16 32) (v99 : IVec S16 32) (v108 : IVec S16 32) (k0_hw7 : k0_chk7 v97 v99 v108), ∀ a x, ((![v108, v99] : Fin 2 → IVec S16 32) a x).toNat < S4x4096.size a := fun v97 v99 v108 k0_hw7 => k0_hw7.2.1
theorem k0_idx21_inb : ∀ (v97 : IVec S16 32) (v99 : IVec S16 32) (v108 : IVec S16 32) (k0_hw7 : k0_chk7 v97 v99 v108), ∀ a x, ((![v108, v97] : Fin 2 → IVec S16 32) a x).toNat < S4x4096.size a := fun v97 v99 v108 k0_hw7 => k0_hw7.2.2.1
theorem k0_idx22_inb : ∀ (v97 : IVec S16 32) (v99 : IVec S16 32) (v108 : IVec S16 32) (k0_hw7 : k0_chk7 v97 v99 v108), ∀ a x, ((![v108, v99] : Fin 2 → IVec S16 32) a x).toNat < S4x4096.size a := fun v97 v99 v108 k0_hw7 => k0_hw7.2.2.2

def k0_chk8 (v97 : IVec S16 32) (v99 : IVec S16 32) (v117 : IVec S16 32) : Prop :=
  (∀ a x, ((![v117, v97] : Fin 2 → IVec S16 32) a x).toNat < S4x4096.size a) ∧
  (∀ a x, ((![v117, v99] : Fin 2 → IVec S16 32) a x).toNat < S4x4096.size a) ∧
  (∀ a x, ((![v117, v97] : Fin 2 → IVec S16 32) a x).toNat < S4x4096.size a) ∧
  (∀ a x, ((![v117, v99] : Fin 2 → IVec S16 32) a x).toNat < S4x4096.size a)
theorem k0_idx23_inb : ∀ (v97 : IVec S16 32) (v99 : IVec S16 32) (v117 : IVec S16 32) (k0_hw8 : k0_chk8 v97 v99 v117), ∀ a x, ((![v117, v97] : Fin 2 → IVec S16 32) a x).toNat < S4x4096.size a := fun v97 v99 v117 k0_hw8 => k0_hw8.1
theorem k0_idx24_inb : ∀ (v97 : IVec S16 32) (v99 : IVec S16 32) (v117 : IVec S16 32) (k0_hw8 : k0_chk8 v97 v99 v117), ∀ a x, ((![v117, v99] : Fin 2 → IVec S16 32) a x).toNat < S4x4096.size a := fun v97 v99 v117 k0_hw8 => k0_hw8.2.1
theorem k0_idx25_inb : ∀ (v97 : IVec S16 32) (v99 : IVec S16 32) (v117 : IVec S16 32) (k0_hw8 : k0_chk8 v97 v99 v117), ∀ a x, ((![v117, v97] : Fin 2 → IVec S16 32) a x).toNat < S4x4096.size a := fun v97 v99 v117 k0_hw8 => k0_hw8.2.2.1
theorem k0_idx26_inb : ∀ (v97 : IVec S16 32) (v99 : IVec S16 32) (v117 : IVec S16 32) (k0_hw8 : k0_chk8 v97 v99 v117), ∀ a x, ((![v117, v99] : Fin 2 → IVec S16 32) a x).toNat < S4x4096.size a := fun v97 v99 v117 k0_hw8 => k0_hw8.2.2.2

def k0_chk9 (v97 : IVec S16 32) (v99 : IVec S16 32) (v126 : IVec S16 32) : Prop :=
  (∀ a x, ((![v126, v97] : Fin 2 → IVec S16 32) a x).toNat < S4x4096.size a) ∧
  (∀ a x, ((![v126, v99] : Fin 2 → IVec S16 32) a x).toNat < S4x4096.size a) ∧
  (∀ a x, ((![v126, v97] : Fin 2 → IVec S16 32) a x).toNat < S4x4096.size a) ∧
  (∀ a x, ((![v126, v99] : Fin 2 → IVec S16 32) a x).toNat < S4x4096.size a)
theorem k0_idx27_inb : ∀ (v97 : IVec S16 32) (v99 : IVec S16 32) (v126 : IVec S16 32) (k0_hw9 : k0_chk9 v97 v99 v126), ∀ a x, ((![v126, v97] : Fin 2 → IVec S16 32) a x).toNat < S4x4096.size a := fun v97 v99 v126 k0_hw9 => k0_hw9.1
theorem k0_idx28_inb : ∀ (v97 : IVec S16 32) (v99 : IVec S16 32) (v126 : IVec S16 32) (k0_hw9 : k0_chk9 v97 v99 v126), ∀ a x, ((![v126, v99] : Fin 2 → IVec S16 32) a x).toNat < S4x4096.size a := fun v97 v99 v126 k0_hw9 => k0_hw9.2.1
theorem k0_idx29_inb : ∀ (v97 : IVec S16 32) (v99 : IVec S16 32) (v126 : IVec S16 32) (k0_hw9 : k0_chk9 v97 v99 v126), ∀ a x, ((![v126, v97] : Fin 2 → IVec S16 32) a x).toNat < S4x4096.size a := fun v97 v99 v126 k0_hw9 => k0_hw9.2.2.1
theorem k0_idx30_inb : ∀ (v97 : IVec S16 32) (v99 : IVec S16 32) (v126 : IVec S16 32) (k0_hw9 : k0_chk9 v97 v99 v126), ∀ a x, ((![v126, v99] : Fin 2 → IVec S16 32) a x).toNat < S4x4096.size a := fun v97 v99 v126 k0_hw9 => k0_hw9.2.2.2

def k0_chk10 (v97 : IVec S16 32) (v99 : IVec S16 32) (v135 : IVec S16 32) : Prop :=
  (∀ a x, ((![v135, v97] : Fin 2 → IVec S16 32) a x).toNat < S4x4096.size a) ∧
  (∀ a x, ((![v135, v99] : Fin 2 → IVec S16 32) a x).toNat < S4x4096.size a) ∧
  (∀ a x, ((![v135, v97] : Fin 2 → IVec S16 32) a x).toNat < S4x4096.size a) ∧
  (∀ a x, ((![v135, v99] : Fin 2 → IVec S16 32) a x).toNat < S4x4096.size a)
theorem k0_idx31_inb : ∀ (v97 : IVec S16 32) (v99 : IVec S16 32) (v135 : IVec S16 32) (k0_hw10 : k0_chk10 v97 v99 v135), ∀ a x, ((![v135, v97] : Fin 2 → IVec S16 32) a x).toNat < S4x4096.size a := fun v97 v99 v135 k0_hw10 => k0_hw10.1
theorem k0_idx32_inb : ∀ (v97 : IVec S16 32) (v99 : IVec S16 32) (v135 : IVec S16 32) (k0_hw10 : k0_chk10 v97 v99 v135), ∀ a x, ((![v135, v99] : Fin 2 → IVec S16 32) a x).toNat < S4x4096.size a := fun v97 v99 v135 k0_hw10 => k0_hw10.2.1
theorem k0_idx33_inb : ∀ (v97 : IVec S16 32) (v99 : IVec S16 32) (v135 : IVec S16 32) (k0_hw10 : k0_chk10 v97 v99 v135), ∀ a x, ((![v135, v97] : Fin 2 → IVec S16 32) a x).toNat < S4x4096.size a := fun v97 v99 v135 k0_hw10 => k0_hw10.2.2.1
theorem k0_idx34_inb : ∀ (v97 : IVec S16 32) (v99 : IVec S16 32) (v135 : IVec S16 32) (k0_hw10 : k0_chk10 v97 v99 v135), ∀ a x, ((![v135, v99] : Fin 2 → IVec S16 32) a x).toNat < S4x4096.size a := fun v97 v99 v135 k0_hw10 => k0_hw10.2.2.2
def k0_cond5 (k0_t2 : Fin k0_t2_loop.trips) : BitVec 1 :=
  let c4_i32_49 : BitVec 32 := 4#32
  let c0_i32_9 : BitVec 32 := 0#32
  let c1_i32_10 : BitVec 32 := 1#32
  let arg30 : BitVec 32 := Scf.iv c0_i32_9 c1_i32_10 k0_t2
  let v55 : BitVec 32 := Scalar.muli c4_i32_49 arg30
  let c2_i32_50 : BitVec 32 := 2#32
  let v56 : BitVec 32 := Scalar.addi v55 c2_i32_50
  let c1_i32_51 : BitVec 32 := 1#32
  let v57 : BitVec 1 := Scalar.cmpi .sge v56 c1_i32_51
  let v58 : BitVec 32 := Scalar.extui v57
  let c0_i32_52 : BitVec 32 := 0#32
  let v59 : BitVec 1 := Scalar.cmpi .ne v58 c0_i32_52
  v59

def k0_off12 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v3 : BitVec 32 := Scalar.muli v1 c112_i32
  let c4_i32_49 : BitVec 32 := 4#32
  let c0_i32_9 : BitVec 32 := 0#32
  let c1_i32_10 : BitVec 32 := 1#32
  let arg30 : BitVec 32 := Scf.iv c0_i32_9 c1_i32_10 k0_t2
  let v55 : BitVec 32 := Scalar.muli c4_i32_49 arg30
  let c2_i32_50 : BitVec 32 := 2#32
  let v56 : BitVec 32 := Scalar.addi v55 c2_i32_50
  let c1_i32_84 : BitVec 32 := 1#32
  let v93 : BitVec 32 := Scalar.subi v56 c1_i32_84
  let c4_i32_85 : BitVec 32 := 4#32
  let v94 : BitVec 32 := Scalar.muli v93 c4_i32_85
  let v95 : BitVec 32 := Scalar.addi v3 v94
  let c0_i32_86 : BitVec 32 := 0#32
  ![v95.toNat, 0]
def k0_cond6 (k0_t2 : Fin k0_t2_loop.trips) : BitVec 1 :=
  let c4_i32_49 : BitVec 32 := 4#32
  let c0_i32_9 : BitVec 32 := 0#32
  let c1_i32_10 : BitVec 32 := 1#32
  let arg30 : BitVec 32 := Scf.iv c0_i32_9 c1_i32_10 k0_t2
  let v55 : BitVec 32 := Scalar.muli c4_i32_49 arg30
  let c2_i32_50 : BitVec 32 := 2#32
  let v56 : BitVec 32 := Scalar.addi v55 c2_i32_50
  let c4_i32_53 : BitVec 32 := 4#32
  let v60 : BitVec 32 := Scalar.addi v56 c4_i32_53
  let c1_i32_54 : BitVec 32 := 1#32
  let v61 : BitVec 32 := Scalar.subi v60 c1_i32_54
  let c28_i32_55 : BitVec 32 := 28#32
  let v62 : BitVec 1 := Scalar.cmpi .slt v61 c28_i32_55
  let v63 : BitVec 32 := Scalar.extui v62
  let c0_i32_56 : BitVec 32 := 0#32
  let v64 : BitVec 1 := Scalar.cmpi .ne v63 c0_i32_56
  v64

def k0_off13 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v3 : BitVec 32 := Scalar.muli v1 c112_i32
  let c4_i32_49 : BitVec 32 := 4#32
  let c0_i32_9 : BitVec 32 := 0#32
  let c1_i32_10 : BitVec 32 := 1#32
  let arg30 : BitVec 32 := Scf.iv c0_i32_9 c1_i32_10 k0_t2
  let v55 : BitVec 32 := Scalar.muli c4_i32_49 arg30
  let c2_i32_50 : BitVec 32 := 2#32
  let v56 : BitVec 32 := Scalar.addi v55 c2_i32_50
  let c4_i32_84 : BitVec 32 := 4#32
  let v93 : BitVec 32 := Scalar.addi v56 c4_i32_84
  let c1_i32_85 : BitVec 32 := 1#32
  let v94 : BitVec 32 := Scalar.subi v93 c1_i32_85
  let c4_i32_86 : BitVec 32 := 4#32
  let v95 : BitVec 32 := Scalar.muli v94 c4_i32_86
  let v96 : BitVec 32 := Scalar.addi v3 v95
  let c0_i32_87 : BitVec 32 := 0#32
  ![v96.toNat, 0]
@[reducible] def k0_t5_loop : Scf.Loop 32 :=
  let c0_i32_60 : BitVec 32 := 0#32
  let c128_i32_61 : BitVec 32 := 128#32
  let v69 : BitVec 32 := Scalar.addi c0_i32_60 c128_i32_61
  let c1_i32_62 : BitVec 32 := 1#32
  ⟨c0_i32_60, v69, c1_i32_62⟩
def k0_off14 (k0_t5 : Fin k0_t5_loop.trips) : Fin 1 → Nat :=
  let c0_i32_85 : BitVec 32 := 0#32
  let c0_i32_60 : BitVec 32 := 0#32
  let c1_i32_62 : BitVec 32 := 1#32
  let arg31 : BitVec 32 := Scf.iv c0_i32_60 c1_i32_62 k0_t5
  let c1_i32_84 : BitVec 32 := 1#32
  let v93 : BitVec 32 := Scalar.muli arg31 c1_i32_84
  let v94 : BitVec 32 := Scalar.addi c0_i32_85 v93
  let c16_i32 : BitVec 32 := 16#32
  let v95 : BitVec 32 := Scalar.muli v94 c16_i32
  let v96 : Index := Scalar.indexCast v95
  ![v96.toNat]

def k0_chk11 (v97 : IVec S16 32) (v99 : IVec S16 32) (v108 : IVec S16 32) : Prop :=
  (∀ a x, ((![v108, v97] : Fin 2 → IVec S16 32) a x).toNat < S4x4096.size a) ∧
  (∀ a x, ((![v108, v99] : Fin 2 → IVec S16 32) a x).toNat < S4x4096.size a) ∧
  (∀ a x, ((![v108, v97] : Fin 2 → IVec S16 32) a x).toNat < S4x4096.size a) ∧
  (∀ a x, ((![v108, v99] : Fin 2 → IVec S16 32) a x).toNat < S4x4096.size a)
theorem k0_idx35_inb : ∀ (v97 : IVec S16 32) (v99 : IVec S16 32) (v108 : IVec S16 32) (k0_hw11 : k0_chk11 v97 v99 v108), ∀ a x, ((![v108, v97] : Fin 2 → IVec S16 32) a x).toNat < S4x4096.size a := fun v97 v99 v108 k0_hw11 => k0_hw11.1
theorem k0_idx36_inb : ∀ (v97 : IVec S16 32) (v99 : IVec S16 32) (v108 : IVec S16 32) (k0_hw11 : k0_chk11 v97 v99 v108), ∀ a x, ((![v108, v99] : Fin 2 → IVec S16 32) a x).toNat < S4x4096.size a := fun v97 v99 v108 k0_hw11 => k0_hw11.2.1
theorem k0_idx37_inb : ∀ (v97 : IVec S16 32) (v99 : IVec S16 32) (v108 : IVec S16 32) (k0_hw11 : k0_chk11 v97 v99 v108), ∀ a x, ((![v108, v97] : Fin 2 → IVec S16 32) a x).toNat < S4x4096.size a := fun v97 v99 v108 k0_hw11 => k0_hw11.2.2.1
theorem k0_idx38_inb : ∀ (v97 : IVec S16 32) (v99 : IVec S16 32) (v108 : IVec S16 32) (k0_hw11 : k0_chk11 v97 v99 v108), ∀ a x, ((![v108, v99] : Fin 2 → IVec S16 32) a x).toNat < S4x4096.size a := fun v97 v99 v108 k0_hw11 => k0_hw11.2.2.2

def k0_chk12 (v97 : IVec S16 32) (v99 : IVec S16 32) (v117 : IVec S16 32) : Prop :=
  (∀ a x, ((![v117, v97] : Fin 2 → IVec S16 32) a x).toNat < S4x4096.size a) ∧
  (∀ a x, ((![v117, v99] : Fin 2 → IVec S16 32) a x).toNat < S4x4096.size a) ∧
  (∀ a x, ((![v117, v97] : Fin 2 → IVec S16 32) a x).toNat < S4x4096.size a) ∧
  (∀ a x, ((![v117, v99] : Fin 2 → IVec S16 32) a x).toNat < S4x4096.size a)
theorem k0_idx39_inb : ∀ (v97 : IVec S16 32) (v99 : IVec S16 32) (v117 : IVec S16 32) (k0_hw12 : k0_chk12 v97 v99 v117), ∀ a x, ((![v117, v97] : Fin 2 → IVec S16 32) a x).toNat < S4x4096.size a := fun v97 v99 v117 k0_hw12 => k0_hw12.1
theorem k0_idx40_inb : ∀ (v97 : IVec S16 32) (v99 : IVec S16 32) (v117 : IVec S16 32) (k0_hw12 : k0_chk12 v97 v99 v117), ∀ a x, ((![v117, v99] : Fin 2 → IVec S16 32) a x).toNat < S4x4096.size a := fun v97 v99 v117 k0_hw12 => k0_hw12.2.1
theorem k0_idx41_inb : ∀ (v97 : IVec S16 32) (v99 : IVec S16 32) (v117 : IVec S16 32) (k0_hw12 : k0_chk12 v97 v99 v117), ∀ a x, ((![v117, v97] : Fin 2 → IVec S16 32) a x).toNat < S4x4096.size a := fun v97 v99 v117 k0_hw12 => k0_hw12.2.2.1
theorem k0_idx42_inb : ∀ (v97 : IVec S16 32) (v99 : IVec S16 32) (v117 : IVec S16 32) (k0_hw12 : k0_chk12 v97 v99 v117), ∀ a x, ((![v117, v99] : Fin 2 → IVec S16 32) a x).toNat < S4x4096.size a := fun v97 v99 v117 k0_hw12 => k0_hw12.2.2.2

def k0_chk13 (v97 : IVec S16 32) (v99 : IVec S16 32) (v126 : IVec S16 32) : Prop :=
  (∀ a x, ((![v126, v97] : Fin 2 → IVec S16 32) a x).toNat < S4x4096.size a) ∧
  (∀ a x, ((![v126, v99] : Fin 2 → IVec S16 32) a x).toNat < S4x4096.size a) ∧
  (∀ a x, ((![v126, v97] : Fin 2 → IVec S16 32) a x).toNat < S4x4096.size a) ∧
  (∀ a x, ((![v126, v99] : Fin 2 → IVec S16 32) a x).toNat < S4x4096.size a)
theorem k0_idx43_inb : ∀ (v97 : IVec S16 32) (v99 : IVec S16 32) (v126 : IVec S16 32) (k0_hw13 : k0_chk13 v97 v99 v126), ∀ a x, ((![v126, v97] : Fin 2 → IVec S16 32) a x).toNat < S4x4096.size a := fun v97 v99 v126 k0_hw13 => k0_hw13.1
theorem k0_idx44_inb : ∀ (v97 : IVec S16 32) (v99 : IVec S16 32) (v126 : IVec S16 32) (k0_hw13 : k0_chk13 v97 v99 v126), ∀ a x, ((![v126, v99] : Fin 2 → IVec S16 32) a x).toNat < S4x4096.size a := fun v97 v99 v126 k0_hw13 => k0_hw13.2.1
theorem k0_idx45_inb : ∀ (v97 : IVec S16 32) (v99 : IVec S16 32) (v126 : IVec S16 32) (k0_hw13 : k0_chk13 v97 v99 v126), ∀ a x, ((![v126, v97] : Fin 2 → IVec S16 32) a x).toNat < S4x4096.size a := fun v97 v99 v126 k0_hw13 => k0_hw13.2.2.1
theorem k0_idx46_inb : ∀ (v97 : IVec S16 32) (v99 : IVec S16 32) (v126 : IVec S16 32) (k0_hw13 : k0_chk13 v97 v99 v126), ∀ a x, ((![v126, v99] : Fin 2 → IVec S16 32) a x).toNat < S4x4096.size a := fun v97 v99 v126 k0_hw13 => k0_hw13.2.2.2

def k0_chk14 (v97 : IVec S16 32) (v99 : IVec S16 32) (v135 : IVec S16 32) : Prop :=
  (∀ a x, ((![v135, v97] : Fin 2 → IVec S16 32) a x).toNat < S4x4096.size a) ∧
  (∀ a x, ((![v135, v99] : Fin 2 → IVec S16 32) a x).toNat < S4x4096.size a) ∧
  (∀ a x, ((![v135, v97] : Fin 2 → IVec S16 32) a x).toNat < S4x4096.size a) ∧
  (∀ a x, ((![v135, v99] : Fin 2 → IVec S16 32) a x).toNat < S4x4096.size a)
theorem k0_idx47_inb : ∀ (v97 : IVec S16 32) (v99 : IVec S16 32) (v135 : IVec S16 32) (k0_hw14 : k0_chk14 v97 v99 v135), ∀ a x, ((![v135, v97] : Fin 2 → IVec S16 32) a x).toNat < S4x4096.size a := fun v97 v99 v135 k0_hw14 => k0_hw14.1
theorem k0_idx48_inb : ∀ (v97 : IVec S16 32) (v99 : IVec S16 32) (v135 : IVec S16 32) (k0_hw14 : k0_chk14 v97 v99 v135), ∀ a x, ((![v135, v99] : Fin 2 → IVec S16 32) a x).toNat < S4x4096.size a := fun v97 v99 v135 k0_hw14 => k0_hw14.2.1
theorem k0_idx49_inb : ∀ (v97 : IVec S16 32) (v99 : IVec S16 32) (v135 : IVec S16 32) (k0_hw14 : k0_chk14 v97 v99 v135), ∀ a x, ((![v135, v97] : Fin 2 → IVec S16 32) a x).toNat < S4x4096.size a := fun v97 v99 v135 k0_hw14 => k0_hw14.2.2.1
theorem k0_idx50_inb : ∀ (v97 : IVec S16 32) (v99 : IVec S16 32) (v135 : IVec S16 32) (k0_hw14 : k0_chk14 v97 v99 v135), ∀ a x, ((![v135, v99] : Fin 2 → IVec S16 32) a x).toNat < S4x4096.size a := fun v97 v99 v135 k0_hw14 => k0_hw14.2.2.2
def k0_cond7 (k0_t2 : Fin k0_t2_loop.trips) : BitVec 1 :=
  let c4_i32_67 : BitVec 32 := 4#32
  let c0_i32_9 : BitVec 32 := 0#32
  let c1_i32_10 : BitVec 32 := 1#32
  let arg30 : BitVec 32 := Scf.iv c0_i32_9 c1_i32_10 k0_t2
  let v74 : BitVec 32 := Scalar.muli c4_i32_67 arg30
  let c3_i32 : BitVec 32 := 3#32
  let v75 : BitVec 32 := Scalar.addi v74 c3_i32
  let c1_i32_68 : BitVec 32 := 1#32
  let v76 : BitVec 1 := Scalar.cmpi .sge v75 c1_i32_68
  let v77 : BitVec 32 := Scalar.extui v76
  let c0_i32_69 : BitVec 32 := 0#32
  let v78 : BitVec 1 := Scalar.cmpi .ne v77 c0_i32_69
  v78

def k0_off15 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v3 : BitVec 32 := Scalar.muli v1 c112_i32
  let c4_i32_67 : BitVec 32 := 4#32
  let c0_i32_9 : BitVec 32 := 0#32
  let c1_i32_10 : BitVec 32 := 1#32
  let arg30 : BitVec 32 := Scf.iv c0_i32_9 c1_i32_10 k0_t2
  let v74 : BitVec 32 := Scalar.muli c4_i32_67 arg30
  let c3_i32 : BitVec 32 := 3#32
  let v75 : BitVec 32 := Scalar.addi v74 c3_i32
  let c1_i32_84 : BitVec 32 := 1#32
  let v93 : BitVec 32 := Scalar.subi v75 c1_i32_84
  let c4_i32_85 : BitVec 32 := 4#32
  let v94 : BitVec 32 := Scalar.muli v93 c4_i32_85
  let v95 : BitVec 32 := Scalar.addi v3 v94
  let c0_i32_86 : BitVec 32 := 0#32
  ![v95.toNat, 0]
def k0_cond8 (k0_t2 : Fin k0_t2_loop.trips) : BitVec 1 :=
  let c4_i32_67 : BitVec 32 := 4#32
  let c0_i32_9 : BitVec 32 := 0#32
  let c1_i32_10 : BitVec 32 := 1#32
  let arg30 : BitVec 32 := Scf.iv c0_i32_9 c1_i32_10 k0_t2
  let v74 : BitVec 32 := Scalar.muli c4_i32_67 arg30
  let c3_i32 : BitVec 32 := 3#32
  let v75 : BitVec 32 := Scalar.addi v74 c3_i32
  let c4_i32_70 : BitVec 32 := 4#32
  let v79 : BitVec 32 := Scalar.addi v75 c4_i32_70
  let c1_i32_71 : BitVec 32 := 1#32
  let v80 : BitVec 32 := Scalar.subi v79 c1_i32_71
  let c28_i32_72 : BitVec 32 := 28#32
  let v81 : BitVec 1 := Scalar.cmpi .slt v80 c28_i32_72
  let v82 : BitVec 32 := Scalar.extui v81
  let c0_i32_73 : BitVec 32 := 0#32
  let v83 : BitVec 1 := Scalar.cmpi .ne v82 c0_i32_73
  v83

def k0_off16 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v3 : BitVec 32 := Scalar.muli v1 c112_i32
  let c4_i32_67 : BitVec 32 := 4#32
  let c0_i32_9 : BitVec 32 := 0#32
  let c1_i32_10 : BitVec 32 := 1#32
  let arg30 : BitVec 32 := Scf.iv c0_i32_9 c1_i32_10 k0_t2
  let v74 : BitVec 32 := Scalar.muli c4_i32_67 arg30
  let c3_i32 : BitVec 32 := 3#32
  let v75 : BitVec 32 := Scalar.addi v74 c3_i32
  let c4_i32_84 : BitVec 32 := 4#32
  let v93 : BitVec 32 := Scalar.addi v75 c4_i32_84
  let c1_i32_85 : BitVec 32 := 1#32
  let v94 : BitVec 32 := Scalar.subi v93 c1_i32_85
  let c4_i32_86 : BitVec 32 := 4#32
  let v95 : BitVec 32 := Scalar.muli v94 c4_i32_86
  let v96 : BitVec 32 := Scalar.addi v3 v95
  let c0_i32_87 : BitVec 32 := 0#32
  ![v96.toNat, 0]
@[reducible] def k0_t6_loop : Scf.Loop 32 :=
  let c0_i32_77 : BitVec 32 := 0#32
  let c128_i32_78 : BitVec 32 := 128#32
  let v88 : BitVec 32 := Scalar.addi c0_i32_77 c128_i32_78
  let c1_i32_79 : BitVec 32 := 1#32
  ⟨c0_i32_77, v88, c1_i32_79⟩
def k0_off17 (k0_t6 : Fin k0_t6_loop.trips) : Fin 1 → Nat :=
  let c0_i32_85 : BitVec 32 := 0#32
  let c0_i32_77 : BitVec 32 := 0#32
  let c1_i32_79 : BitVec 32 := 1#32
  let arg31 : BitVec 32 := Scf.iv c0_i32_77 c1_i32_79 k0_t6
  let c1_i32_84 : BitVec 32 := 1#32
  let v93 : BitVec 32 := Scalar.muli arg31 c1_i32_84
  let v94 : BitVec 32 := Scalar.addi c0_i32_85 v93
  let c16_i32 : BitVec 32 := 16#32
  let v95 : BitVec 32 := Scalar.muli v94 c16_i32
  let v96 : Index := Scalar.indexCast v95
  ![v96.toNat]

def k0_chk15 (v97 : IVec S16 32) (v99 : IVec S16 32) (v108 : IVec S16 32) : Prop :=
  (∀ a x, ((![v108, v97] : Fin 2 → IVec S16 32) a x).toNat < S4x4096.size a) ∧
  (∀ a x, ((![v108, v99] : Fin 2 → IVec S16 32) a x).toNat < S4x4096.size a) ∧
  (∀ a x, ((![v108, v97] : Fin 2 → IVec S16 32) a x).toNat < S4x4096.size a) ∧
  (∀ a x, ((![v108, v99] : Fin 2 → IVec S16 32) a x).toNat < S4x4096.size a)
theorem k0_idx51_inb : ∀ (v97 : IVec S16 32) (v99 : IVec S16 32) (v108 : IVec S16 32) (k0_hw15 : k0_chk15 v97 v99 v108), ∀ a x, ((![v108, v97] : Fin 2 → IVec S16 32) a x).toNat < S4x4096.size a := fun v97 v99 v108 k0_hw15 => k0_hw15.1
theorem k0_idx52_inb : ∀ (v97 : IVec S16 32) (v99 : IVec S16 32) (v108 : IVec S16 32) (k0_hw15 : k0_chk15 v97 v99 v108), ∀ a x, ((![v108, v99] : Fin 2 → IVec S16 32) a x).toNat < S4x4096.size a := fun v97 v99 v108 k0_hw15 => k0_hw15.2.1
theorem k0_idx53_inb : ∀ (v97 : IVec S16 32) (v99 : IVec S16 32) (v108 : IVec S16 32) (k0_hw15 : k0_chk15 v97 v99 v108), ∀ a x, ((![v108, v97] : Fin 2 → IVec S16 32) a x).toNat < S4x4096.size a := fun v97 v99 v108 k0_hw15 => k0_hw15.2.2.1
theorem k0_idx54_inb : ∀ (v97 : IVec S16 32) (v99 : IVec S16 32) (v108 : IVec S16 32) (k0_hw15 : k0_chk15 v97 v99 v108), ∀ a x, ((![v108, v99] : Fin 2 → IVec S16 32) a x).toNat < S4x4096.size a := fun v97 v99 v108 k0_hw15 => k0_hw15.2.2.2

def k0_chk16 (v97 : IVec S16 32) (v99 : IVec S16 32) (v117 : IVec S16 32) : Prop :=
  (∀ a x, ((![v117, v97] : Fin 2 → IVec S16 32) a x).toNat < S4x4096.size a) ∧
  (∀ a x, ((![v117, v99] : Fin 2 → IVec S16 32) a x).toNat < S4x4096.size a) ∧
  (∀ a x, ((![v117, v97] : Fin 2 → IVec S16 32) a x).toNat < S4x4096.size a) ∧
  (∀ a x, ((![v117, v99] : Fin 2 → IVec S16 32) a x).toNat < S4x4096.size a)
theorem k0_idx55_inb : ∀ (v97 : IVec S16 32) (v99 : IVec S16 32) (v117 : IVec S16 32) (k0_hw16 : k0_chk16 v97 v99 v117), ∀ a x, ((![v117, v97] : Fin 2 → IVec S16 32) a x).toNat < S4x4096.size a := fun v97 v99 v117 k0_hw16 => k0_hw16.1
theorem k0_idx56_inb : ∀ (v97 : IVec S16 32) (v99 : IVec S16 32) (v117 : IVec S16 32) (k0_hw16 : k0_chk16 v97 v99 v117), ∀ a x, ((![v117, v99] : Fin 2 → IVec S16 32) a x).toNat < S4x4096.size a := fun v97 v99 v117 k0_hw16 => k0_hw16.2.1
theorem k0_idx57_inb : ∀ (v97 : IVec S16 32) (v99 : IVec S16 32) (v117 : IVec S16 32) (k0_hw16 : k0_chk16 v97 v99 v117), ∀ a x, ((![v117, v97] : Fin 2 → IVec S16 32) a x).toNat < S4x4096.size a := fun v97 v99 v117 k0_hw16 => k0_hw16.2.2.1
theorem k0_idx58_inb : ∀ (v97 : IVec S16 32) (v99 : IVec S16 32) (v117 : IVec S16 32) (k0_hw16 : k0_chk16 v97 v99 v117), ∀ a x, ((![v117, v99] : Fin 2 → IVec S16 32) a x).toNat < S4x4096.size a := fun v97 v99 v117 k0_hw16 => k0_hw16.2.2.2

def k0_chk17 (v97 : IVec S16 32) (v99 : IVec S16 32) (v126 : IVec S16 32) : Prop :=
  (∀ a x, ((![v126, v97] : Fin 2 → IVec S16 32) a x).toNat < S4x4096.size a) ∧
  (∀ a x, ((![v126, v99] : Fin 2 → IVec S16 32) a x).toNat < S4x4096.size a) ∧
  (∀ a x, ((![v126, v97] : Fin 2 → IVec S16 32) a x).toNat < S4x4096.size a) ∧
  (∀ a x, ((![v126, v99] : Fin 2 → IVec S16 32) a x).toNat < S4x4096.size a)
theorem k0_idx59_inb : ∀ (v97 : IVec S16 32) (v99 : IVec S16 32) (v126 : IVec S16 32) (k0_hw17 : k0_chk17 v97 v99 v126), ∀ a x, ((![v126, v97] : Fin 2 → IVec S16 32) a x).toNat < S4x4096.size a := fun v97 v99 v126 k0_hw17 => k0_hw17.1
theorem k0_idx60_inb : ∀ (v97 : IVec S16 32) (v99 : IVec S16 32) (v126 : IVec S16 32) (k0_hw17 : k0_chk17 v97 v99 v126), ∀ a x, ((![v126, v99] : Fin 2 → IVec S16 32) a x).toNat < S4x4096.size a := fun v97 v99 v126 k0_hw17 => k0_hw17.2.1
theorem k0_idx61_inb : ∀ (v97 : IVec S16 32) (v99 : IVec S16 32) (v126 : IVec S16 32) (k0_hw17 : k0_chk17 v97 v99 v126), ∀ a x, ((![v126, v97] : Fin 2 → IVec S16 32) a x).toNat < S4x4096.size a := fun v97 v99 v126 k0_hw17 => k0_hw17.2.2.1
theorem k0_idx62_inb : ∀ (v97 : IVec S16 32) (v99 : IVec S16 32) (v126 : IVec S16 32) (k0_hw17 : k0_chk17 v97 v99 v126), ∀ a x, ((![v126, v99] : Fin 2 → IVec S16 32) a x).toNat < S4x4096.size a := fun v97 v99 v126 k0_hw17 => k0_hw17.2.2.2

def k0_chk18 (v97 : IVec S16 32) (v99 : IVec S16 32) (v135 : IVec S16 32) : Prop :=
  (∀ a x, ((![v135, v97] : Fin 2 → IVec S16 32) a x).toNat < S4x4096.size a) ∧
  (∀ a x, ((![v135, v99] : Fin 2 → IVec S16 32) a x).toNat < S4x4096.size a) ∧
  (∀ a x, ((![v135, v97] : Fin 2 → IVec S16 32) a x).toNat < S4x4096.size a) ∧
  (∀ a x, ((![v135, v99] : Fin 2 → IVec S16 32) a x).toNat < S4x4096.size a)
theorem k0_idx63_inb : ∀ (v97 : IVec S16 32) (v99 : IVec S16 32) (v135 : IVec S16 32) (k0_hw18 : k0_chk18 v97 v99 v135), ∀ a x, ((![v135, v97] : Fin 2 → IVec S16 32) a x).toNat < S4x4096.size a := fun v97 v99 v135 k0_hw18 => k0_hw18.1
theorem k0_idx64_inb : ∀ (v97 : IVec S16 32) (v99 : IVec S16 32) (v135 : IVec S16 32) (k0_hw18 : k0_chk18 v97 v99 v135), ∀ a x, ((![v135, v99] : Fin 2 → IVec S16 32) a x).toNat < S4x4096.size a := fun v97 v99 v135 k0_hw18 => k0_hw18.2.1
theorem k0_idx65_inb : ∀ (v97 : IVec S16 32) (v99 : IVec S16 32) (v135 : IVec S16 32) (k0_hw18 : k0_chk18 v97 v99 v135), ∀ a x, ((![v135, v97] : Fin 2 → IVec S16 32) a x).toNat < S4x4096.size a := fun v97 v99 v135 k0_hw18 => k0_hw18.2.2.1
theorem k0_idx66_inb : ∀ (v97 : IVec S16 32) (v99 : IVec S16 32) (v135 : IVec S16 32) (k0_hw18 : k0_chk18 v97 v99 v135), ∀ a x, ((![v135, v99] : Fin 2 → IVec S16 32) a x).toNat < S4x4096.size a := fun v97 v99 v135 k0_hw18 => k0_hw18.2.2.2
def k0_off18 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c112_i32 : BitVec 32 := 112#32
  let v3 : BitVec 32 := Scalar.muli v1 c112_i32
  let c108_i32 : BitVec 32 := 108#32
  let v14 : BitVec 32 := Scalar.addi v3 c108_i32
  let c0_i32_12 : BitVec 32 := 0#32
  ![v14.toNat, 0]
abbrev grid1 : Pipeline.Grid := ⟨1, ![9], ![false]⟩

def cc1_transform_0 (i : grid1.Coords) : Fin 2 → Nat :=
  let arg0 : BitVec 32 := BitVec.ofNat 32 (i 0).val
  let c7_i32 : BitVec 32 := 7#32
  let v0 : BitVec 32 := Scalar.addi arg0 c7_i32
  let c0_i32 : BitVec 32 := 0#32
  let c0_i32_0 : BitVec 32 := 0#32
  ![v0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x4096 : Shape := ⟨2, ![8192, 4096]⟩
abbrev S8x4096 : Shape := ⟨2, ![8, 4096]⟩
abbrev S8x2048 : Shape := ⟨2, ![8, 2048]⟩
abbrev S1x4096 : Shape := ⟨2, ![1, 4096]⟩
abbrev S32 : Shape := ⟨1, ![32]⟩
abbrev S_ : Shape := ⟨0, ![]⟩
abbrev S32x128 : Shape := ⟨2, ![32, 128]⟩
abbrev S4096 : Shape := ⟨1, ![4096]⟩
abbrev S2048 : Shape := ⟨1, ![2048]⟩
abbrev S1x2048 : Shape := ⟨2, ![1, 2048]⟩
abbrev S2048x1 : Shape := ⟨2, ![2048, 1]⟩
abbrev S1 : Shape := ⟨1, ![1]⟩
abbrev S1x1 : Shape := ⟨2, ![1, 1]⟩
abbrev S8192x2048 : Shape := ⟨2, ![8192, 2048]⟩

abbrev nBuf : Space → Nat
  | .hbm => 724
  | .vmem => 0
  | .smem => 0
  | _ => 0

abbrev hbmTy0_0 (i : Nat) : BufTy := match i % 128 with
  | 0 => ⟨S8192x4096, .f32⟩
  | 1 => ⟨S8x4096, .i32⟩
  | 2 => ⟨S8x2048, .f32⟩
  | 3 => ⟨S1x4096, .f32⟩
  | 4 => ⟨S32, .i32⟩
  | 5 => ⟨S_, .i32⟩
  | 6 => ⟨S32, .i32⟩
  | 7 => ⟨S32, .i32⟩
  | 8 => ⟨S32x128, .i32⟩
  | 9 => ⟨S4096, .i32⟩
  | 10 => ⟨S8192x4096, .f32⟩
  | 11 => ⟨S8192x4096, .f32⟩
  | 12 => ⟨S1x4096, .i32⟩
  | 13 => ⟨S4096, .i32⟩
  | 14 => ⟨S4096, .i32⟩
  | 15 => ⟨S2048, .i32⟩
  | 16 => ⟨S2048, .i32⟩
  | 17 => ⟨S1x2048, .f32⟩
  | 18 => ⟨S2048, .f32⟩
  | 19 => ⟨S2048, .f32⟩
  | 20 => ⟨S1x2048, .f32⟩
  | 21 => ⟨S2048, .f32⟩
  | 22 => ⟨S2048, .f32⟩
  | 23 => ⟨S_, .i32⟩
  | 24 => ⟨S2048, .i32⟩
  | 25 => ⟨S2048, .i1⟩
  | 26 => ⟨S_, .i32⟩
  | 27 => ⟨S2048, .i32⟩
  | 28 => ⟨S2048, .i32⟩
  | 29 => ⟨S2048, .i32⟩
  | 30 => ⟨S2048x1, .i32⟩
  | 31 => ⟨S1, .i32⟩
  | 32 => ⟨S_, .i32⟩
  | 33 => ⟨S2048x1, .i32⟩
  | 34 => ⟨S2048x1, .i1⟩
  | 35 => ⟨S1x1, .i32⟩
  | 36 => ⟨S2048x1, .i32⟩
  | 37 => ⟨S2048x1, .i1⟩
  | 38 => ⟨S2048x1, .i1⟩
  | 39 => ⟨S_, .i1⟩
  | 40 => ⟨S2048, .i1⟩
  | 41 => ⟨S8192x2048, .f32⟩
  | 42 => ⟨S8192x2048, .i1⟩
  | 43 => ⟨S_, .f32⟩
  | 44 => ⟨S8192x2048, .f32⟩
  | 45 => ⟨S8192x2048, .f32⟩
  | 46 => ⟨S_, .i32⟩
  | 47 => ⟨S2048, .i32⟩
  | 48 => ⟨S2048, .i1⟩
  | 49 => ⟨S_, .i32⟩
  | 50 => ⟨S2048, .i32⟩
  | 51 => ⟨S2048, .i32⟩
  | 52 => ⟨S2048, .i32⟩
  | 53 => ⟨S2048x1, .i32⟩
  | 54 => ⟨S1, .i32⟩
  | 55 => ⟨S_, .i32⟩
  | 56 => ⟨S2048x1, .i32⟩
  | 57 => ⟨S2048x1, .i1⟩
  | 58 => ⟨S1x1, .i32⟩
  | 59 => ⟨S2048x1, .i32⟩
  | 60 => ⟨S2048x1, .i1⟩
  | 61 => ⟨S2048x1, .i1⟩
  | 62 => ⟨S_, .i1⟩
  | 63 => ⟨S2048, .i1⟩
  | 64 => ⟨S8192x2048, .f32⟩
  | 65 => ⟨S8192x2048, .i1⟩
  | 66 => ⟨S_, .f32⟩
  | 67 => ⟨S8192x2048, .f32⟩
  | 68 => ⟨S8192x2048, .f32⟩
  | 69 => ⟨S1x2048, .f32⟩
  | 70 => ⟨S8192x2048, .f32⟩
  | 71 => ⟨S8192x2048, .f32⟩
  | 72 => ⟨S1x2048, .f32⟩
  | 73 => ⟨S8192x2048, .f32⟩
  | 74 => ⟨S8192x2048, .f32⟩
  | 75 => ⟨S8192x2048, .f32⟩
  | 76 => ⟨S1x2048, .f32⟩
  | 77 => ⟨S8192x2048, .f32⟩
  | 78 => ⟨S8192x2048, .f32⟩
  | 79 => ⟨S1x2048, .f32⟩
  | 80 => ⟨S8192x2048, .f32⟩
  | 81 => ⟨S8192x2048, .f32⟩
  | 82 => ⟨S8192x2048, .f32⟩
  | 83 => ⟨S_, .i32⟩
  | 84 => ⟨S2048, .i32⟩
  | 85 => ⟨S2048, .i1⟩
  | 86 => ⟨S_, .i32⟩
  | 87 => ⟨S2048, .i32⟩
  | 88 => ⟨S2048, .i32⟩
  | 89 => ⟨S2048, .i32⟩
  | 90 => ⟨S2048x1, .i32⟩
  | 91 => ⟨S8192x4096, .f32⟩
  | 92 => ⟨S_, .i32⟩
  | 93 => ⟨S2048, .i32⟩
  | 94 => ⟨S2048, .i1⟩
  | 95 => ⟨S_, .i32⟩
  | 96 => ⟨S2048, .i32⟩
  | 97 => ⟨S2048, .i32⟩
  | 98 => ⟨S2048, .i32⟩
  | 99 => ⟨S2048x1, .i32⟩
  | 100 => ⟨S8192x4096, .f32⟩
  | 101 => ⟨S1x4096, .i32⟩
  | 102 => ⟨S4096, .i32⟩
  | 103 => ⟨S4096, .i32⟩
  | 104 => ⟨S2048, .i32⟩
  | 105 => ⟨S2048, .i32⟩
  | 106 => ⟨S1x2048, .f32⟩
  | 107 => ⟨S2048, .f32⟩
  | 108 => ⟨S2048, .f32⟩
  | 109 => ⟨S1x2048, .f32⟩
  | 110 => ⟨S2048, .f32⟩
  | 111 => ⟨S2048, .f32⟩
  | 112 => ⟨S_, .i32⟩
  | 113 => ⟨S2048, .i32⟩
  | 114 => ⟨S2048, .i1⟩
  | 115 => ⟨S_, .i32⟩
  | 116 => ⟨S2048, .i32⟩
  | 117 => ⟨S2048, .i32⟩
  | 118 => ⟨S2048, .i32⟩
  | 119 => ⟨S2048x1, .i32⟩
  | 120 => ⟨S1, .i32⟩
  | 121 => ⟨S_, .i32⟩
  | 122 => ⟨S2048x1, .i32⟩
  | 123 => ⟨S2048x1, .i1⟩
  | 124 => ⟨S1x1, .i32⟩
  | 125 => ⟨S2048x1, .i32⟩
  | 126 => ⟨S2048x1, .i1⟩
  | 127 => ⟨S2048x1, .i1⟩
  | _ => ⟨S8192x4096, .f32⟩

abbrev hbmTy0_1 (i : Nat) : BufTy := match i % 128 with
  | 0 => ⟨S_, .i1⟩
  | 1 => ⟨S2048, .i1⟩
  | 2 => ⟨S8192x2048, .f32⟩
  | 3 => ⟨S8192x2048, .i1⟩
  | 4 => ⟨S_, .f32⟩
  | 5 => ⟨S8192x2048, .f32⟩
  | 6 => ⟨S8192x2048, .f32⟩
  | 7 => ⟨S_, .i32⟩
  | 8 => ⟨S2048, .i32⟩
  | 9 => ⟨S2048, .i1⟩
  | 10 => ⟨S_, .i32⟩
  | 11 => ⟨S2048, .i32⟩
  | 12 => ⟨S2048, .i32⟩
  | 13 => ⟨S2048, .i32⟩
  | 14 => ⟨S2048x1, .i32⟩
  | 15 => ⟨S1, .i32⟩
  | 16 => ⟨S_, .i32⟩
  | 17 => ⟨S2048x1, .i32⟩
  | 18 => ⟨S2048x1, .i1⟩
  | 19 => ⟨S1x1, .i32⟩
  | 20 => ⟨S2048x1, .i32⟩
  | 21 => ⟨S2048x1, .i1⟩
  | 22 => ⟨S2048x1, .i1⟩
  | 23 => ⟨S_, .i1⟩
  | 24 => ⟨S2048, .i1⟩
  | 25 => ⟨S8192x2048, .f32⟩
  | 26 => ⟨S8192x2048, .i1⟩
  | 27 => ⟨S_, .f32⟩
  | 28 => ⟨S8192x2048, .f32⟩
  | 29 => ⟨S8192x2048, .f32⟩
  | 30 => ⟨S1x2048, .f32⟩
  | 31 => ⟨S8192x2048, .f32⟩
  | 32 => ⟨S8192x2048, .f32⟩
  | 33 => ⟨S1x2048, .f32⟩
  | 34 => ⟨S8192x2048, .f32⟩
  | 35 => ⟨S8192x2048, .f32⟩
  | 36 => ⟨S8192x2048, .f32⟩
  | 37 => ⟨S1x2048, .f32⟩
  | 38 => ⟨S8192x2048, .f32⟩
  | 39 => ⟨S8192x2048, .f32⟩
  | 40 => ⟨S1x2048, .f32⟩
  | 41 => ⟨S8192x2048, .f32⟩
  | 42 => ⟨S8192x2048, .f32⟩
  | 43 => ⟨S8192x2048, .f32⟩
  | 44 => ⟨S_, .i32⟩
  | 45 => ⟨S2048, .i32⟩
  | 46 => ⟨S2048, .i1⟩
  | 47 => ⟨S_, .i32⟩
  | 48 => ⟨S2048, .i32⟩
  | 49 => ⟨S2048, .i32⟩
  | 50 => ⟨S2048, .i32⟩
  | 51 => ⟨S2048x1, .i32⟩
  | 52 => ⟨S8192x4096, .f32⟩
  | 53 => ⟨S_, .i32⟩
  | 54 => ⟨S2048, .i32⟩
  | 55 => ⟨S2048, .i1⟩
  | 56 => ⟨S_, .i32⟩
  | 57 => ⟨S2048, .i32⟩
  | 58 => ⟨S2048, .i32⟩
  | 59 => ⟨S2048, .i32⟩
  | 60 => ⟨S2048x1, .i32⟩
  | 61 => ⟨S8192x4096, .f32⟩
  | 62 => ⟨S1x4096, .i32⟩
  | 63 => ⟨S4096, .i32⟩
  | 64 => ⟨S4096, .i32⟩
  | 65 => ⟨S2048, .i32⟩
  | 66 => ⟨S2048, .i32⟩
  | 67 => ⟨S1x2048, .f32⟩
  | 68 => ⟨S2048, .f32⟩
  | 69 => ⟨S2048, .f32⟩
  | 70 => ⟨S1x2048, .f32⟩
  | 71 => ⟨S2048, .f32⟩
  | 72 => ⟨S2048, .f32⟩
  | 73 => ⟨S_, .i32⟩
  | 74 => ⟨S2048, .i32⟩
  | 75 => ⟨S2048, .i1⟩
  | 76 => ⟨S_, .i32⟩
  | 77 => ⟨S2048, .i32⟩
  | 78 => ⟨S2048, .i32⟩
  | 79 => ⟨S2048, .i32⟩
  | 80 => ⟨S2048x1, .i32⟩
  | 81 => ⟨S1, .i32⟩
  | 82 => ⟨S_, .i32⟩
  | 83 => ⟨S2048x1, .i32⟩
  | 84 => ⟨S2048x1, .i1⟩
  | 85 => ⟨S1x1, .i32⟩
  | 86 => ⟨S2048x1, .i32⟩
  | 87 => ⟨S2048x1, .i1⟩
  | 88 => ⟨S2048x1, .i1⟩
  | 89 => ⟨S_, .i1⟩
  | 90 => ⟨S2048, .i1⟩
  | 91 => ⟨S8192x2048, .f32⟩
  | 92 => ⟨S8192x2048, .i1⟩
  | 93 => ⟨S_, .f32⟩
  | 94 => ⟨S8192x2048, .f32⟩
  | 95 => ⟨S8192x2048, .f32⟩
  | 96 => ⟨S_, .i32⟩
  | 97 => ⟨S2048, .i32⟩
  | 98 => ⟨S2048, .i1⟩
  | 99 => ⟨S_, .i32⟩
  | 100 => ⟨S2048, .i32⟩
  | 101 => ⟨S2048, .i32⟩
  | 102 => ⟨S2048, .i32⟩
  | 103 => ⟨S2048x1, .i32⟩
  | 104 => ⟨S1, .i32⟩
  | 105 => ⟨S_, .i32⟩
  | 106 => ⟨S2048x1, .i32⟩
  | 107 => ⟨S2048x1, .i1⟩
  | 108 => ⟨S1x1, .i32⟩
  | 109 => ⟨S2048x1, .i32⟩
  | 110 => ⟨S2048x1, .i1⟩
  | 111 => ⟨S2048x1, .i1⟩
  | 112 => ⟨S_, .i1⟩
  | 113 => ⟨S2048, .i1⟩
  | 114 => ⟨S8192x2048, .f32⟩
  | 115 => ⟨S8192x2048, .i1⟩
  | 116 => ⟨S_, .f32⟩
  | 117 => ⟨S8192x2048, .f32⟩
  | 118 => ⟨S8192x2048, .f32⟩
  | 119 => ⟨S1x2048, .f32⟩
  | 120 => ⟨S8192x2048, .f32⟩
  | 121 => ⟨S8192x2048, .f32⟩
  | 122 => ⟨S1x2048, .f32⟩
  | 123 => ⟨S8192x2048, .f32⟩
  | 124 => ⟨S8192x2048, .f32⟩
  | 125 => ⟨S8192x2048, .f32⟩
  | 126 => ⟨S1x2048, .f32⟩
  | 127 => ⟨S8192x2048, .f32⟩
  | _ => ⟨S8192x4096, .f32⟩

abbrev hbmTy0_2 (i : Nat) : BufTy := match i % 128 with
  | 0 => ⟨S8192x2048, .f32⟩
  | 1 => ⟨S1x2048, .f32⟩
  | 2 => ⟨S8192x2048, .f32⟩
  | 3 => ⟨S8192x2048, .f32⟩
  | 4 => ⟨S8192x2048, .f32⟩
  | 5 => ⟨S_, .i32⟩
  | 6 => ⟨S2048, .i32⟩
  | 7 => ⟨S2048, .i1⟩
  | 8 => ⟨S_, .i32⟩
  | 9 => ⟨S2048, .i32⟩
  | 10 => ⟨S2048, .i32⟩
  | 11 => ⟨S2048, .i32⟩
  | 12 => ⟨S2048x1, .i32⟩
  | 13 => ⟨S8192x4096, .f32⟩
  | 14 => ⟨S_, .i32⟩
  | 15 => ⟨S2048, .i32⟩
  | 16 => ⟨S2048, .i1⟩
  | 17 => ⟨S_, .i32⟩
  | 18 => ⟨S2048, .i32⟩
  | 19 => ⟨S2048, .i32⟩
  | 20 => ⟨S2048, .i32⟩
  | 21 => ⟨S2048x1, .i32⟩
  | 22 => ⟨S8192x4096, .f32⟩
  | 23 => ⟨S1x4096, .i32⟩
  | 24 => ⟨S4096, .i32⟩
  | 25 => ⟨S4096, .i32⟩
  | 26 => ⟨S2048, .i32⟩
  | 27 => ⟨S2048, .i32⟩
  | 28 => ⟨S1x2048, .f32⟩
  | 29 => ⟨S2048, .f32⟩
  | 30 => ⟨S2048, .f32⟩
  | 31 => ⟨S1x2048, .f32⟩
  | 32 => ⟨S2048, .f32⟩
  | 33 => ⟨S2048, .f32⟩
  | 34 => ⟨S_, .i32⟩
  | 35 => ⟨S2048, .i32⟩
  | 36 => ⟨S2048, .i1⟩
  | 37 => ⟨S_, .i32⟩
  | 38 => ⟨S2048, .i32⟩
  | 39 => ⟨S2048, .i32⟩
  | 40 => ⟨S2048, .i32⟩
  | 41 => ⟨S2048x1, .i32⟩
  | 42 => ⟨S1, .i32⟩
  | 43 => ⟨S_, .i32⟩
  | 44 => ⟨S2048x1, .i32⟩
  | 45 => ⟨S2048x1, .i1⟩
  | 46 => ⟨S1x1, .i32⟩
  | 47 => ⟨S2048x1, .i32⟩
  | 48 => ⟨S2048x1, .i1⟩
  | 49 => ⟨S2048x1, .i1⟩
  | 50 => ⟨S_, .i1⟩
  | 51 => ⟨S2048, .i1⟩
  | 52 => ⟨S8192x2048, .f32⟩
  | 53 => ⟨S8192x2048, .i1⟩
  | 54 => ⟨S_, .f32⟩
  | 55 => ⟨S8192x2048, .f32⟩
  | 56 => ⟨S8192x2048, .f32⟩
  | 57 => ⟨S_, .i32⟩
  | 58 => ⟨S2048, .i32⟩
  | 59 => ⟨S2048, .i1⟩
  | 60 => ⟨S_, .i32⟩
  | 61 => ⟨S2048, .i32⟩
  | 62 => ⟨S2048, .i32⟩
  | 63 => ⟨S2048, .i32⟩
  | 64 => ⟨S2048x1, .i32⟩
  | 65 => ⟨S1, .i32⟩
  | 66 => ⟨S_, .i32⟩
  | 67 => ⟨S2048x1, .i32⟩
  | 68 => ⟨S2048x1, .i1⟩
  | 69 => ⟨S1x1, .i32⟩
  | 70 => ⟨S2048x1, .i32⟩
  | 71 => ⟨S2048x1, .i1⟩
  | 72 => ⟨S2048x1, .i1⟩
  | 73 => ⟨S_, .i1⟩
  | 74 => ⟨S2048, .i1⟩
  | 75 => ⟨S8192x2048, .f32⟩
  | 76 => ⟨S8192x2048, .i1⟩
  | 77 => ⟨S_, .f32⟩
  | 78 => ⟨S8192x2048, .f32⟩
  | 79 => ⟨S8192x2048, .f32⟩
  | 80 => ⟨S1x2048, .f32⟩
  | 81 => ⟨S8192x2048, .f32⟩
  | 82 => ⟨S8192x2048, .f32⟩
  | 83 => ⟨S1x2048, .f32⟩
  | 84 => ⟨S8192x2048, .f32⟩
  | 85 => ⟨S8192x2048, .f32⟩
  | 86 => ⟨S8192x2048, .f32⟩
  | 87 => ⟨S1x2048, .f32⟩
  | 88 => ⟨S8192x2048, .f32⟩
  | 89 => ⟨S8192x2048, .f32⟩
  | 90 => ⟨S1x2048, .f32⟩
  | 91 => ⟨S8192x2048, .f32⟩
  | 92 => ⟨S8192x2048, .f32⟩
  | 93 => ⟨S8192x2048, .f32⟩
  | 94 => ⟨S_, .i32⟩
  | 95 => ⟨S2048, .i32⟩
  | 96 => ⟨S2048, .i1⟩
  | 97 => ⟨S_, .i32⟩
  | 98 => ⟨S2048, .i32⟩
  | 99 => ⟨S2048, .i32⟩
  | 100 => ⟨S2048, .i32⟩
  | 101 => ⟨S2048x1, .i32⟩
  | 102 => ⟨S8192x4096, .f32⟩
  | 103 => ⟨S_, .i32⟩
  | 104 => ⟨S2048, .i32⟩
  | 105 => ⟨S2048, .i1⟩
  | 106 => ⟨S_, .i32⟩
  | 107 => ⟨S2048, .i32⟩
  | 108 => ⟨S2048, .i32⟩
  | 109 => ⟨S2048, .i32⟩
  | 110 => ⟨S2048x1, .i32⟩
  | 111 => ⟨S8192x4096, .f32⟩
  | 112 => ⟨S1x4096, .i32⟩
  | 113 => ⟨S4096, .i32⟩
  | 114 => ⟨S4096, .i32⟩
  | 115 => ⟨S2048, .i32⟩
  | 116 => ⟨S2048, .i32⟩
  | 117 => ⟨S1x2048, .f32⟩
  | 118 => ⟨S2048, .f32⟩
  | 119 => ⟨S2048, .f32⟩
  | 120 => ⟨S1x2048, .f32⟩
  | 121 => ⟨S2048, .f32⟩
  | 122 => ⟨S2048, .f32⟩
  | 123 => ⟨S_, .i32⟩
  | 124 => ⟨S2048, .i32⟩
  | 125 => ⟨S2048, .i1⟩
  | 126 => ⟨S_, .i32⟩
  | 127 => ⟨S2048, .i32⟩
  | _ => ⟨S8192x4096, .f32⟩

abbrev hbmTy0_3 (i : Nat) : BufTy := match i % 128 with
  | 0 => ⟨S2048, .i32⟩
  | 1 => ⟨S2048, .i32⟩
  | 2 => ⟨S2048x1, .i32⟩
  | 3 => ⟨S1, .i32⟩
  | 4 => ⟨S_, .i32⟩
  | 5 => ⟨S2048x1, .i32⟩
  | 6 => ⟨S2048x1, .i1⟩
  | 7 => ⟨S1x1, .i32⟩
  | 8 => ⟨S2048x1, .i32⟩
  | 9 => ⟨S2048x1, .i1⟩
  | 10 => ⟨S2048x1, .i1⟩
  | 11 => ⟨S_, .i1⟩
  | 12 => ⟨S2048, .i1⟩
  | 13 => ⟨S8192x2048, .f32⟩
  | 14 => ⟨S8192x2048, .i1⟩
  | 15 => ⟨S_, .f32⟩
  | 16 => ⟨S8192x2048, .f32⟩
  | 17 => ⟨S8192x2048, .f32⟩
  | 18 => ⟨S_, .i32⟩
  | 19 => ⟨S2048, .i32⟩
  | 20 => ⟨S2048, .i1⟩
  | 21 => ⟨S_, .i32⟩
  | 22 => ⟨S2048, .i32⟩
  | 23 => ⟨S2048, .i32⟩
  | 24 => ⟨S2048, .i32⟩
  | 25 => ⟨S2048x1, .i32⟩
  | 26 => ⟨S1, .i32⟩
  | 27 => ⟨S_, .i32⟩
  | 28 => ⟨S2048x1, .i32⟩
  | 29 => ⟨S2048x1, .i1⟩
  | 30 => ⟨S1x1, .i32⟩
  | 31 => ⟨S2048x1, .i32⟩
  | 32 => ⟨S2048x1, .i1⟩
  | 33 => ⟨S2048x1, .i1⟩
  | 34 => ⟨S_, .i1⟩
  | 35 => ⟨S2048, .i1⟩
  | 36 => ⟨S8192x2048, .f32⟩
  | 37 => ⟨S8192x2048, .i1⟩
  | 38 => ⟨S_, .f32⟩
  | 39 => ⟨S8192x2048, .f32⟩
  | 40 => ⟨S8192x2048, .f32⟩
  | 41 => ⟨S1x2048, .f32⟩
  | 42 => ⟨S8192x2048, .f32⟩
  | 43 => ⟨S8192x2048, .f32⟩
  | 44 => ⟨S1x2048, .f32⟩
  | 45 => ⟨S8192x2048, .f32⟩
  | 46 => ⟨S8192x2048, .f32⟩
  | 47 => ⟨S8192x2048, .f32⟩
  | 48 => ⟨S1x2048, .f32⟩
  | 49 => ⟨S8192x2048, .f32⟩
  | 50 => ⟨S8192x2048, .f32⟩
  | 51 => ⟨S1x2048, .f32⟩
  | 52 => ⟨S8192x2048, .f32⟩
  | 53 => ⟨S8192x2048, .f32⟩
  | 54 => ⟨S8192x2048, .f32⟩
  | 55 => ⟨S_, .i32⟩
  | 56 => ⟨S2048, .i32⟩
  | 57 => ⟨S2048, .i1⟩
  | 58 => ⟨S_, .i32⟩
  | 59 => ⟨S2048, .i32⟩
  | 60 => ⟨S2048, .i32⟩
  | 61 => ⟨S2048, .i32⟩
  | 62 => ⟨S2048x1, .i32⟩
  | 63 => ⟨S8192x4096, .f32⟩
  | 64 => ⟨S_, .i32⟩
  | 65 => ⟨S2048, .i32⟩
  | 66 => ⟨S2048, .i1⟩
  | 67 => ⟨S_, .i32⟩
  | 68 => ⟨S2048, .i32⟩
  | 69 => ⟨S2048, .i32⟩
  | 70 => ⟨S2048, .i32⟩
  | 71 => ⟨S2048x1, .i32⟩
  | 72 => ⟨S8192x4096, .f32⟩
  | 73 => ⟨S1x4096, .i32⟩
  | 74 => ⟨S4096, .i32⟩
  | 75 => ⟨S4096, .i32⟩
  | 76 => ⟨S2048, .i32⟩
  | 77 => ⟨S2048, .i32⟩
  | 78 => ⟨S1x2048, .f32⟩
  | 79 => ⟨S2048, .f32⟩
  | 80 => ⟨S2048, .f32⟩
  | 81 => ⟨S1x2048, .f32⟩
  | 82 => ⟨S2048, .f32⟩
  | 83 => ⟨S2048, .f32⟩
  | 84 => ⟨S_, .i32⟩
  | 85 => ⟨S2048, .i32⟩
  | 86 => ⟨S2048, .i1⟩
  | 87 => ⟨S_, .i32⟩
  | 88 => ⟨S2048, .i32⟩
  | 89 => ⟨S2048, .i32⟩
  | 90 => ⟨S2048, .i32⟩
  | 91 => ⟨S2048x1, .i32⟩
  | 92 => ⟨S1, .i32⟩
  | 93 => ⟨S_, .i32⟩
  | 94 => ⟨S2048x1, .i32⟩
  | 95 => ⟨S2048x1, .i1⟩
  | 96 => ⟨S1x1, .i32⟩
  | 97 => ⟨S2048x1, .i32⟩
  | 98 => ⟨S2048x1, .i1⟩
  | 99 => ⟨S2048x1, .i1⟩
  | 100 => ⟨S_, .i1⟩
  | 101 => ⟨S2048, .i1⟩
  | 102 => ⟨S8192x2048, .f32⟩
  | 103 => ⟨S8192x2048, .i1⟩
  | 104 => ⟨S_, .f32⟩
  | 105 => ⟨S8192x2048, .f32⟩
  | 106 => ⟨S8192x2048, .f32⟩
  | 107 => ⟨S_, .i32⟩
  | 108 => ⟨S2048, .i32⟩
  | 109 => ⟨S2048, .i1⟩
  | 110 => ⟨S_, .i32⟩
  | 111 => ⟨S2048, .i32⟩
  | 112 => ⟨S2048, .i32⟩
  | 113 => ⟨S2048, .i32⟩
  | 114 => ⟨S2048x1, .i32⟩
  | 115 => ⟨S1, .i32⟩
  | 116 => ⟨S_, .i32⟩
  | 117 => ⟨S2048x1, .i32⟩
  | 118 => ⟨S2048x1, .i1⟩
  | 119 => ⟨S1x1, .i32⟩
  | 120 => ⟨S2048x1, .i32⟩
  | 121 => ⟨S2048x1, .i1⟩
  | 122 => ⟨S2048x1, .i1⟩
  | 123 => ⟨S_, .i1⟩
  | 124 => ⟨S2048, .i1⟩
  | 125 => ⟨S8192x2048, .f32⟩
  | 126 => ⟨S8192x2048, .i1⟩
  | 127 => ⟨S_, .f32⟩
  | _ => ⟨S8192x4096, .f32⟩

abbrev hbmTy0_4 (i : Nat) : BufTy := match i % 128 with
  | 0 => ⟨S8192x2048, .f32⟩
  | 1 => ⟨S8192x2048, .f32⟩
  | 2 => ⟨S1x2048, .f32⟩
  | 3 => ⟨S8192x2048, .f32⟩
  | 4 => ⟨S8192x2048, .f32⟩
  | 5 => ⟨S1x2048, .f32⟩
  | 6 => ⟨S8192x2048, .f32⟩
  | 7 => ⟨S8192x2048, .f32⟩
  | 8 => ⟨S8192x2048, .f32⟩
  | 9 => ⟨S1x2048, .f32⟩
  | 10 => ⟨S8192x2048, .f32⟩
  | 11 => ⟨S8192x2048, .f32⟩
  | 12 => ⟨S1x2048, .f32⟩
  | 13 => ⟨S8192x2048, .f32⟩
  | 14 => ⟨S8192x2048, .f32⟩
  | 15 => ⟨S8192x2048, .f32⟩
  | 16 => ⟨S_, .i32⟩
  | 17 => ⟨S2048, .i32⟩
  | 18 => ⟨S2048, .i1⟩
  | 19 => ⟨S_, .i32⟩
  | 20 => ⟨S2048, .i32⟩
  | 21 => ⟨S2048, .i32⟩
  | 22 => ⟨S2048, .i32⟩
  | 23 => ⟨S2048x1, .i32⟩
  | 24 => ⟨S8192x4096, .f32⟩
  | 25 => ⟨S_, .i32⟩
  | 26 => ⟨S2048, .i32⟩
  | 27 => ⟨S2048, .i1⟩
  | 28 => ⟨S_, .i32⟩
  | 29 => ⟨S2048, .i32⟩
  | 30 => ⟨S2048, .i32⟩
  | 31 => ⟨S2048, .i32⟩
  | 32 => ⟨S2048x1, .i32⟩
  | 33 => ⟨S8192x4096, .f32⟩
  | 34 => ⟨S1x4096, .i32⟩
  | 35 => ⟨S4096, .i32⟩
  | 36 => ⟨S4096, .i32⟩
  | 37 => ⟨S2048, .i32⟩
  | 38 => ⟨S2048, .i32⟩
  | 39 => ⟨S1x2048, .f32⟩
  | 40 => ⟨S2048, .f32⟩
  | 41 => ⟨S2048, .f32⟩
  | 42 => ⟨S1x2048, .f32⟩
  | 43 => ⟨S2048, .f32⟩
  | 44 => ⟨S2048, .f32⟩
  | 45 => ⟨S_, .i32⟩
  | 46 => ⟨S2048, .i32⟩
  | 47 => ⟨S2048, .i1⟩
  | 48 => ⟨S_, .i32⟩
  | 49 => ⟨S2048, .i32⟩
  | 50 => ⟨S2048, .i32⟩
  | 51 => ⟨S2048, .i32⟩
  | 52 => ⟨S2048x1, .i32⟩
  | 53 => ⟨S1, .i32⟩
  | 54 => ⟨S_, .i32⟩
  | 55 => ⟨S2048x1, .i32⟩
  | 56 => ⟨S2048x1, .i1⟩
  | 57 => ⟨S1x1, .i32⟩
  | 58 => ⟨S2048x1, .i32⟩
  | 59 => ⟨S2048x1, .i1⟩
  | 60 => ⟨S2048x1, .i1⟩
  | 61 => ⟨S_, .i1⟩
  | 62 => ⟨S2048, .i1⟩
  | 63 => ⟨S8192x2048, .f32⟩
  | 64 => ⟨S8192x2048, .i1⟩
  | 65 => ⟨S_, .f32⟩
  | 66 => ⟨S8192x2048, .f32⟩
  | 67 => ⟨S8192x2048, .f32⟩
  | 68 => ⟨S_, .i32⟩
  | 69 => ⟨S2048, .i32⟩
  | 70 => ⟨S2048, .i1⟩
  | 71 => ⟨S_, .i32⟩
  | 72 => ⟨S2048, .i32⟩
  | 73 => ⟨S2048, .i32⟩
  | 74 => ⟨S2048, .i32⟩
  | 75 => ⟨S2048x1, .i32⟩
  | 76 => ⟨S1, .i32⟩
  | 77 => ⟨S_, .i32⟩
  | 78 => ⟨S2048x1, .i32⟩
  | 79 => ⟨S2048x1, .i1⟩
  | 80 => ⟨S1x1, .i32⟩
  | 81 => ⟨S2048x1, .i32⟩
  | 82 => ⟨S2048x1, .i1⟩
  | 83 => ⟨S2048x1, .i1⟩
  | 84 => ⟨S_, .i1⟩
  | 85 => ⟨S2048, .i1⟩
  | 86 => ⟨S8192x2048, .f32⟩
  | 87 => ⟨S8192x2048, .i1⟩
  | 88 => ⟨S_, .f32⟩
  | 89 => ⟨S8192x2048, .f32⟩
  | 90 => ⟨S8192x2048, .f32⟩
  | 91 => ⟨S1x2048, .f32⟩
  | 92 => ⟨S8192x2048, .f32⟩
  | 93 => ⟨S8192x2048, .f32⟩
  | 94 => ⟨S1x2048, .f32⟩
  | 95 => ⟨S8192x2048, .f32⟩
  | 96 => ⟨S8192x2048, .f32⟩
  | 97 => ⟨S8192x2048, .f32⟩
  | 98 => ⟨S1x2048, .f32⟩
  | 99 => ⟨S8192x2048, .f32⟩
  | 100 => ⟨S8192x2048, .f32⟩
  | 101 => ⟨S1x2048, .f32⟩
  | 102 => ⟨S8192x2048, .f32⟩
  | 103 => ⟨S8192x2048, .f32⟩
  | 104 => ⟨S8192x2048, .f32⟩
  | 105 => ⟨S_, .i32⟩
  | 106 => ⟨S2048, .i32⟩
  | 107 => ⟨S2048, .i1⟩
  | 108 => ⟨S_, .i32⟩
  | 109 => ⟨S2048, .i32⟩
  | 110 => ⟨S2048, .i32⟩
  | 111 => ⟨S2048, .i32⟩
  | 112 => ⟨S2048x1, .i32⟩
  | 113 => ⟨S8192x4096, .f32⟩
  | 114 => ⟨S_, .i32⟩
  | 115 => ⟨S2048, .i32⟩
  | 116 => ⟨S2048, .i1⟩
  | 117 => ⟨S_, .i32⟩
  | 118 => ⟨S2048, .i32⟩
  | 119 => ⟨S2048, .i32⟩
  | 120 => ⟨S2048, .i32⟩
  | 121 => ⟨S2048x1, .i32⟩
  | 122 => ⟨S8192x4096, .f32⟩
  | 123 => ⟨S1x4096, .i32⟩
  | 124 => ⟨S4096, .i32⟩
  | 125 => ⟨S4096, .i32⟩
  | 126 => ⟨S2048, .i32⟩
  | 127 => ⟨S2048, .i32⟩
  | _ => ⟨S8192x4096, .f32⟩

abbrev hbmTy0_5 (i : Nat) : BufTy := match i % 128 with
  | 0 => ⟨S1x2048, .f32⟩
  | 1 => ⟨S2048, .f32⟩
  | 2 => ⟨S2048, .f32⟩
  | 3 => ⟨S1x2048, .f32⟩
  | 4 => ⟨S2048, .f32⟩
  | 5 => ⟨S2048, .f32⟩
  | 6 => ⟨S_, .i32⟩
  | 7 => ⟨S2048, .i32⟩
  | 8 => ⟨S2048, .i1⟩
  | 9 => ⟨S_, .i32⟩
  | 10 => ⟨S2048, .i32⟩
  | 11 => ⟨S2048, .i32⟩
  | 12 => ⟨S2048, .i32⟩
  | 13 => ⟨S2048x1, .i32⟩
  | 14 => ⟨S1, .i32⟩
  | 15 => ⟨S_, .i32⟩
  | 16 => ⟨S2048x1, .i32⟩
  | 17 => ⟨S2048x1, .i1⟩
  | 18 => ⟨S1x1, .i32⟩
  | 19 => ⟨S2048x1, .i32⟩
  | 20 => ⟨S2048x1, .i1⟩
  | 21 => ⟨S2048x1, .i1⟩
  | 22 => ⟨S_, .i1⟩
  | 23 => ⟨S2048, .i1⟩
  | 24 => ⟨S8192x2048, .f32⟩
  | 25 => ⟨S8192x2048, .i1⟩
  | 26 => ⟨S_, .f32⟩
  | 27 => ⟨S8192x2048, .f32⟩
  | 28 => ⟨S8192x2048, .f32⟩
  | 29 => ⟨S_, .i32⟩
  | 30 => ⟨S2048, .i32⟩
  | 31 => ⟨S2048, .i1⟩
  | 32 => ⟨S_, .i32⟩
  | 33 => ⟨S2048, .i32⟩
  | 34 => ⟨S2048, .i32⟩
  | 35 => ⟨S2048, .i32⟩
  | 36 => ⟨S2048x1, .i32⟩
  | 37 => ⟨S1, .i32⟩
  | 38 => ⟨S_, .i32⟩
  | 39 => ⟨S2048x1, .i32⟩
  | 40 => ⟨S2048x1, .i1⟩
  | 41 => ⟨S1x1, .i32⟩
  | 42 => ⟨S2048x1, .i32⟩
  | 43 => ⟨S2048x1, .i1⟩
  | 44 => ⟨S2048x1, .i1⟩
  | 45 => ⟨S_, .i1⟩
  | 46 => ⟨S2048, .i1⟩
  | 47 => ⟨S8192x2048, .f32⟩
  | 48 => ⟨S8192x2048, .i1⟩
  | 49 => ⟨S_, .f32⟩
  | 50 => ⟨S8192x2048, .f32⟩
  | 51 => ⟨S8192x2048, .f32⟩
  | 52 => ⟨S1x2048, .f32⟩
  | 53 => ⟨S8192x2048, .f32⟩
  | 54 => ⟨S8192x2048, .f32⟩
  | 55 => ⟨S1x2048, .f32⟩
  | 56 => ⟨S8192x2048, .f32⟩
  | 57 => ⟨S8192x2048, .f32⟩
  | 58 => ⟨S8192x2048, .f32⟩
  | 59 => ⟨S1x2048, .f32⟩
  | 60 => ⟨S8192x2048, .f32⟩
  | 61 => ⟨S8192x2048, .f32⟩
  | 62 => ⟨S1x2048, .f32⟩
  | 63 => ⟨S8192x2048, .f32⟩
  | 64 => ⟨S8192x2048, .f32⟩
  | 65 => ⟨S8192x2048, .f32⟩
  | 66 => ⟨S_, .i32⟩
  | 67 => ⟨S2048, .i32⟩
  | 68 => ⟨S2048, .i1⟩
  | 69 => ⟨S_, .i32⟩
  | 70 => ⟨S2048, .i32⟩
  | 71 => ⟨S2048, .i32⟩
  | 72 => ⟨S2048, .i32⟩
  | 73 => ⟨S2048x1, .i32⟩
  | 74 => ⟨S8192x4096, .f32⟩
  | 75 => ⟨S_, .i32⟩
  | 76 => ⟨S2048, .i32⟩
  | 77 => ⟨S2048, .i1⟩
  | 78 => ⟨S_, .i32⟩
  | 79 => ⟨S2048, .i32⟩
  | 80 => ⟨S2048, .i32⟩
  | 81 => ⟨S2048, .i32⟩
  | 82 => ⟨S2048x1, .i32⟩
  | 83 => ⟨S8192x4096, .f32⟩
  | _ => ⟨S8192x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v18 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_c_0 : Ref sig .tc := ⟨.hbm, 83, rfl⟩
abbrev main_v34 : Ref sig .tc := ⟨.hbm, 84, rfl⟩
abbrev main_v35 : Ref sig .tc := ⟨.hbm, 85, rfl⟩
abbrev main_c_1 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_c_2 : Ref sig .tc := ⟨.hbm, 92, rfl⟩
abbrev main_v41 : Ref sig .tc := ⟨.hbm, 93, rfl⟩
abbrev main_v42 : Ref sig .tc := ⟨.hbm, 94, rfl⟩
abbrev main_c_3 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_call2_c : Ref sig .tc := ⟨.hbm, 112, rfl⟩
abbrev main_call2_v0 : Ref sig .tc := ⟨.hbm, 113, rfl⟩
abbrev main_call2_v1 : Ref sig .tc := ⟨.hbm, 114, rfl⟩
abbrev main_call2_c_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_v5 : Ref sig .tc := ⟨.hbm, 119, rfl⟩
abbrev main_call2_c_1 : Ref sig .tc := ⟨.hbm, 120, rfl⟩
abbrev main_call2_c_2 : Ref sig .tc := ⟨.hbm, 121, rfl⟩
abbrev main_call2_v6 : Ref sig .tc := ⟨.hbm, 122, rfl⟩
abbrev main_call2_v7 : Ref sig .tc := ⟨.hbm, 123, rfl⟩
abbrev main_call2_v8 : Ref sig .tc := ⟨.hbm, 124, rfl⟩
abbrev main_call2_v9 : Ref sig .tc := ⟨.hbm, 125, rfl⟩
abbrev main_call2_v10 : Ref sig .tc := ⟨.hbm, 126, rfl⟩
abbrev main_call2_v11 : Ref sig .tc := ⟨.hbm, 127, rfl⟩
abbrev main_call2_c_3 : Ref sig .tc := ⟨.hbm, 128, rfl⟩
abbrev main_call2_v12 : Ref sig .tc := ⟨.hbm, 129, rfl⟩
abbrev main_call2_v13 : Ref sig .tc := ⟨.hbm, 130, rfl⟩
abbrev main_call2_v14 : Ref sig .tc := ⟨.hbm, 131, rfl⟩
abbrev main_call2_cst : Ref sig .tc := ⟨.hbm, 132, rfl⟩
abbrev main_call2_v15 : Ref sig .tc := ⟨.hbm, 133, rfl⟩
abbrev main_v59 : Ref sig .tc := ⟨.hbm, 134, rfl⟩
abbrev main_call3_c : Ref sig .tc := ⟨.hbm, 135, rfl⟩
abbrev main_call3_v0 : Ref sig .tc := ⟨.hbm, 136, rfl⟩
abbrev main_call3_v1 : Ref sig .tc := ⟨.hbm, 137, rfl⟩
abbrev main_call3_c_0 : Ref sig .tc := ⟨.hbm, 138, rfl⟩
abbrev main_call3_v2 : Ref sig .tc := ⟨.hbm, 139, rfl⟩
abbrev main_call3_v3 : Ref sig .tc := ⟨.hbm, 140, rfl⟩
abbrev main_call3_v4 : Ref sig .tc := ⟨.hbm, 141, rfl⟩
abbrev main_call3_v5 : Ref sig .tc := ⟨.hbm, 142, rfl⟩
abbrev main_call3_c_1 : Ref sig .tc := ⟨.hbm, 143, rfl⟩
abbrev main_call3_c_2 : Ref sig .tc := ⟨.hbm, 144, rfl⟩
abbrev main_call3_v6 : Ref sig .tc := ⟨.hbm, 145, rfl⟩
abbrev main_call3_v7 : Ref sig .tc := ⟨.hbm, 146, rfl⟩
abbrev main_call3_v8 : Ref sig .tc := ⟨.hbm, 147, rfl⟩
abbrev main_call3_v9 : Ref sig .tc := ⟨.hbm, 148, rfl⟩
abbrev main_call3_v10 : Ref sig .tc := ⟨.hbm, 149, rfl⟩
abbrev main_call3_v11 : Ref sig .tc := ⟨.hbm, 150, rfl⟩
abbrev main_call3_c_3 : Ref sig .tc := ⟨.hbm, 151, rfl⟩
abbrev main_call3_v12 : Ref sig .tc := ⟨.hbm, 152, rfl⟩
abbrev main_call3_v13 : Ref sig .tc := ⟨.hbm, 153, rfl⟩
abbrev main_call3_v14 : Ref sig .tc := ⟨.hbm, 154, rfl⟩
abbrev main_call3_cst : Ref sig .tc := ⟨.hbm, 155, rfl⟩
abbrev main_call3_v15 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_c_4 : Ref sig .tc := ⟨.hbm, 172, rfl⟩
abbrev main_v75 : Ref sig .tc := ⟨.hbm, 173, rfl⟩
abbrev main_v76 : Ref sig .tc := ⟨.hbm, 174, rfl⟩
abbrev main_c_5 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_c_6 : Ref sig .tc := ⟨.hbm, 181, rfl⟩
abbrev main_v82 : Ref sig .tc := ⟨.hbm, 182, rfl⟩
abbrev main_v83 : Ref sig .tc := ⟨.hbm, 183, rfl⟩
abbrev main_c_7 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_call4_c : Ref sig .tc := ⟨.hbm, 201, rfl⟩
abbrev main_call4_v0 : Ref sig .tc := ⟨.hbm, 202, rfl⟩
abbrev main_call4_v1 : Ref sig .tc := ⟨.hbm, 203, rfl⟩
abbrev main_call4_c_0 : Ref sig .tc := ⟨.hbm, 204, rfl⟩
abbrev main_call4_v2 : Ref sig .tc := ⟨.hbm, 205, rfl⟩
abbrev main_call4_v3 : Ref sig .tc := ⟨.hbm, 206, rfl⟩
abbrev main_call4_v4 : Ref sig .tc := ⟨.hbm, 207, rfl⟩
abbrev main_call4_v5 : Ref sig .tc := ⟨.hbm, 208, rfl⟩
abbrev main_call4_c_1 : Ref sig .tc := ⟨.hbm, 209, rfl⟩
abbrev main_call4_c_2 : Ref sig .tc := ⟨.hbm, 210, rfl⟩
abbrev main_call4_v6 : Ref sig .tc := ⟨.hbm, 211, rfl⟩
abbrev main_call4_v7 : Ref sig .tc := ⟨.hbm, 212, rfl⟩
abbrev main_call4_v8 : Ref sig .tc := ⟨.hbm, 213, rfl⟩
abbrev main_call4_v9 : Ref sig .tc := ⟨.hbm, 214, rfl⟩
abbrev main_call4_v10 : Ref sig .tc := ⟨.hbm, 215, rfl⟩
abbrev main_call4_v11 : Ref sig .tc := ⟨.hbm, 216, rfl⟩
abbrev main_call4_c_3 : Ref sig .tc := ⟨.hbm, 217, rfl⟩
abbrev main_call4_v12 : Ref sig .tc := ⟨.hbm, 218, rfl⟩
abbrev main_call4_v13 : Ref sig .tc := ⟨.hbm, 219, rfl⟩
abbrev main_call4_v14 : Ref sig .tc := ⟨.hbm, 220, rfl⟩
abbrev main_call4_cst : Ref sig .tc := ⟨.hbm, 221, rfl⟩
abbrev main_call4_v15 : Ref sig .tc := ⟨.hbm, 222, rfl⟩
abbrev main_v100 : Ref sig .tc := ⟨.hbm, 223, rfl⟩
abbrev main_call5_c : Ref sig .tc := ⟨.hbm, 224, rfl⟩
abbrev main_call5_v0 : Ref sig .tc := ⟨.hbm, 225, rfl⟩
abbrev main_call5_v1 : Ref sig .tc := ⟨.hbm, 226, rfl⟩
abbrev main_call5_c_0 : Ref sig .tc := ⟨.hbm, 227, rfl⟩
abbrev main_call5_v2 : Ref sig .tc := ⟨.hbm, 228, rfl⟩
abbrev main_call5_v3 : Ref sig .tc := ⟨.hbm, 229, rfl⟩
abbrev main_call5_v4 : Ref sig .tc := ⟨.hbm, 230, rfl⟩
abbrev main_call5_v5 : Ref sig .tc := ⟨.hbm, 231, rfl⟩
abbrev main_call5_c_1 : Ref sig .tc := ⟨.hbm, 232, rfl⟩
abbrev main_call5_c_2 : Ref sig .tc := ⟨.hbm, 233, rfl⟩
abbrev main_call5_v6 : Ref sig .tc := ⟨.hbm, 234, rfl⟩
abbrev main_call5_v7 : Ref sig .tc := ⟨.hbm, 235, rfl⟩
abbrev main_call5_v8 : Ref sig .tc := ⟨.hbm, 236, rfl⟩
abbrev main_call5_v9 : Ref sig .tc := ⟨.hbm, 237, rfl⟩
abbrev main_call5_v10 : Ref sig .tc := ⟨.hbm, 238, rfl⟩
abbrev main_call5_v11 : Ref sig .tc := ⟨.hbm, 239, rfl⟩
abbrev main_call5_c_3 : Ref sig .tc := ⟨.hbm, 240, rfl⟩
abbrev main_call5_v12 : Ref sig .tc := ⟨.hbm, 241, rfl⟩
abbrev main_call5_v13 : Ref sig .tc := ⟨.hbm, 242, rfl⟩
abbrev main_call5_v14 : Ref sig .tc := ⟨.hbm, 243, rfl⟩
abbrev main_call5_cst : Ref sig .tc := ⟨.hbm, 244, rfl⟩
abbrev main_call5_v15 : Ref sig .tc := ⟨.hbm, 245, rfl⟩
abbrev main_v101 : Ref sig .tc := ⟨.hbm, 246, rfl⟩
abbrev main_v102 : Ref sig .tc := ⟨.hbm, 247, rfl⟩
abbrev main_v103 : Ref sig .tc := ⟨.hbm, 248, rfl⟩
abbrev main_v104 : Ref sig .tc := ⟨.hbm, 249, rfl⟩
abbrev main_v105 : Ref sig .tc := ⟨.hbm, 250, rfl⟩
abbrev main_v106 : Ref sig .tc := ⟨.hbm, 251, rfl⟩
abbrev main_v107 : Ref sig .tc := ⟨.hbm, 252, rfl⟩
abbrev main_v108 : Ref sig .tc := ⟨.hbm, 253, rfl⟩
abbrev main_v109 : Ref sig .tc := ⟨.hbm, 254, rfl⟩
abbrev main_v110 : Ref sig .tc := ⟨.hbm, 255, rfl⟩
abbrev main_v111 : Ref sig .tc := ⟨.hbm, 256, rfl⟩
abbrev main_v112 : Ref sig .tc := ⟨.hbm, 257, rfl⟩
abbrev main_v113 : Ref sig .tc := ⟨.hbm, 258, rfl⟩
abbrev main_v114 : Ref sig .tc := ⟨.hbm, 259, rfl⟩
abbrev main_v115 : Ref sig .tc := ⟨.hbm, 260, rfl⟩
abbrev main_c_8 : Ref sig .tc := ⟨.hbm, 261, rfl⟩
abbrev main_v116 : Ref sig .tc := ⟨.hbm, 262, rfl⟩
abbrev main_v117 : Ref sig .tc := ⟨.hbm, 263, rfl⟩
abbrev main_c_9 : Ref sig .tc := ⟨.hbm, 264, rfl⟩
abbrev main_v118 : Ref sig .tc := ⟨.hbm, 265, rfl⟩
abbrev main_v119 : Ref sig .tc := ⟨.hbm, 266, rfl⟩
abbrev main_v120 : Ref sig .tc := ⟨.hbm, 267, rfl⟩
abbrev main_v121 : Ref sig .tc := ⟨.hbm, 268, rfl⟩
abbrev main_v122 : Ref sig .tc := ⟨.hbm, 269, rfl⟩
abbrev main_c_10 : Ref sig .tc := ⟨.hbm, 270, rfl⟩
abbrev main_v123 : Ref sig .tc := ⟨.hbm, 271, rfl⟩
abbrev main_v124 : Ref sig .tc := ⟨.hbm, 272, rfl⟩
abbrev main_c_11 : Ref sig .tc := ⟨.hbm, 273, rfl⟩
abbrev main_v125 : Ref sig .tc := ⟨.hbm, 274, rfl⟩
abbrev main_v126 : Ref sig .tc := ⟨.hbm, 275, rfl⟩
abbrev main_v127 : Ref sig .tc := ⟨.hbm, 276, rfl⟩
abbrev main_v128 : Ref sig .tc := ⟨.hbm, 277, rfl⟩
abbrev main_v129 : Ref sig .tc := ⟨.hbm, 278, rfl⟩
abbrev main_v130 : Ref sig .tc := ⟨.hbm, 279, rfl⟩
abbrev main_v131 : Ref sig .tc := ⟨.hbm, 280, rfl⟩
abbrev main_v132 : Ref sig .tc := ⟨.hbm, 281, rfl⟩
abbrev main_v133 : Ref sig .tc := ⟨.hbm, 282, rfl⟩
abbrev main_v134 : Ref sig .tc := ⟨.hbm, 283, rfl⟩
abbrev main_v135 : Ref sig .tc := ⟨.hbm, 284, rfl⟩
abbrev main_v136 : Ref sig .tc := ⟨.hbm, 285, rfl⟩
abbrev main_v137 : Ref sig .tc := ⟨.hbm, 286, rfl⟩
abbrev main_v138 : Ref sig .tc := ⟨.hbm, 287, rfl⟩
abbrev main_v139 : Ref sig .tc := ⟨.hbm, 288, rfl⟩
abbrev main_v140 : Ref sig .tc := ⟨.hbm, 289, rfl⟩
abbrev main_call6_c : Ref sig .tc := ⟨.hbm, 290, rfl⟩
abbrev main_call6_v0 : Ref sig .tc := ⟨.hbm, 291, rfl⟩
abbrev main_call6_v1 : Ref sig .tc := ⟨.hbm, 292, rfl⟩
abbrev main_call6_c_0 : Ref sig .tc := ⟨.hbm, 293, rfl⟩
abbrev main_call6_v2 : Ref sig .tc := ⟨.hbm, 294, rfl⟩
abbrev main_call6_v3 : Ref sig .tc := ⟨.hbm, 295, rfl⟩
abbrev main_call6_v4 : Ref sig .tc := ⟨.hbm, 296, rfl⟩
abbrev main_call6_v5 : Ref sig .tc := ⟨.hbm, 297, rfl⟩
abbrev main_call6_c_1 : Ref sig .tc := ⟨.hbm, 298, rfl⟩
abbrev main_call6_c_2 : Ref sig .tc := ⟨.hbm, 299, rfl⟩
abbrev main_call6_v6 : Ref sig .tc := ⟨.hbm, 300, rfl⟩
abbrev main_call6_v7 : Ref sig .tc := ⟨.hbm, 301, rfl⟩
abbrev main_call6_v8 : Ref sig .tc := ⟨.hbm, 302, rfl⟩
abbrev main_call6_v9 : Ref sig .tc := ⟨.hbm, 303, rfl⟩
abbrev main_call6_v10 : Ref sig .tc := ⟨.hbm, 304, rfl⟩
abbrev main_call6_v11 : Ref sig .tc := ⟨.hbm, 305, rfl⟩
abbrev main_call6_c_3 : Ref sig .tc := ⟨.hbm, 306, rfl⟩
abbrev main_call6_v12 : Ref sig .tc := ⟨.hbm, 307, rfl⟩
abbrev main_call6_v13 : Ref sig .tc := ⟨.hbm, 308, rfl⟩
abbrev main_call6_v14 : Ref sig .tc := ⟨.hbm, 309, rfl⟩
abbrev main_call6_cst : Ref sig .tc := ⟨.hbm, 310, rfl⟩
abbrev main_call6_v15 : Ref sig .tc := ⟨.hbm, 311, rfl⟩
abbrev main_v141 : Ref sig .tc := ⟨.hbm, 312, rfl⟩
abbrev main_call7_c : Ref sig .tc := ⟨.hbm, 313, rfl⟩
abbrev main_call7_v0 : Ref sig .tc := ⟨.hbm, 314, rfl⟩
abbrev main_call7_v1 : Ref sig .tc := ⟨.hbm, 315, rfl⟩
abbrev main_call7_c_0 : Ref sig .tc := ⟨.hbm, 316, rfl⟩
abbrev main_call7_v2 : Ref sig .tc := ⟨.hbm, 317, rfl⟩
abbrev main_call7_v3 : Ref sig .tc := ⟨.hbm, 318, rfl⟩
abbrev main_call7_v4 : Ref sig .tc := ⟨.hbm, 319, rfl⟩
abbrev main_call7_v5 : Ref sig .tc := ⟨.hbm, 320, rfl⟩
abbrev main_call7_c_1 : Ref sig .tc := ⟨.hbm, 321, rfl⟩
abbrev main_call7_c_2 : Ref sig .tc := ⟨.hbm, 322, rfl⟩
abbrev main_call7_v6 : Ref sig .tc := ⟨.hbm, 323, rfl⟩
abbrev main_call7_v7 : Ref sig .tc := ⟨.hbm, 324, rfl⟩
abbrev main_call7_v8 : Ref sig .tc := ⟨.hbm, 325, rfl⟩
abbrev main_call7_v9 : Ref sig .tc := ⟨.hbm, 326, rfl⟩
abbrev main_call7_v10 : Ref sig .tc := ⟨.hbm, 327, rfl⟩
abbrev main_call7_v11 : Ref sig .tc := ⟨.hbm, 328, rfl⟩
abbrev main_call7_c_3 : Ref sig .tc := ⟨.hbm, 329, rfl⟩
abbrev main_call7_v12 : Ref sig .tc := ⟨.hbm, 330, rfl⟩
abbrev main_call7_v13 : Ref sig .tc := ⟨.hbm, 331, rfl⟩
abbrev main_call7_v14 : Ref sig .tc := ⟨.hbm, 332, rfl⟩
abbrev main_call7_cst : Ref sig .tc := ⟨.hbm, 333, rfl⟩
abbrev main_call7_v15 : Ref sig .tc := ⟨.hbm, 334, rfl⟩
abbrev main_v142 : Ref sig .tc := ⟨.hbm, 335, rfl⟩
abbrev main_v143 : Ref sig .tc := ⟨.hbm, 336, rfl⟩
abbrev main_v144 : Ref sig .tc := ⟨.hbm, 337, rfl⟩
abbrev main_v145 : Ref sig .tc := ⟨.hbm, 338, rfl⟩
abbrev main_v146 : Ref sig .tc := ⟨.hbm, 339, rfl⟩
abbrev main_v147 : Ref sig .tc := ⟨.hbm, 340, rfl⟩
abbrev main_v148 : Ref sig .tc := ⟨.hbm, 341, rfl⟩
abbrev main_v149 : Ref sig .tc := ⟨.hbm, 342, rfl⟩
abbrev main_v150 : Ref sig .tc := ⟨.hbm, 343, rfl⟩
abbrev main_v151 : Ref sig .tc := ⟨.hbm, 344, rfl⟩
abbrev main_v152 : Ref sig .tc := ⟨.hbm, 345, rfl⟩
abbrev main_v153 : Ref sig .tc := ⟨.hbm, 346, rfl⟩
abbrev main_v154 : Ref sig .tc := ⟨.hbm, 347, rfl⟩
abbrev main_v155 : Ref sig .tc := ⟨.hbm, 348, rfl⟩
abbrev main_v156 : Ref sig .tc := ⟨.hbm, 349, rfl⟩
abbrev main_c_12 : Ref sig .tc := ⟨.hbm, 350, rfl⟩
abbrev main_v157 : Ref sig .tc := ⟨.hbm, 351, rfl⟩
abbrev main_v158 : Ref sig .tc := ⟨.hbm, 352, rfl⟩
abbrev main_c_13 : Ref sig .tc := ⟨.hbm, 353, rfl⟩
abbrev main_v159 : Ref sig .tc := ⟨.hbm, 354, rfl⟩
abbrev main_v160 : Ref sig .tc := ⟨.hbm, 355, rfl⟩
abbrev main_v161 : Ref sig .tc := ⟨.hbm, 356, rfl⟩
abbrev main_v162 : Ref sig .tc := ⟨.hbm, 357, rfl⟩
abbrev main_v163 : Ref sig .tc := ⟨.hbm, 358, rfl⟩
abbrev main_c_14 : Ref sig .tc := ⟨.hbm, 359, rfl⟩
abbrev main_v164 : Ref sig .tc := ⟨.hbm, 360, rfl⟩
abbrev main_v165 : Ref sig .tc := ⟨.hbm, 361, rfl⟩
abbrev main_c_15 : Ref sig .tc := ⟨.hbm, 362, rfl⟩
abbrev main_v166 : Ref sig .tc := ⟨.hbm, 363, rfl⟩
abbrev main_v167 : Ref sig .tc := ⟨.hbm, 364, rfl⟩
abbrev main_v168 : Ref sig .tc := ⟨.hbm, 365, rfl⟩
abbrev main_v169 : Ref sig .tc := ⟨.hbm, 366, rfl⟩
abbrev main_v170 : Ref sig .tc := ⟨.hbm, 367, rfl⟩
abbrev main_v171 : Ref sig .tc := ⟨.hbm, 368, rfl⟩
abbrev main_v172 : Ref sig .tc := ⟨.hbm, 369, rfl⟩
abbrev main_v173 : Ref sig .tc := ⟨.hbm, 370, rfl⟩
abbrev main_v174 : Ref sig .tc := ⟨.hbm, 371, rfl⟩
abbrev main_v175 : Ref sig .tc := ⟨.hbm, 372, rfl⟩
abbrev main_v176 : Ref sig .tc := ⟨.hbm, 373, rfl⟩
abbrev main_v177 : Ref sig .tc := ⟨.hbm, 374, rfl⟩
abbrev main_v178 : Ref sig .tc := ⟨.hbm, 375, rfl⟩
abbrev main_v179 : Ref sig .tc := ⟨.hbm, 376, rfl⟩
abbrev main_v180 : Ref sig .tc := ⟨.hbm, 377, rfl⟩
abbrev main_v181 : Ref sig .tc := ⟨.hbm, 378, rfl⟩
abbrev main_call8_c : Ref sig .tc := ⟨.hbm, 379, rfl⟩
abbrev main_call8_v0 : Ref sig .tc := ⟨.hbm, 380, rfl⟩
abbrev main_call8_v1 : Ref sig .tc := ⟨.hbm, 381, rfl⟩
abbrev main_call8_c_0 : Ref sig .tc := ⟨.hbm, 382, rfl⟩
abbrev main_call8_v2 : Ref sig .tc := ⟨.hbm, 383, rfl⟩
abbrev main_call8_v3 : Ref sig .tc := ⟨.hbm, 384, rfl⟩
abbrev main_call8_v4 : Ref sig .tc := ⟨.hbm, 385, rfl⟩
abbrev main_call8_v5 : Ref sig .tc := ⟨.hbm, 386, rfl⟩
abbrev main_call8_c_1 : Ref sig .tc := ⟨.hbm, 387, rfl⟩
abbrev main_call8_c_2 : Ref sig .tc := ⟨.hbm, 388, rfl⟩
abbrev main_call8_v6 : Ref sig .tc := ⟨.hbm, 389, rfl⟩
abbrev main_call8_v7 : Ref sig .tc := ⟨.hbm, 390, rfl⟩
abbrev main_call8_v8 : Ref sig .tc := ⟨.hbm, 391, rfl⟩
abbrev main_call8_v9 : Ref sig .tc := ⟨.hbm, 392, rfl⟩
abbrev main_call8_v10 : Ref sig .tc := ⟨.hbm, 393, rfl⟩
abbrev main_call8_v11 : Ref sig .tc := ⟨.hbm, 394, rfl⟩
abbrev main_call8_c_3 : Ref sig .tc := ⟨.hbm, 395, rfl⟩
abbrev main_call8_v12 : Ref sig .tc := ⟨.hbm, 396, rfl⟩
abbrev main_call8_v13 : Ref sig .tc := ⟨.hbm, 397, rfl⟩
abbrev main_call8_v14 : Ref sig .tc := ⟨.hbm, 398, rfl⟩
abbrev main_call8_cst : Ref sig .tc := ⟨.hbm, 399, rfl⟩
abbrev main_call8_v15 : Ref sig .tc := ⟨.hbm, 400, rfl⟩
abbrev main_v182 : Ref sig .tc := ⟨.hbm, 401, rfl⟩
abbrev main_call9_c : Ref sig .tc := ⟨.hbm, 402, rfl⟩
abbrev main_call9_v0 : Ref sig .tc := ⟨.hbm, 403, rfl⟩
abbrev main_call9_v1 : Ref sig .tc := ⟨.hbm, 404, rfl⟩
abbrev main_call9_c_0 : Ref sig .tc := ⟨.hbm, 405, rfl⟩
abbrev main_call9_v2 : Ref sig .tc := ⟨.hbm, 406, rfl⟩
abbrev main_call9_v3 : Ref sig .tc := ⟨.hbm, 407, rfl⟩
abbrev main_call9_v4 : Ref sig .tc := ⟨.hbm, 408, rfl⟩
abbrev main_call9_v5 : Ref sig .tc := ⟨.hbm, 409, rfl⟩
abbrev main_call9_c_1 : Ref sig .tc := ⟨.hbm, 410, rfl⟩
abbrev main_call9_c_2 : Ref sig .tc := ⟨.hbm, 411, rfl⟩
abbrev main_call9_v6 : Ref sig .tc := ⟨.hbm, 412, rfl⟩
abbrev main_call9_v7 : Ref sig .tc := ⟨.hbm, 413, rfl⟩
abbrev main_call9_v8 : Ref sig .tc := ⟨.hbm, 414, rfl⟩
abbrev main_call9_v9 : Ref sig .tc := ⟨.hbm, 415, rfl⟩
abbrev main_call9_v10 : Ref sig .tc := ⟨.hbm, 416, rfl⟩
abbrev main_call9_v11 : Ref sig .tc := ⟨.hbm, 417, rfl⟩
abbrev main_call9_c_3 : Ref sig .tc := ⟨.hbm, 418, rfl⟩
abbrev main_call9_v12 : Ref sig .tc := ⟨.hbm, 419, rfl⟩
abbrev main_call9_v13 : Ref sig .tc := ⟨.hbm, 420, rfl⟩
abbrev main_call9_v14 : Ref sig .tc := ⟨.hbm, 421, rfl⟩
abbrev main_call9_cst : Ref sig .tc := ⟨.hbm, 422, rfl⟩
abbrev main_call9_v15 : Ref sig .tc := ⟨.hbm, 423, rfl⟩
abbrev main_v183 : Ref sig .tc := ⟨.hbm, 424, rfl⟩
abbrev main_v184 : Ref sig .tc := ⟨.hbm, 425, rfl⟩
abbrev main_v185 : Ref sig .tc := ⟨.hbm, 426, rfl⟩
abbrev main_v186 : Ref sig .tc := ⟨.hbm, 427, rfl⟩
abbrev main_v187 : Ref sig .tc := ⟨.hbm, 428, rfl⟩
abbrev main_v188 : Ref sig .tc := ⟨.hbm, 429, rfl⟩
abbrev main_v189 : Ref sig .tc := ⟨.hbm, 430, rfl⟩
abbrev main_v190 : Ref sig .tc := ⟨.hbm, 431, rfl⟩
abbrev main_v191 : Ref sig .tc := ⟨.hbm, 432, rfl⟩
abbrev main_v192 : Ref sig .tc := ⟨.hbm, 433, rfl⟩
abbrev main_v193 : Ref sig .tc := ⟨.hbm, 434, rfl⟩
abbrev main_v194 : Ref sig .tc := ⟨.hbm, 435, rfl⟩
abbrev main_v195 : Ref sig .tc := ⟨.hbm, 436, rfl⟩
abbrev main_v196 : Ref sig .tc := ⟨.hbm, 437, rfl⟩
abbrev main_v197 : Ref sig .tc := ⟨.hbm, 438, rfl⟩
abbrev main_c_16 : Ref sig .tc := ⟨.hbm, 439, rfl⟩
abbrev main_v198 : Ref sig .tc := ⟨.hbm, 440, rfl⟩
abbrev main_v199 : Ref sig .tc := ⟨.hbm, 441, rfl⟩
abbrev main_c_17 : Ref sig .tc := ⟨.hbm, 442, rfl⟩
abbrev main_v200 : Ref sig .tc := ⟨.hbm, 443, rfl⟩
abbrev main_v201 : Ref sig .tc := ⟨.hbm, 444, rfl⟩
abbrev main_v202 : Ref sig .tc := ⟨.hbm, 445, rfl⟩
abbrev main_v203 : Ref sig .tc := ⟨.hbm, 446, rfl⟩
abbrev main_v204 : Ref sig .tc := ⟨.hbm, 447, rfl⟩
abbrev main_c_18 : Ref sig .tc := ⟨.hbm, 448, rfl⟩
abbrev main_v205 : Ref sig .tc := ⟨.hbm, 449, rfl⟩
abbrev main_v206 : Ref sig .tc := ⟨.hbm, 450, rfl⟩
abbrev main_c_19 : Ref sig .tc := ⟨.hbm, 451, rfl⟩
abbrev main_v207 : Ref sig .tc := ⟨.hbm, 452, rfl⟩
abbrev main_v208 : Ref sig .tc := ⟨.hbm, 453, rfl⟩
abbrev main_v209 : Ref sig .tc := ⟨.hbm, 454, rfl⟩
abbrev main_v210 : Ref sig .tc := ⟨.hbm, 455, rfl⟩
abbrev main_v211 : Ref sig .tc := ⟨.hbm, 456, rfl⟩
abbrev main_v212 : Ref sig .tc := ⟨.hbm, 457, rfl⟩
abbrev main_v213 : Ref sig .tc := ⟨.hbm, 458, rfl⟩
abbrev main_v214 : Ref sig .tc := ⟨.hbm, 459, rfl⟩
abbrev main_v215 : Ref sig .tc := ⟨.hbm, 460, rfl⟩
abbrev main_v216 : Ref sig .tc := ⟨.hbm, 461, rfl⟩
abbrev main_v217 : Ref sig .tc := ⟨.hbm, 462, rfl⟩
abbrev main_v218 : Ref sig .tc := ⟨.hbm, 463, rfl⟩
abbrev main_v219 : Ref sig .tc := ⟨.hbm, 464, rfl⟩
abbrev main_v220 : Ref sig .tc := ⟨.hbm, 465, rfl⟩
abbrev main_v221 : Ref sig .tc := ⟨.hbm, 466, rfl⟩
abbrev main_v222 : Ref sig .tc := ⟨.hbm, 467, rfl⟩
abbrev main_call10_c : Ref sig .tc := ⟨.hbm, 468, rfl⟩
abbrev main_call10_v0 : Ref sig .tc := ⟨.hbm, 469, rfl⟩
abbrev main_call10_v1 : Ref sig .tc := ⟨.hbm, 470, rfl⟩
abbrev main_call10_c_0 : Ref sig .tc := ⟨.hbm, 471, rfl⟩
abbrev main_call10_v2 : Ref sig .tc := ⟨.hbm, 472, rfl⟩
abbrev main_call10_v3 : Ref sig .tc := ⟨.hbm, 473, rfl⟩
abbrev main_call10_v4 : Ref sig .tc := ⟨.hbm, 474, rfl⟩
abbrev main_call10_v5 : Ref sig .tc := ⟨.hbm, 475, rfl⟩
abbrev main_call10_c_1 : Ref sig .tc := ⟨.hbm, 476, rfl⟩
abbrev main_call10_c_2 : Ref sig .tc := ⟨.hbm, 477, rfl⟩
abbrev main_call10_v6 : Ref sig .tc := ⟨.hbm, 478, rfl⟩
abbrev main_call10_v7 : Ref sig .tc := ⟨.hbm, 479, rfl⟩
abbrev main_call10_v8 : Ref sig .tc := ⟨.hbm, 480, rfl⟩
abbrev main_call10_v9 : Ref sig .tc := ⟨.hbm, 481, rfl⟩
abbrev main_call10_v10 : Ref sig .tc := ⟨.hbm, 482, rfl⟩
abbrev main_call10_v11 : Ref sig .tc := ⟨.hbm, 483, rfl⟩
abbrev main_call10_c_3 : Ref sig .tc := ⟨.hbm, 484, rfl⟩
abbrev main_call10_v12 : Ref sig .tc := ⟨.hbm, 485, rfl⟩
abbrev main_call10_v13 : Ref sig .tc := ⟨.hbm, 486, rfl⟩
abbrev main_call10_v14 : Ref sig .tc := ⟨.hbm, 487, rfl⟩
abbrev main_call10_cst : Ref sig .tc := ⟨.hbm, 488, rfl⟩
abbrev main_call10_v15 : Ref sig .tc := ⟨.hbm, 489, rfl⟩
abbrev main_v223 : Ref sig .tc := ⟨.hbm, 490, rfl⟩
abbrev main_call11_c : Ref sig .tc := ⟨.hbm, 491, rfl⟩
abbrev main_call11_v0 : Ref sig .tc := ⟨.hbm, 492, rfl⟩
abbrev main_call11_v1 : Ref sig .tc := ⟨.hbm, 493, rfl⟩
abbrev main_call11_c_0 : Ref sig .tc := ⟨.hbm, 494, rfl⟩
abbrev main_call11_v2 : Ref sig .tc := ⟨.hbm, 495, rfl⟩
abbrev main_call11_v3 : Ref sig .tc := ⟨.hbm, 496, rfl⟩
abbrev main_call11_v4 : Ref sig .tc := ⟨.hbm, 497, rfl⟩
abbrev main_call11_v5 : Ref sig .tc := ⟨.hbm, 498, rfl⟩
abbrev main_call11_c_1 : Ref sig .tc := ⟨.hbm, 499, rfl⟩
abbrev main_call11_c_2 : Ref sig .tc := ⟨.hbm, 500, rfl⟩
abbrev main_call11_v6 : Ref sig .tc := ⟨.hbm, 501, rfl⟩
abbrev main_call11_v7 : Ref sig .tc := ⟨.hbm, 502, rfl⟩
abbrev main_call11_v8 : Ref sig .tc := ⟨.hbm, 503, rfl⟩
abbrev main_call11_v9 : Ref sig .tc := ⟨.hbm, 504, rfl⟩
abbrev main_call11_v10 : Ref sig .tc := ⟨.hbm, 505, rfl⟩
abbrev main_call11_v11 : Ref sig .tc := ⟨.hbm, 506, rfl⟩
abbrev main_call11_c_3 : Ref sig .tc := ⟨.hbm, 507, rfl⟩
abbrev main_call11_v12 : Ref sig .tc := ⟨.hbm, 508, rfl⟩
abbrev main_call11_v13 : Ref sig .tc := ⟨.hbm, 509, rfl⟩
abbrev main_call11_v14 : Ref sig .tc := ⟨.hbm, 510, rfl⟩
abbrev main_call11_cst : Ref sig .tc := ⟨.hbm, 511, rfl⟩
abbrev main_call11_v15 : Ref sig .tc := ⟨.hbm, 512, rfl⟩
abbrev main_v224 : Ref sig .tc := ⟨.hbm, 513, rfl⟩
abbrev main_v225 : Ref sig .tc := ⟨.hbm, 514, rfl⟩
abbrev main_v226 : Ref sig .tc := ⟨.hbm, 515, rfl⟩
abbrev main_v227 : Ref sig .tc := ⟨.hbm, 516, rfl⟩
abbrev main_v228 : Ref sig .tc := ⟨.hbm, 517, rfl⟩
abbrev main_v229 : Ref sig .tc := ⟨.hbm, 518, rfl⟩
abbrev main_v230 : Ref sig .tc := ⟨.hbm, 519, rfl⟩
abbrev main_v231 : Ref sig .tc := ⟨.hbm, 520, rfl⟩
abbrev main_v232 : Ref sig .tc := ⟨.hbm, 521, rfl⟩
abbrev main_v233 : Ref sig .tc := ⟨.hbm, 522, rfl⟩
abbrev main_v234 : Ref sig .tc := ⟨.hbm, 523, rfl⟩
abbrev main_v235 : Ref sig .tc := ⟨.hbm, 524, rfl⟩
abbrev main_v236 : Ref sig .tc := ⟨.hbm, 525, rfl⟩
abbrev main_v237 : Ref sig .tc := ⟨.hbm, 526, rfl⟩
abbrev main_v238 : Ref sig .tc := ⟨.hbm, 527, rfl⟩
abbrev main_c_20 : Ref sig .tc := ⟨.hbm, 528, rfl⟩
abbrev main_v239 : Ref sig .tc := ⟨.hbm, 529, rfl⟩
abbrev main_v240 : Ref sig .tc := ⟨.hbm, 530, rfl⟩
abbrev main_c_21 : Ref sig .tc := ⟨.hbm, 531, rfl⟩
abbrev main_v241 : Ref sig .tc := ⟨.hbm, 532, rfl⟩
abbrev main_v242 : Ref sig .tc := ⟨.hbm, 533, rfl⟩
abbrev main_v243 : Ref sig .tc := ⟨.hbm, 534, rfl⟩
abbrev main_v244 : Ref sig .tc := ⟨.hbm, 535, rfl⟩
abbrev main_v245 : Ref sig .tc := ⟨.hbm, 536, rfl⟩
abbrev main_c_22 : Ref sig .tc := ⟨.hbm, 537, rfl⟩
abbrev main_v246 : Ref sig .tc := ⟨.hbm, 538, rfl⟩
abbrev main_v247 : Ref sig .tc := ⟨.hbm, 539, rfl⟩
abbrev main_c_23 : Ref sig .tc := ⟨.hbm, 540, rfl⟩
abbrev main_v248 : Ref sig .tc := ⟨.hbm, 541, rfl⟩
abbrev main_v249 : Ref sig .tc := ⟨.hbm, 542, rfl⟩
abbrev main_v250 : Ref sig .tc := ⟨.hbm, 543, rfl⟩
abbrev main_v251 : Ref sig .tc := ⟨.hbm, 544, rfl⟩
abbrev main_v252 : Ref sig .tc := ⟨.hbm, 545, rfl⟩
abbrev main_v253 : Ref sig .tc := ⟨.hbm, 546, rfl⟩
abbrev main_v254 : Ref sig .tc := ⟨.hbm, 547, rfl⟩
abbrev main_v255 : Ref sig .tc := ⟨.hbm, 548, rfl⟩
abbrev main_v256 : Ref sig .tc := ⟨.hbm, 549, rfl⟩
abbrev main_v257 : Ref sig .tc := ⟨.hbm, 550, rfl⟩
abbrev main_v258 : Ref sig .tc := ⟨.hbm, 551, rfl⟩
abbrev main_v259 : Ref sig .tc := ⟨.hbm, 552, rfl⟩
abbrev main_v260 : Ref sig .tc := ⟨.hbm, 553, rfl⟩
abbrev main_v261 : Ref sig .tc := ⟨.hbm, 554, rfl⟩
abbrev main_v262 : Ref sig .tc := ⟨.hbm, 555, rfl⟩
abbrev main_v263 : Ref sig .tc := ⟨.hbm, 556, rfl⟩
abbrev main_call12_c : Ref sig .tc := ⟨.hbm, 557, rfl⟩
abbrev main_call12_v0 : Ref sig .tc := ⟨.hbm, 558, rfl⟩
abbrev main_call12_v1 : Ref sig .tc := ⟨.hbm, 559, rfl⟩
abbrev main_call12_c_0 : Ref sig .tc := ⟨.hbm, 560, rfl⟩
abbrev main_call12_v2 : Ref sig .tc := ⟨.hbm, 561, rfl⟩
abbrev main_call12_v3 : Ref sig .tc := ⟨.hbm, 562, rfl⟩
abbrev main_call12_v4 : Ref sig .tc := ⟨.hbm, 563, rfl⟩
abbrev main_call12_v5 : Ref sig .tc := ⟨.hbm, 564, rfl⟩
abbrev main_call12_c_1 : Ref sig .tc := ⟨.hbm, 565, rfl⟩
abbrev main_call12_c_2 : Ref sig .tc := ⟨.hbm, 566, rfl⟩
abbrev main_call12_v6 : Ref sig .tc := ⟨.hbm, 567, rfl⟩
abbrev main_call12_v7 : Ref sig .tc := ⟨.hbm, 568, rfl⟩
abbrev main_call12_v8 : Ref sig .tc := ⟨.hbm, 569, rfl⟩
abbrev main_call12_v9 : Ref sig .tc := ⟨.hbm, 570, rfl⟩
abbrev main_call12_v10 : Ref sig .tc := ⟨.hbm, 571, rfl⟩
abbrev main_call12_v11 : Ref sig .tc := ⟨.hbm, 572, rfl⟩
abbrev main_call12_c_3 : Ref sig .tc := ⟨.hbm, 573, rfl⟩
abbrev main_call12_v12 : Ref sig .tc := ⟨.hbm, 574, rfl⟩
abbrev main_call12_v13 : Ref sig .tc := ⟨.hbm, 575, rfl⟩
abbrev main_call12_v14 : Ref sig .tc := ⟨.hbm, 576, rfl⟩
abbrev main_call12_cst : Ref sig .tc := ⟨.hbm, 577, rfl⟩
abbrev main_call12_v15 : Ref sig .tc := ⟨.hbm, 578, rfl⟩
abbrev main_v264 : Ref sig .tc := ⟨.hbm, 579, rfl⟩
abbrev main_call13_c : Ref sig .tc := ⟨.hbm, 580, rfl⟩
abbrev main_call13_v0 : Ref sig .tc := ⟨.hbm, 581, rfl⟩
abbrev main_call13_v1 : Ref sig .tc := ⟨.hbm, 582, rfl⟩
abbrev main_call13_c_0 : Ref sig .tc := ⟨.hbm, 583, rfl⟩
abbrev main_call13_v2 : Ref sig .tc := ⟨.hbm, 584, rfl⟩
abbrev main_call13_v3 : Ref sig .tc := ⟨.hbm, 585, rfl⟩
abbrev main_call13_v4 : Ref sig .tc := ⟨.hbm, 586, rfl⟩
abbrev main_call13_v5 : Ref sig .tc := ⟨.hbm, 587, rfl⟩
abbrev main_call13_c_1 : Ref sig .tc := ⟨.hbm, 588, rfl⟩
abbrev main_call13_c_2 : Ref sig .tc := ⟨.hbm, 589, rfl⟩
abbrev main_call13_v6 : Ref sig .tc := ⟨.hbm, 590, rfl⟩
abbrev main_call13_v7 : Ref sig .tc := ⟨.hbm, 591, rfl⟩
abbrev main_call13_v8 : Ref sig .tc := ⟨.hbm, 592, rfl⟩
abbrev main_call13_v9 : Ref sig .tc := ⟨.hbm, 593, rfl⟩
abbrev main_call13_v10 : Ref sig .tc := ⟨.hbm, 594, rfl⟩
abbrev main_call13_v11 : Ref sig .tc := ⟨.hbm, 595, rfl⟩
abbrev main_call13_c_3 : Ref sig .tc := ⟨.hbm, 596, rfl⟩
abbrev main_call13_v12 : Ref sig .tc := ⟨.hbm, 597, rfl⟩
abbrev main_call13_v13 : Ref sig .tc := ⟨.hbm, 598, rfl⟩
abbrev main_call13_v14 : Ref sig .tc := ⟨.hbm, 599, rfl⟩
abbrev main_call13_cst : Ref sig .tc := ⟨.hbm, 600, rfl⟩
abbrev main_call13_v15 : Ref sig .tc := ⟨.hbm, 601, rfl⟩
abbrev main_v265 : Ref sig .tc := ⟨.hbm, 602, rfl⟩
abbrev main_v266 : Ref sig .tc := ⟨.hbm, 603, rfl⟩
abbrev main_v267 : Ref sig .tc := ⟨.hbm, 604, rfl⟩
abbrev main_v268 : Ref sig .tc := ⟨.hbm, 605, rfl⟩
abbrev main_v269 : Ref sig .tc := ⟨.hbm, 606, rfl⟩
abbrev main_v270 : Ref sig .tc := ⟨.hbm, 607, rfl⟩
abbrev main_v271 : Ref sig .tc := ⟨.hbm, 608, rfl⟩
abbrev main_v272 : Ref sig .tc := ⟨.hbm, 609, rfl⟩
abbrev main_v273 : Ref sig .tc := ⟨.hbm, 610, rfl⟩
abbrev main_v274 : Ref sig .tc := ⟨.hbm, 611, rfl⟩
abbrev main_v275 : Ref sig .tc := ⟨.hbm, 612, rfl⟩
abbrev main_v276 : Ref sig .tc := ⟨.hbm, 613, rfl⟩
abbrev main_v277 : Ref sig .tc := ⟨.hbm, 614, rfl⟩
abbrev main_v278 : Ref sig .tc := ⟨.hbm, 615, rfl⟩
abbrev main_v279 : Ref sig .tc := ⟨.hbm, 616, rfl⟩
abbrev main_c_24 : Ref sig .tc := ⟨.hbm, 617, rfl⟩
abbrev main_v280 : Ref sig .tc := ⟨.hbm, 618, rfl⟩
abbrev main_v281 : Ref sig .tc := ⟨.hbm, 619, rfl⟩
abbrev main_c_25 : Ref sig .tc := ⟨.hbm, 620, rfl⟩
abbrev main_v282 : Ref sig .tc := ⟨.hbm, 621, rfl⟩
abbrev main_v283 : Ref sig .tc := ⟨.hbm, 622, rfl⟩
abbrev main_v284 : Ref sig .tc := ⟨.hbm, 623, rfl⟩
abbrev main_v285 : Ref sig .tc := ⟨.hbm, 624, rfl⟩
abbrev main_v286 : Ref sig .tc := ⟨.hbm, 625, rfl⟩
abbrev main_c_26 : Ref sig .tc := ⟨.hbm, 626, rfl⟩
abbrev main_v287 : Ref sig .tc := ⟨.hbm, 627, rfl⟩
abbrev main_v288 : Ref sig .tc := ⟨.hbm, 628, rfl⟩
abbrev main_c_27 : Ref sig .tc := ⟨.hbm, 629, rfl⟩
abbrev main_v289 : Ref sig .tc := ⟨.hbm, 630, rfl⟩
abbrev main_v290 : Ref sig .tc := ⟨.hbm, 631, rfl⟩
abbrev main_v291 : Ref sig .tc := ⟨.hbm, 632, rfl⟩
abbrev main_v292 : Ref sig .tc := ⟨.hbm, 633, rfl⟩
abbrev main_v293 : Ref sig .tc := ⟨.hbm, 634, rfl⟩
abbrev main_v294 : Ref sig .tc := ⟨.hbm, 635, rfl⟩
abbrev main_v295 : Ref sig .tc := ⟨.hbm, 636, rfl⟩
abbrev main_v296 : Ref sig .tc := ⟨.hbm, 637, rfl⟩
abbrev main_v297 : Ref sig .tc := ⟨.hbm, 638, rfl⟩
abbrev main_v298 : Ref sig .tc := ⟨.hbm, 639, rfl⟩
abbrev main_v299 : Ref sig .tc := ⟨.hbm, 640, rfl⟩
abbrev main_v300 : Ref sig .tc := ⟨.hbm, 641, rfl⟩
abbrev main_v301 : Ref sig .tc := ⟨.hbm, 642, rfl⟩
abbrev main_v302 : Ref sig .tc := ⟨.hbm, 643, rfl⟩
abbrev main_v303 : Ref sig .tc := ⟨.hbm, 644, rfl⟩
abbrev main_v304 : Ref sig .tc := ⟨.hbm, 645, rfl⟩
abbrev main_call14_c : Ref sig .tc := ⟨.hbm, 646, rfl⟩
abbrev main_call14_v0 : Ref sig .tc := ⟨.hbm, 647, rfl⟩
abbrev main_call14_v1 : Ref sig .tc := ⟨.hbm, 648, rfl⟩
abbrev main_call14_c_0 : Ref sig .tc := ⟨.hbm, 649, rfl⟩
abbrev main_call14_v2 : Ref sig .tc := ⟨.hbm, 650, rfl⟩
abbrev main_call14_v3 : Ref sig .tc := ⟨.hbm, 651, rfl⟩
abbrev main_call14_v4 : Ref sig .tc := ⟨.hbm, 652, rfl⟩
abbrev main_call14_v5 : Ref sig .tc := ⟨.hbm, 653, rfl⟩
abbrev main_call14_c_1 : Ref sig .tc := ⟨.hbm, 654, rfl⟩
abbrev main_call14_c_2 : Ref sig .tc := ⟨.hbm, 655, rfl⟩
abbrev main_call14_v6 : Ref sig .tc := ⟨.hbm, 656, rfl⟩
abbrev main_call14_v7 : Ref sig .tc := ⟨.hbm, 657, rfl⟩
abbrev main_call14_v8 : Ref sig .tc := ⟨.hbm, 658, rfl⟩
abbrev main_call14_v9 : Ref sig .tc := ⟨.hbm, 659, rfl⟩
abbrev main_call14_v10 : Ref sig .tc := ⟨.hbm, 660, rfl⟩
abbrev main_call14_v11 : Ref sig .tc := ⟨.hbm, 661, rfl⟩
abbrev main_call14_c_3 : Ref sig .tc := ⟨.hbm, 662, rfl⟩
abbrev main_call14_v12 : Ref sig .tc := ⟨.hbm, 663, rfl⟩
abbrev main_call14_v13 : Ref sig .tc := ⟨.hbm, 664, rfl⟩
abbrev main_call14_v14 : Ref sig .tc := ⟨.hbm, 665, rfl⟩
abbrev main_call14_cst : Ref sig .tc := ⟨.hbm, 666, rfl⟩
abbrev main_call14_v15 : Ref sig .tc := ⟨.hbm, 667, rfl⟩
abbrev main_v305 : Ref sig .tc := ⟨.hbm, 668, rfl⟩
abbrev main_call15_c : Ref sig .tc := ⟨.hbm, 669, rfl⟩
abbrev main_call15_v0 : Ref sig .tc := ⟨.hbm, 670, rfl⟩
abbrev main_call15_v1 : Ref sig .tc := ⟨.hbm, 671, rfl⟩
abbrev main_call15_c_0 : Ref sig .tc := ⟨.hbm, 672, rfl⟩
abbrev main_call15_v2 : Ref sig .tc := ⟨.hbm, 673, rfl⟩
abbrev main_call15_v3 : Ref sig .tc := ⟨.hbm, 674, rfl⟩
abbrev main_call15_v4 : Ref sig .tc := ⟨.hbm, 675, rfl⟩
abbrev main_call15_v5 : Ref sig .tc := ⟨.hbm, 676, rfl⟩
abbrev main_call15_c_1 : Ref sig .tc := ⟨.hbm, 677, rfl⟩
abbrev main_call15_c_2 : Ref sig .tc := ⟨.hbm, 678, rfl⟩
abbrev main_call15_v6 : Ref sig .tc := ⟨.hbm, 679, rfl⟩
abbrev main_call15_v7 : Ref sig .tc := ⟨.hbm, 680, rfl⟩
abbrev main_call15_v8 : Ref sig .tc := ⟨.hbm, 681, rfl⟩
abbrev main_call15_v9 : Ref sig .tc := ⟨.hbm, 682, rfl⟩
abbrev main_call15_v10 : Ref sig .tc := ⟨.hbm, 683, rfl⟩
abbrev main_call15_v11 : Ref sig .tc := ⟨.hbm, 684, rfl⟩
abbrev main_call15_c_3 : Ref sig .tc := ⟨.hbm, 685, rfl⟩
abbrev main_call15_v12 : Ref sig .tc := ⟨.hbm, 686, rfl⟩
abbrev main_call15_v13 : Ref sig .tc := ⟨.hbm, 687, rfl⟩
abbrev main_call15_v14 : Ref sig .tc := ⟨.hbm, 688, rfl⟩
abbrev main_call15_cst : Ref sig .tc := ⟨.hbm, 689, rfl⟩
abbrev main_call15_v15 : Ref sig .tc := ⟨.hbm, 690, rfl⟩
abbrev main_v306 : Ref sig .tc := ⟨.hbm, 691, rfl⟩
abbrev main_v307 : Ref sig .tc := ⟨.hbm, 692, rfl⟩
abbrev main_v308 : Ref sig .tc := ⟨.hbm, 693, rfl⟩
abbrev main_v309 : Ref sig .tc := ⟨.hbm, 694, rfl⟩
abbrev main_v310 : Ref sig .tc := ⟨.hbm, 695, rfl⟩
abbrev main_v311 : Ref sig .tc := ⟨.hbm, 696, rfl⟩
abbrev main_v312 : Ref sig .tc := ⟨.hbm, 697, rfl⟩
abbrev main_v313 : Ref sig .tc := ⟨.hbm, 698, rfl⟩
abbrev main_v314 : Ref sig .tc := ⟨.hbm, 699, rfl⟩
abbrev main_v315 : Ref sig .tc := ⟨.hbm, 700, rfl⟩
abbrev main_v316 : Ref sig .tc := ⟨.hbm, 701, rfl⟩
abbrev main_v317 : Ref sig .tc := ⟨.hbm, 702, rfl⟩
abbrev main_v318 : Ref sig .tc := ⟨.hbm, 703, rfl⟩
abbrev main_v319 : Ref sig .tc := ⟨.hbm, 704, rfl⟩
abbrev main_v320 : Ref sig .tc := ⟨.hbm, 705, rfl⟩
abbrev main_c_28 : Ref sig .tc := ⟨.hbm, 706, rfl⟩
abbrev main_v321 : Ref sig .tc := ⟨.hbm, 707, rfl⟩
abbrev main_v322 : Ref sig .tc := ⟨.hbm, 708, rfl⟩
abbrev main_c_29 : Ref sig .tc := ⟨.hbm, 709, rfl⟩
abbrev main_v323 : Ref sig .tc := ⟨.hbm, 710, rfl⟩
abbrev main_v324 : Ref sig .tc := ⟨.hbm, 711, rfl⟩
abbrev main_v325 : Ref sig .tc := ⟨.hbm, 712, rfl⟩
abbrev main_v326 : Ref sig .tc := ⟨.hbm, 713, rfl⟩
abbrev main_v327 : Ref sig .tc := ⟨.hbm, 714, rfl⟩
abbrev main_c_30 : Ref sig .tc := ⟨.hbm, 715, rfl⟩
abbrev main_v328 : Ref sig .tc := ⟨.hbm, 716, rfl⟩
abbrev main_v329 : Ref sig .tc := ⟨.hbm, 717, rfl⟩
abbrev main_c_31 : Ref sig .tc := ⟨.hbm, 718, rfl⟩
abbrev main_v330 : Ref sig .tc := ⟨.hbm, 719, rfl⟩
abbrev main_v331 : Ref sig .tc := ⟨.hbm, 720, rfl⟩
abbrev main_v332 : Ref sig .tc := ⟨.hbm, 721, rfl⟩
abbrev main_v333 : Ref sig .tc := ⟨.hbm, 722, rfl⟩
abbrev main_v334 : Ref sig .tc := ⟨.hbm, 723, rfl⟩

abbrev nD : Nat := 1
abbrev τ : Topo := Topo.v7x

variable {F : FTy → Type} [FloatOps F]
-- ==== Proof.Spec.lean ====
/-
  What one tile of the kernel computes, as plain functions of the tables and of a row of `x`: a trip of the pair loop
  reads sixteen pairs of columns of a row and writes the two rotated values over each; a row of the result is the row of
  `x` after all 128 trips. The trip of the program (indexed loads and stores of a four-row buffer) is related to it row
  by row, and for pairwise distinct columns the final row is given in closed form.
-/
module

public import proofs.«01_k».proof.Proof.Gen.KernelIdeal.Skeleton

@[expose] public section

noncomputable section

namespace Cert.Proof.Spec

open Cert.KernelIdeal Cert.KernelIdeal.Gen
open Idealize.ShloMosaic

/-! ## Sixteen columns overwritten, in order -/

section Put
variable {α : Type}

/-- `g` with column `idx k` set to `v k`, for the listed lanes in order. -/
def putL (idx : Fin 16 → Fin 4096) (v : Fin 16 → α) (l : List (Fin 16)) (g : Fin 4096 → α) : Fin 4096 → α :=
  l.foldl (fun g k => fun j => if j = idx k then v k else g j) g

/-- All sixteen lanes. -/
def put (idx : Fin 16 → Fin 4096) (v : Fin 16 → α) (g : Fin 4096 → α) : Fin 4096 → α := putL idx v (List.finRange 16) g

theorem putL_of_ne {idx : Fin 16 → Fin 4096} {v : Fin 16 → α} {j : Fin 4096} :
    ∀ (l : List (Fin 16)) (g : Fin 4096 → α), (∀ k ∈ l, j ≠ idx k) → putL idx v l g j = g j
  | [], _, _ => rfl
  | k :: l, g, h => by
    show putL idx v l _ j = g j
    rw [putL_of_ne l _ fun k' hk' => h k' (List.mem_cons_of_mem _ hk')]
    exact if_neg (h k (List.mem_cons_self ..))

theorem putL_of_eq {idx : Fin 16 → Fin 4096} (hinj : Function.Injective idx) {v : Fin 16 → α} {k : Fin 16} :
    ∀ (l : List (Fin 16)) (g : Fin 4096 → α), k ∈ l → l.Nodup → putL idx v l g (idx k) = v k
  | k' :: l, g, h, hnd => by
    show putL idx v l _ (idx k) = v k
    rcases List.mem_cons.mp h with rfl | h
    · rw [putL_of_ne l _ fun k'' hk'' e => (List.nodup_cons.mp hnd).1 (by rw [hinj e]; exact hk'')]
      exact if_pos rfl
    · exact putL_of_eq hinj l _ h (List.nodup_cons.mp hnd).2

theorem put_of_ne {idx : Fin 16 → Fin 4096} {v : Fin 16 → α} {g : Fin 4096 → α} {j : Fin 4096} (h : ∀ k, j ≠ idx k) :
    put idx v g j = g j := putL_of_ne _ _ fun k _ => h k

theorem put_of_eq {idx : Fin 16 → Fin 4096} (hinj : Function.Injective idx) {v : Fin 16 → α} {g : Fin 4096 → α} (k : Fin 16) :
    put idx v g (idx k) = v k := putL_of_eq hinj _ _ (List.mem_finRange k) (List.nodup_finRange 16)

end Put

/-! ## A trip, and a row of the result -/

variable {F : FTy → Type} [FloatOps F]

/-- The tables a tile holds: the two columns of each pair and the four coefficients. -/
structure Tab (F : FTy → Type) where
  i0 : Fin 2048 → Fin 4096
  i1 : Fin 2048 → Fin 4096
  a : Fin 2048 → F .f32
  b : Fin 2048 → F .f32
  d : Fin 2048 → F .f32
  e : Fin 2048 → F .f32

abbrev Row (F : FTy → Type) : Type := Fin 4096 → F .f32

/-- Lane `k` of trip `t`. -/
def lane (t : Fin 128) (k : Fin 16) : Fin 2048 := ⟨16 * t.val + k.val, by omega⟩

theorem lane_val (t : Fin 128) (k : Fin 16) : (lane t k).val = 16 * t.val + k.val := rfl

/-- One trip on one row. -/
def trip (T : Tab F) (t : Fin 128) (g : Row F) : Row F :=
  put (fun k => T.i1 (lane t k))
    (fun k => FloatOps.addf (FloatOps.mulf (T.d (lane t k)) (g (T.i0 (lane t k)))) (FloatOps.mulf (T.e (lane t k)) (g (T.i1 (lane t k)))))
    (put (fun k => T.i0 (lane t k))
      (fun k => FloatOps.subf (FloatOps.mulf (T.a (lane t k)) (g (T.i0 (lane t k)))) (FloatOps.mulf (T.b (lane t k)) (g (T.i1 (lane t k))))) g)

/-- The first `n` trips on one row. -/
def trips (T : Tab F) : ℕ → Row F → Row F
  | 0, g => g
  | n + 1, g => if h : n < 128 then trip T ⟨n, h⟩ (trips T n g) else trips T n g

theorem trips_succ (T : Tab F) (t : Fin 128) (g : Row F) : trips T (t.val + 1) g = trip T t (trips T t.val g) := dif_pos t.isLt

/-- The columns of the pairs are pairwise distinct. -/
structure Tab.Distinct (T : Tab F) : Prop where
  inj0 : Function.Injective T.i0
  inj1 : Function.Injective T.i1
  ne : ∀ p q, T.i0 p ≠ T.i1 q

theorem lane_inj (t : Fin 128) : Function.Injective (lane t) := fun k k' h => by
  have := congrArg Fin.val h; rw [lane_val, lane_val] at this; exact Fin.ext (by omega)

/-- After `n` trips over distinct columns: the pairs below `16 n` are rotated, the others untouched. -/
theorem trips_spec {T : Tab F} (hT : T.Distinct) (g : Row F) :
    ∀ n, n ≤ 128 →
      (∀ p : Fin 2048, p.val < 16 * n →
        trips T n g (T.i0 p) = FloatOps.subf (FloatOps.mulf (T.a p) (g (T.i0 p))) (FloatOps.mulf (T.b p) (g (T.i1 p)))
        ∧ trips T n g (T.i1 p) = FloatOps.addf (FloatOps.mulf (T.d p) (g (T.i0 p))) (FloatOps.mulf (T.e p) (g (T.i1 p))))
      ∧ (∀ p : Fin 2048, 16 * n ≤ p.val → trips T n g (T.i0 p) = g (T.i0 p) ∧ trips T n g (T.i1 p) = g (T.i1 p)) := by
  intro n
  induction n with
  | zero => exact fun _ => ⟨fun p h => absurd h (by omega), fun p _ => ⟨rfl, rfl⟩⟩
  | succ n ih =>
    intro hn
    obtain ⟨ih1, ih2⟩ := ih (by omega)
    have e : ∀ c, trips T (n + 1) g c = trip T ⟨n, hn⟩ (trips T n g) c := fun c => congrFun (trips_succ T ⟨n, hn⟩ g) c
    have inj0 : Function.Injective fun k => T.i0 (lane ⟨n, hn⟩ k) := hT.inj0.comp (lane_inj _)
    have inj1 : Function.Injective fun k => T.i1 (lane ⟨n, hn⟩ k) := hT.inj1.comp (lane_inj _)
    have out : ∀ p : Fin 2048, (p.val < 16 * n ∨ 16 * (n + 1) ≤ p.val) →
        trips T (n + 1) g (T.i0 p) = trips T n g (T.i0 p) ∧ trips T (n + 1) g (T.i1 p) = trips T n g (T.i1 p) := by
      intro p hp
      have hl : ∀ k : Fin 16, p ≠ lane ⟨n, hn⟩ k := fun k h => by
        have h := congrArg Fin.val h; rw [lane_val] at h; have := k.isLt; simp only at h; omega
      refine ⟨?_, ?_⟩
      · rw [e]; unfold trip
        rw [put_of_ne fun k => hT.ne _ _, put_of_ne fun k h => hl k (hT.inj0 h)]
      · rw [e]; unfold trip
        rw [put_of_ne fun k h => hl k (hT.inj1 h), put_of_ne fun k h => hT.ne _ _ h.symm]
    refine ⟨fun p hp => ?_, fun p hp => ?_⟩
    · by_cases hlt : p.val < 16 * n
      · rw [(out p (.inl hlt)).1, (out p (.inl hlt)).2]; exact ih1 p hlt
      · obtain ⟨k, rfl⟩ : ∃ k, p = lane ⟨n, hn⟩ k :=
          ⟨⟨p.val - 16 * n, by omega⟩, Fin.ext (by rw [lane_val]; simp only; omega)⟩
        obtain ⟨h0, h1⟩ := ih2 (lane ⟨n, hn⟩ k) (by rw [lane_val]; simp only; omega)
        rw [e, e]; unfold trip
        refine ⟨?_, ?_⟩
        · rw [put_of_ne fun k => hT.ne _ _]
          rw [put_of_eq inj0 k, h0, h1]
        · rw [put_of_eq inj1 k, h0, h1]
    · rw [(out p (.inr hp)).1, (out p (.inr hp)).2]; exact ih2 p (by omega)

/-! ## The program's indexed store, on one row of a buffer -/

/-- The column a word names. -/
def colOf (w : BitVec 32) : Fin 4096 := ⟨w.toNat % 4096, Nat.mod_lt _ (by decide)⟩

theorem colOf_val {w : BitVec 32} (h : w.toNat < 4096) : (colOf w).val = w.toNat := Nat.mod_eq_of_lt h

/-- Row `r`, column `c` of a four-row buffer. -/
def at4 (r : Fin 4) (c : Fin 4096) : S4x4096.Idx := fun a => match a with | 0 => r | 1 => c

/-- The row and the column of an index. -/
def rw4 (j : S4x4096.Idx) : Fin 4 := j 0
def cl4 (j : S4x4096.Idx) : Fin 4096 := j 1

theorem at4_eta (j : S4x4096.Idx) : at4 (rw4 j) (cl4 j) = j := by funext a; match a with | 0 => rfl | 1 => rfl

/-- Lane `k` as an index of a vector of sixteen. -/
def ln (k : Fin 16) : S16.Idx := fun a => match a with | 0 => k

theorem ln_ofLane (k : Fin 16) : (Shape.ofLane (d := ![16]) k : S16.Idx) = ln k := by
  funext a; match a with | 0 => rfl

theorem idx2_at4 {α : Type} (rv iv : IVec S16 32) (h : ∀ a x, ((![rv, iv] : Fin 2 → IVec S16 32) a x).toNat < S4x4096.size a) (r : Fin 4)
    (hr : ∀ x, (rv x).toNat = r.val) (x : S16.Idx) : idxAt (s := S4x4096) ![rv, iv] h x = at4 r (colOf (iv x)) := by
  funext a
  match a with
  | 0 => exact Fin.ext (hr x)
  | 1 => exact Fin.ext (colOf_val (h 1 x)).symm

/-- The unmasked indexed store into row `r`: that row's columns overwritten lane by lane, the other rows kept. -/
theorem storeIdx_row (f : Vec F S4x4096 .f32) (rv iv : IVec S16 32) (v : Vec F S16 .f32)
    (h : ∀ a x, ((![rv, iv] : Fin 2 → IVec S16 32) a x).toNat < S4x4096.size a) (r : Fin 4) (hr : ∀ x, (rv x).toNat = r.val) :
    storeIdx (F := F) (s := S4x4096) (e := .f32) (d := ![16]) f ![rv, iv] v (fun _ => 1#1) false h
      = fun j => if rw4 j = r then put (fun k => colOf (iv (ln k))) (fun k => v (ln k)) (fun c => f (at4 r c)) (cl4 j) else f j := by
  have hstep : storeIdx (F := F) (s := S4x4096) (e := .f32) (d := ![16]) f ![rv, iv] v (fun _ => 1#1) false h
      = (List.finRange 16).foldl (fun g k => fun j => if rw4 j = r ∧ cl4 j = colOf (iv (ln k)) then v (ln k) else g j) f := by
    refine congrArg (fun s : Vec F S4x4096 .f32 → Fin 16 → Vec F S4x4096 .f32 => (List.finRange 16).foldl s f) ?_
    funext g k j
    have hc : (∀ a, (j a).val = ((idxAt (s := S4x4096) ![rv, iv] h (Shape.ofLane (d := ![16]) k : S16.Idx)) a).val)
        ↔ rw4 j = r ∧ cl4 j = colOf (iv (ln k)) := by
      rw [show (Shape.ofLane (d := ![16]) k : S16.Idx) = ln k from ln_ofLane k, idx2_at4 (α := ℕ) rv iv h r hr]
      constructor
      · intro H; exact ⟨Fin.ext (H 0), Fin.ext (H 1)⟩
      · rintro ⟨h0, h1⟩ a
        match a with
        | 0 => exact congrArg Fin.val h0
        | 1 => exact congrArg Fin.val h1
    refine (congrFun (if_pos (show (1#1 : BitVec 1) = 1 from rfl)) j).trans ?_
    by_cases hp : rw4 j = r ∧ cl4 j = colOf (iv (ln k))
    · exact Eq.trans (if_pos (hc.mpr hp)) (Eq.trans (if_neg Bool.false_ne_true) (Eq.trans (congrArg v (ln_ofLane k)) (Eq.symm (if_pos hp))))
    · exact Eq.trans (if_neg fun H => hp (hc.mp H)) (Eq.symm (if_neg hp))
  rw [hstep]
  unfold put
  generalize List.finRange 16 = l
  clear hstep
  induction l generalizing f with
  | nil =>
    funext j
    show f j = if rw4 j = r then f (at4 r (cl4 j)) else f j
    split
    · rename_i h0; rw [← h0, at4_eta]
    · rfl
  | cons k l ih =>
    rw [List.foldl_cons, ih]
    funext j
    by_cases h0 : rw4 j = r
    · rw [if_pos h0, if_pos h0]
      refine congrArg (fun g => putL _ _ l g (cl4 j)) (funext fun c => ?_)
      by_cases hc : c = colOf (iv (ln k))
      · exact Eq.trans (if_pos ⟨rfl, hc⟩) (Eq.symm (if_pos hc))
      · exact Eq.trans (if_neg fun H => hc H.2) (Eq.symm (if_neg hc))
    · rw [if_neg h0, if_neg h0]; exact if_neg fun H => h0 H.1

/-! ## A trip on the buffer, row after row -/

/-- The columns of table `iv` at the sixteen lanes of a trip are the pairs' columns. -/
structure Lanes (T : Tab F) (t : Fin 128) (i0 i1 : Vec F S16 .i32) (a b d e : Vec F S16 .f32) : Prop where
  i0 : ∀ k, colOf (i0 (ln k)) = T.i0 (lane t k)
  i1 : ∀ k, colOf (i1 (ln k)) = T.i1 (lane t k)
  a : ∀ k, a (ln k) = T.a (lane t k)
  b : ∀ k, b (ln k) = T.b (lane t k)
  d : ∀ k, d (ln k) = T.d (lane t k)
  e : ∀ k, e (ln k) = T.e (lane t k)

/-- The buffer during trip `t`: the rows below `r` after it, the others before it. -/
def mid (T : Tab F) (x : Vec F S4x4096 .f32) (t : ℕ) (r : ℕ) : Vec F S4x4096 .f32 :=
  fun j => trips T (if (rw4 j).val < r then t + 1 else t) (fun c => x (at4 (rw4 j) c)) (cl4 j)

theorem mid_lt (T : Tab F) (x : Vec F S4x4096 .f32) (t r : ℕ) (j : S4x4096.Idx) (h : (rw4 j).val < r) :
    mid T x t r j = trips T (t + 1) (fun c => x (at4 (rw4 j) c)) (cl4 j) := by unfold mid; rw [if_pos h]

theorem mid_ge (T : Tab F) (x : Vec F S4x4096 .f32) (t r : ℕ) (j : S4x4096.Idx) (h : ¬ (rw4 j).val < r) :
    mid T x t r j = trips T t (fun c => x (at4 (rw4 j) c)) (cl4 j) := by unfold mid; rw [if_neg h]

/-- One row's two indexed loads and two indexed stores. -/
theorem row_step {T : Tab F} (x : Vec F S4x4096 .f32) (t : Fin 128) (r : Fin 4) {i0 i1 : Vec F S16 .i32} {a b d e : Vec F S16 .f32}
    (hl : Lanes T t i0 i1 a b d e) (rv : IVec S16 32) (hr : ∀ x, (rv x).toNat = r.val)
    (h0 : ∀ a x, ((![rv, i0] : Fin 2 → IVec S16 32) a x).toNat < S4x4096.size a)
    (h1 : ∀ a x, ((![rv, i1] : Fin 2 → IVec S16 32) a x).toNat < S4x4096.size a)
    (f : Vec F S4x4096 .f32) (hf : f = mid T x t.val r.val) :
    storeIdx (F := F) (s := S4x4096) (e := .f32) (d := ![16])
        (storeIdx (F := F) (s := S4x4096) (e := .f32) (d := ![16]) f ![rv, i0]
          (subf (mulf a (loadIdx (F := F) (e := .f32) f ![rv, i0] h0)) (mulf b (loadIdx (F := F) (e := .f32) f ![rv, i1] h1)))
          (fun _ => 1#1) false h0)
        ![rv, i1]
        (addf (mulf d (loadIdx (F := F) (e := .f32) f ![rv, i0] h0)) (mulf e (loadIdx (F := F) (e := .f32) f ![rv, i1] h1)))
        (fun _ => 1#1) false h1
      = mid T x t.val (r.val + 1) := by
  have hrow : ∀ c, f (at4 r c) = trips T t.val (fun c => x (at4 r c)) c := fun c => by
    rw [hf, mid_ge _ _ _ _ _ (show ¬ (rw4 (at4 r c)).val < r.val from Nat.lt_irrefl _)]; rfl
  have hg : (fun c => f (at4 r c)) = trips T t.val (fun c => x (at4 r c)) := funext hrow
  have L0 : ∀ k, loadIdx (F := F) (e := .f32) f ![rv, i0] h0 (ln k) = trips T t.val (fun c => x (at4 r c)) (T.i0 (lane t k)) := fun k => by
    show f (idxAt (s := S4x4096) ![rv, i0] h0 (ln k)) = _
    rw [idx2_at4 (α := ℕ) rv i0 h0 r hr, hrow, hl.i0]
  have L1 : ∀ k, loadIdx (F := F) (e := .f32) f ![rv, i1] h1 (ln k) = trips T t.val (fun c => x (at4 r c)) (T.i1 (lane t k)) := fun k => by
    show f (idxAt (s := S4x4096) ![rv, i1] h1 (ln k)) = _
    rw [idx2_at4 (α := ℕ) rv i1 h1 r hr, hrow, hl.i1]
  have e0 : (fun k => subf (mulf a (loadIdx (F := F) (e := .f32) f ![rv, i0] h0)) (mulf b (loadIdx (F := F) (e := .f32) f ![rv, i1] h1)) (ln k))
      = fun k => FloatOps.subf (FloatOps.mulf (T.a (lane t k)) (trips T t.val (fun c => x (at4 r c)) (T.i0 (lane t k))))
          (FloatOps.mulf (T.b (lane t k)) (trips T t.val (fun c => x (at4 r c)) (T.i1 (lane t k)))) := funext fun k => by
    rw [← L0, ← L1, ← hl.a, ← hl.b]; rfl
  have e1 : (fun k => addf (mulf d (loadIdx (F := F) (e := .f32) f ![rv, i0] h0)) (mulf e (loadIdx (F := F) (e := .f32) f ![rv, i1] h1)) (ln k))
      = fun k => FloatOps.addf (FloatOps.mulf (T.d (lane t k)) (trips T t.val (fun c => x (at4 r c)) (T.i0 (lane t k))))
          (FloatOps.mulf (T.e (lane t k)) (trips T t.val (fun c => x (at4 r c)) (T.i1 (lane t k)))) := funext fun k => by
    rw [← L0, ← L1, ← hl.d, ← hl.e]; rfl
  have c0 : (fun k => colOf (i0 (ln k))) = fun k => T.i0 (lane t k) := funext hl.i0
  have c1 : (fun k => colOf (i1 (ln k))) = fun k => T.i1 (lane t k) := funext hl.i1
  rw [storeIdx_row _ _ _ _ _ r hr, storeIdx_row _ _ _ _ _ r hr, e0, e1, c0, c1, hg]
  funext j
  by_cases hj : rw4 j = r
  · rw [mid_lt _ _ _ _ _ (show (rw4 j).val < r.val + 1 by rw [hj]; omega), trips_succ]
    refine (if_pos hj).trans ?_
    rw [hj]
    unfold trip
    congr 1
    funext c
    exact if_pos rfl
  · refine (if_neg hj).trans ((if_neg hj).trans ?_)
    have hne : (rw4 j).val ≠ r.val := fun h => hj (Fin.ext h)
    rw [hf]
    by_cases hlt : (rw4 j).val < r.val
    · rw [mid_lt _ _ _ _ _ hlt, mid_lt _ _ _ _ _ (by omega)]
    · rw [mid_ge _ _ _ _ _ hlt, mid_ge _ _ _ _ _ (by omega)]

theorem mid_four (T : Tab F) (x : Vec F S4x4096 .f32) (t : ℕ) : mid T x t 4 = mid T x (t + 1) 0 := by
  funext j; unfold mid
  rw [if_pos (show (rw4 j).val < 4 from (rw4 j).isLt), if_neg (Nat.not_lt_zero _)]

theorem mid_zero (T : Tab F) (x : Vec F S4x4096 .f32) : mid T x 0 0 = x := by
  funext j; unfold mid
  rw [if_neg (Nat.not_lt_zero _)]
  show x (at4 (rw4 j) (cl4 j)) = x j
  rw [at4_eta]

end Cert.Proof.Spec
-- ==== Proof.Setup.lean ====
/-
  The launch of the kernel as the proofs see it: the program's configuration, the ghost state (the handshakes' rounds
  beside the transfers' counters), the thread of a task and the two assertions the body is proved over: a memref held
  with what it reads, and a memref held whatever it reads.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Spec

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
/-- The rounds of the windows of the call on the TensorCore. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-- The transfers' counters. -/
abbrev EC : UEmb Counters (MT nD τ sig (HIx 1) (Elt F) ℕ UU ℕ) := countersEmb

/-! ## A task's thread -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

variable (d : Dev nD) (L : grid0.Coords)

/-! ## A memref held -/

section Hold
variable {sp : Space} {s : Shape} {e : EltTy}

/-- The elements of memref `b` held at share `q`, reading `v`. -/
def Hold (b : Memref sig .scVector sp s e) (q : PosShare TreeShare) (v : Vec F s e) : sProp 𝕄 :=
  iprop(∃ f : Buf (Elt F) (b.view.loc (thr d L)), ⌜b.view.read (Elt F) f = v⌝ ∗ (b.view.loc (thr d L) ↦[b.view.set]{q} f))

/-- The elements of memref `b` held outright, whatever they read. -/
def Free (b : Memref sig .scVector sp s e) : sProp 𝕄 :=
  iprop(∃ f : Buf (Elt F) (b.view.loc (thr d L)), b.view.loc (thr d L) ↦[b.view.set]{fullShare} f)

theorem Hold.free (b : Memref sig .scVector sp s e) (v : Vec F s e) : Hold d L b fullShare v ⊢ Free (F := F) d L b := by
  unfold Hold Free
  iintro ⟨%f, -, H⟩
  iexists f; iexact H

theorem Free.hold (b : Memref sig .scVector sp s e) : Free (F := F) d L b ⊢ iprop(∃ v, Hold d L b fullShare v) := by
  unfold Hold Free
  iintro ⟨%f, H⟩
  iexists _; iexists f
  isplitr; · ipureintro; rfl
  iexact H

theorem set_access_all (b : Memref sig .scVector sp s e) : (b.access (.whole s)).set = b.view.set := by
  show (b.view.slice (Rect.whole s)).set = b.view.set
  rw [View.set_slice, Rect.set_whole]; rfl

theorem read_access_all (b : Memref sig .scVector sp s e) (f : Buf (Elt F) (b.view.loc (thr d L))) :
    (b.access (.whole s)).read (Elt F) f = b.view.read (Elt F) f := by
  funext x
  show b.view.read (Elt F) f ((Rect.whole s).emb x) = _
  rw [Rect.emb_whole_apply]

end Hold

variable [FloatOps F]

section Rules
variable {s : Shape} {e : EltTy} {α : Type} {Q : α → sProp (MT nD τ sig (HIx 1) (Elt F) ℕ UU ℕ)}

/-- A load of a held memref. -/
theorem hold_load {b : Memref sig .scVector .vmem s e} {q : PosShare TreeShare} {v : Vec F s e} {r : LoadRect s} {hl : b.view.LoadsAt r}
    {k : (r.shape.Idx → Elt F e) → Prog (TpuEff nD τ sig (Elt F) Λ₀ (thr d L).2) α} :
    Hold d L b q v ⊢ iprop((Hold d L b q v -∗ wp frame (wpE (defs₀ (F := F)) 𝒱₀ (thr d L) none) Set.univ (k fun x => v (r.idx x)) Q)
      -∗ wp frame (wpE (defs₀ (F := F)) 𝒱₀ (thr d L) none) Set.univ (.op (.load b r hl) k) Q) := by
  unfold Hold
  iintro ⟨%f, %hf, H⟩ Hk
  iapply (wp_load (defs := defs₀ (F := F)) 𝒱₀ (thr d L) none Set.univ (Q := Q) (m := b) (r := r) (hl := hl) (k := k) (q := q) (f := f)
    (b.view.setOn_subset_set _)) $$ H
  iintro H
  rw [show b.view.readAt (Elt F) r f = fun x => v (r.idx x) from funext fun x => by rw [View.readAt_apply, hf]]
  iapply Hk
  iexists f
  isplitr; · ipureintro; exact hf
  iexact H

/-- A store over a rectangle of a held memref. -/
theorem hold_store {b : Memref sig .scVector .vmem s e} {v v' : Vec F s e} {r : Rect s} {w : r.shape.Idx → Elt F e}
    {hx : (b.access r).Stores Finset.univ} {hm : (Finset.univ : Finset r.shape.Idx) = Finset.univ ∨ ∀ a, r.stride a = 1}
    {k : PUnit → Prog (TpuEff nD τ sig (Elt F) Λ₀ (thr d L).2) α}
    (h1 : ∀ x, v' (r.emb x) = w x) (h2 : ∀ j, (∀ x, j ≠ r.emb x) → v' j = v j) :
    Hold d L b fullShare v ⊢ iprop((Hold d L b fullShare v' -∗ wp frame (wpE (defs₀ (F := F)) 𝒱₀ (thr d L) none) Set.univ (k ⟨⟩) Q)
      -∗ wp frame (wpE (defs₀ (F := F)) 𝒱₀ (thr d L) none) Set.univ (.op (.store b r w Finset.univ hx hm) k) Q) := by
  unfold Hold
  iintro ⟨%f, %hf, H⟩ Hk
  iapply (wp_store (defs := defs₀ (F := F)) 𝒱₀ (thr d L) none Set.univ (Q := Q) (m := b) (r := r) (w := w) (Mk := Finset.univ) (hx := hx) (hm := hm)
    (k := k) (f := f) (S := b.view.set) (by
      show (b.view.slice r).set ⊆ b.view.set
      rw [View.set_slice]; exact b.view.setOn_subset_set _)) $$ H
  iintro H
  iapply Hk
  iexists (b.access r).write (Elt F) f w Finset.univ
  isplitr
  · ipureintro
    funext j
    by_cases hj : ∃ x, j = r.emb x
    · obtain ⟨x, rfl⟩ := hj
      rw [h1]
      exact View.read_write_of_mem (v := b.access r) f w (Finset.mem_univ x)
    · rw [h2 j fun x hx => hj ⟨x, hx⟩, ← hf, View.read_apply, View.read_apply]
      rw [View.write_of_not_mem]
      · show b.view.emb j ∉ (b.view.slice r).set
        intro h
        obtain ⟨x, -, hx⟩ := Finset.mem_map.mp h
        exact hj ⟨x, (b.view.emb.injective hx).symm⟩
  · iexact H

/-- An indexed load of a held memref. -/
theorem hold_loadIdx {t : Shape} {b : Memref sig .scVector .vmem s e} {q : PosShare TreeShare} {v : Vec F s e} {idxs : Fin s.rank → IVec t 32}
    {h : ∀ a x, (idxs a x).toNat < s.size a} {hl : b.view.Loads} {k : Vec F t e → Prog (TpuEff nD τ sig (Elt F) Λ₀ (thr d L).2) α} :
    Hold d L b q v ⊢ iprop((Hold d L b q v -∗ wp frame (wpE (defs₀ (F := F)) 𝒱₀ (thr d L) none) Set.univ (k (loadIdx v idxs h)) Q)
      -∗ wp frame (wpE (defs₀ (F := F)) 𝒱₀ (thr d L) none) Set.univ (SparseCore.vectorLoadIdx b idxs h hl >>= k) Q) := by
  unfold Hold
  iintro ⟨%f, %hf, H⟩ Hk
  iapply (SparseCore.wp_vectorLoadIdx (defs := defs₀ (F := F)) 𝒱₀ (thr d L) none Set.univ (Q := Q) (base := b) (idxs := idxs) (h := h) (hl := hl) (k := k)
    (S := b.view.set) (q := q) (f := f) (set_access_all b).subset) $$ H
  iintro H
  rw [read_access_all d L b f, hf]
  iapply Hk
  iexists f
  isplitr; · ipureintro; exact hf
  iexact H

/-- An indexed store over a held memref. -/
theorem hold_storeIdx {dd : Fin 1 → Nat} {b : Memref sig .scVector .vmem s e} {v : Vec F s e} {idxs : Fin s.rank → IVec ⟨1, dd⟩ 32} {w : Vec F ⟨1, dd⟩ e}
    {mask : IVec ⟨1, dd⟩ 1} {add : Bool} {h : ∀ a x, (idxs a x).toNat < s.size a} {hs : (b.access (.whole s)).Stores Finset.univ}
    {k : PUnit → Prog (TpuEff nD τ sig (Elt F) Λ₀ (thr d L).2) α} :
    Hold d L b fullShare v
      ⊢ iprop((Hold d L b fullShare (storeIdx v idxs w mask add h) -∗ wp frame (wpE (defs₀ (F := F)) 𝒱₀ (thr d L) none) Set.univ (k ⟨⟩) Q)
        -∗ wp frame (wpE (defs₀ (F := F)) 𝒱₀ (thr d L) none) Set.univ (SparseCore.vectorStoreIdx b idxs w mask add h hs >>= k) Q) := by
  unfold Hold
  iintro ⟨%f, %hf, H⟩ Hk
  rw [← set_access_all b]
  iapply (SparseCore.wp_vectorStoreIdx (defs := defs₀ (F := F)) 𝒱₀ (thr d L) none Set.univ (Q := Q) (base := b) (idxs := idxs) (v := w) (mask := mask) (add := add)
    (h := h) (hs := hs) (k := k) (f := f)) $$ H
  iintro H
  iapply Hk
  iexists (b.access (.whole s)).write (Elt F) f (storeIdx ((b.access (.whole s)).read (Elt F) f) idxs w mask add h) Finset.univ
  isplitr
  · ipureintro
    rw [← read_access_all d L b, View.read_write_univ, read_access_all d L b f, hf]
  · iexact H

end Rules

end Cert.Proof.Tile
-- ==== Proof.Pairs.lean ====
/-
  The pair loop of a task: one row's four indexed operations, a trip over the four rows of a buffer, and the whole loop
  over the 128 trips, for any of the four buffers.
-/
module

public import proofs.«01_k».proof.Proof.Setup

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Spec

variable {F : FTy → Type}

local notation "𝕄" => MT nD τ sig (HIx 1) (Elt F) ℕ UU ℕ

/-! ## The memrefs of a task -/

abbrev xV : Memref sig .scVector .hbm S8192x4096 .f32 := Memref.whole main_arg0_scv
abbrev gI0 : Memref sig .scVector .hbm S2048 .i32 := Memref.whole main_v8_scv
abbrev gI1 : Memref sig .scVector .hbm S2048 .i32 := Memref.whole main_v9_scv
abbrev gC : Memref sig .scVector .hbm S2048 .f32 := Memref.whole main_v11_scv
abbrev gS : Memref sig .scVector .hbm S2048 .f32 := Memref.whole main_v12_scv
abbrev gSc : Memref sig .scVector .hbm S4096 .f32 := Memref.whole main_v13_scv
abbrev oV : Memref sig .scVector .hbm S3584x4096 .f32 := Memref.whole main_v14_scv
abbrev xb0 : Memref sig .scVector .vmem S4x4096 .f32 := Memref.whole cc0_scratch0
abbrev xb1 : Memref sig .scVector .vmem S4x4096 .f32 := Memref.whole cc0_scratch1
abbrev xb2 : Memref sig .scVector .vmem S4x4096 .f32 := Memref.whole cc0_scratch2
abbrev xb3 : Memref sig .scVector .vmem S4x4096 .f32 := Memref.whole cc0_scratch3
abbrev i0v : Memref sig .scVector .vmem S2048 .i32 := Memref.whole cc0_scratch4
abbrev i1v : Memref sig .scVector .vmem S2048 .i32 := Memref.whole cc0_scratch5
abbrev ccv : Memref sig .scVector .vmem S2048 .f32 := Memref.whole cc0_scratch6
abbrev ssv : Memref sig .scVector .vmem S2048 .f32 := Memref.whole cc0_scratch7
abbrev scv : Memref sig .scVector .vmem S4096 .f32 := Memref.whole cc0_scratch8
abbrev av : Memref sig .scVector .vmem S2048 .f32 := Memref.whole cc0_scratch9
abbrev bv : Memref sig .scVector .vmem S2048 .f32 := Memref.whole cc0_scratch10
abbrev dv : Memref sig .scVector .vmem S2048 .f32 := Memref.whole cc0_scratch11
abbrev ev : Memref sig .scVector .vmem S2048 .f32 := Memref.whole cc0_scratch12

/-! ## The tables -/

/-- Entry `p` of a table of 2048, entry `c` of a table of 4096. -/
def ix (p : Fin 2048) : S2048.Idx := fun a => match a with | 0 => p
def ix4 (c : Fin 4096) : S4096.Idx := fun a => match a with | 0 => c

theorem ix_eta (j : S2048.Idx) : ix (j 0) = j := by funext a; match a with | 0 => rfl

/-- The tables of a task from the vectors it holds. -/
def tabOf (I0 I1 : Vec F S2048 .i32) (A B Dd E : Vec F S2048 .f32) : Tab F :=
  { i0 := fun p => colOf (I0 (ix p)), i1 := fun p => colOf (I1 (ix p)), a := fun p => A (ix p), b := fun p => B (ix p), d := fun p => Dd (ix p), e := fun p => E (ix p) }

theorem idx_lane (t : Fin 128) (off : Fin 1 → ℕ) (h : ∀ a, off a + S16.size a ≤ S2048.size a) (ho : off = ![16 * t.val]) (k : Fin 16) :
    (Rect.unit (s := S2048) off S16.size h).toLoadRect.idx (ln k) = ix (lane t k) := by
  subst ho
  funext a
  match a with
  | 0 => exact Fin.ext (by show 16 * t.val + 1 * k.val = 16 * t.val + k.val; omega)

theorem ln_eta (x : S16.Idx) : ln (x 0) = x := by funext a; match a with | 0 => rfl

variable (d : Dev nD) (L : grid0.Coords) [FloatOps F]

section Row
variable {α : Type} {Q : α → sProp (MT nD τ sig (HIx 1) (Elt F) ℕ UU ℕ)}

/-- One row of a trip: two indexed loads, two indexed stores. -/
theorem wp_row {T : Tab F} (x : Vec F S4x4096 .f32) (t : Fin 128) (r : Fin 4) (tn n n' : ℕ) (ht : tn = t.val) (hn : n = r.val) (hn' : n' = r.val + 1) {i0 i1 : Vec F S16 .i32} {a b d' e : Vec F S16 .f32}
    (hl : Lanes T t i0 i1 a b d' e) {rv : IVec S16 32} (hr : ∀ x, (rv x).toNat = r.val)
    {xb : Memref sig .scVector .vmem S4x4096 .f32} {p1 p2 : Vec F S16 .f32 → Vec F S16 .f32 → Vec F S16 .f32}
    (hp1 : ∀ v w, p1 v w = subf (mulf a v) (mulf b w)) (hp2 : ∀ v w, p2 v w = addf (mulf d' v) (mulf e w))
    {h0 h0' : ∀ a x, ((![rv, i0] : Fin 2 → IVec S16 32) a x).toNat < S4x4096.size a}
    {h1 h1' : ∀ a x, ((![rv, i1] : Fin 2 → IVec S16 32) a x).toNat < S4x4096.size a}
    {hl0 hl1 : xb.view.Loads} {hs0 hs1 : (xb.access (.whole S4x4096)).Stores Finset.univ}
    {k : Prog (TpuEff nD τ sig (Elt F) Λ₀ (thr d L).2) α} :
    Hold d L xb fullShare (mid T x tn n)
      ⊢ iprop((Hold d L xb fullShare (mid T x tn n') -∗ wp frame (wpE (defs₀ (F := F)) 𝒱₀ (thr d L) none) Set.univ k Q)
        -∗ wp frame (wpE (defs₀ (F := F)) 𝒱₀ (thr d L) none) Set.univ
          (SparseCore.vectorLoadIdx xb ![rv, i0] h0 hl0 >>= fun v => SparseCore.vectorLoadIdx xb ![rv, i1] h1 hl1 >>= fun w =>
            SparseCore.vectorStoreIdx xb ![rv, i0] (p1 v w) (fun _ => 1#1) false h0' hs0 >>= fun _ =>
            SparseCore.vectorStoreIdx xb ![rv, i1] (p2 v w) (fun _ => 1#1) false h1' hs1 >>= fun _ => k) Q) := by
  subst ht hn hn'
  iintro H Hk
  iapply (hold_loadIdx d L (k := fun v => SparseCore.vectorLoadIdx xb ![rv, i1] h1 hl1 >>= fun w =>
            SparseCore.vectorStoreIdx xb ![rv, i0] (p1 v w) (fun _ => 1#1) false h0' hs0 >>= fun _ =>
            SparseCore.vectorStoreIdx xb ![rv, i1] (p2 v w) (fun _ => 1#1) false h1' hs1 >>= fun _ => k)) $$ H
  iintro H
  iapply (hold_loadIdx d L (k := fun w =>
            SparseCore.vectorStoreIdx xb ![rv, i0] (p1 _ w) (fun _ => 1#1) false h0' hs0 >>= fun _ =>
            SparseCore.vectorStoreIdx xb ![rv, i1] (p2 _ w) (fun _ => 1#1) false h1' hs1 >>= fun _ => k)) $$ H
  iintro H
  rw [hp1, hp2]
  iapply (hold_storeIdx d L (k := fun _ => SparseCore.vectorStoreIdx xb ![rv, i1] _ (fun _ => 1#1) false h1' hs1 >>= fun _ => k)) $$ H
  iintro H
  iapply (hold_storeIdx d L (k := fun _ => k)) $$ H
  iintro H
  rw [row_step x t r hl rv hr h0 h1 _ rfl]
  iapply Hk
  iexact H

end Row

theorem t6_trips : k0_t6_loop.trips = 128 := by decide +kernel

/-- The tables' memrefs as a trip reads them. -/
def TabHold (I0 I1 : Vec F S2048 .i32) (A B Dd E : Vec F S2048 .f32) : sProp 𝕄 :=
  iprop(Hold d L i0v fullShare I0 ∗ Hold d L i1v fullShare I1 ∗ Hold d L av fullShare A ∗ Hold d L bv fullShare B ∗ Hold d L dv fullShare Dd ∗ Hold d L ev fullShare E)

variable (I0 I1 : Vec F S2048 .i32) (A B Dd E : Vec F S2048 .f32)

/-- The loop's trip on buffer `b`. -/
abbrev pairTrip (b : Memref sig .scVector .vmem S4x4096 .f32) (hb : b.IsWhole) :=
  k0_t6_body (F := F) L xV (Memref.isWhole_whole _) gI0 (Memref.isWhole_whole _) gI1 (Memref.isWhole_whole _) gC (Memref.isWhole_whole _) gS (Memref.isWhole_whole _)
    gSc (Memref.isWhole_whole _) oV (Memref.isWhole_whole _) b hb b hb b hb b hb i0v (Memref.isWhole_whole _) i1v (Memref.isWhole_whole _) ccv (Memref.isWhole_whole _)
    ssv (Memref.isWhole_whole _) scv (Memref.isWhole_whole _) av (Memref.isWhole_whole _) bv (Memref.isWhole_whole _) dv (Memref.isWhole_whole _) ev (Memref.isWhole_whole _)
    cc0_scratch13 cc0_scratch14 cc0_scratch15 cc0_scratch16 cc0_scratch17 cc0_scratch18 cc0_scratch19 cc0_scratch20 cc0_scoped0 cc0_scoped1 cc0_scoped2 cc0_scoped3 cc0_scoped4

omit [FloatOps F] in
theorem chk_ok {rv iv : IVec S16 32} (hr : ∀ x, (rv x).toNat < 4) (h : ∀ x, (iv x).toNat < 4096) :
    ∀ a x, ((![rv, iv] : Fin 2 → IVec S16 32) a x).toNat < S4x4096.size a := by
  intro a x
  match a with
  | 0 => exact hr x
  | 1 => exact h x

set_option pp.maxSteps 250 in
theorem pair_trip (h0 : ∀ j, (I0 j).toNat < 4096) (h1 : ∀ j, (I1 j).toNat < 4096)
    (b : Memref sig .scVector .vmem S4x4096 .f32) (hb : b.IsWhole) (x : Vec F S4x4096 .f32) (t : Fin k0_t6_loop.trips) (u : Unit) :
    iprop(TabHold d L I0 I1 A B Dd E ∗ Hold d L b fullShare (mid (tabOf I0 I1 A B Dd E) x t.val 0))
      ⊢ wp frame (wpE (defs₀ (F := F)) 𝒱₀ (thr d L) none) Set.univ (pairTrip L b hb t u)
        fun _ => iprop(TabHold d L I0 I1 A B Dd E ∗ Hold d L b fullShare (mid (tabOf I0 I1 A B Dd E) x (t.val + 1) 0)) := by
  unfold pairTrip k0_t6_body
  simp only [k0_part4_eq_skeleton]; unfold k0_part4_skel
  simp only [Prog.lift, Prog.bind_op, Prog.bind_ret, Prog.pure_eq_ret, Prog.bind_assoc]
  obtain ⟨t', rfl⟩ : ∃ t' : Fin 128, t = t'.cast t6_trips.symm := ⟨t.cast t6_trips, rfl⟩
  have ho := k0_off17_eq (t'.cast t6_trips.symm)
  unfold TabHold
  iintro ⟨⟨Hi0, Hi1, Ha, Hb, Hd, He⟩, Hx⟩
  iapply (hold_load d L) $$ Hi0
  iintro Hi0
  iapply (hold_load d L) $$ Hi1
  iintro Hi1
  iapply (hold_load d L) $$ Ha
  iintro Ha
  iapply (hold_load d L) $$ Hb
  iintro Hb
  iapply (hold_load d L) $$ Hd
  iintro Hd
  iapply (hold_load d L) $$ He
  iintro He
  have hl : Lanes (tabOf I0 I1 A B Dd E) t'
      (fun x => I0 ((Rect.unit (s := S2048) (k0_off17 (t'.cast t6_trips.symm)) S16.size (k0_off17_inb (t'.cast t6_trips.symm))).toLoadRect.idx x))
      (fun x => I1 ((Rect.unit (s := S2048) (k0_off17 (t'.cast t6_trips.symm)) S16.size (k0_off17_inb (t'.cast t6_trips.symm))).toLoadRect.idx x))
      (fun x => A ((Rect.unit (s := S2048) (k0_off17 (t'.cast t6_trips.symm)) S16.size (k0_off17_inb (t'.cast t6_trips.symm))).toLoadRect.idx x))
      (fun x => B ((Rect.unit (s := S2048) (k0_off17 (t'.cast t6_trips.symm)) S16.size (k0_off17_inb (t'.cast t6_trips.symm))).toLoadRect.idx x))
      (fun x => Dd ((Rect.unit (s := S2048) (k0_off17 (t'.cast t6_trips.symm)) S16.size (k0_off17_inb (t'.cast t6_trips.symm))).toLoadRect.idx x))
      (fun x => E ((Rect.unit (s := S2048) (k0_off17 (t'.cast t6_trips.symm)) S16.size (k0_off17_inb (t'.cast t6_trips.symm))).toLoadRect.idx x)) := by
    constructor <;> intro k <;> simp only [idx_lane t' _ _ ho k] <;> rfl
  have c0 : ∀ rv : IVec S16 32, (∀ x, (rv x).toNat < 4) → ∀ a x, ((![rv, fun x => I0 ((Rect.unit (s := S2048) (k0_off17 (t'.cast t6_trips.symm)) S16.size
      (k0_off17_inb (t'.cast t6_trips.symm))).toLoadRect.idx x)] : Fin 2 → IVec S16 32) a x).toNat < S4x4096.size a := fun rv hr => chk_ok hr fun _ => h0 _
  have c1 : ∀ rv : IVec S16 32, (∀ x, (rv x).toNat < 4) → ∀ a x, ((![rv, fun x => I1 ((Rect.unit (s := S2048) (k0_off17 (t'.cast t6_trips.symm)) S16.size
      (k0_off17_inb (t'.cast t6_trips.symm))).toLoadRect.idx x)] : Fin 2 → IVec S16 32) a x).toNat < S4x4096.size a := fun rv hr => chk_ok hr fun _ => h1 _
  have b0 : ∀ x, ((broadcast S16 0#32 : IVec S16 32) x).toNat = (0 : Fin 4).val := fun _ => rfl
  have b1 : ∀ x, ((broadcast S16 1#32 : IVec S16 32) x).toNat = (1 : Fin 4).val := fun _ => rfl
  have b2 : ∀ x, ((broadcast S16 2#32 : IVec S16 32) x).toNat = (2 : Fin 4).val := fun _ => rfl
  have b3 : ∀ x, ((broadcast S16 3#32 : IVec S16 32) x).toNat = (3 : Fin 4).val := fun _ => rfl
  have lt : ∀ {rv : IVec S16 32} {r : Fin 4}, (∀ x, (rv x).toNat = r.val) → ∀ x, (rv x).toNat < 4 := fun h x => (h x) ▸ Fin.isLt _
  iapply (wp_assume 𝒱₀ (thr d L) none Set.univ (show k0_chk15 _ _ _ from ⟨c0 _ (lt b0), c1 _ (lt b0), c0 _ (lt b0), c1 _ (lt b0)⟩))
  iapply (wp_row d L x t' 0 (t'.cast t6_trips.symm).val 0 1 rfl rfl rfl hl b0 (fun _ _ => rfl) (fun _ _ => rfl)) $$ Hx
  iintro Hx
  iapply (wp_assume 𝒱₀ (thr d L) none Set.univ (show k0_chk16 _ _ _ from ⟨c0 _ (lt b1), c1 _ (lt b1), c0 _ (lt b1), c1 _ (lt b1)⟩))
  iapply (wp_row d L x t' 1 (t'.cast t6_trips.symm).val 1 2 rfl rfl rfl hl b1 (fun _ _ => rfl) (fun _ _ => rfl)) $$ Hx
  iintro Hx
  iapply (wp_assume 𝒱₀ (thr d L) none Set.univ (show k0_chk17 _ _ _ from ⟨c0 _ (lt b2), c1 _ (lt b2), c0 _ (lt b2), c1 _ (lt b2)⟩))
  iapply (wp_row d L x t' 2 (t'.cast t6_trips.symm).val 2 3 rfl rfl rfl hl b2 (fun _ _ => rfl) (fun _ _ => rfl)) $$ Hx
  iintro Hx
  iapply (wp_assume 𝒱₀ (thr d L) none Set.univ (show k0_chk18 _ _ k0_pay34 from ⟨c0 _ (lt b3), c1 _ (lt b3), c0 _ (lt b3), c1 _ (lt b3)⟩))
  iapply (wp_row d L x t' 3 (t'.cast t6_trips.symm).val 3 4 rfl rfl rfl hl b3 (fun _ _ => rfl) (fun _ _ => rfl)) $$ Hx
  iintro Hx
  rw [wp_ret]
  imodintro
  isplitr [Hx]
  · isplitl [Hi0]; · iexact Hi0
    isplitl [Hi1]; · iexact Hi1
    isplitl [Ha]; · iexact Ha
    isplitl [Hb]; · iexact Hb
    isplitl [Hd]; · iexact Hd
    iexact He
  · rw [← mid_four]
    iexact Hx

/-- What the loop leaves in a buffer that read `x`. -/
def rot (T : Tab F) (x : Vec F S4x4096 .f32) : Vec F S4x4096 .f32 := mid T x 128 0

/-- The whole pair loop on buffer `b`. -/
theorem pair_loop (h0 : ∀ j, (I0 j).toNat < 4096) (h1 : ∀ j, (I1 j).toNat < 4096)
    (b : Memref sig .scVector .vmem S4x4096 .f32) (hb : b.IsWhole) (x : Vec F S4x4096 .f32)
    {α : Type} {Q : α → sProp (MT nD τ sig (HIx 1) (Elt F) ℕ UU ℕ)} {k : Unit → Prog (TpuEff nD τ sig (Elt F) Λ₀ (thr d L).2) α} :
    iprop(TabHold d L I0 I1 A B Dd E ∗ Hold d L b fullShare x)
      ⊢ iprop((iprop(TabHold d L I0 I1 A B Dd E ∗ Hold d L b fullShare (rot (tabOf I0 I1 A B Dd E) x)) -∗
          wp frame (wpE (defs₀ (F := F)) 𝒱₀ (thr d L) none) Set.univ (k ⟨⟩) Q)
        -∗ wp frame (wpE (defs₀ (F := F)) 𝒱₀ (thr d L) none) Set.univ (Scf.Loop.for k0_t6_loop k0_t6_ok ⟨⟩ (pairTrip L b hb) >>= k) Q) := by
  iintro H Hk
  iapply (Scf.wp_for_bind frame (wpE (defs₀ (F := F)) 𝒱₀ (thr d L) none) Set.univ k0_t6_loop.lb k0_t6_loop.ub k0_t6_loop.st k0_t6_ok ⟨⟩ (pairTrip L b hb)
    (fun n _ => iprop(TabHold d L I0 I1 A B Dd E ∗ Hold d L b fullShare (mid (tabOf I0 I1 A B Dd E) x n 0)))
    (fun t u => pair_trip d L I0 I1 A B Dd E h0 h1 b hb x t u) (kk := k)) $$ [H]
  · rw [mid_zero]; iexact H
  · iintro %u H
    iapply Hk
    unfold rot
    rw [← show Scf.trips k0_t6_loop.lb k0_t6_loop.ub k0_t6_loop.st = 128 from t6_trips]
    iexact H

section Same
variable (v3 c0 c1 c2 c3 c4 : BitVec 32) (t2 : Fin k0_t2_loop.trips)

/-- The loop's trip on `xb0` is the same program. -/
theorem t3_eq : k0_t3_body (F := F) L xV (Memref.isWhole_whole _) gI0 (Memref.isWhole_whole _) gI1 (Memref.isWhole_whole _) gC (Memref.isWhole_whole _) gS (Memref.isWhole_whole _) gSc (Memref.isWhole_whole _) oV (Memref.isWhole_whole _) xb0 (Memref.isWhole_whole _) xb1 (Memref.isWhole_whole _) xb2 (Memref.isWhole_whole _) xb3 (Memref.isWhole_whole _) i0v (Memref.isWhole_whole _) i1v (Memref.isWhole_whole _) ccv (Memref.isWhole_whole _) ssv (Memref.isWhole_whole _) scv (Memref.isWhole_whole _) av (Memref.isWhole_whole _) bv (Memref.isWhole_whole _) dv (Memref.isWhole_whole _) ev (Memref.isWhole_whole _) cc0_scratch13 cc0_scratch14 cc0_scratch15 cc0_scratch16 cc0_scratch17 cc0_scratch18 cc0_scratch19 cc0_scratch20 cc0_scoped0 cc0_scoped1 cc0_scoped2 cc0_scoped3 cc0_scoped4 v3 c0 c1 t2
    = pairTrip L xb0 (Memref.isWhole_whole _) := rfl

/-- The loop's trip on `xb1` is the same program. -/
theorem t4_eq : k0_t4_body (F := F) L xV (Memref.isWhole_whole _) gI0 (Memref.isWhole_whole _) gI1 (Memref.isWhole_whole _) gC (Memref.isWhole_whole _) gS (Memref.isWhole_whole _) gSc (Memref.isWhole_whole _) oV (Memref.isWhole_whole _) xb0 (Memref.isWhole_whole _) xb1 (Memref.isWhole_whole _) xb2 (Memref.isWhole_whole _) xb3 (Memref.isWhole_whole _) i0v (Memref.isWhole_whole _) i1v (Memref.isWhole_whole _) ccv (Memref.isWhole_whole _) ssv (Memref.isWhole_whole _) scv (Memref.isWhole_whole _) av (Memref.isWhole_whole _) bv (Memref.isWhole_whole _) dv (Memref.isWhole_whole _) ev (Memref.isWhole_whole _) cc0_scratch13 cc0_scratch14 cc0_scratch15 cc0_scratch16 cc0_scratch17 cc0_scratch18 cc0_scratch19 cc0_scratch20 cc0_scoped0 cc0_scoped1 cc0_scoped2 cc0_scoped3 cc0_scoped4 v3 t2 c0 c1 c2
    = pairTrip L xb1 (Memref.isWhole_whole _) := rfl

/-- The loop's trip on `xb2` is the same program. -/
theorem t5_eq : k0_t5_body (F := F) L xV (Memref.isWhole_whole _) gI0 (Memref.isWhole_whole _) gI1 (Memref.isWhole_whole _) gC (Memref.isWhole_whole _) gS (Memref.isWhole_whole _) gSc (Memref.isWhole_whole _) oV (Memref.isWhole_whole _) xb0 (Memref.isWhole_whole _) xb1 (Memref.isWhole_whole _) xb2 (Memref.isWhole_whole _) xb3 (Memref.isWhole_whole _) i0v (Memref.isWhole_whole _) i1v (Memref.isWhole_whole _) ccv (Memref.isWhole_whole _) ssv (Memref.isWhole_whole _) scv (Memref.isWhole_whole _) av (Memref.isWhole_whole _) bv (Memref.isWhole_whole _) dv (Memref.isWhole_whole _) ev (Memref.isWhole_whole _) cc0_scratch13 cc0_scratch14 cc0_scratch15 cc0_scratch16 cc0_scratch17 cc0_scratch18 cc0_scratch19 cc0_scratch20 cc0_scoped0 cc0_scoped1 cc0_scoped2 cc0_scoped3 cc0_scoped4 v3 t2 c0 c1 c2
    = pairTrip L xb2 (Memref.isWhole_whole _) := rfl

end Same

end Cert.Proof.Tile
-- ==== Proof.Ring.lean ====
/-
  The copies of a task: the rows a chunk is, what a copy into a buffer and a copy out of one leave behind, and the
  waits for them; with the book that is kept over the 28 chunks of the result.
-/
module

public import proofs.«01_k».proof.Proof.Pairs

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.ShloMosaic.Transfers (Flight Flight_mono)
open Idealize.SL Idealize.SL.RA Idealize.SL.BI
open scoped Idealize.SL.BI
open Idealize.SL.BI.BIBase Idealize.SL.BI.Laws Idealize.SL.ProofMode Idealize.SL.Sem
open Cert.Proof.Spec

variable {F : FTy → Type}

local notation "𝕄" => MT nD τ sig (HIx 1) (Elt F) ℕ UU ℕ

/-! ## Chunks -/

/-- The first row of a task. -/
def row0 (L : grid0.Coords) : ℕ := 224 * (L 1).val + 112 * (L 0).val

theorem row0_le (L : grid0.Coords) : row0 L + 112 ≤ 3584 := by
  have h0 : (L 0).val < 2 := (L 0).isLt
  have h1 : (L 1).val < 16 := (L 1).isLt
  unfold row0; omega

/-- Row `r`, column `c` of the argument and of the result. -/
def atX (r : Fin 8192) (c : Fin 4096) : S8192x4096.Idx := fun a => match a with | 0 => r | 1 => c
def rwO (j : S3584x4096.Idx) : Fin 3584 := j 0
def clO (j : S3584x4096.Idx) : Fin 4096 := j 1

/-- Row `r` of the argument. -/
def rowX (X : Vec F S8192x4096 .f32) (r : Fin 8192) : Row F := fun c => X (atX r c)

/-- What the call leaves of `X` with the tables `T`. -/
def outOf [FloatOps F] (T : Tab F) (X : Vec F S8192x4096 .f32) : Vec F S3584x4096 .f32 :=
  fun j => trips T 128 (rowX X ⟨(rwO j).val, by have := (rwO j).isLt; omega⟩) (clO j)

variable (d : Dev nD) (L : grid0.Coords)

theorem inbX (k : Fin 28) : ∀ a, (![row0 L + 4 * k.val, 0] : Fin 2 → ℕ) a + S4x4096.size a ≤ S8192x4096.size a := fun a => by
  have := row0_le L; have := k.isLt
  match a with
  | 0 => show row0 L + 4 * k.val + 4 ≤ 8192; omega
  | 1 => exact le_refl 4096

theorem inbO (k : Fin 28) : ∀ a, (![row0 L + 4 * k.val, 0] : Fin 2 → ℕ) a + S4x4096.size a ≤ S3584x4096.size a := fun a => by
  have := row0_le L; have := k.isLt
  match a with
  | 0 => show row0 L + 4 * k.val + 4 ≤ 3584; omega
  | 1 => exact le_refl 4096

/-- The rows of chunk `k`, in the argument and in the result. -/
abbrev rectX (k : Fin 28) : Rect S8192x4096 := Rect.unit (s := S8192x4096) ![row0 L + 4 * k.val, 0] S4x4096.size (inbX L k)
abbrev rectO (k : Fin 28) : Rect S3584x4096 := Rect.unit (s := S3584x4096) ![row0 L + 4 * k.val, 0] S4x4096.size (inbO L k)
abbrev chX (k : Fin 28) : Memref sig .scVector .hbm S4x4096 .f32 := xV.slice (rectX L k) (fun _ => rfl)
abbrev chO (k : Fin 28) : Memref sig .scVector .hbm S4x4096 .f32 := oV.slice (rectO L k) (fun _ => rfl)

/-- The chunk's values. -/
def valX (X : Vec F S8192x4096 .f32) (k : Fin 28) : Vec F S4x4096 .f32 := fun j => X ((rectX L k).emb j)

theorem row_valX (X : Vec F S8192x4096 .f32) (k : Fin 28) (r : Fin 4) :
    (fun c => valX L X k (at4 r c)) = rowX X ⟨row0 L + 4 * k.val + r.val, by have := row0_le L; have := k.isLt; omega⟩ := by
  funext c
  unfold valX rowX
  refine congrArg X (funext fun a => ?_)
  match a with
  | 0 => exact Fin.ext (by show row0 L + 4 * k.val + 1 * r.val = row0 L + 4 * k.val + r.val; omega)
  | 1 => exact Fin.ext (by show 0 + 1 * c.val = c.val; omega)

/-- What the pair loop leaves of a chunk is the chunk of what the call leaves. -/
theorem rot_valX [FloatOps F] (T : Tab F) (X : Vec F S8192x4096 .f32) (k : Fin 28) (j : S4x4096.Idx) :
    rot T (valX L X k) j = outOf T X ((rectO L k).emb j) := by
  unfold rot outOf
  rw [mid_ge _ _ _ _ _ (Nat.not_lt_zero _), row_valX]
  have h0 : (rwO ((rectO L k).emb j)).val = row0 L + 4 * k.val + (rw4 j).val := by
    show row0 L + 4 * k.val + 1 * (rw4 j).val = _; omega
  have h1 : clO ((rectO L k).emb j) = cl4 j := Fin.ext (by show 0 + 1 * (cl4 j).val = _; omega)
  rw [h1]
  congr 2
  exact Fin.ext h0.symm

/-! ## The elements of a chunk and of the whole argument -/

variable {q : PosShare TreeShare}

/-- The whole argument read at share `q`. -/
def Arg (q : PosShare TreeShare) (X : Vec F S8192x4096 .f32) : sProp 𝕄 := xV.view.loc (thr d L) ↦[Finset.univ]{q} X

/-- Chunk `k` of the result, holding what `O` says. -/
def OutCh (O : Vec F S3584x4096 .f32) (k : Fin 28) : sProp 𝕄 := (chO L k).view.loc (thr d L) ↦[(chO L k).view.set]{fullShare} O

/-- The book over the chunks of the result: those below `n` as `O` says, those from `m` on as before, as `O'` says. -/
def Book (O O' : Vec F S3584x4096 .f32) (n m : ℕ) : sProp 𝕄 :=
  bigSep Finset.univ fun k : Fin 28 => if k.val < n then OutCh d L O k else if k.val < m then iprop(emp) else OutCh d L O' k

theorem Book.take (O O' : Vec F S3584x4096 .f32) (n m : ℕ) (k : Fin 28) (hm : k.val = m) (hn : n ≤ m) :
    Book d L O O' n m ⊢ iprop(OutCh d L O' k ∗ Book d L O O' n (m + 1)) := by
  unfold Book
  rw [SparseCore.bigSep_erase' (Finset.mem_univ k), SparseCore.bigSep_erase' (Finset.mem_univ k) (Φ := fun k : Fin 28 => if k.val < n then OutCh d L O k else if k.val < m + 1 then iprop(emp) else OutCh d L O' k)]
  rw [if_neg (show ¬ k.val < n by omega), if_neg (show ¬ k.val < m by omega), if_neg (show ¬ k.val < n by omega), if_pos (show k.val < m + 1 by omega)]
  rw [bigSep_congr (s := Finset.univ.erase k) (Φ := fun k : Fin 28 => if k.val < n then OutCh d L O k else if k.val < m then iprop(emp) else OutCh d L O' k) (Ψ := fun k : Fin 28 => if k.val < n then OutCh d L O k else if k.val < m + 1 then iprop(emp) else OutCh d L O' k) (fun i hi => by
    have hne : i.val ≠ m := fun h => Finset.ne_of_mem_erase hi (Fin.ext (h.trans hm.symm))
    by_cases h1 : i.val < m
    · rw [if_pos h1, if_pos (show i.val < m + 1 by omega)]
    · rw [if_neg h1, if_neg (show ¬ i.val < m + 1 by omega)])]
  iintro ⟨H1, H2⟩
  isplitl [H1]; · iexact H1
  isplitr; · iempintro
  iexact H2

theorem Book.give (O O' : Vec F S3584x4096 .f32) (n m : ℕ) (k : Fin 28) (hn : k.val = n) (hm : n < m) :
    iprop(OutCh d L O k ∗ Book d L O O' n m) ⊢ Book d L O O' (n + 1) m := by
  unfold Book
  rw [SparseCore.bigSep_erase' (Finset.mem_univ k), SparseCore.bigSep_erase' (Finset.mem_univ k) (Φ := fun k : Fin 28 => if k.val < n + 1 then OutCh d L O k else if k.val < m then iprop(emp) else OutCh d L O' k)]
  rw [if_pos (show k.val < n + 1 by omega)]
  rw [bigSep_congr (s := Finset.univ.erase k) (Φ := fun k : Fin 28 => if k.val < n then OutCh d L O k else if k.val < m then iprop(emp) else OutCh d L O' k) (Ψ := fun k : Fin 28 => if k.val < n + 1 then OutCh d L O k else if k.val < m then iprop(emp) else OutCh d L O' k) (fun i hi => by
    have hne : i.val ≠ n := fun h => Finset.ne_of_mem_erase hi (Fin.ext (h.trans hn.symm))
    by_cases h1 : i.val < n
    · rw [if_pos h1, if_pos (show i.val < n + 1 by omega)]
    · rw [if_neg h1, if_neg (show ¬ i.val < n + 1 by omega)])]
  iintro ⟨H1, -, H2⟩
  isplitl [H1]; · iexact H1
  iexact H2

theorem Book.open (O O' : Vec F S3584x4096 .f32) : (bigSep Finset.univ fun k : Fin 28 => OutCh d L O' k) ⊢ Book d L O O' 0 0 := by
  unfold Book
  exact Entails.of_eq (bigSep_congr fun k _ => by rw [if_neg (Nat.not_lt_zero _), if_neg (Nat.not_lt_zero _)])

theorem Book.close (O O' : Vec F S3584x4096 .f32) : Book d L O O' 28 28 ⊢ (bigSep Finset.univ fun k : Fin 28 => OutCh d L O k) := by
  unfold Book
  exact Entails.of_eq (bigSep_congr fun k _ => by rw [if_pos k.isLt])

/-! ## Transfers in flight -/

theorem Flight_frame {c : Thread nD τ} {sm : SemLoc sig} {ι : HIx 1} {N : ℕ} {D' R : sProp (MT nD τ sig (HIx 1) (Elt F) ℕ UU ℕ)} :
    iprop(Flight (EC (F := F)) c sm ι N D' ∗ R) ⊢ Flight (EC (F := F)) c sm ι N iprop(D' ∗ R) := by
  unfold Flight
  iintro ⟨⟨⟨%R0, HR0, %hcap, %hpeek⟩, Hcred⟩, HR⟩
  isplitl [HR0 HR]
  · iexists iprop(R0 ∗ R)
    isplitl [HR0 HR]
    · isplitl [HR0]; · iexact HR0
      iexact HR
    isplit
    · ipureintro
      intro K
      refine BIBase.Entails.trans ?_ (hcap K)
      iintro ⟨⟨HR0, HR⟩, HK⟩
      isplitl [HR0]; · iexact HR0
      iintro ⟨Hv, HD⟩
      iapply HK
      isplitl [Hv]; · iexact Hv
      isplitl [HD]; · iexact HD
      iexact HR
    · ipureintro
      intro K
      refine BIBase.Entails.trans ?_ (hpeek K)
      iintro ⟨⟨HR0, HR⟩, HK⟩
      isplitl [HR0]; · iexact HR0
      iintro HR0
      iapply HK
      isplitl [HR0]; · iexact HR0
      iexact HR
  · iexact Hcred

/-- The copy of chunk `k` into buffer `b`, in flight. -/
def InFl (q : PosShare TreeShare) (X : Vec F S8192x4096 .f32) (b : Memref sig .scVector .vmem S4x4096 .f32) (sm : DmaSem sig) (k : Fin 28) : sProp 𝕄 :=
  Flight (EC (F := F)) (thr d L) (.dma sm) none b.view.dmaCredit iprop(Arg d L q X ∗ Hold d L b fullShare (valX L X k))

/-- The copy of buffer `b` to chunk `k`, in flight. -/
def OutFl (O : Vec F S3584x4096 .f32) (b : Memref sig .scVector .vmem S4x4096 .f32) (sm : DmaSem sig) (k : Fin 28) : sProp 𝕄 :=
  Flight (EC (F := F)) (thr d L) (.dma sm) none (chO L k).view.dmaCredit iprop(Free d L b ∗ OutCh d L O k)

/-- What the task owes, with the waits it has recorded beyond `W` on its own cells. -/
def Owes (O : CellTallies nD τ sig (HIx 1)) (W : Waits sig (HIx 1)) : sProp 𝕄 :=
  iprop(∃ W', ⌜∀ p ∈ W', p ∈ W ∨ p.2 = none⌝ ∗ owes (thr d L) O W')

variable [FloatOps F]
section Ops
variable {α : Type} {Q : α → sProp (MT nD τ sig (HIx 1) (Elt F) ℕ UU ℕ)}
variable {k' : PUnit → Prog (TpuEff nD τ sig (Elt F) Λ₀ (thr d L).2) α}

/-- Copying chunk `k` into a free buffer. -/
theorem in_start (X : Vec F S8192x4096 .f32) (b : Memref sig .scVector .vmem S4x4096 .f32) (sm : DmaSem sig) (k : Fin 28)
    {off : Fin 2 → ℕ} {ho : ∀ a, off a + S4x4096.size a ≤ S8192x4096.size a} {hp : ∀ a, (Rect.unit (s := S8192x4096) off S4x4096.size ho).stride a = 1}
    (hoff : off = ![row0 L + 4 * k.val, 0]) {h1 : (xV.slice (Rect.unit (s := S8192x4096) off S4x4096.size ho) hp).view.WordExact} {h2 : b.view.WordExact}
    {h3 : DmaTarget.Typed (nD := nD) .hbm (.dma sm) (.here (τ := τ) (p := .scVector ((L 0).castLE hcore0) ((L 1).castLE hsub0)) b)} :
    iprop(Arg d L q X ∗ Free d L b ∗ semVal (thr d L, .dma sm) 0)
      ⊢ iprop((InFl d L q X b sm k -∗ wp frame (wpE (defs₀ (F := F)) 𝒱₀ (thr d L) none) Set.univ (k' ⟨⟩) Q)
        -∗ wp frame (wpE (defs₀ (F := F)) 𝒱₀ (thr d L) none) Set.univ
          (.op (.enqueueDma (xV.slice (Rect.unit (s := S8192x4096) off S4x4096.size ho) hp) (.here b) (.dma sm) h1 h2 h3) k') Q) := by
  subst hoff
  unfold Arg Free
  iintro ⟨Hx, ⟨%f, Hb⟩, Hs⟩ Hk
  ihave Hx' := (pointsTo_split_subset (Finset.subset_univ (chX L k).view.set)).1 $$ Hx
  icases Hx' with ⟨Hc, Hr⟩
  iapply (Transfers.wp_dmaLocal EC 𝒱₀ (thr d L) none none b.view.dmaCredit (src := chX L k) (via := .same) (dst := b) (sm := .dma sm) rfl
    (View.dmaCredit_pos b.view (by decide)) subset_rfl (Q := Q) (k := k') (q := q) (fs := X) (fd := f)) $$ [Hc Hb Hs]
  · isplitl [Hc]; · iexact Hc
    isplitl [Hb]; · iexact Hb
    iexact Hs
  iintro Hf
  iapply Hk
  unfold InFl
  ihave Hf := Flight_frame $$ [Hf Hr]
  · isplitl [Hf]; · iexact Hf
    iexact Hr
  iapply (Flight_mono EC ?h) $$ Hf
  case h =>
    iintro ⟨⟨Hb, Hc⟩, Hr⟩
    isplitl [Hc Hr]
    · unfold Arg
      iapply (pointsTo_split_subset (Finset.subset_univ (chX L k).view.set)).2
      isplitl [Hc]; · iexact Hc
      iexact Hr
    · unfold Hold
      iexists _
      isplitr
      rotate_left
      · iexact Hb
      · ipureintro
        rw [View.read_write_univ]
        rfl

/-- Waiting for a copy into a buffer. -/
theorem in_wait {O : CellTallies nD τ sig (HIx 1)} {W : Waits sig (HIx 1)} (hO : ∀ g, O g none = 0)
    (X : Vec F S8192x4096 .f32) (b : Memref sig .scVector .vmem S4x4096 .f32) (sm : DmaSem sig) (k : Fin 28)
    {src : Memref sig .scVector .hbm S4x4096 .f32} {h1 : src.view.WordExact} {h2 : b.view.WordExact} :
    iprop(levAts (K (F := F)).L (K (F := F)).lev ∗ InFl d L q X b sm k ∗ Owes d L O W)
      ⊢ iprop((iprop(Arg d L q X ∗ Hold d L b fullShare (valX L X k) ∗ semVal (thr d L, .dma sm) 0 ∗ Owes d L O W) -∗ wp frame (wpE (defs₀ (F := F)) 𝒱₀ (thr d L) none) Set.univ (k' ⟨⟩) Q)
        -∗ wp frame (wpE (defs₀ (F := F)) 𝒱₀ (thr d L) none) Set.univ (.op (.waitDma2 sm src b h1 h2) k') Q) := by
  unfold InFl Owes
  iintro ⟨#Hlv, Hf, ⟨%W', %hW, HO⟩⟩ Hk
  iapply (Transfers.wp_waitLocalO EC 𝒱₀ (thr d L) none none (sem := sm) (srcw := src) (dstw := b) rfl (Q := Q) (k := k')) $$ [Hf HO]
  · isplitl [Hf]; · iexact Hf
    isplitl [HO]; · iexact HO
    iapply ((K (F := F)).mayWait_none (SemLoc.dma sm) hO); iexact Hlv
  iintro ⟨⟨Hx, Hb⟩, Hs, HO⟩
  iapply Hk
  isplitl [Hx]; · iexact Hx
  isplitl [Hb]; · iexact Hb
  isplitl [Hs]; · iexact Hs
  iexists _
  isplitr
  rotate_left
  · iexact HO
  · ipureintro
    intro p hp
    rcases Finset.mem_insert.mp hp with rfl | hp
    · exact .inr rfl
    · exact hW p hp

/-- Copying a computed buffer to its chunk of the result. -/
theorem out_start (T : Tab F) (X : Vec F S8192x4096 .f32) (O' : Vec F S3584x4096 .f32) (b : Memref sig .scVector .vmem S4x4096 .f32) (sm : DmaSem sig) (k : Fin 28)
    {off : Fin 2 → ℕ} {ho : ∀ a, off a + S4x4096.size a ≤ S3584x4096.size a} {hp : ∀ a, (Rect.unit (s := S3584x4096) off S4x4096.size ho).stride a = 1}
    (hoff : off = ![row0 L + 4 * k.val, 0]) {h1 : b.view.WordExact} {h2 : (oV.slice (Rect.unit (s := S3584x4096) off S4x4096.size ho) hp).view.WordExact}
    {h3 : DmaTarget.Typed (nD := nD) .vmem (.dma sm) (.here (τ := τ) (p := .scVector ((L 0).castLE hcore0) ((L 1).castLE hsub0)) (oV.slice (Rect.unit (s := S3584x4096) off S4x4096.size ho) hp))} :
    iprop(Hold d L b fullShare (rot T (valX L X k)) ∗ OutCh d L O' k ∗ semVal (thr d L, .dma sm) 0)
      ⊢ iprop((OutFl d L (outOf T X) b sm k -∗ wp frame (wpE (defs₀ (F := F)) 𝒱₀ (thr d L) none) Set.univ (k' ⟨⟩) Q)
        -∗ wp frame (wpE (defs₀ (F := F)) 𝒱₀ (thr d L) none) Set.univ
          (.op (.enqueueDma b (.here (oV.slice (Rect.unit (s := S3584x4096) off S4x4096.size ho) hp)) (.dma sm) h1 h2 h3) k') Q) := by
  subst hoff
  unfold Hold OutCh
  iintro ⟨⟨%f, %hf, Hb⟩, Hc, Hs⟩ Hk
  iapply (Transfers.wp_dmaLocal EC 𝒱₀ (thr d L) none none (chO L k).view.dmaCredit (src := b) (via := .same) (dst := chO L k) (sm := .dma sm) rfl
    (View.dmaCredit_pos (chO L k).view (by decide)) subset_rfl (Q := Q) (k := k') (q := fullShare) (fs := f) (fd := O')) $$ [Hc Hb Hs]
  · isplitl [Hb]; · iexact Hb
    isplitl [Hc]; · iexact Hc
    iexact Hs
  iintro Hf
  iapply Hk
  unfold OutFl
  iapply (Flight_mono EC ?h) $$ Hf
  case h =>
    iintro ⟨Hc, Hb⟩
    isplitl [Hb]
    · unfold Free
      iexists _; iexact Hb
    · unfold OutCh
      iapply (Entails.of_eq (pointsTo_congr fun i hi => ?hv)) $$ Hc
      case hv =>
        obtain ⟨j, -, rfl⟩ := Finset.mem_map.mp hi
        rw [View.write_emb_of_mem _ _ (Finset.mem_univ j)]
        show b.view.read (Elt F) f j = _
        rw [hf, rot_valX]
        rfl

/-- Waiting for a copy out of a buffer. -/
theorem out_wait {O : CellTallies nD τ sig (HIx 1)} {W : Waits sig (HIx 1)} (hO : ∀ g, O g none = 0)
    (R : Vec F S3584x4096 .f32) (b : Memref sig .scVector .vmem S4x4096 .f32) (sm : DmaSem sig) (k : Fin 28)
    {off : Fin 2 → ℕ} {ho : ∀ a, off a + S4x4096.size a ≤ S3584x4096.size a} {hp : ∀ a, (Rect.unit (s := S3584x4096) off S4x4096.size ho).stride a = 1}
    {h1 : b.view.WordExact} {h2 : (oV.slice (Rect.unit (s := S3584x4096) off S4x4096.size ho) hp).view.WordExact} :
    iprop(levAts (K (F := F)).L (K (F := F)).lev ∗ OutFl d L R b sm k ∗ Owes d L O W)
      ⊢ iprop((iprop(Free d L b ∗ OutCh d L R k ∗ semVal (thr d L, .dma sm) 0 ∗ Owes d L O W) -∗ wp frame (wpE (defs₀ (F := F)) 𝒱₀ (thr d L) none) Set.univ (k' ⟨⟩) Q)
        -∗ wp frame (wpE (defs₀ (F := F)) 𝒱₀ (thr d L) none) Set.univ
          (.op (.waitDma2 sm b (oV.slice (Rect.unit (s := S3584x4096) off S4x4096.size ho) hp) h1 h2) k') Q) := by
  unfold OutFl Owes
  iintro ⟨#Hlv, Hf, ⟨%W', %hW, HO⟩⟩ Hk
  iapply (Transfers.wp_waitLocalO EC 𝒱₀ (thr d L) none none (sem := sm) (srcw := b) (dstw := oV.slice (Rect.unit (s := S3584x4096) off S4x4096.size ho) hp)
    (N := (chO L k).view.dmaCredit) rfl (Q := Q) (k := k')) $$ [Hf HO]
  · isplitl [Hf]; · iexact Hf
    isplitl [HO]; · iexact HO
    iapply ((K (F := F)).mayWait_none (SemLoc.dma sm) hO); iexact Hlv
  iintro ⟨⟨Hx, Hb⟩, Hs, HO⟩
  iapply Hk
  isplitl [Hx]; · iexact Hx
  isplitl [Hb]; · iexact Hb
  isplitl [Hs]; · iexact Hs
  iexists _
  isplitr
  rotate_left
  · iexact HO
  · ipureintro
    intro p hp
    rcases Finset.mem_insert.mp hp with rfl | hp
    · exact .inr rfl
    · exact hW p hp

end Ops

end Cert.Proof.Tile
-- ==== Proof.Coef.lean ====
/-
  The coefficient loop of a task: from the angles' cosines and sines and the channel scales it fills the four
  coefficient tables, sixteen entries a trip.
-/
module

public import proofs.«01_k».proof.Proof.Pairs

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Spec

variable {F : FTy → Type}

local notation "𝕄" => MT nD τ sig (HIx 1) (Elt F) ℕ UU ℕ

/-- A table filled with `f` below `16 n`, still `g` above. -/
def upto {α : Type} (n : ℕ) (f g : S2048.Idx → α) : S2048.Idx → α := fun j => if (j 0).val < 16 * n then f j else g j

theorem upto_zero {α : Type} (f g : S2048.Idx → α) : upto 0 f g = g := funext fun _ => if_neg (Nat.not_lt_zero _)
theorem upto_all {α : Type} (f g : S2048.Idx → α) : upto 128 f g = f := funext fun j => if_pos (show (j 0).val < 2048 from (j 0).isLt)

variable (d : Dev nD) (L : grid0.Coords) [FloatOps F]

/-- A coefficient table: the table `c` of cosines or sines times the channel scale at column `I`. -/
def coef (c : Vec F S2048 .f32) (I : Vec F S2048 .i32) (SC : Vec F S4096 .f32) : Vec F S2048 .f32 := fun j => FloatOps.mulf (c j) (SC (ix4 (colOf (I j))))

theorem rect_lane (t : Fin 128) (off : Fin 1 → ℕ) (h : ∀ a, off a + S16.size a ≤ S2048.size a) (ho : off = ![16 * t.val]) (x : S16.Idx) :
    (Rect.unit (s := S2048) off S16.size h).emb x = ix (lane t (x 0)) := by
  subst ho
  funext a
  match a with
  | 0 => exact Fin.ext (by rw [Rect.emb_apply]; show 16 * t.val + 1 * (x 0).val = 16 * t.val + (x 0).val; omega)

/-- A coefficient table after one more trip's store. -/
theorem upto_store (t : Fin 128) (off : Fin 1 → ℕ) (h : ∀ a, off a + S16.size a ≤ S2048.size a) (ho : off = ![16 * t.val])
    (f g : Vec F S2048 .f32) (w : Vec F S16 .f32) (hw : ∀ k, w (ln k) = f (ix (lane t k))) :
    (∀ x, upto (t.val + 1) f g ((Rect.unit (s := S2048) off S16.size h).emb x) = w x)
      ∧ (∀ j, (∀ x, j ≠ (Rect.unit (s := S2048) off S16.size h).emb x) → upto (t.val + 1) f g j = upto t.val f g j) := by
  refine ⟨fun x => ?_, fun j hj => ?_⟩
  · rw [rect_lane t off h ho]
    refine (if_pos ?_).trans ((hw (x 0)).symm.trans (congrArg w (ln_eta x)))
    show 16 * t.val + (x 0).val < 16 * (t.val + 1)
    have : (x 0).val < 16 := (x 0).isLt
    omega
  · have : ¬ (16 * t.val ≤ (j 0).val ∧ (j 0).val < 16 * t.val + 16) := by
      rintro ⟨h1, h2⟩
      refine hj (ln ⟨(j 0).val - 16 * t.val, by omega⟩) ?_
      rw [rect_lane t off h ho]
      refine (ix_eta j).symm.trans (congrArg ix (Fin.ext ?_))
      show (j 0).val = 16 * t.val + ((j 0).val - 16 * t.val)
      omega
    unfold upto
    by_cases h1 : (j 0).val < 16 * t.val
    · rw [if_pos h1, if_pos (by omega)]
    · rw [if_neg h1, if_neg (by omega)]

/-- The payload of a coefficient store, lane by lane. -/
theorem coef_lane (c : Vec F S2048 .f32) (I : Vec F S2048 .i32) (SC : Vec F S4096 .f32) (t : Fin 128) (off : Fin 1 → ℕ)
    (h : ∀ a, off a + S16.size a ≤ S2048.size a) (ho : off = ![16 * t.val])
    (hi : ∀ a x, ((![fun x => I ((Rect.unit (s := S2048) off S16.size h).toLoadRect.idx x)] : Fin 1 → IVec S16 32) a x).toNat < S4096.size a) (k : Fin 16) :
    FloatOps.mulf (c ((Rect.unit (s := S2048) off S16.size h).toLoadRect.idx (ln k)))
        (loadIdx (F := F) (s := S4096) (e := .f32) SC ![fun x => I ((Rect.unit (s := S2048) off S16.size h).toLoadRect.idx x)] hi (ln k))
      = coef c I SC (ix (lane t k)) := by
  have e : idxAt (s := S4096) ![fun x => I ((Rect.unit (s := S2048) off S16.size h).toLoadRect.idx x)] hi (ln k) = ix4 (colOf (I (ix (lane t k)))) := by
    funext a
    match a with
    | 0 =>
      refine Fin.ext ?_
      have hlt : (I ((Rect.unit (s := S2048) off S16.size h).toLoadRect.idx (ln k))).toNat < 4096 := hi 0 (ln k)
      show (I ((Rect.unit (s := S2048) off S16.size h).toLoadRect.idx (ln k))).toNat = (colOf (I (ix (lane t k)))).val
      rw [idx_lane t off h ho] at hlt ⊢
      exact (colOf_val hlt).symm
  unfold coef
  show FloatOps.mulf _ (SC (idxAt (s := S4096) _ hi (ln k))) = _
  exact congrArg₂ FloatOps.mulf (congrArg c (idx_lane t off h ho k)) (congrArg SC e)

/-- A coefficient store. -/
theorem hold_coef {b : Memref sig .scVector .vmem S2048 .f32} (f g : Vec F S2048 .f32) (t : Fin 128) {off : Fin 1 → ℕ}
    {h : ∀ a, off a + S16.size a ≤ S2048.size a} (ho : off = ![16 * t.val]) (n : ℕ) (hn : n = t.val)
    {w : Vec F S16 .f32} {hx : (b.access (Rect.unit (s := S2048) off S16.size h)).Stores Finset.univ}
    {hm : (Finset.univ : Finset (Rect.unit (s := S2048) off S16.size h).shape.Idx) = Finset.univ ∨ ∀ a, (Rect.unit (s := S2048) off S16.size h).stride a = 1}
    {α : Type} {Q : α → sProp (MT nD τ sig (HIx 1) (Elt F) ℕ UU ℕ)} {k : PUnit → Prog (TpuEff nD τ sig (Elt F) Λ₀ (thr d L).2) α}
    (hw : ∀ k, w (ln k) = f (ix (lane t k))) :
    Hold d L b fullShare (upto n f g) ⊢ iprop((Hold d L b fullShare (upto (n + 1) f g) -∗ wp frame (wpE (defs₀ (F := F)) 𝒱₀ (thr d L) none) Set.univ (k ⟨⟩) Q)
      -∗ wp frame (wpE (defs₀ (F := F)) 𝒱₀ (thr d L) none) Set.univ (.op (.store b (Rect.unit (s := S2048) off S16.size h) w Finset.univ hx hm) k) Q) := by
  subst hn
  exact hold_store d L (upto_store t off h ho f g w hw).1 (upto_store t off h ho f g w hw).2

theorem t1_trips : k0_t1_loop.trips = 128 := by decide +kernel

variable (I0 I1 : Vec F S2048 .i32) (C Sn : Vec F S2048 .f32) (SC : Vec F S4096 .f32)

/-- The fetched tables. -/
def SrcHold : sProp 𝕄 :=
  iprop(Hold d L i0v fullShare I0 ∗ Hold d L i1v fullShare I1 ∗ Hold d L ccv fullShare C ∗ Hold d L ssv fullShare Sn ∗ Hold d L scv fullShare SC)

/-- The coefficient tables after `n` trips. -/
def CoefHold (g1 g2 g3 g4 : Vec F S2048 .f32) (n : ℕ) : sProp 𝕄 :=
  iprop(Hold d L av fullShare (upto n (coef C I0 SC) g1) ∗ Hold d L bv fullShare (upto n (coef Sn I1 SC) g2)
    ∗ Hold d L dv fullShare (upto n (coef Sn I0 SC) g3) ∗ Hold d L ev fullShare (upto n (coef C I1 SC) g4))

/-- The coefficient loop's trip. -/
abbrev coefTrip :=
  k0_t1_body (F := F) L xV (Memref.isWhole_whole _) gI0 (Memref.isWhole_whole _) gI1 (Memref.isWhole_whole _) gC (Memref.isWhole_whole _) gS (Memref.isWhole_whole _) gSc (Memref.isWhole_whole _) oV (Memref.isWhole_whole _) xb0 (Memref.isWhole_whole _) xb1 (Memref.isWhole_whole _) xb2 (Memref.isWhole_whole _) xb3 (Memref.isWhole_whole _) i0v (Memref.isWhole_whole _) i1v (Memref.isWhole_whole _) ccv (Memref.isWhole_whole _) ssv (Memref.isWhole_whole _) scv (Memref.isWhole_whole _) av (Memref.isWhole_whole _) bv (Memref.isWhole_whole _) dv (Memref.isWhole_whole _) ev (Memref.isWhole_whole _) cc0_scratch13 cc0_scratch14 cc0_scratch15 cc0_scratch16 cc0_scratch17 cc0_scratch18 cc0_scratch19 cc0_scratch20 cc0_scoped0 cc0_scoped1 cc0_scoped2 cc0_scoped3 cc0_scoped4

theorem chk1_ok {iv : IVec S16 32} (h : ∀ x, (iv x).toNat < 4096) : ∀ a x, ((![iv] : Fin 1 → IVec S16 32) a x).toNat < S4096.size a := by
  intro a x
  match a with
  | 0 => exact h x

set_option pp.maxSteps 250 in
theorem coef_trip (h0 : ∀ j, (I0 j).toNat < 4096) (h1 : ∀ j, (I1 j).toNat < 4096) (g1 g2 g3 g4 : Vec F S2048 .f32) (t : Fin k0_t1_loop.trips) (u : Unit) :
    iprop(SrcHold d L I0 I1 C Sn SC ∗ CoefHold d L I0 I1 C Sn SC g1 g2 g3 g4 t.val)
      ⊢ wp frame (wpE (defs₀ (F := F)) 𝒱₀ (thr d L) none) Set.univ (coefTrip L t u)
        fun _ => iprop(SrcHold d L I0 I1 C Sn SC ∗ CoefHold d L I0 I1 C Sn SC g1 g2 g3 g4 (t.val + 1)) := by
  unfold coefTrip k0_t1_body
  simp only [Prog.lift, Prog.bind_op, Prog.bind_ret, Prog.pure_eq_ret, Prog.bind_assoc]
  obtain ⟨t', rfl⟩ : ∃ t' : Fin 128, t = t'.cast t1_trips.symm := ⟨t.cast t1_trips, rfl⟩
  have ho := k0_off1_eq (t'.cast t1_trips.symm)
  have ho2 := k0_off2_eq (t'.cast t1_trips.symm)
  unfold SrcHold CoefHold
  iintro ⟨⟨Hi0, Hi1, Hc, Hs, Hsc⟩, Ha, Hb, Hd, He⟩
  iapply (hold_load d L) $$ Hi0
  iintro Hi0
  iapply (wp_assume 𝒱₀ (thr d L) none Set.univ (show k0_chk1 _ from chk1_ok fun _ => h0 _))
  iapply (hold_load d L) $$ Hi1
  iintro Hi1
  iapply (wp_assume 𝒱₀ (thr d L) none Set.univ (show k0_chk2 _ from chk1_ok fun _ => h1 _))
  iapply (hold_load d L) $$ Hc
  iintro Hc
  iapply (hold_load d L) $$ Hs
  iintro Hs
  iapply (hold_loadIdx d L) $$ Hsc
  iintro Hsc
  iapply (hold_loadIdx d L) $$ Hsc
  iintro Hsc
  iapply (hold_load d L) $$ Ha
  iintro Ha
  iapply (hold_coef d L (coef C I0 SC) g1 t' ho2 (t'.cast t1_trips.symm).val rfl ?hw0) $$ Ha
  case hw0 => exact fun k => coef_lane C I0 SC t' _ _ ho _ k
  iintro Ha
  iapply (hold_load d L) $$ Hb
  iintro Hb
  iapply (hold_coef d L (coef Sn I1 SC) g2 t' ho2 (t'.cast t1_trips.symm).val rfl ?hw1) $$ Hb
  case hw1 => exact fun k => coef_lane Sn I1 SC t' _ _ ho _ k
  iintro Hb
  iapply (hold_load d L) $$ Hd
  iintro Hd
  iapply (hold_coef d L (coef Sn I0 SC) g3 t' ho2 (t'.cast t1_trips.symm).val rfl ?hw2) $$ Hd
  case hw2 => exact fun k => coef_lane Sn I0 SC t' _ _ ho _ k
  iintro Hd
  iapply (hold_load d L) $$ He
  iintro He
  iapply (hold_coef d L (coef C I1 SC) g4 t' ho2 (t'.cast t1_trips.symm).val rfl ?hw3) $$ He
  case hw3 => exact fun k => coef_lane C I1 SC t' _ _ ho _ k
  iintro He
  rw [wp_ret]
  imodintro
  isplitl [Hi0 Hi1 Hc Hs Hsc]
  · isplitl [Hi0]; · iexact Hi0
    isplitl [Hi1]; · iexact Hi1
    isplitl [Hc]; · iexact Hc
    isplitl [Hs]; · iexact Hs
    iexact Hsc
  · isplitl [Ha]; · iexact Ha
    isplitl [Hb]; · iexact Hb
    isplitl [Hd]; · iexact Hd
    iexact He

/-- The whole coefficient loop. -/
theorem coef_loop (h0 : ∀ j, (I0 j).toNat < 4096) (h1 : ∀ j, (I1 j).toNat < 4096)
    {α : Type} {Q : α → sProp (MT nD τ sig (HIx 1) (Elt F) ℕ UU ℕ)} {k : Unit → Prog (TpuEff nD τ sig (Elt F) Λ₀ (thr d L).2) α} :
    iprop(SrcHold d L I0 I1 C Sn SC ∗ Free (F := F) d L av ∗ Free (F := F) d L bv ∗ Free (F := F) d L dv ∗ Free (F := F) d L ev)
      ⊢ iprop((iprop(TabHold d L I0 I1 (coef C I0 SC) (coef Sn I1 SC) (coef Sn I0 SC) (coef C I1 SC) ∗ Hold d L ccv fullShare C ∗ Hold d L ssv fullShare Sn ∗ Hold d L scv fullShare SC)
          -∗ wp frame (wpE (defs₀ (F := F)) 𝒱₀ (thr d L) none) Set.univ (k ⟨⟩) Q)
        -∗ wp frame (wpE (defs₀ (F := F)) 𝒱₀ (thr d L) none) Set.univ (Scf.Loop.for k0_t1_loop k0_t1_ok ⟨⟩ (coefTrip L) >>= k) Q) := by
  iintro ⟨HS, Ha, Hb, Hd, He⟩ Hk
  ihave Ha := (Free.hold d L av) $$ Ha
  icases Ha with ⟨%g1, Ha⟩
  ihave Hb := (Free.hold d L bv) $$ Hb
  icases Hb with ⟨%g2, Hb⟩
  ihave Hd := (Free.hold d L dv) $$ Hd
  icases Hd with ⟨%g3, Hd⟩
  ihave He := (Free.hold d L ev) $$ He
  icases He with ⟨%g4, He⟩
  iapply (Scf.wp_for_bind frame (wpE (defs₀ (F := F)) 𝒱₀ (thr d L) none) Set.univ k0_t1_loop.lb k0_t1_loop.ub k0_t1_loop.st k0_t1_ok ⟨⟩ (coefTrip L)
    (fun n _ => iprop(SrcHold d L I0 I1 C Sn SC ∗ CoefHold d L I0 I1 C Sn SC g1 g2 g3 g4 n))
    (fun t u => coef_trip d L I0 I1 C Sn SC h0 h1 g1 g2 g3 g4 t u) (kk := k)) $$ [HS Ha Hb Hd He]
  · isplitl [HS]; · iexact HS
    unfold CoefHold
    rw [upto_zero, upto_zero, upto_zero, upto_zero]
    isplitl [Ha]; · iexact Ha
    isplitl [Hb]; · iexact Hb
    isplitl [Hd]; · iexact Hd
    iexact He
  · iintro %u H
    rw [show Scf.trips k0_t1_loop.lb k0_t1_loop.ub k0_t1_loop.st = 128 from t1_trips]
    unfold SrcHold CoefHold
    rw [upto_all, upto_all, upto_all, upto_all]
    icases H with ⟨⟨Hi0, Hi1, Hc, Hs, Hsc⟩, Ha, Hb, Hd, He⟩
    iapply Hk
    isplitr [Hc Hs Hsc]
    · unfold TabHold
      isplitl [Hi0]; · iexact Hi0
      isplitl [Hi1]; · iexact Hi1
      isplitl [Ha]; · iexact Ha
      isplitl [Hb]; · iexact Hb
      isplitl [Hd]; · iexact Hd
      iexact He
    · isplitl [Hc]; · iexact Hc
      isplitl [Hs]; · iexact Hs
      iexact Hsc

end Cert.Proof.Tile
-- ==== Proof.Trip.lean ====
/-
  A trip of the outer loop: four chunks, one for each buffer, with the copies that are in flight before and after it.
-/
module

public import proofs.«01_k».proof.Proof.Ring
public import proofs.«01_k».proof.Proof.Coef

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.ShloMosaic.Transfers (Flight Flight_mono)
open Idealize.SL Idealize.SL.RA Idealize.SL.BI
open scoped Idealize.SL.BI
open Idealize.SL.BI.BIBase Idealize.SL.BI.Laws Idealize.SL.ProofMode Idealize.SL.Sem
open Cert.Proof.Spec

variable {F : FTy → Type}

local notation "𝕄" => MT nD τ sig (HIx 1) (Elt F) ℕ UU ℕ

variable (d : Dev nD) (L : grid0.Coords)

section States
variable (q : PosShare TreeShare) (X : Vec F S8192x4096 .f32) (R : Vec F S3584x4096 .f32) (b : Memref sig .scVector .vmem S4x4096 .f32) (sm : DmaSem sig)

/-- Buffer `b` with the copy of chunk `n` into it in flight; free past the last chunk. -/
def InS (n : ℕ) : sProp 𝕄 :=
  if h : n < 28 then InFl d L q X b sm ⟨n, h⟩ else iprop(Arg d L q X ∗ Free d L b ∗ semVal (thr d L, .dma sm) 0)

/-- Buffer `b` with the copy of the chunk before `n` out of it in flight; free before the first. -/
def OutS (n : ℕ) : sProp 𝕄 :=
  if h : 0 < n ∧ n - 1 < 28 then OutFl d L R b sm ⟨n - 1, h.2⟩ else iprop(Free d L b ∗ semVal (thr d L, .dma sm) 0)

theorem InS.pos {n : ℕ} (h : n < 28) : InS d L q X b sm n = InFl d L q X b sm ⟨n, h⟩ := dif_pos h
theorem InS.neg {n : ℕ} (h : ¬ n < 28) : InS d L q X b sm n = iprop(Arg d L q X ∗ Free d L b ∗ semVal (thr d L, .dma sm) 0) := dif_neg h
theorem OutS.pos {n : ℕ} (h : 0 < n ∧ n - 1 < 28) : OutS d L R b sm n = OutFl d L R b sm ⟨n - 1, h.2⟩ := dif_pos h
theorem OutS.neg {n : ℕ} (h : ¬ (0 < n ∧ n - 1 < 28)) : OutS d L R b sm n = iprop(Free d L b ∗ semVal (thr d L, .dma sm) 0) := dif_neg h

end States

variable [FloatOps F]

theorem cond_bind {c : Prop} [Decidable c] {α β : Type} {κ : Proc τ} {t : c → Prog (TpuEff nD τ sig (Elt F) Λ₀ κ) α} {e : ¬ c → Prog (TpuEff nD τ sig (Elt F) Λ₀ κ) α}
    {k : α → Prog (TpuEff nD τ sig (Elt F) Λ₀ κ) β} : (dite c t e >>= k) = dite c (fun h => t h >>= k) (fun h => e h >>= k) := by
  by_cases h : c
  · rw [dif_pos h, dif_pos h]
  · rw [dif_neg h, dif_neg h]

theorem t6_eq : k0_t6_body (F := F) L xV (Memref.isWhole_whole _) gI0 (Memref.isWhole_whole _) gI1 (Memref.isWhole_whole _) gC (Memref.isWhole_whole _) gS (Memref.isWhole_whole _) gSc (Memref.isWhole_whole _) oV (Memref.isWhole_whole _) xb0 (Memref.isWhole_whole _) xb1 (Memref.isWhole_whole _) xb2 (Memref.isWhole_whole _) xb3 (Memref.isWhole_whole _) i0v (Memref.isWhole_whole _) i1v (Memref.isWhole_whole _) ccv (Memref.isWhole_whole _) ssv (Memref.isWhole_whole _) scv (Memref.isWhole_whole _) av (Memref.isWhole_whole _) bv (Memref.isWhole_whole _) dv (Memref.isWhole_whole _) ev (Memref.isWhole_whole _) cc0_scratch13 cc0_scratch14 cc0_scratch15 cc0_scratch16 cc0_scratch17 cc0_scratch18 cc0_scratch19 cc0_scratch20 cc0_scoped0 cc0_scoped1 cc0_scoped2 cc0_scoped3 cc0_scoped4
    = pairTrip L xb3 (Memref.isWhole_whole _) := rfl

section Conds
variable {β : Type} {Q : β → sProp (MT nD τ sig (HIx 1) (Elt F) ℕ UU ℕ)} {p : Prog (TpuEff nD τ sig (Elt F) Λ₀ (thr d L).2) β} {c : Prop} [Decidable c] {q : PosShare TreeShare}

/-- The next copy into a free buffer, where there is one. -/
theorem in_start_if (X : Vec F S8192x4096 .f32) (b : Memref sig .scVector .vmem S4x4096 .f32) (sm : DmaSem sig) (n : ℕ) (hc : c ↔ n < 28)
    {off : Fin 2 → ℕ} {ho : ∀ _ : c, ∀ a, off a + S4x4096.size a ≤ S8192x4096.size a} {hp : ∀ h : c, ∀ a, (Rect.unit (s := S8192x4096) off S4x4096.size (ho h)).stride a = 1}
    (hoff : off = ![row0 L + 4 * n, 0]) {h1 : ∀ h : c, (xV.slice (Rect.unit (s := S8192x4096) off S4x4096.size (ho h)) (hp h)).view.WordExact} {h2 : b.view.WordExact}
    {h3 : DmaTarget.Typed (nD := nD) .hbm (.dma sm) (.here (τ := τ) (p := .scVector ((L 0).castLE hcore0) ((L 1).castLE hsub0)) b)} :
    iprop(Arg d L q X ∗ Free d L b ∗ semVal (thr d L, .dma sm) 0)
      ⊢ iprop((InS d L q X b sm n -∗ wp frame (wpE (defs₀ (F := F)) 𝒱₀ (thr d L) none) Set.univ p Q)
        -∗ wp frame (wpE (defs₀ (F := F)) 𝒱₀ (thr d L) none) Set.univ
          (dite c (fun h => .op (.enqueueDma (xV.slice (Rect.unit (s := S8192x4096) off S4x4096.size (ho h)) (hp h)) (.here b) (.dma sm) (h1 h) h2 h3) fun _ => p) fun _ => p) Q) := by
  by_cases h : c
  · rw [dif_pos h, InS.pos d L q X b sm (hc.mp h)]
    exact in_start d L (k' := fun _ => p) X b sm ⟨n, hc.mp h⟩ hoff
  · rw [dif_neg h, InS.neg d L q X b sm (fun hn => h (hc.mpr hn))]
    iintro H Hk
    iapply Hk $$ H

/-- The wait for the copy out of a buffer that the trip before started, where there is one. -/
theorem out_wait_if {O : CellTallies nD τ sig (HIx 1)} {W : Waits sig (HIx 1)} (hO : ∀ g, O g none = 0)
    (R O' : Vec F S3584x4096 .f32) (b : Memref sig .scVector .vmem S4x4096 .f32) (sm : DmaSem sig) (n : ℕ) (hn : n ≤ 28) (hc : c ↔ 0 < n)
    {off : Fin 2 → ℕ} {ho : ∀ _ : c, ∀ a, off a + S4x4096.size a ≤ S3584x4096.size a} {hp : ∀ h : c, ∀ a, (Rect.unit (s := S3584x4096) off S4x4096.size (ho h)).stride a = 1}
    {h1 : b.view.WordExact} {h2 : ∀ h : c, (oV.slice (Rect.unit (s := S3584x4096) off S4x4096.size (ho h)) (hp h)).view.WordExact} :
    iprop(levAts (K (F := F)).L (K (F := F)).lev ∗ OutS d L R b sm n ∗ Book d L R O' (n - 1) n ∗ Owes d L O W)
      ⊢ iprop((iprop(Free d L b ∗ semVal (thr d L, .dma sm) 0 ∗ Book d L R O' n n ∗ Owes d L O W) -∗ wp frame (wpE (defs₀ (F := F)) 𝒱₀ (thr d L) none) Set.univ p Q)
        -∗ wp frame (wpE (defs₀ (F := F)) 𝒱₀ (thr d L) none) Set.univ
          (dite c (fun h => .op (.waitDma2 sm b (oV.slice (Rect.unit (s := S3584x4096) off S4x4096.size (ho h)) (hp h)) h1 (h2 h)) fun _ => p) fun _ => p) Q) := by
  by_cases h : c
  · have h0 := hc.mp h
    rw [dif_pos h, OutS.pos d L R b sm ⟨h0, by omega⟩]
    iintro ⟨#Hlv, Hf, Hbk, HO⟩ Hk
    iapply (out_wait d L (k' := fun _ => p) (O := O) (W := W) hO R b sm ⟨n - 1, by omega⟩) $$ [Hf HO]
    · isplitr; · iexact Hlv
      isplitl [Hf]; · iexact Hf
      iexact HO
    iintro ⟨Hb, Hc, Hs, HO⟩
    iapply Hk
    isplitl [Hb]; · iexact Hb
    isplitl [Hs]; · iexact Hs
    isplitr [HO]
    · ihave Hg := (Book.give d L R O' (n - 1) n ⟨n - 1, by omega⟩ rfl (by omega)) $$ [Hc Hbk]
      · isplitl [Hc]; · iexact Hc
        iexact Hbk
      rw [show n - 1 + 1 = n by omega]
      iexact Hg
    · iexact HO
  · have h0 : ¬ 0 < n := fun hn => h (hc.mpr hn)
    obtain rfl : n = 0 := by omega
    rw [dif_neg h, OutS.neg d L R b sm (fun H => h0 H.1)]
    iintro ⟨#Hlv, ⟨Hb, Hs⟩, Hbk, HO⟩ Hk
    iapply Hk
    isplitl [Hb]; · iexact Hb
    isplitl [Hs]; · iexact Hs
    isplitl [Hbk]; · iexact Hbk
    iexact HO

end Conds

theorem cond1_iff : ∀ t : Fin k0_t2_loop.trips, k0_cond1 t = 1#1 ↔ 0 < 4 * t.val := by decide +kernel
theorem cond2_true : ∀ t : Fin k0_t2_loop.trips, k0_cond2 t = 1#1 := by decide +kernel
theorem cond3_true : ∀ t : Fin k0_t2_loop.trips, k0_cond3 t = 1#1 := by decide +kernel
theorem cond4_iff : ∀ t : Fin k0_t2_loop.trips, k0_cond4 t = 1#1 ↔ 4 * (t.val + 1) < 28 := by decide +kernel
theorem cond5_true : ∀ t : Fin k0_t2_loop.trips, k0_cond5 t = 1#1 := by decide +kernel
theorem cond6_iff : ∀ t : Fin k0_t2_loop.trips, k0_cond6 t = 1#1 ↔ 4 * (t.val + 1) + 1 < 28 := by decide +kernel
theorem cond7_true : ∀ t : Fin k0_t2_loop.trips, k0_cond7 t = 1#1 := by decide +kernel
theorem cond8_iff : ∀ t : Fin k0_t2_loop.trips, k0_cond8 t = 1#1 ↔ 4 * (t.val + 1) + 2 < 28 := by decide +kernel
theorem t2_trips : k0_t2_loop.trips = 7 := by decide +kernel

variable (q0 q1 q2 q3 : PosShare TreeShare) (X : Vec F S8192x4096 .f32) (O' : Vec F S3584x4096 .f32) (I0 I1 : Vec F S2048 .i32) (A B Dd E : Vec F S2048 .f32)
variable (O : CellTallies nD τ sig (HIx 1)) (W : Waits sig (HIx 1))

abbrev outT : Vec F S3584x4096 .f32 := outOf (tabOf I0 I1 A B Dd E) X

/-! ## Where the chunks lie -/

theorem vec_eq {a b : ℕ} (h : a = b) : (![a, 0] : Fin 2 → ℕ) = ![b, 0] := by rw [h]

variable (t : Fin k0_t2_loop.trips)
omit [FloatOps F] in
theorem at5 : k0_off5 L t = ![row0 L + 4 * (4 * t.val + 3), 0] := (k0_off5_eq L t).trans (vec_eq (by unfold row0; omega))
omit [FloatOps F] in
theorem at8 (r : Fin 4) (w : BitVec 32) (hw : w = BitVec.ofNat 32 r.val) : k0_off8 L t w = ![row0 L + 4 * (4 * t.val + r.val), 0] := by
  rw [hw]; exact (k0_off8_eq L t r).trans (vec_eq (by unfold row0; omega))
omit [FloatOps F] in
theorem at10 : k0_off10 L t = ![row0 L + 4 * (4 * (t.val + 1)), 0] := (k0_off10_eq L t).trans (vec_eq (by unfold row0; omega))
omit [FloatOps F] in
theorem at13 : k0_off13 L t = ![row0 L + 4 * (4 * (t.val + 1) + 1), 0] := (k0_off13_eq L t).trans (vec_eq (by unfold row0; omega))
omit [FloatOps F] in
theorem at16 : k0_off16 L t = ![row0 L + 4 * (4 * (t.val + 1) + 2), 0] := (k0_off16_eq L t).trans (vec_eq (by unfold row0; omega))

/-- The state before trip `g`. -/
def Inv (g : ℕ) : sProp 𝕄 :=
  iprop(levAts (K (F := F)).L (K (F := F)).lev ∗ TabHold d L I0 I1 A B Dd E
    ∗ InS d L q0 X xb0 cc0_scratch13.sem (4 * g) ∗ InS d L q1 X xb1 cc0_scratch14.sem (4 * g + 1) ∗ InS d L q2 X xb2 cc0_scratch15.sem (4 * g + 2)
    ∗ (Arg d L q3 X ∗ semVal (thr d L, .dma cc0_scratch16.sem) 0)
    ∗ (semVal (thr d L, .dma cc0_scratch17.sem) 0 ∗ semVal (thr d L, .dma cc0_scratch18.sem) 0 ∗ semVal (thr d L, .dma cc0_scratch19.sem) 0)
    ∗ OutS d L (outT X I0 I1 A B Dd E) xb3 cc0_scratch20.sem (4 * g)
    ∗ Book d L (outT X I0 I1 A B Dd E) O' (4 * g - 1) (4 * g) ∗ Owes d L O W)

abbrev ringTrip (v3 : BitVec 32) :=
  k0_t2_body (F := F) L xV (Memref.isWhole_whole _) gI0 (Memref.isWhole_whole _) gI1 (Memref.isWhole_whole _) gC (Memref.isWhole_whole _) gS (Memref.isWhole_whole _) gSc (Memref.isWhole_whole _) oV (Memref.isWhole_whole _) xb0 (Memref.isWhole_whole _) xb1 (Memref.isWhole_whole _) xb2 (Memref.isWhole_whole _) xb3 (Memref.isWhole_whole _) i0v (Memref.isWhole_whole _) i1v (Memref.isWhole_whole _) ccv (Memref.isWhole_whole _) ssv (Memref.isWhole_whole _) scv (Memref.isWhole_whole _) av (Memref.isWhole_whole _) bv (Memref.isWhole_whole _) dv (Memref.isWhole_whole _) ev (Memref.isWhole_whole _) cc0_scratch13 cc0_scratch14 cc0_scratch15 cc0_scratch16 cc0_scratch17 cc0_scratch18 cc0_scratch19 cc0_scratch20 cc0_scoped0 cc0_scoped1 cc0_scoped2 cc0_scoped3 cc0_scoped4 v3

set_option maxHeartbeats 4000000 in
/-- One trip of the outer loop. -/
theorem ring_trip (hO : ∀ g, O g none = 0) (h0 : ∀ j, (I0 j).toNat < 4096) (h1 : ∀ j, (I1 j).toNat < 4096) (v3 : BitVec 32) (t : Fin k0_t2_loop.trips) (u : Unit) :
    Inv d L q0 q1 q2 q3 X O' I0 I1 A B Dd E O W t.val
      ⊢ wp frame (wpE (defs₀ (F := F)) 𝒱₀ (thr d L) none) Set.univ (ringTrip L v3 t u) fun _ => Inv d L q0 q1 q2 q3 X O' I0 I1 A B Dd E O W (t.val + 1) := by
  have ht : t.val < 7 := lt_of_lt_of_eq t.isLt t2_trips
  unfold ringTrip k0_t2_body
  simp only [k0_part5_eq_skeleton, k0_part6_eq_skeleton]
  unfold k0_part5_skel k0_part6_skel
  simp only [Prog.lift, Prog.bind_op, Prog.bind_ret, Prog.pure_eq_ret, Prog.bind_assoc, cond_bind, cond2_true, cond3_true, cond5_true, cond7_true, ↓reduceDIte, t3_eq, t4_eq, t5_eq, t6_eq]
  unfold Inv
  iintro ⟨#Hlv, Ht, Hi0, Hi1, Hi2, ⟨Hx3, Hs3⟩, ⟨Ho0, Ho1, Ho2⟩, Ho3, Hbk, HO⟩
  -- the copy of the trip before out of the last buffer, then the last chunk of this trip into it
  iapply (out_wait_if d L (O := O) (W := W) hO (outT X I0 I1 A B Dd E) O' xb3 cc0_scratch20.sem (4 * t.val) (by omega) (cond1_iff t)) $$ [Ho3 Hbk HO]
  · isplitr; · iexact Hlv
    isplitl [Ho3]; · iexact Ho3
    isplitl [Hbk]; · iexact Hbk
    iexact HO
  iintro ⟨Hb3, Ho3, Hbk, HO⟩
  iapply (in_start d L X xb3 cc0_scratch16.sem ⟨4 * t.val + 3, by omega⟩ (at5 L t)) $$ [Hx3 Hb3 Hs3]
  · isplitl [Hx3]; · iexact Hx3
    isplitl [Hb3]; · iexact Hb3
    iexact Hs3
  iintro Hi3
  -- chunk 0 of the trip
  ihave Hi0 := (Entails.of_eq (InS.pos d L q0 X xb0 cc0_scratch13.sem (n := 4 * t.val) (by omega))) $$ Hi0
  iapply (in_wait d L (O := O) (W := W) hO X xb0 cc0_scratch13.sem ⟨4 * t.val, by omega⟩) $$ [Hi0 HO]
  · isplitr; · iexact Hlv
    isplitl [Hi0]; · iexact Hi0
    iexact HO
  iintro ⟨Hx0, Hb0, Hs0, HO⟩
  iapply (pair_loop d L I0 I1 A B Dd E h0 h1 xb0 (Memref.isWhole_whole _) _) $$ [Ht Hb0]
  · isplitl [Ht]; · iexact Ht
    iexact Hb0
  iintro ⟨Ht, Hb0⟩
  ihave Hbk := (Book.take d L (outT X I0 I1 A B Dd E) O' (4 * t.val + 0) (4 * t.val + 0) ⟨4 * t.val + 0, by omega⟩ rfl le_rfl) $$ Hbk
  icases Hbk with ⟨Hc, Hbk⟩
  iapply (out_start d L (tabOf I0 I1 A B Dd E) X O' xb0 cc0_scratch17.sem ⟨4 * t.val + 0, by omega⟩ (at8 L t 0 _ rfl)) $$ [Hb0 Hc Ho0]
  · isplitl [Hb0]; · iexact Hb0
    isplitl [Hc]; · iexact Hc
    iexact Ho0
  iintro Ho0
  iapply (out_wait d L (O := O) (W := W) hO (outT X I0 I1 A B Dd E) xb0 cc0_scratch17.sem ⟨4 * t.val + 0, by omega⟩) $$ [Ho0 HO]
  · isplitr; · iexact Hlv
    isplitl [Ho0]; · iexact Ho0
    iexact HO
  iintro ⟨Hb0, Hc, Ho0, HO⟩
  ihave Hbk := (Book.give d L (outT X I0 I1 A B Dd E) O' (4 * t.val + 0) (4 * t.val + 0 + 1) ⟨4 * t.val + 0, by omega⟩ rfl (by omega)) $$ [Hc Hbk]
  · isplitl [Hc]; · iexact Hc
    iexact Hbk
  iapply (in_start_if d L X xb0 cc0_scratch13.sem (4 * (t.val + 1)) (cond4_iff t) (at10 L t)) $$ [Hx0 Hb0 Hs0]
  · isplitl [Hx0]; · iexact Hx0
    isplitl [Hb0]; · iexact Hb0
    iexact Hs0
  iintro Hi0
  -- chunk 1 of the trip
  ihave Hi1 := (Entails.of_eq (InS.pos d L q1 X xb1 cc0_scratch14.sem (n := 4 * t.val + 1) (by omega))) $$ Hi1
  iapply (in_wait d L (O := O) (W := W) hO X xb1 cc0_scratch14.sem ⟨4 * t.val + 1, by omega⟩) $$ [Hi1 HO]
  · isplitr; · iexact Hlv
    isplitl [Hi1]; · iexact Hi1
    iexact HO
  iintro ⟨Hx1, Hb1, Hs1, HO⟩
  iapply (pair_loop d L I0 I1 A B Dd E h0 h1 xb1 (Memref.isWhole_whole _) _) $$ [Ht Hb1]
  · isplitl [Ht]; · iexact Ht
    iexact Hb1
  iintro ⟨Ht, Hb1⟩
  ihave Hbk := (Book.take d L (outT X I0 I1 A B Dd E) O' (4 * t.val + 1) (4 * t.val + 1) ⟨4 * t.val + 1, by omega⟩ rfl le_rfl) $$ Hbk
  icases Hbk with ⟨Hc, Hbk⟩
  iapply (out_start d L (tabOf I0 I1 A B Dd E) X O' xb1 cc0_scratch18.sem ⟨4 * t.val + 1, by omega⟩ (at8 L t 1 _ rfl)) $$ [Hb1 Hc Ho1]
  · isplitl [Hb1]; · iexact Hb1
    isplitl [Hc]; · iexact Hc
    iexact Ho1
  iintro Ho1
  iapply (out_wait d L (O := O) (W := W) hO (outT X I0 I1 A B Dd E) xb1 cc0_scratch18.sem ⟨4 * t.val + 1, by omega⟩) $$ [Ho1 HO]
  · isplitr; · iexact Hlv
    isplitl [Ho1]; · iexact Ho1
    iexact HO
  iintro ⟨Hb1, Hc, Ho1, HO⟩
  ihave Hbk := (Book.give d L (outT X I0 I1 A B Dd E) O' (4 * t.val + 1) (4 * t.val + 1 + 1) ⟨4 * t.val + 1, by omega⟩ rfl (by omega)) $$ [Hc Hbk]
  · isplitl [Hc]; · iexact Hc
    iexact Hbk
  iapply (in_start_if d L X xb1 cc0_scratch14.sem (4 * (t.val + 1) + 1) (cond6_iff t) (at13 L t)) $$ [Hx1 Hb1 Hs1]
  · isplitl [Hx1]; · iexact Hx1
    isplitl [Hb1]; · iexact Hb1
    iexact Hs1
  iintro Hi1
  -- chunk 2 of the trip
  ihave Hi2 := (Entails.of_eq (InS.pos d L q2 X xb2 cc0_scratch15.sem (n := 4 * t.val + 2) (by omega))) $$ Hi2
  iapply (in_wait d L (O := O) (W := W) hO X xb2 cc0_scratch15.sem ⟨4 * t.val + 2, by omega⟩) $$ [Hi2 HO]
  · isplitr; · iexact Hlv
    isplitl [Hi2]; · iexact Hi2
    iexact HO
  iintro ⟨Hx2, Hb2, Hs2, HO⟩
  iapply (pair_loop d L I0 I1 A B Dd E h0 h1 xb2 (Memref.isWhole_whole _) _) $$ [Ht Hb2]
  · isplitl [Ht]; · iexact Ht
    iexact Hb2
  iintro ⟨Ht, Hb2⟩
  ihave Hbk := (Book.take d L (outT X I0 I1 A B Dd E) O' (4 * t.val + 2) (4 * t.val + 2) ⟨4 * t.val + 2, by omega⟩ rfl le_rfl) $$ Hbk
  icases Hbk with ⟨Hc, Hbk⟩
  iapply (out_start d L (tabOf I0 I1 A B Dd E) X O' xb2 cc0_scratch19.sem ⟨4 * t.val + 2, by omega⟩ (at8 L t 2 _ rfl)) $$ [Hb2 Hc Ho2]
  · isplitl [Hb2]; · iexact Hb2
    isplitl [Hc]; · iexact Hc
    iexact Ho2
  iintro Ho2
  iapply (out_wait d L (O := O) (W := W) hO (outT X I0 I1 A B Dd E) xb2 cc0_scratch19.sem ⟨4 * t.val + 2, by omega⟩) $$ [Ho2 HO]
  · isplitr; · iexact Hlv
    isplitl [Ho2]; · iexact Ho2
    iexact HO
  iintro ⟨Hb2, Hc, Ho2, HO⟩
  ihave Hbk := (Book.give d L (outT X I0 I1 A B Dd E) O' (4 * t.val + 2) (4 * t.val + 2 + 1) ⟨4 * t.val + 2, by omega⟩ rfl (by omega)) $$ [Hc Hbk]
  · isplitl [Hc]; · iexact Hc
    iexact Hbk
  iapply (in_start_if d L X xb2 cc0_scratch15.sem (4 * (t.val + 1) + 2) (cond8_iff t) (at16 L t)) $$ [Hx2 Hb2 Hs2]
  · isplitl [Hx2]; · iexact Hx2
    isplitl [Hb2]; · iexact Hb2
    iexact Hs2
  iintro Hi2
  -- chunk 3 of the trip
  iapply (in_wait d L (O := O) (W := W) hO X xb3 cc0_scratch16.sem ⟨4 * t.val + 3, by omega⟩) $$ [Hi3 HO]
  · isplitr; · iexact Hlv
    isplitl [Hi3]; · iexact Hi3
    iexact HO
  iintro ⟨Hx3, Hb3, Hs3, HO⟩
  iapply (pair_loop d L I0 I1 A B Dd E h0 h1 xb3 (Memref.isWhole_whole _) _) $$ [Ht Hb3]
  · isplitl [Ht]; · iexact Ht
    iexact Hb3
  iintro ⟨Ht, Hb3⟩
  ihave Hbk := (Book.take d L (outT X I0 I1 A B Dd E) O' (4 * t.val + 3) (4 * t.val + 3) ⟨4 * t.val + 3, by omega⟩ rfl le_rfl) $$ Hbk
  icases Hbk with ⟨Hc, Hbk⟩
  iapply (out_start d L (tabOf I0 I1 A B Dd E) X O' xb3 cc0_scratch20.sem ⟨4 * t.val + 3, by omega⟩ (at8 L t 3 _ rfl)) $$ [Hb3 Hc Ho3]
  · isplitl [Hb3]; · iexact Hb3
    isplitl [Hc]; · iexact Hc
    iexact Ho3
  iintro Ho3
  rw [wp_ret]; imodintro
  isplitr; · iexact Hlv
  isplitl [Ht]; · iexact Ht
  isplitl [Hi0]; · iexact Hi0
  isplitl [Hi1]; · iexact Hi1
  isplitl [Hi2]; · iexact Hi2
  isplitl [Hx3 Hs3]
  · isplitl [Hx3]; · iexact Hx3
    iexact Hs3
  isplitl [Ho0 Ho1 Ho2]
  · isplitl [Ho0]; · iexact Ho0
    isplitl [Ho1]; · iexact Ho1
    iexact Ho2
  isplitl [Ho3]
  · iapply (Entails.of_eq (OutS.pos d L _ xb3 cc0_scratch20.sem (n := 4 * (t.val + 1)) ⟨by omega, by omega⟩).symm)
    iexact Ho3
  isplitl [Hbk]; · iexact Hbk
  iexact HO

end Cert.Proof.Tile
-- ==== Proof.Body.lean ====
/-
  A task of the call: the tables fetched, the coefficients computed, the ring of copies over the task's 28 chunks.
-/
module

public import proofs.«01_k».proof.Proof.Trip

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.ShloMosaic.Transfers (Flight Flight_mono)
open Idealize.SL Idealize.SL.RA Idealize.SL.BI
open scoped Idealize.SL.BI
open Idealize.SL.BI.BIBase Idealize.SL.BI.Laws Idealize.SL.ProofMode Idealize.SL.Sem
open Cert.Proof.Spec

variable {F : FTy → Type}

local notation "𝕄" => MT nD τ sig (HIx 1) (Elt F) ℕ UU ℕ

variable (d : Dev nD) (L : grid0.Coords)

/-! ## The task's own storage -/

abbrev own13 : Finset (Ref sig .scVector) := {cc0_scratch0, cc0_scratch1, cc0_scratch2, cc0_scratch3, cc0_scratch4, cc0_scratch5, cc0_scratch6, cc0_scratch7, cc0_scratch8, cc0_scratch9, cc0_scratch10, cc0_scratch11, cc0_scratch12}
abbrev sems13 : Finset (SemLoc sig) := {.dma cc0_scratch13.sem, .dma cc0_scratch14.sem, .dma cc0_scratch15.sem, .dma cc0_scratch16.sem, .dma cc0_scratch17.sem, .dma cc0_scratch18.sem, .dma cc0_scratch19.sem, .dma cc0_scratch20.sem, .dma cc0_scoped0.sem, .dma cc0_scoped1.sem, .dma cc0_scoped2.sem, .dma cc0_scoped3.sem, .dma cc0_scoped4.sem}

/-- A task's semaphore at zero. -/
abbrev Sem0 (s : DmaSems sig S_) : sProp 𝕄 := semVal (thr d L, .dma s.sem) 0

/-- One of the task's buffers, whatever it holds. -/
abbrev Own1 (r : Ref sig .scVector) : sProp 𝕄 := iprop(∃ f, ((d, (Proc.scVector (cV L) (jV L)).devRef r) : Loc nD τ sig) ↦{fullShare} f)

theorem own13_split (P : Ref sig .scVector → sProp 𝕄) : bigSep own13 P = iprop(P cc0_scratch0 ∗ P cc0_scratch1 ∗ P cc0_scratch2 ∗ P cc0_scratch3 ∗ P cc0_scratch4 ∗ P cc0_scratch5 ∗ P cc0_scratch6 ∗ P cc0_scratch7 ∗ P cc0_scratch8 ∗ P cc0_scratch9 ∗ P cc0_scratch10 ∗ P cc0_scratch11 ∗ P cc0_scratch12) := by
  unfold own13
  repeat rw [SparseCore.bigSep_insert' (by decide)]
  rw [bigSep_singleton]

theorem sems13_split (P : SemLoc sig → sProp 𝕄) : bigSep sems13 P = iprop(P (.dma cc0_scratch13.sem) ∗ P (.dma cc0_scratch14.sem) ∗ P (.dma cc0_scratch15.sem) ∗ P (.dma cc0_scratch16.sem) ∗ P (.dma cc0_scratch17.sem) ∗ P (.dma cc0_scratch18.sem) ∗ P (.dma cc0_scratch19.sem) ∗ P (.dma cc0_scratch20.sem) ∗ P (.dma cc0_scoped0.sem) ∗ P (.dma cc0_scoped1.sem) ∗ P (.dma cc0_scoped2.sem) ∗ P (.dma cc0_scoped3.sem) ∗ P (.dma cc0_scoped4.sem)) := by
  unfold sems13
  repeat rw [SparseCore.bigSep_insert' (by decide)]
  rw [bigSep_singleton]

theorem own13_sub : own13.image (Proc.scVector (cV L) (jV L)).devRef ⊆ ownRefs (τ := τ) (.scVector (cV L) (jV L)) := by
  intro b hb
  obtain ⟨r, hr, rfl⟩ := Finset.mem_image.mp hb
  clear hb
  refine SparseCore.Cfg.mem_ownRefs_of_owner ?_
  simp only [own13, Finset.mem_insert, Finset.mem_singleton] at hr
  rcases hr with rfl | rfl | rfl | rfl | rfl | rfl | rfl | rfl | rfl | rfl | rfl | rfl | rfl <;> rfl

theorem ownBufs_eq : (ownBufs (thr d L) : sProp 𝕄)
    = iprop((Own1 (F := F) d L cc0_scratch0 ∗ Own1 (F := F) d L cc0_scratch1 ∗ Own1 (F := F) d L cc0_scratch2 ∗ Own1 (F := F) d L cc0_scratch3 ∗ Own1 (F := F) d L cc0_scratch4 ∗ Own1 (F := F) d L cc0_scratch5 ∗ Own1 (F := F) d L cc0_scratch6 ∗ Own1 (F := F) d L cc0_scratch7 ∗ Own1 (F := F) d L cc0_scratch8 ∗ Own1 (F := F) d L cc0_scratch9 ∗ Own1 (F := F) d L cc0_scratch10 ∗ Own1 (F := F) d L cc0_scratch11 ∗ Own1 (F := F) d L cc0_scratch12) ∗ bigSep (ownRefs (τ := τ) (.scVector (cV L) (jV L)) \ own13.image (Proc.scVector (cV L) (jV L)).devRef) fun b => iprop(∃ f, ((d, b) : Loc nD τ sig) ↦{fullShare} f)) := by
  unfold SparseCore.Cfg.ownBufs
  refine (SparseCore.bigSep_sdiff_split' (own13_sub L)).trans ?_
  rw [SparseCore.bigSep_image_of_injOn (fun a _ b _ e => Proc.devRef_injective _ e)]
  exact congrArg (fun A : sProp 𝕄 => iprop(A ∗ _)) (own13_split (Own1 d L))

theorem own_xb0 : (Own1 d L cc0_scratch0 : sProp 𝕄) = Free (F := F) d L xb0 := by
  unfold Free
  simp only [Memref.view_whole, View.set_whole]

theorem own_xb1 : (Own1 d L cc0_scratch1 : sProp 𝕄) = Free (F := F) d L xb1 := by
  unfold Free
  simp only [Memref.view_whole, View.set_whole]

theorem own_xb2 : (Own1 d L cc0_scratch2 : sProp 𝕄) = Free (F := F) d L xb2 := by
  unfold Free
  simp only [Memref.view_whole, View.set_whole]

theorem own_xb3 : (Own1 d L cc0_scratch3 : sProp 𝕄) = Free (F := F) d L xb3 := by
  unfold Free
  simp only [Memref.view_whole, View.set_whole]

theorem own_i0v : (Own1 d L cc0_scratch4 : sProp 𝕄) = Free (F := F) d L i0v := by
  unfold Free
  simp only [Memref.view_whole, View.set_whole]

theorem own_i1v : (Own1 d L cc0_scratch5 : sProp 𝕄) = Free (F := F) d L i1v := by
  unfold Free
  simp only [Memref.view_whole, View.set_whole]

theorem own_ccv : (Own1 d L cc0_scratch6 : sProp 𝕄) = Free (F := F) d L ccv := by
  unfold Free
  simp only [Memref.view_whole, View.set_whole]

theorem own_ssv : (Own1 d L cc0_scratch7 : sProp 𝕄) = Free (F := F) d L ssv := by
  unfold Free
  simp only [Memref.view_whole, View.set_whole]

theorem own_scv : (Own1 d L cc0_scratch8 : sProp 𝕄) = Free (F := F) d L scv := by
  unfold Free
  simp only [Memref.view_whole, View.set_whole]

theorem own_av : (Own1 d L cc0_scratch9 : sProp 𝕄) = Free (F := F) d L av := by
  unfold Free
  simp only [Memref.view_whole, View.set_whole]

theorem own_bv : (Own1 d L cc0_scratch10 : sProp 𝕄) = Free (F := F) d L bv := by
  unfold Free
  simp only [Memref.view_whole, View.set_whole]

theorem own_dv : (Own1 d L cc0_scratch11 : sProp 𝕄) = Free (F := F) d L dv := by
  unfold Free
  simp only [Memref.view_whole, View.set_whole]

theorem own_ev : (Own1 d L cc0_scratch12 : sProp 𝕄) = Free (F := F) d L ev := by
  unfold Free
  simp only [Memref.view_whole, View.set_whole]

theorem ownSems_eq : (ownSems0 (thr d L) : sProp 𝕄)
    = iprop((Sem0 (F := F) d L cc0_scratch13 ∗ Sem0 (F := F) d L cc0_scratch14 ∗ Sem0 (F := F) d L cc0_scratch15 ∗ Sem0 (F := F) d L cc0_scratch16 ∗ Sem0 (F := F) d L cc0_scratch17 ∗ Sem0 (F := F) d L cc0_scratch18 ∗ Sem0 (F := F) d L cc0_scratch19 ∗ Sem0 (F := F) d L cc0_scratch20 ∗ Sem0 (F := F) d L cc0_scoped0 ∗ Sem0 (F := F) d L cc0_scoped1 ∗ Sem0 (F := F) d L cc0_scoped2 ∗ Sem0 (F := F) d L cc0_scoped3 ∗ Sem0 (F := F) d L cc0_scoped4) ∗ bigSep (ownCells (thr d L) \ sems13.image fun sm => (thr d L, sm)) fun g => semVal g 0) := by
  unfold SparseCore.Cfg.ownSems0
  rw [SparseCore.bigSep_sdiff_split' (t := sems13.image fun sm => (thr d L, sm)) (by
    intro g hg
    obtain ⟨r, hr, rfl⟩ := Finset.mem_image.mp hg
    clear hg
    refine (mem_ownCells (g := (thr d L, r))).mpr ⟨rfl, ?_⟩
    revert r
    show ∀ r ∈ sems13, r.isScoped .scVector = true
    decide),
    SparseCore.bigSep_image_of_injOn (fun a _ b _ e => (Prod.mk.inj e).2)]
  exact congrArg (fun A : sProp 𝕄 => iprop(A ∗ _)) (sems13_split fun sm => semVal (thr d L, sm) 0)

/-! ## What a task is handed -/

/-- The operands of the call. -/
structure Vals (F : FTy → Type) where
  X : Vec F S8192x4096 .f32
  I0 : Vec F S2048 .i32
  I1 : Vec F S2048 .i32
  C : Vec F S2048 .f32
  Sn : Vec F S2048 .f32
  SC : Vec F S4096 .f32

/-- The indices name columns. -/
structure Vals.Ok (v : Vals F) : Prop where
  h0 : ∀ j, (v.I0 j).toNat < 4096
  h1 : ∀ j, (v.I1 j).toNat < 4096

/-- The tables of the call, coefficients included. -/
def Vals.tab [FloatOps F] (v : Vals F) : Tab F := tabOf v.I0 v.I1 (coef v.C v.I0 v.SC) (coef v.Sn v.I1 v.SC) (coef v.Sn v.I0 v.SC) (coef v.C v.I1 v.SC)

/-- What the call leaves. -/
def Vals.out [FloatOps F] (v : Vals F) : Vec F S3584x4096 .f32 := outOf v.tab v.X

/-- The operands, read at share `q`. -/
def Ops (q : PosShare TreeShare) (v : Vals F) : sProp 𝕄 :=
  iprop(Arg d L q v.X ∗ (gI0.view.loc (thr d L) ↦[gI0.view.set]{q} v.I0) ∗ (gI1.view.loc (thr d L) ↦[gI1.view.set]{q} v.I1)
    ∗ (gC.view.loc (thr d L) ↦[gC.view.set]{q} v.C) ∗ (gS.view.loc (thr d L) ↦[gS.view.set]{q} v.Sn) ∗ (gSc.view.loc (thr d L) ↦[gSc.view.set]{q} v.SC))

/-- The task's rows of the result. -/
def Rows (O : Vec F S3584x4096 .f32) : sProp 𝕄 := bigSep Finset.univ fun k : Fin 28 => OutCh d L O k

theorem Arg.split (q : PosShare TreeShare) (X : Vec F S8192x4096 .f32) :
    (Arg d L q X : sProp 𝕄) = iprop(Arg d L (Transfers.dealOf q (Finset.univ : Finset (Fin 4)) 0) X ∗ Arg d L (Transfers.dealOf q (Finset.univ : Finset (Fin 4)) 1) X
      ∗ Arg d L (Transfers.dealOf q (Finset.univ : Finset (Fin 4)) 2) X ∗ Arg d L (Transfers.dealOf q (Finset.univ : Finset (Fin 4)) 3) X) := by
  unfold Arg
  refine (Transfers.pointsTo_deal (Finset.univ : Finset (Fin 4)) Finset.univ_nonempty q).trans ?_
  generalize Transfers.dealOf q (Finset.univ : Finset (Fin 4)) = g
  rw [show (Finset.univ : Finset (Fin 4)) = {0, 1, 2, 3} by decide]
  repeat rw [SparseCore.bigSep_insert' (by decide)]
  rw [bigSep_singleton]

variable [FloatOps F]

/-- A table fetched: the copy and the wait for it. -/
theorem fetch {O : CellTallies nD τ sig (HIx 1)} {W : Waits sig (HIx 1)} (hO : ∀ g, O g none = 0) {s : Shape} {e : EltTy} (hs : 0 < s.numel)
    (src : Memref sig .scVector .hbm s e) (dst : Memref sig .scVector .vmem s e) (sm : DmaSem sig) (q : PosShare TreeShare) (f : Buf (Elt F) (src.view.loc (thr d L)))
    (v : Vec F s e) (hv : src.view.read (Elt F) f = v)
    {h1 h1' : src.view.WordExact} {h2 h2' : dst.view.WordExact} {h3 : DmaTarget.Typed (nD := nD) .hbm (.dma sm) (.here (τ := τ) (p := .scVector ((L 0).castLE hcore0) ((L 1).castLE hsub0)) dst)}
    {α : Type} {Q : α → sProp (MT nD τ sig (HIx 1) (Elt F) ℕ UU ℕ)} {p : Prog (TpuEff nD τ sig (Elt F) Λ₀ (thr d L).2) α} :
    iprop(levAts (K (F := F)).L (K (F := F)).lev ∗ (src.view.loc (thr d L) ↦[src.view.set]{q} f) ∗ Free d L dst ∗ semVal (thr d L, .dma sm) 0 ∗ Owes d L O W)
      ⊢ iprop((iprop((src.view.loc (thr d L) ↦[src.view.set]{q} f) ∗ Hold d L dst fullShare v ∗ semVal (thr d L, .dma sm) 0 ∗ Owes d L O W)
          -∗ wp frame (wpE (defs₀ (F := F)) 𝒱₀ (thr d L) none) Set.univ p Q)
        -∗ wp frame (wpE (defs₀ (F := F)) 𝒱₀ (thr d L) none) Set.univ
          (.op (.enqueueDma src (.here dst) (.dma sm) h1 h2 h3) fun _ => .op (.waitDma2 sm src dst h1' h2') fun _ => p) Q) := by
  unfold Free Owes
  iintro ⟨#Hlv, Hx, ⟨%g, Hb⟩, Hs, ⟨%W', %hW, HO⟩⟩ Hk
  iapply (Transfers.wp_dmaLocal EC 𝒱₀ (thr d L) none none dst.view.dmaCredit (src := src) (via := .same) (dst := dst) (sm := .dma sm) rfl
    (View.dmaCredit_pos dst.view hs) subset_rfl (Q := Q) (q := q) (fs := f) (fd := g)) $$ [Hx Hb Hs]
  · isplitl [Hx]; · iexact Hx
    isplitl [Hb]; · iexact Hb
    iexact Hs
  iintro Hf
  iapply (Transfers.wp_waitLocalO EC 𝒱₀ (thr d L) none none (sem := sm) (srcw := src) (dstw := dst) rfl (Q := Q)) $$ [Hf HO]
  · isplitl [Hf]; · iexact Hf
    isplitl [HO]; · iexact HO
    iapply ((K (F := F)).mayWait_none (SemLoc.dma sm) hO); iexact Hlv
  iintro ⟨⟨Hb, Hx⟩, Hs, HO⟩
  iapply Hk
  isplitl [Hx]; · iexact Hx
  isplitl [Hb]
  · unfold Hold
    iexists _
    isplitr
    rotate_left
    · iexact Hb
    · ipureintro
      rw [View.read_write_univ]
      exact hv
  isplitl [Hs]; · iexact Hs
  iexists _
  isplitr
  rotate_left
  · iexact HO
  · ipureintro
    intro p hp
    rcases Finset.mem_insert.mp hp with rfl | hp
    · exact .inr rfl
    · exact hW p hp

set_option maxHeartbeats 4000000 in
/-- The task: it reads the operands and leaves its rows of the result. -/
theorem tile_body (hF : (K (F := F)).Facts) (q : PosShare TreeShare) (v : Vals F) (hv : v.Ok) (O' : Vec F S3584x4096 .f32) (O : CellTallies nD τ sig (HIx 1)) (W : Waits sig (HIx 1)) (hO : ∀ g, O g none = 0) :
    iprop(levAts (K (F := F)).L (K (F := F)).lev ∗ (Ops d L q v ∗ Rows d L O') ∗ scopedBufs (thr d L) ∗ scopedSems0 (thr d L) ∗ owes (thr d L) O W)
      ⊢ wp frame (wpE (defs₀ (F := F)) 𝒱₀ (thr d L) none) Set.univ
          (cc0_body (F := F) L xV (Memref.isWhole_whole _) gI0 (Memref.isWhole_whole _) gI1 (Memref.isWhole_whole _) gC (Memref.isWhole_whole _) gS (Memref.isWhole_whole _) gSc (Memref.isWhole_whole _) oV (Memref.isWhole_whole _) xb0 (Memref.isWhole_whole _) xb1 (Memref.isWhole_whole _) xb2 (Memref.isWhole_whole _) xb3 (Memref.isWhole_whole _) i0v (Memref.isWhole_whole _) i1v (Memref.isWhole_whole _) ccv (Memref.isWhole_whole _) ssv (Memref.isWhole_whole _) scv (Memref.isWhole_whole _) av (Memref.isWhole_whole _) bv (Memref.isWhole_whole _) dv (Memref.isWhole_whole _) ev (Memref.isWhole_whole _) cc0_scratch13 cc0_scratch14 cc0_scratch15 cc0_scratch16 cc0_scratch17 cc0_scratch18 cc0_scratch19 cc0_scratch20 cc0_scoped0 cc0_scoped1 cc0_scoped2 cc0_scoped3 cc0_scoped4)
          fun _ => iprop((Ops d L q v ∗ Rows d L v.out) ∗ scopedBufs (thr d L) ∗ scopedSems0 (thr d L) ∗ ∃ W', ⌜∀ p ∈ W', p ∈ W ∨ p.2 = none⌝ ∗ owes (thr d L) O W') := by
  simp only [cc0_body_eq_skeleton]; unfold cc0_body_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems_eq, ownBufs_eq]
  unfold Ops Rows
  rw [Arg.split]
  iintro ⟨#Hlv, ⟨⟨⟨Hx0, Hx1, Hx2, Hx3⟩, Hg0, Hg1, Hg2, Hg3, Hg4⟩, Hrows⟩, ⟨⟨Hb0, Hb1, Hb2, Hb3, Hi0, Hi1, Hcc, Hss, Hsc, Ha, Hb, Hd, He⟩, Hbufs⟩, ⟨⟨Hm0, Hm1, Hm2, Hm3, Ho0, Ho1, Ho2, Ho3, Hr0, Hr1, Hr2, Hr3, Hr4⟩, Hsems⟩, HO⟩
  ihave Hb0 := (Entails.of_eq (own_xb0 d L)) $$ Hb0
  ihave Hb1 := (Entails.of_eq (own_xb1 d L)) $$ Hb1
  ihave Hb2 := (Entails.of_eq (own_xb2 d L)) $$ Hb2
  ihave Hb3 := (Entails.of_eq (own_xb3 d L)) $$ Hb3
  ihave Hi0 := (Entails.of_eq (own_i0v d L)) $$ Hi0
  ihave Hi1 := (Entails.of_eq (own_i1v d L)) $$ Hi1
  ihave Hcc := (Entails.of_eq (own_ccv d L)) $$ Hcc
  ihave Hss := (Entails.of_eq (own_ssv d L)) $$ Hss
  ihave Hsc := (Entails.of_eq (own_scv d L)) $$ Hsc
  ihave Ha := (Entails.of_eq (own_av d L)) $$ Ha
  ihave Hb := (Entails.of_eq (own_bv d L)) $$ Hb
  ihave Hd := (Entails.of_eq (own_dv d L)) $$ Hd
  ihave He := (Entails.of_eq (own_ev d L)) $$ He
  ihave HO : Owes d L O W $$ [HO]
  · unfold Owes
    iexists W
    isplitr
    · ipureintro; exact fun p hp => .inl hp
    iexact HO
  iapply (fetch d L (O := O) (W := W) hO (by decide) gI0 i0v cc0_scoped0.sem q v.I0 v.I0 (by simp only [Memref.view_whole, View.read_whole])) $$ [Hg0 Hi0 Hr0 HO]
  · isplitr; · iexact Hlv
    isplitl [Hg0]; · iexact Hg0
    isplitl [Hi0]; · iexact Hi0
    isplitl [Hr0]; · iexact Hr0
    iexact HO
  iintro ⟨Hg0, Hi0, Hr0, HO⟩
  iapply (fetch d L (O := O) (W := W) hO (by decide) gI1 i1v cc0_scoped1.sem q v.I1 v.I1 (by simp only [Memref.view_whole, View.read_whole])) $$ [Hg1 Hi1 Hr1 HO]
  · isplitr; · iexact Hlv
    isplitl [Hg1]; · iexact Hg1
    isplitl [Hi1]; · iexact Hi1
    isplitl [Hr1]; · iexact Hr1
    iexact HO
  iintro ⟨Hg1, Hi1, Hr1, HO⟩
  iapply (fetch d L (O := O) (W := W) hO (by decide) gC ccv cc0_scoped2.sem q v.C v.C (by simp only [Memref.view_whole, View.read_whole])) $$ [Hg2 Hcc Hr2 HO]
  · isplitr; · iexact Hlv
    isplitl [Hg2]; · iexact Hg2
    isplitl [Hcc]; · iexact Hcc
    isplitl [Hr2]; · iexact Hr2
    iexact HO
  iintro ⟨Hg2, Hcc, Hr2, HO⟩
  iapply (fetch d L (O := O) (W := W) hO (by decide) gS ssv cc0_scoped3.sem q v.Sn v.Sn (by simp only [Memref.view_whole, View.read_whole])) $$ [Hg3 Hss Hr3 HO]
  · isplitr; · iexact Hlv
    isplitl [Hg3]; · iexact Hg3
    isplitl [Hss]; · iexact Hss
    isplitl [Hr3]; · iexact Hr3
    iexact HO
  iintro ⟨Hg3, Hss, Hr3, HO⟩
  iapply (fetch d L (O := O) (W := W) hO (by decide) gSc scv cc0_scoped4.sem q v.SC v.SC (by simp only [Memref.view_whole, View.read_whole])) $$ [Hg4 Hsc Hr4 HO]
  · isplitr; · iexact Hlv
    isplitl [Hg4]; · iexact Hg4
    isplitl [Hsc]; · iexact Hsc
    isplitl [Hr4]; · iexact Hr4
    iexact HO
  iintro ⟨Hg4, Hsc, Hr4, HO⟩
  iapply (coef_loop d L v.I0 v.I1 v.C v.Sn v.SC hv.h0 hv.h1) $$ [Hi0 Hi1 Hcc Hss Hsc Ha Hb Hd He]
  · isplitl [Hi0 Hi1 Hcc Hss Hsc]
    · unfold SrcHold
      isplitl [Hi0]; · iexact Hi0
      isplitl [Hi1]; · iexact Hi1
      isplitl [Hcc]; · iexact Hcc
      isplitl [Hss]; · iexact Hss
      iexact Hsc
    isplitl [Ha]; · iexact Ha
    isplitl [Hb]; · iexact Hb
    isplitl [Hd]; · iexact Hd
    iexact He
  iintro ⟨Ht, Hcc, Hss, Hsc⟩
  iapply (in_start d L v.X xb0 cc0_scratch13.sem ⟨0, by omega⟩ ((k0_off3_eq L 0).trans (vec_eq (by unfold row0; rfl)))) $$ [Hx0 Hb0 Hm0]
  · isplitl [Hx0]; · iexact Hx0
    isplitl [Hb0]; · iexact Hb0
    iexact Hm0
  iintro Hb0
  iapply (in_start d L v.X xb1 cc0_scratch14.sem ⟨1, by omega⟩ ((k0_off3_eq L 1).trans (vec_eq (by unfold row0; rfl)))) $$ [Hx1 Hb1 Hm1]
  · isplitl [Hx1]; · iexact Hx1
    isplitl [Hb1]; · iexact Hb1
    iexact Hm1
  iintro Hb1
  iapply (in_start d L v.X xb2 cc0_scratch15.sem ⟨2, by omega⟩ ((k0_off3_eq L 2).trans (vec_eq (by unfold row0; rfl)))) $$ [Hx2 Hb2 Hm2]
  · isplitl [Hx2]; · iexact Hx2
    isplitl [Hb2]; · iexact Hb2
    iexact Hm2
  iintro Hb2
  ihave Hbk := (Book.open d L v.out O') $$ Hrows
  iapply (Scf.wp_for_bind frame (wpE (defs₀ (F := F)) 𝒱₀ (thr d L) none) Set.univ k0_t2_loop.lb k0_t2_loop.ub k0_t2_loop.st k0_t2_ok ⟨⟩ (ringTrip L _)
    (fun n _ => Inv d L (Transfers.dealOf q (Finset.univ : Finset (Fin 4)) 0) (Transfers.dealOf q (Finset.univ : Finset (Fin 4)) 1) (Transfers.dealOf q (Finset.univ : Finset (Fin 4)) 2)
      (Transfers.dealOf q (Finset.univ : Finset (Fin 4)) 3) v.X O' v.I0 v.I1 (coef v.C v.I0 v.SC) (coef v.Sn v.I1 v.SC) (coef v.Sn v.I0 v.SC) (coef v.C v.I1 v.SC) O W n)
    (fun t u => ring_trip d L _ _ _ _ v.X O' v.I0 v.I1 _ _ _ _ O W hO hv.h0 hv.h1 _ t u)) $$ [Ht Hb0 Hb1 Hb2 Hx3 Hm3 Ho0 Ho1 Ho2 Hb3 Ho3 Hbk HO]
  · unfold Inv
    isplitr; · iexact Hlv
    isplitl [Ht]; · iexact Ht
    isplitl [Hb0]; · rw [InS.pos (h := by omega)]; iexact Hb0
    isplitl [Hb1]; · rw [InS.pos (h := by omega)]; iexact Hb1
    isplitl [Hb2]; · rw [InS.pos (h := by omega)]; iexact Hb2
    isplitl [Hx3 Hm3]
    · isplitl [Hx3]; · iexact Hx3
      iexact Hm3
    isplitl [Ho0 Ho1 Ho2]
    · isplitl [Ho0]; · iexact Ho0
      isplitl [Ho1]; · iexact Ho1
      iexact Ho2
    isplitl [Hb3 Ho3]
    · rw [OutS.neg (h := by omega)]
      isplitl [Hb3]; · iexact Hb3
      iexact Ho3
    isplitl [Hbk]; · iexact Hbk
    iexact HO
  iintro %u H
  rw [show Scf.trips k0_t2_loop.lb k0_t2_loop.ub k0_t2_loop.st = 7 from t2_trips]
  unfold Inv
  rw [InS.neg (h := by omega), InS.neg (h := by omega), InS.neg (h := by omega), OutS.pos (h := by omega)]
  icases H with ⟨-, Ht, ⟨Hx0, Hb0, Hm0⟩, ⟨Hx1, Hb1, Hm1⟩, ⟨Hx2, Hb2, Hm2⟩, ⟨Hx3, Hm3⟩, ⟨Ho0, Ho1, Ho2⟩, Hf, Hbk, HO⟩
  iapply (out_wait d L (O := O) (W := W) hO v.out xb3 cc0_scratch20.sem ⟨27, by omega⟩) $$ [Hf HO]
  · isplitr; · iexact Hlv
    isplitl [Hf]; · iexact Hf
    iexact HO
  iintro ⟨Hb3, Hc, Ho3, HO⟩
  ihave Hbk := (Book.give d L v.out O' 27 28 ⟨27, by omega⟩ rfl (by omega)) $$ [Hc Hbk]
  · isplitl [Hc]; · iexact Hc
    iexact Hbk
  ihave Hrows := (Book.close d L v.out O') $$ Hbk
  unfold TabHold
  icases Ht with ⟨Hi0, Hi1, Ha, Hb, Hd, He⟩
  ihave Hi0 := (Hold.free d L i0v _) $$ Hi0
  ihave Hi1 := (Hold.free d L i1v _) $$ Hi1
  ihave Hcc := (Hold.free d L ccv _) $$ Hcc
  ihave Hss := (Hold.free d L ssv _) $$ Hss
  ihave Hsc := (Hold.free d L scv _) $$ Hsc
  ihave Ha := (Hold.free d L av _) $$ Ha
  ihave Hb := (Hold.free d L bv _) $$ Hb
  ihave Hd := (Hold.free d L dv _) $$ Hd
  ihave He := (Hold.free d L ev _) $$ He
  ihave Hb0 := (Entails.of_eq (own_xb0 (F := F) d L).symm) $$ Hb0
  ihave Hb1 := (Entails.of_eq (own_xb1 (F := F) d L).symm) $$ Hb1
  ihave Hb2 := (Entails.of_eq (own_xb2 (F := F) d L).symm) $$ Hb2
  ihave Hb3 := (Entails.of_eq (own_xb3 (F := F) d L).symm) $$ Hb3
  ihave Hi0 := (Entails.of_eq (own_i0v (F := F) d L).symm) $$ Hi0
  ihave Hi1 := (Entails.of_eq (own_i1v (F := F) d L).symm) $$ Hi1
  ihave Hcc := (Entails.of_eq (own_ccv (F := F) d L).symm) $$ Hcc
  ihave Hss := (Entails.of_eq (own_ssv (F := F) d L).symm) $$ Hss
  ihave Hsc := (Entails.of_eq (own_scv (F := F) d L).symm) $$ Hsc
  ihave Ha := (Entails.of_eq (own_av (F := F) d L).symm) $$ Ha
  ihave Hb := (Entails.of_eq (own_bv (F := F) d L).symm) $$ Hb
  ihave Hd := (Entails.of_eq (own_dv (F := F) d L).symm) $$ Hd
  ihave He := (Entails.of_eq (own_ev (F := F) d L).symm) $$ He
  rw [wp_ret]; imodintro
  isplitl [Hx0 Hx1 Hx2 Hx3 Hg0 Hg1 Hg2 Hg3 Hg4 Hrows]
  · isplitr [Hrows]
    · isplitl [Hx0 Hx1 Hx2 Hx3]
      · isplitl [Hx0]; · iexact Hx0
        isplitl [Hx1]; · iexact Hx1
        isplitl [Hx2]; · iexact Hx2
        iexact Hx3
      isplitl [Hg0]; · iexact Hg0
      isplitl [Hg1]; · iexact Hg1
      isplitl [Hg2]; · iexact Hg2
      isplitl [Hg3]; · iexact Hg3
      iexact Hg4
    · iexact Hrows
  isplitl [Hb0 Hb1 Hb2 Hb3 Hi0 Hi1 Hcc Hss Hsc Ha Hb Hd He Hbufs]
  · isplitr [Hbufs]
    · isplitl [Hb0]; · iexact Hb0
      isplitl [Hb1]; · iexact Hb1
      isplitl [Hb2]; · iexact Hb2
      isplitl [Hb3]; · iexact Hb3
      isplitl [Hi0]; · iexact Hi0
      isplitl [Hi1]; · iexact Hi1
      isplitl [Hcc]; · iexact Hcc
      isplitl [Hss]; · iexact Hss
      isplitl [Hsc]; · iexact Hsc
      isplitl [Ha]; · iexact Ha
      isplitl [Hb]; · iexact Hb
      isplitl [Hd]; · iexact Hd
      iexact He
    · iexact Hbufs
  isplitl [Hm0 Hm1 Hm2 Hm3 Ho0 Ho1 Ho2 Ho3 Hr0 Hr1 Hr2 Hr3 Hr4 Hsems]
  · isplitr [Hsems]
    · isplitl [Hm0]; · iexact Hm0
      isplitl [Hm1]; · iexact Hm1
      isplitl [Hm2]; · iexact Hm2
      isplitl [Hm3]; · iexact Hm3
      isplitl [Ho0]; · iexact Ho0
      isplitl [Ho1]; · iexact Ho1
      isplitl [Ho2]; · iexact Ho2
      isplitl [Ho3]; · iexact Ho3
      isplitl [Hr0]; · iexact Hr0
      isplitl [Hr1]; · iexact Hr1
      isplitl [Hr2]; · iexact Hr2
      isplitl [Hr3]; · iexact Hr3
      iexact Hr4
    · iexact Hsems
  unfold Owes
  iexact HO

end Cert.Proof.Tile
-- ==== Proof.Host.lean ====
/-
  The operations of the function before the call, and what the call is given by the launch memory.
-/
module

public import proofs.«01_k».proof.Proof.Body
public import Idealize.ShloMosaic.Lib.Pipeline.Frame

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx)
open Idealize.ShloMosaic.Transfers (Flight Flight_mono)
open Idealize.SL Idealize.SL.RA Idealize.SL.BI
open scoped Idealize.SL.BI
open Idealize.SL.BI.BIBase Idealize.SL.BI.Laws Idealize.SL.ProofMode Idealize.SL.Sem
open Cert.Proof.Spec

variable {F : FTy → Type}

local notation "𝕄" => MT nD τ sig (HIx 1) (Elt F) ℕ UU ℕ

/-! ## The operations before the call -/

/-- The operations of the function that come before the call, in order. -/
def opsA [FloatOps F] : List (HloOp τ sig (Elt F)) :=
  [StableHlo.nullary main_v0 (iotaInDim S32 32 0),
   StableHlo.nullary main_c (constantI S_ 32 128#32),
   StableHlo.unary main_c main_v1 (broadcastInDim S32 ![] bcast_S_S32 : (⟨S_, .i32⟩ : BufTy).Contents (Elt F) → (⟨S32, .i32⟩ : BufTy).Contents (Elt F)),
   StableHlo.binary main_v0 main_v1 main_v2 (muli : (⟨S32, .i32⟩ : BufTy).Contents (Elt F) → (⟨S32, .i32⟩ : BufTy).Contents (Elt F) → (⟨S32, .i32⟩ : BufTy).Contents (Elt F)),
   StableHlo.unary main_v2 main_v3 (broadcastInDim S32x128 ![0] bcast_S32_S32x128_0 : (⟨S32, .i32⟩ : BufTy).Contents (Elt F) → (⟨S32x128, .i32⟩ : BufTy).Contents (Elt F)),
   StableHlo.reshape main_v3 main_v4 (rfl : (.i32 : EltTy) = .i32) shapeCasts_S32x128_S4096,
   StableHlo.unary main_arg1 main_v5 ((extractStridedSlice S1x4096 ![0, 0] · slices_S8x4096_S1x4096_0_0) : (⟨S8x4096, .i32⟩ : BufTy).Contents (Elt F) → (⟨S1x4096, .i32⟩ : BufTy).Contents (Elt F)),
   StableHlo.reshape main_v5 main_v6 (rfl : (.i32 : EltTy) = .i32) shapeCasts_S1x4096_S4096,
   StableHlo.binary main_v6 main_v4 main_v7 (addi : (⟨S4096, .i32⟩ : BufTy).Contents (Elt F) → (⟨S4096, .i32⟩ : BufTy).Contents (Elt F) → (⟨S4096, .i32⟩ : BufTy).Contents (Elt F)),
   StableHlo.unary main_v7 main_v8 ((Host.slice S2048 ![0] ![2] · slicesBy_S4096_S2048_0s2) : (⟨S4096, .i32⟩ : BufTy).Contents (Elt F) → (⟨S2048, .i32⟩ : BufTy).Contents (Elt F)),
   StableHlo.unary main_v7 main_v9 ((Host.slice S2048 ![1] ![2] · slicesBy_S4096_S2048_1s2) : (⟨S4096, .i32⟩ : BufTy).Contents (Elt F) → (⟨S2048, .i32⟩ : BufTy).Contents (Elt F)),
   StableHlo.nullary main_cst (constant S_ .f32 0x00000000#32),
   StableHlo.binary main_arg2 main_cst main_v10 ((fun x v => Host.reduceAdd x v reducesTo_S8x2048_S2048_d0 h_S_) : (⟨S8x2048, .f32⟩ : BufTy).Contents (Elt F) → (⟨S_, .f32⟩ : BufTy).Contents (Elt F) → (⟨S2048, .f32⟩ : BufTy).Contents (Elt F)),
   StableHlo.unary main_v10 main_v11 (Host.cos : (⟨S2048, .f32⟩ : BufTy).Contents (Elt F) → (⟨S2048, .f32⟩ : BufTy).Contents (Elt F)),
   StableHlo.unary main_v10 main_v12 (Host.sin : (⟨S2048, .f32⟩ : BufTy).Contents (Elt F) → (⟨S2048, .f32⟩ : BufTy).Contents (Elt F)),
   StableHlo.reshape main_arg3 main_v13 (rfl : (.f32 : EltTy) = .f32) shapeCasts_S1x4096_S4096]

section Host
variable [FloatOps F] (X : Vec F S8192x4096 .f32) (P : IVec S8x4096 32) (TH : Vec F S8x2048 .f32) (SC : Vec F S1x4096 .f32)

/-- The offset of each entry's group of columns. -/
def offs : IVec S4096 32 :=
  shapeCast S4096 (broadcastInDim S32x128 ![0] bcast_S32_S32x128_0 (muli (iotaInDim S32 32 0) (broadcastInDim S32 ![] bcast_S_S32 (constantI S_ 32 128#32)))) shapeCasts_S32x128_S4096

/-- The columns of the first layer's pairs, in the order of the table. -/
def cols : IVec S4096 32 :=
  addi (shapeCast S4096 (extractStridedSlice S1x4096 ![0, 0] P slices_S8x4096_S1x4096_0_0) shapeCasts_S1x4096_S4096) offs

/-- The angle of each pair, the layers' angles added up. -/
def angle : Vec F S2048 .f32 := Host.reduceAdd TH (constant S_ .f32 0x00000000#32) reducesTo_S8x2048_S2048_d0 h_S_

/-- What the call is given. -/
def valsOf : Vals F where
  X := X
  I0 := Host.slice S2048 ![0] ![2] (cols P) slicesBy_S4096_S2048_0s2
  I1 := Host.slice S2048 ![1] ![2] (cols P) slicesBy_S4096_S2048_1s2
  C := Host.cos (angle TH)
  Sn := Host.sin (angle TH)
  SC := shapeCast S4096 SC shapeCasts_S1x4096_S4096

end Host

variable (m : (ℓ : Loc nD τ sig) → Buf (Elt F) ℓ) (d : Dev nD)

/-- The memory of device `d` at the launch, and at the call. -/
def V0 : Valuation τ sig (Elt F) := fun b => m (d, b)
def VA [FloatOps F] : Valuation τ sig (Elt F) := StableHlo.after opsA (V0 m d)

abbrev rA (b : Ref sig .tc) : DevRef τ sig := Proc.devRef .tc b

/-- What the call is given by the launch memory. -/
def vals [FloatOps F] : Vals F := valsOf (m ((SparseCore.T d).loc main_arg0)) (m ((SparseCore.T d).loc main_arg1)) (m ((SparseCore.T d).loc main_arg2)) (m ((SparseCore.T d).loc main_arg3))

section At
variable [FloatOps F]
theorem VA_arg0 : VA m d (rA main_arg0) = m ((SparseCore.T d).loc main_arg0) := by unfold VA opsA; after_results; rfl
theorem VA_arg1 : VA m d (rA main_arg1) = m ((SparseCore.T d).loc main_arg1) := by unfold VA opsA; after_results; rfl
theorem VA_arg2 : VA m d (rA main_arg2) = m ((SparseCore.T d).loc main_arg2) := by unfold VA opsA; after_results; rfl
theorem VA_arg3 : VA m d (rA main_arg3) = m ((SparseCore.T d).loc main_arg3) := by unfold VA opsA; after_results; rfl
theorem VA_v14 : VA m d (rA main_v14) = m ((SparseCore.T d).loc main_v14) := by unfold VA opsA; after_results; rfl
theorem VA_v8 : VA m d (rA main_v8) = (vals m d).I0 := by unfold VA opsA; after_results; rfl
theorem VA_v9 : VA m d (rA main_v9) = (vals m d).I1 := by unfold VA opsA; after_results; rfl
theorem VA_v11 : VA m d (rA main_v11) = (vals m d).C := by unfold VA opsA; after_results; rfl
theorem VA_v12 : VA m d (rA main_v12) = (vals m d).Sn := by unfold VA opsA; after_results; rfl
theorem VA_v13 : VA m d (rA main_v13) = (vals m d).SC := by unfold VA opsA; after_results; rfl

theorem opsA_tc : ∀ op ∈ opsA (F := F), op.bufs ⊆ StableHlo.tcRefs τ sig :=
  List.forall_mem_cons.2 ⟨StableHlo.nullary_bufs_sub .., List.forall_mem_cons.2 ⟨StableHlo.nullary_bufs_sub .., List.forall_mem_cons.2 ⟨StableHlo.unary_bufs_sub .., List.forall_mem_cons.2 ⟨StableHlo.binary_bufs_sub .., List.forall_mem_cons.2 ⟨StableHlo.unary_bufs_sub .., List.forall_mem_cons.2 ⟨StableHlo.reshape_bufs_sub .., List.forall_mem_cons.2 ⟨StableHlo.unary_bufs_sub .., List.forall_mem_cons.2 ⟨StableHlo.reshape_bufs_sub .., List.forall_mem_cons.2 ⟨StableHlo.binary_bufs_sub .., List.forall_mem_cons.2 ⟨StableHlo.unary_bufs_sub .., List.forall_mem_cons.2 ⟨StableHlo.unary_bufs_sub .., List.forall_mem_cons.2 ⟨StableHlo.nullary_bufs_sub .., List.forall_mem_cons.2 ⟨StableHlo.binary_bufs_sub .., List.forall_mem_cons.2 ⟨StableHlo.unary_bufs_sub .., List.forall_mem_cons.2 ⟨StableHlo.unary_bufs_sub .., List.forall_mem_cons.2 ⟨StableHlo.reshape_bufs_sub .., fun _ h => absurd h List.not_mem_nil⟩⟩⟩⟩⟩⟩⟩⟩⟩⟩⟩⟩⟩⟩⟩⟩

theorem opsA_sub : ∀ op ∈ opsA (F := F), op.bufs ⊆ Pipeline.ucRefs τ sig := fun op h => Pipeline.sub_ucRefs op (opsA_tc op h)

theorem opsA_fresh : ∀ op ∈ opsA (F := F), op.fresh = ∅ :=
  List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, fun _ h => absurd h List.not_mem_nil⟩⟩⟩⟩⟩⟩⟩⟩⟩⟩⟩⟩⟩⟩⟩⟩

end At

end Cert.Proof.Tile

end
-- ==== Proof.Cols.lean ====
/-
  The columns the pairs name: entry `i` of the table is the pair word of the entry plus 128 times the entry's group.
  Words below 128 name columns inside their group, and words distinct in every group name distinct columns.
-/
module

public import proofs.«01_k».proof.Proof.Host
public import Idealize.ShloMosaic.Lib.Pipeline.Value
public import Idealize.ShloMosaic.Lib.ValueIdx
public import Idealize.ShloMosaic.Lib.ReduceAll

@[expose] public section

noncomputable section

namespace Cert.Proof.Tile

open Cert.KernelIdeal Cert.KernelIdeal.Gen
open Idealize.ShloMosaic Idealize.ShloMosaic.Pipeline
open Cert.Proof.Spec

/-- Entry `i` of layer `k` of the pair table. -/
def atP (k : Fin 8) (i : Fin 4096) : S8x4096.Idx := fun a => match a with | 0 => k | 1 => i

/-- A row of the pair table, flattened. -/
theorem pair_row {α : Type} (P : S8x4096.Idx → α) (k : Fin 8) (off : Fin 2 → ℕ) (ho : off = ![k.val, 0]) (h : S8x4096.Slices off S1x4096)
    (h' : S1x4096.ShapeCasts S4096) (i : Fin 4096) : shapeCast S4096 (extractStridedSlice S1x4096 off P h) h' (ix4 i) = P (atP k i) := by
  subst ho
  rw [shapeCast_apply _ h' (ix4 i) (fun a => match a with | 0 => (0 : Fin 1) | 1 => i) (by
    rw [Shape.rowMajor_val_two, Shape.rowMajor_val_one]; show 0 * 4096 + i.val = i.val; omega)]
  unfold extractStridedSlice
  refine congrArg P (funext fun a => ?_)
  match a with
  | 0 => exact Fin.ext (by show k.val + 0 = k.val; omega)
  | 1 => exact Fin.ext (by show 0 + i.val = i.val; omega)

/-- The offset of entry `i`'s group. -/
theorem offs_at (i : Fin 4096) : offs (ix4 i) = BitVec.ofNat 32 (i.val / 128) * 128#32 := by
  unfold offs
  rw [shapeCast_apply _ shapeCasts_S32x128_S4096 (ix4 i)
    (fun a => match a with | 0 => (⟨i.val / 128, by have := i.isLt; omega⟩ : Fin 32) | 1 => (⟨i.val % 128, by omega⟩ : Fin 128)) (by
    rw [Shape.rowMajor_val_two, Shape.rowMajor_val_one]; show i.val / 128 * 128 + i.val % 128 = i.val; omega)]
  rfl

theorem cols_at (P : IVec S8x4096 32) (i : Fin 4096) : cols P (ix4 i) = P (atP 0 i) + BitVec.ofNat 32 (i.val / 128) * 128#32 := by
  unfold cols
  show _ + _ = _
  rw [pair_row P 0 ![0, 0] rfl, offs_at]

theorem cols_toNat {P : IVec S8x4096 32} (i : Fin 4096) (h : (P (atP 0 i)).toNat < 128) :
    (cols P (ix4 i)).toNat = (P (atP 0 i)).toNat + 128 * (i.val / 128) := by
  have := i.isLt
  rw [cols_at, BitVec.toNat_add, BitVec.toNat_mul, BitVec.toNat_ofNat, BitVec.toNat_ofNat]
  have e1 : i.val / 128 % 2 ^ 32 = i.val / 128 := Nat.mod_eq_of_lt (by omega)
  rw [e1]
  have e2 : i.val / 128 * (128 % 2 ^ 32) % 2 ^ 32 = 128 * (i.val / 128) := by omega
  rw [e2]; omega

/-- Every other entry of a table. -/
theorem slice_at {α : Type} (x : S4096.Idx → α) (o : ℕ) (ho : o < 2) (off : Fin 1 → ℕ) (hoff : off = ![o]) (h : S4096.SlicesBy off ![2] S2048) (p : Fin 2048) :
    Host.slice S2048 off ![2] x h (ix p) = x (ix4 ⟨o + 2 * p.val, by have := p.isLt; omega⟩) := by
  subst hoff
  unfold Host.slice
  refine congrArg x (funext fun a => ?_)
  match a with
  | 0 => rfl

section Ok
variable {F : FTy → Type} [FloatOps F] {X : Vec F S8192x4096 .f32} {P : IVec S8x4096 32} {TH : Vec F S8x2048 .f32} {SC : Vec F S1x4096 .f32}

/-- Pair words below 128 name columns. -/
theorem ok_of_range (h : ∀ i, (P (atP 0 i)).toNat < 128) : (valsOf X P TH SC).Ok := by
  have key : ∀ i : Fin 4096, (cols P (ix4 i)).toNat < 4096 := fun i => by
    have := i.isLt; have := h i; rw [cols_toNat i (h i)]; omega
  constructor
  · intro j
    obtain ⟨p, rfl⟩ : ∃ p : Fin 2048, ix p = j := ⟨j 0, ix_eta j⟩
    show (Host.slice S2048 ![0] ![2] (cols P) slicesBy_S4096_S2048_0s2 (ix p)).toNat < 4096
    rw [slice_at (cols P) 0 (by omega) ![0] rfl]; exact key _
  · intro j
    obtain ⟨p, rfl⟩ : ∃ p : Fin 2048, ix p = j := ⟨j 0, ix_eta j⟩
    show (Host.slice S2048 ![1] ![2] (cols P) slicesBy_S4096_S2048_1s2 (ix p)).toNat < 4096
    rw [slice_at (cols P) 1 (by omega) ![1] rfl]; exact key _

end Ok

/-- A word that compares at least 0 and less than 128, signed, is below 128. -/
theorem word_lt {v : BitVec 32} (e : IntOp.andi (IntOp.cmpi .sge v 0#32) (IntOp.cmpi .slt v 128#32) = 1#1) : v.toNat < 128 := by
  obtain ⟨a, b⟩ := IntOp.andi_eq_one.1 e
  rw [IntOp.cmpi_sge] at a
  rw [IntOp.cmpi_slt] at b
  have h0 : (0#32 : BitVec 32).toInt = 0 := by decide
  have h1 : (128#32 : BitVec 32).toInt = 128 := by decide
  rw [h0] at a; rw [h1] at b
  rw [BitVec.toInt_eq_toNat_cond] at a b
  omega

end Cert.Proof.Tile

end
-- ==== Proof.Deal.lean ====
/-
  What the call is given, dealt to its 32 tasks, and what they give back, put together.
-/
module

public import proofs.«01_k».proof.Proof.Body

@[expose] public section

noncomputable section

namespace Cert.Proof.Tile

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Spec

variable {F : FTy → Type}

local notation "𝕄" => MT nD τ sig (HIx 1) (Elt F) ℕ UU ℕ

def coordsV (c : Fin (grid0.bound 0)) (s : Fin (grid0.bound 1)) : grid0.Coords :=
  fun | 0 => c | 1 => s | ⟨_ + 2, h⟩ => absurd h (Nat.not_lt.2 (Nat.le_add_left _ _))

/-- A task: a core and a subcore. -/
abbrev Tk : Type := Fin 2 × Fin 16
abbrev Lt (t : Tk) : grid0.Coords := coordsV t.1 t.2

/-- The share of the operands that a task reads with. -/
def shr (t : Tk) : PosShare TreeShare := Transfers.dealOf (Transfers.dealOf fullShare (Finset.univ : Finset (Fin 2)) t.1) (Finset.univ : Finset (Fin 16)) t.2

variable (d : Dev nD)

abbrev at_ (b : Ref sig .tc) : Loc nD τ sig := (SparseCore.T d).loc b

theorem dealt {ℓ : Loc nD τ sig} (f : Buf (Elt F) ℓ) :
    (ℓ ↦{fullShare} f : sProp 𝕄) = bigSep Finset.univ fun t : Tk => ℓ ↦[Finset.univ]{shr t} f := by
  rw [← Finset.univ_product_univ, SparseCore.bigSep_product]
  refine (Transfers.pointsTo_deal (Finset.univ : Finset (Fin 2)) Finset.univ_nonempty fullShare).trans ?_
  exact bigSep_congr fun c _ => Transfers.pointsTo_deal (Finset.univ : Finset (Fin 16)) Finset.univ_nonempty _

/-! ## The rows of the result -/

/-- The elements of a task's chunk of the result. -/
def chSet (p : Tk × Fin 28) : Finset S3584x4096.Idx := (rectO (Lt p.1) p.2).set

theorem chO_set (L : grid0.Coords) (k : Fin 28) : (chO L k).view.set = (rectO L k).set := by
  show ((View.whole (main_v14_scv : Ref sig .scVector)).slice (rectO L k)).set = _
  rw [View.set_slice]; exact Finset.map_refl

theorem mem_chSet (p : Tk × Fin 28) (j : S3584x4096.Idx) :
    j ∈ chSet p ↔ row0 (Lt p.1) + 4 * p.2.val ≤ (rwO j).val ∧ (rwO j).val < row0 (Lt p.1) + 4 * p.2.val + 4 := by
  unfold chSet
  rw [Rect.mem_set_unit]
  constructor
  · intro h; exact h 0
  · intro h a
    match a with
    | 0 => exact h
    | 1 => exact ⟨Nat.zero_le _, by show (clO j).val < 0 + 4096; have := (clO j).isLt; omega⟩

theorem row0_Lt (t : Tk) : row0 (Lt t) = 224 * t.2.val + 112 * t.1.val := rfl

theorem chSet_disj : ∀ p ∈ (Finset.univ : Finset (Tk × Fin 28)), ∀ p' ∈ (Finset.univ : Finset (Tk × Fin 28)), p ≠ p' → Disjoint (chSet p) (chSet p') := by
  intro p _ p' _ hne
  refine Finset.disjoint_left.mpr fun j h h' => hne ?_
  rw [mem_chSet, row0_Lt] at h h'
  obtain ⟨⟨c, i⟩, k⟩ := p; obtain ⟨⟨c', i'⟩, k'⟩ := p'
  have := c.isLt; have := c'.isLt; have := k.isLt; have := k'.isLt
  simp only at h h'
  have e1 : c = c' := Fin.ext (by omega)
  have e2 : i = i' := Fin.ext (by omega)
  have e3 : k = k' := Fin.ext (by omega)
  rw [e1, e2, e3]

theorem chSet_cover : (Finset.univ : Finset (Tk × Fin 28)).biUnion chSet = Finset.univ := by
  apply Finset.eq_univ_of_forall
  intro j
  rw [Finset.mem_biUnion]
  have hj := (rwO j).isLt
  refine ⟨((⟨(rwO j).val % 224 / 112, by omega⟩, ⟨(rwO j).val / 224, by omega⟩), ⟨(rwO j).val % 112 / 4, by omega⟩), Finset.mem_univ _, (mem_chSet _ j).2 ?_⟩
  rw [row0_Lt]
  dsimp only
  constructor <;> omega

theorem rows_deal (O : Vec F S3584x4096 .f32) :
    (at_ d main_v14 ↦{fullShare} O : sProp 𝕄) = bigSep Finset.univ fun t : Tk => Rows d (Lt t) O := by
  have h1 : (at_ d main_v14 ↦{fullShare} O : sProp 𝕄) = bigSep (Finset.univ : Finset (Tk × Fin 28)) fun p => at_ d main_v14 ↦[chSet p]{fullShare} O := by
    rw [← pointsTo_biUnion Finset.univ (ℓ := at_ d main_v14) chSet chSet_disj, chSet_cover]; try rfl
  rw [h1, ← Finset.univ_product_univ, SparseCore.bigSep_product]
  refine bigSep_congr fun t _ => ?_
  unfold Rows
  refine bigSep_congr fun k _ => ?_
  unfold OutCh
  rw [chO_set]
  rfl

/-! ## All that the call takes -/

/-- The operands, held outright, and the result at `O`. -/
def Whole (v : Vals F) (O : Vec F S3584x4096 .f32) : sProp 𝕄 :=
  iprop(((at_ d main_arg0 ↦{fullShare} v.X) ∗ (at_ d main_v8 ↦{fullShare} v.I0) ∗ (at_ d main_v9 ↦{fullShare} v.I1)
    ∗ (at_ d main_v11 ↦{fullShare} v.C) ∗ (at_ d main_v12 ↦{fullShare} v.Sn) ∗ (at_ d main_v13 ↦{fullShare} v.SC)) ∗ (at_ d main_v14 ↦{fullShare} O))

theorem ops_eq (L : grid0.Coords) (q : PosShare TreeShare) (v : Vals F) :
    (Ops d L q v : sProp 𝕄) = iprop((at_ d main_arg0 ↦[Finset.univ]{q} v.X) ∗ (at_ d main_v8 ↦[Finset.univ]{q} v.I0) ∗ (at_ d main_v9 ↦[Finset.univ]{q} v.I1)
    ∗ (at_ d main_v11 ↦[Finset.univ]{q} v.C) ∗ (at_ d main_v12 ↦[Finset.univ]{q} v.Sn) ∗ (at_ d main_v13 ↦[Finset.univ]{q} v.SC)) := by
  unfold Ops Arg
  rw [show gI0.view.set = Finset.univ from View.set_whole _, show gI1.view.set = Finset.univ from View.set_whole _, show gC.view.set = Finset.univ from View.set_whole _,
    show gS.view.set = Finset.univ from View.set_whole _, show gSc.view.set = Finset.univ from View.set_whole _]

theorem whole_deal (v : Vals F) (O : Vec F S3584x4096 .f32) :
    (Whole d v O : sProp 𝕄) = bigSep Finset.univ fun t : Tk => iprop(Ops d (Lt t) (shr t) v ∗ Rows d (Lt t) O) := by
  rw [bigSep_sep', ← rows_deal, bigSep_congr fun t _ => ops_eq d (Lt t) (shr t) v, bigSep_sep', bigSep_sep', bigSep_sep', bigSep_sep', bigSep_sep',
    ← dealt, ← dealt, ← dealt, ← dealt, ← dealt, ← dealt]
  rfl

end Cert.Proof.Tile

end
-- ==== Proof.Mat.lean ====
/-
  The operations of the function between the call on the SparseCores and the call on the TensorCore, and after them: what the
  matrices are as a function of the SparseCore call's operands.
-/
module

public import proofs.«01_k».proof.Proof.Host
public import Idealize.ShloMosaic.Lib.Pipeline.Regions

@[expose] public section

noncomputable section

namespace Cert.Proof.Tile

open Cert.KernelIdeal Cert.KernelIdeal.Gen
open Idealize.ShloMosaic
open Idealize.SL Idealize.SL.RA Idealize.SL.BI
open Idealize.SL.Sem
open Cert.Proof.Spec

variable {F : FTy → Type} [FloatOps F]

/-- The operations before the first remainder. -/
def opsP1 : List (HloOp τ sig (Elt F)) :=
  [StableHlo.reshape main_v13 main_v15 (rfl : (.f32 : EltTy) = .f32) shapeCasts_S4096_S32x128,
   StableHlo.nullary main_c_0 (constantI S_ 32 128#32)]

/-- The operations of the first remainder. -/
def opsP2 : List (HloOp τ sig (Elt F)) :=
  [StableHlo.unary main_c_0 main_call0_v0 (id : (⟨S_, .i32⟩ : BufTy).Contents (Elt F) → (⟨S_, .i32⟩ : BufTy).Contents (Elt F)),
   StableHlo.nullary main_call0_c (constantI S_ 32 0#32),
   StableHlo.binary main_call0_v0 main_call0_c main_call0_v1 (cmpi .eq : (⟨S_, .i32⟩ : BufTy).Contents (Elt F) → (⟨S_, .i32⟩ : BufTy).Contents (Elt F) → (⟨S_, .i1⟩ : BufTy).Contents (Elt F)),
   StableHlo.nullary main_call0_c_0 (constantI S_ 32 1#32),
   StableHlo.ternary main_call0_v1 main_call0_c_0 main_call0_v0 main_call0_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.unary main_call0_v2 main_call0_v3 (broadcastInDim S2048 ![] bcast_S_S2048 : (⟨S_, .i32⟩ : BufTy).Contents (Elt F) → (⟨S2048, .i32⟩ : BufTy).Contents (Elt F)),
   StableHlo.binary main_v8 main_call0_v3 main_call0_v4 (Host.remsi : (⟨S2048, .i32⟩ : BufTy).Contents (Elt F) → (⟨S2048, .i32⟩ : BufTy).Contents (Elt F) → (⟨S2048, .i32⟩ : BufTy).Contents (Elt F)),
   StableHlo.nullary main_call0_c_1 (constantI S_ 32 0#32),
   StableHlo.unary main_call0_c_1 main_call0_v5 (broadcastInDim S2048 ![] bcast_S_S2048 : (⟨S_, .i32⟩ : BufTy).Contents (Elt F) → (⟨S2048, .i32⟩ : BufTy).Contents (Elt F)),
   StableHlo.binary main_call0_v4 main_call0_v5 main_call0_v6 (cmpi .ne : (⟨S2048, .i32⟩ : BufTy).Contents (Elt F) → (⟨S2048, .i32⟩ : BufTy).Contents (Elt F) → (⟨S2048, .i1⟩ : BufTy).Contents (Elt F)),
   StableHlo.nullary main_call0_c_2 (constantI S_ 32 0#32),
   StableHlo.unary main_call0_c_2 main_call0_v7 (broadcastInDim S2048 ![] bcast_S_S2048 : (⟨S_, .i32⟩ : BufTy).Contents (Elt F) → (⟨S2048, .i32⟩ : BufTy).Contents (Elt F)),
   StableHlo.binary main_call0_v4 main_call0_v7 main_call0_v8 (cmpi .slt : (⟨S2048, .i32⟩ : BufTy).Contents (Elt F) → (⟨S2048, .i32⟩ : BufTy).Contents (Elt F) → (⟨S2048, .i1⟩ : BufTy).Contents (Elt F)),
   StableHlo.nullary main_call0_c_3 (constantI S_ 32 0#32),
   StableHlo.binary main_call0_v2 main_call0_c_3 main_call0_v9 (cmpi .slt : (⟨S_, .i32⟩ : BufTy).Contents (Elt F) → (⟨S_, .i32⟩ : BufTy).Contents (Elt F) → (⟨S_, .i1⟩ : BufTy).Contents (Elt F)),
   StableHlo.unary main_call0_v9 main_call0_v10 (broadcastInDim S2048 ![] bcast_S_S2048 : (⟨S_, .i1⟩ : BufTy).Contents (Elt F) → (⟨S2048, .i1⟩ : BufTy).Contents (Elt F)),
   StableHlo.binary main_call0_v8 main_call0_v10 main_call0_v11 (cmpi .ne : (⟨S2048, .i1⟩ : BufTy).Contents (Elt F) → (⟨S2048, .i1⟩ : BufTy).Contents (Elt F) → (⟨S2048, .i1⟩ : BufTy).Contents (Elt F)),
   StableHlo.binary main_call0_v11 main_call0_v6 main_call0_v12 (andi : (⟨S2048, .i1⟩ : BufTy).Contents (Elt F) → (⟨S2048, .i1⟩ : BufTy).Contents (Elt F) → (⟨S2048, .i1⟩ : BufTy).Contents (Elt F)),
   StableHlo.unary main_call0_v2 main_call0_v13 (broadcastInDim S2048 ![] bcast_S_S2048 : (⟨S_, .i32⟩ : BufTy).Contents (Elt F) → (⟨S2048, .i32⟩ : BufTy).Contents (Elt F)),
   StableHlo.binary main_call0_v4 main_call0_v13 main_call0_v14 (addi : (⟨S2048, .i32⟩ : BufTy).Contents (Elt F) → (⟨S2048, .i32⟩ : BufTy).Contents (Elt F) → (⟨S2048, .i32⟩ : BufTy).Contents (Elt F)),
   StableHlo.ternary main_call0_v12 main_call0_v14 main_call0_v4 main_v16 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))]

/-- The operations between the remainders. -/
def opsP3 : List (HloOp τ sig (Elt F)) :=
  [StableHlo.reshape main_v16 main_v17 (rfl : (.i32 : EltTy) = .i32) shapeCasts_S2048_S32x64,
   StableHlo.nullary main_c_1 (constantI S_ 32 128#32)]

/-- The operations of the second remainder. -/
def opsP4 : List (HloOp τ sig (Elt F)) :=
  [StableHlo.unary main_c_1 main_call1_v0 (id : (⟨S_, .i32⟩ : BufTy).Contents (Elt F) → (⟨S_, .i32⟩ : BufTy).Contents (Elt F)),
   StableHlo.nullary main_call1_c (constantI S_ 32 0#32),
   StableHlo.binary main_call1_v0 main_call1_c main_call1_v1 (cmpi .eq : (⟨S_, .i32⟩ : BufTy).Contents (Elt F) → (⟨S_, .i32⟩ : BufTy).Contents (Elt F) → (⟨S_, .i1⟩ : BufTy).Contents (Elt F)),
   StableHlo.nullary main_call1_c_0 (constantI S_ 32 1#32),
   StableHlo.ternary main_call1_v1 main_call1_c_0 main_call1_v0 main_call1_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
   StableHlo.unary main_call1_v2 main_call1_v3 (broadcastInDim S2048 ![] bcast_S_S2048 : (⟨S_, .i32⟩ : BufTy).Contents (Elt F) → (⟨S2048, .i32⟩ : BufTy).Contents (Elt F)),
   StableHlo.binary main_v9 main_call1_v3 main_call1_v4 (Host.remsi : (⟨S2048, .i32⟩ : BufTy).Contents (Elt F) → (⟨S2048, .i32⟩ : BufTy).Contents (Elt F) → (⟨S2048, .i32⟩ : BufTy).Contents (Elt F)),
   StableHlo.nullary main_call1_c_1 (constantI S_ 32 0#32),
   StableHlo.unary main_call1_c_1 main_call1_v5 (broadcastInDim S2048 ![] bcast_S_S2048 : (⟨S_, .i32⟩ : BufTy).Contents (Elt F) → (⟨S2048, .i32⟩ : BufTy).Contents (Elt F)),
   StableHlo.binary main_call1_v4 main_call1_v5 main_call1_v6 (cmpi .ne : (⟨S2048, .i32⟩ : BufTy).Contents (Elt F) → (⟨S2048, .i32⟩ : BufTy).Contents (Elt F) → (⟨S2048, .i1⟩ : BufTy).Contents (Elt F)),
   StableHlo.nullary main_call1_c_2 (constantI S_ 32 0#32),
   StableHlo.unary main_call1_c_2 main_call1_v7 (broadcastInDim S2048 ![] bcast_S_S2048 : (⟨S_, .i32⟩ : BufTy).Contents (Elt F) → (⟨S2048, .i32⟩ : BufTy).Contents (Elt F)),
   StableHlo.binary main_call1_v4 main_call1_v7 main_call1_v8 (cmpi .slt : (⟨S2048, .i32⟩ : BufTy).Contents (Elt F) → (⟨S2048, .i32⟩ : BufTy).Contents (Elt F) → (⟨S2048, .i1⟩ : BufTy).Contents (Elt F)),
   StableHlo.nullary main_call1_c_3 (constantI S_ 32 0#32),
   StableHlo.binary main_call1_v2 main_call1_c_3 main_call1_v9 (cmpi .slt : (⟨S_, .i32⟩ : BufTy).Contents (Elt F) → (⟨S_, .i32⟩ : BufTy).Contents (Elt F) → (⟨S_, .i1⟩ : BufTy).Contents (Elt F)),
   StableHlo.unary main_call1_v9 main_call1_v10 (broadcastInDim S2048 ![] bcast_S_S2048 : (⟨S_, .i1⟩ : BufTy).Contents (Elt F) → (⟨S2048, .i1⟩ : BufTy).Contents (Elt F)),
   StableHlo.binary main_call1_v8 main_call1_v10 main_call1_v11 (cmpi .ne : (⟨S2048, .i1⟩ : BufTy).Contents (Elt F) → (⟨S2048, .i1⟩ : BufTy).Contents (Elt F) → (⟨S2048, .i1⟩ : BufTy).Contents (Elt F)),
   StableHlo.binary main_call1_v11 main_call1_v6 main_call1_v12 (andi : (⟨S2048, .i1⟩ : BufTy).Contents (Elt F) → (⟨S2048, .i1⟩ : BufTy).Contents (Elt F) → (⟨S2048, .i1⟩ : BufTy).Contents (Elt F)),
   StableHlo.unary main_call1_v2 main_call1_v13 (broadcastInDim S2048 ![] bcast_S_S2048 : (⟨S_, .i32⟩ : BufTy).Contents (Elt F) → (⟨S2048, .i32⟩ : BufTy).Contents (Elt F)),
   StableHlo.binary main_call1_v4 main_call1_v13 main_call1_v14 (addi : (⟨S2048, .i32⟩ : BufTy).Contents (Elt F) → (⟨S2048, .i32⟩ : BufTy).Contents (Elt F) → (⟨S2048, .i32⟩ : BufTy).Contents (Elt F)),
   StableHlo.ternary main_call1_v12 main_call1_v14 main_call1_v4 main_v18 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))]

/-- The operations after the remainders. -/
def opsP5 : List (HloOp τ sig (Elt F)) :=
  [StableHlo.reshape main_v18 main_v19 (rfl : (.i32 : EltTy) = .i32) shapeCasts_S2048_S32x64]

/-- The operations that mark each pair’s two columns. -/
def opsQ : List (HloOp τ sig (Elt F)) :=
  [StableHlo.nullary main_v20 (iotaInDim S128 32 0),
   StableHlo.unary main_v17 main_v21 (broadcastInDim S32x64x1 ![0, 1] bcast_S32x64_S32x64x1_0_1 : (⟨S32x64, .i32⟩ : BufTy).Contents (Elt F) → (⟨S32x64x1, .i32⟩ : BufTy).Contents (Elt F)),
   StableHlo.unary main_v20 main_v22 (broadcastInDim S1x1x128 ![2] bcast_S128_S1x1x128_2 : (⟨S128, .i32⟩ : BufTy).Contents (Elt F) → (⟨S1x1x128, .i32⟩ : BufTy).Contents (Elt F)),
   StableHlo.unary main_v21 main_v23 (broadcastInDim S32x64x128 ![0, 1, 2] bcast_S32x64x1_S32x64x128_0_1_2 : (⟨S32x64x1, .i32⟩ : BufTy).Contents (Elt F) → (⟨S32x64x128, .i32⟩ : BufTy).Contents (Elt F)),
   StableHlo.unary main_v22 main_v24 (broadcastInDim S32x64x128 ![0, 1, 2] bcast_S1x1x128_S32x64x128_0_1_2 : (⟨S1x1x128, .i32⟩ : BufTy).Contents (Elt F) → (⟨S32x64x128, .i32⟩ : BufTy).Contents (Elt F)),
   StableHlo.binary main_v23 main_v24 main_v25 (cmpi .eq : (⟨S32x64x128, .i32⟩ : BufTy).Contents (Elt F) → (⟨S32x64x128, .i32⟩ : BufTy).Contents (Elt F) → (⟨S32x64x128, .i1⟩ : BufTy).Contents (Elt F)),
   StableHlo.unary main_v25 main_v26 (uitofp .f32 : (⟨S32x64x128, .i1⟩ : BufTy).Contents (Elt F) → (⟨S32x64x128, .f32⟩ : BufTy).Contents (Elt F)),
   StableHlo.unary main_v19 main_v27 (broadcastInDim S32x64x1 ![0, 1] bcast_S32x64_S32x64x1_0_1 : (⟨S32x64, .i32⟩ : BufTy).Contents (Elt F) → (⟨S32x64x1, .i32⟩ : BufTy).Contents (Elt F)),
   StableHlo.unary main_v20 main_v28 (broadcastInDim S1x1x128 ![2] bcast_S128_S1x1x128_2 : (⟨S128, .i32⟩ : BufTy).Contents (Elt F) → (⟨S1x1x128, .i32⟩ : BufTy).Contents (Elt F)),
   StableHlo.unary main_v27 main_v29 (broadcastInDim S32x64x128 ![0, 1, 2] bcast_S32x64x1_S32x64x128_0_1_2 : (⟨S32x64x1, .i32⟩ : BufTy).Contents (Elt F) → (⟨S32x64x128, .i32⟩ : BufTy).Contents (Elt F)),
   StableHlo.unary main_v28 main_v30 (broadcastInDim S32x64x128 ![0, 1, 2] bcast_S1x1x128_S32x64x128_0_1_2 : (⟨S1x1x128, .i32⟩ : BufTy).Contents (Elt F) → (⟨S32x64x128, .i32⟩ : BufTy).Contents (Elt F)),
   StableHlo.binary main_v29 main_v30 main_v31 (cmpi .eq : (⟨S32x64x128, .i32⟩ : BufTy).Contents (Elt F) → (⟨S32x64x128, .i32⟩ : BufTy).Contents (Elt F) → (⟨S32x64x128, .i1⟩ : BufTy).Contents (Elt F)),
   StableHlo.unary main_v31 main_v32 (uitofp .f32 : (⟨S32x64x128, .i1⟩ : BufTy).Contents (Elt F) → (⟨S32x64x128, .f32⟩ : BufTy).Contents (Elt F))]

/-- The operations that give the coefficients. -/
def opsR : List (HloOp τ sig (Elt F)) :=
  [StableHlo.binary main_v26 main_v15 main_v33 ((fun l r => Host.dotGeneral dot_S32x64x128_S32x128_S32x64_2_1_1_n_0_0 none l r) : (⟨S32x64x128, .f32⟩ : BufTy).Contents (Elt F) → (⟨S32x128, .f32⟩ : BufTy).Contents (Elt F) → (⟨S32x64, .f32⟩ : BufTy).Contents (Elt F)),
   StableHlo.binary main_v32 main_v15 main_v34 ((fun l r => Host.dotGeneral dot_S32x64x128_S32x128_S32x64_2_1_1_n_0_0 none l r) : (⟨S32x64x128, .f32⟩ : BufTy).Contents (Elt F) → (⟨S32x128, .f32⟩ : BufTy).Contents (Elt F) → (⟨S32x64, .f32⟩ : BufTy).Contents (Elt F)),
   StableHlo.reshape main_v11 main_v35 (rfl : (.f32 : EltTy) = .f32) shapeCasts_S2048_S32x64,
   StableHlo.reshape main_v12 main_v36 (rfl : (.f32 : EltTy) = .f32) shapeCasts_S2048_S32x64,
   StableHlo.binary main_v35 main_v33 main_v37 (mulf : (⟨S32x64, .f32⟩ : BufTy).Contents (Elt F) → (⟨S32x64, .f32⟩ : BufTy).Contents (Elt F) → (⟨S32x64, .f32⟩ : BufTy).Contents (Elt F)),
   StableHlo.binary main_v36 main_v34 main_v38 (mulf : (⟨S32x64, .f32⟩ : BufTy).Contents (Elt F) → (⟨S32x64, .f32⟩ : BufTy).Contents (Elt F) → (⟨S32x64, .f32⟩ : BufTy).Contents (Elt F)),
   StableHlo.binary main_v36 main_v33 main_v39 (mulf : (⟨S32x64, .f32⟩ : BufTy).Contents (Elt F) → (⟨S32x64, .f32⟩ : BufTy).Contents (Elt F) → (⟨S32x64, .f32⟩ : BufTy).Contents (Elt F)),
   StableHlo.binary main_v35 main_v34 main_v40 (mulf : (⟨S32x64, .f32⟩ : BufTy).Contents (Elt F) → (⟨S32x64, .f32⟩ : BufTy).Contents (Elt F) → (⟨S32x64, .f32⟩ : BufTy).Contents (Elt F))]

/-- The operations that give the matrices, up to the last product. -/
def opsM1 : List (HloOp τ sig (Elt F)) :=
  [StableHlo.unary main_v37 main_v41 (broadcastInDim S32x64x1 ![0, 1] bcast_S32x64_S32x64x1_0_1 : (⟨S32x64, .f32⟩ : BufTy).Contents (Elt F) → (⟨S32x64x1, .f32⟩ : BufTy).Contents (Elt F)),
   StableHlo.unary main_v26 main_v42 (broadcastInDim S32x64x1x128 ![0, 1, 3] bcast_S32x64x128_S32x64x1x128_0_1_3 : (⟨S32x64x128, .f32⟩ : BufTy).Contents (Elt F) → (⟨S32x64x1x128, .f32⟩ : BufTy).Contents (Elt F)),
   StableHlo.binary main_v41 main_v42 main_v43 ((fun l r => Host.dotGeneral dot_S32x64x1_S32x64x1x128_S32x64x128_2_2_n_3_01_01 none l r) : (⟨S32x64x1, .f32⟩ : BufTy).Contents (Elt F) → (⟨S32x64x1x128, .f32⟩ : BufTy).Contents (Elt F) → (⟨S32x64x128, .f32⟩ : BufTy).Contents (Elt F)),
   StableHlo.binary main_v43 main_v26 main_v44 ((fun l r => Host.dotGeneral dot_S32x64x128_S32x64x128_S32x128x128_1_1_2_2_0_0 none l r) : (⟨S32x64x128, .f32⟩ : BufTy).Contents (Elt F) → (⟨S32x64x128, .f32⟩ : BufTy).Contents (Elt F) → (⟨S32x128x128, .f32⟩ : BufTy).Contents (Elt F)),
   StableHlo.unary main_v38 main_v45 (broadcastInDim S32x64x1 ![0, 1] bcast_S32x64_S32x64x1_0_1 : (⟨S32x64, .f32⟩ : BufTy).Contents (Elt F) → (⟨S32x64x1, .f32⟩ : BufTy).Contents (Elt F)),
   StableHlo.unary main_v32 main_v46 (broadcastInDim S32x64x1x128 ![0, 1, 3] bcast_S32x64x128_S32x64x1x128_0_1_3 : (⟨S32x64x128, .f32⟩ : BufTy).Contents (Elt F) → (⟨S32x64x1x128, .f32⟩ : BufTy).Contents (Elt F)),
   StableHlo.binary main_v45 main_v46 main_v47 ((fun l r => Host.dotGeneral dot_S32x64x1_S32x64x1x128_S32x64x128_2_2_n_3_01_01 none l r) : (⟨S32x64x1, .f32⟩ : BufTy).Contents (Elt F) → (⟨S32x64x1x128, .f32⟩ : BufTy).Contents (Elt F) → (⟨S32x64x128, .f32⟩ : BufTy).Contents (Elt F)),
   StableHlo.binary main_v47 main_v26 main_v48 ((fun l r => Host.dotGeneral dot_S32x64x128_S32x64x128_S32x128x128_1_1_2_2_0_0 none l r) : (⟨S32x64x128, .f32⟩ : BufTy).Contents (Elt F) → (⟨S32x64x128, .f32⟩ : BufTy).Contents (Elt F) → (⟨S32x128x128, .f32⟩ : BufTy).Contents (Elt F)),
   StableHlo.binary main_v44 main_v48 main_v49 (subf : (⟨S32x128x128, .f32⟩ : BufTy).Contents (Elt F) → (⟨S32x128x128, .f32⟩ : BufTy).Contents (Elt F) → (⟨S32x128x128, .f32⟩ : BufTy).Contents (Elt F)),
   StableHlo.unary main_v39 main_v50 (broadcastInDim S32x64x1 ![0, 1] bcast_S32x64_S32x64x1_0_1 : (⟨S32x64, .f32⟩ : BufTy).Contents (Elt F) → (⟨S32x64x1, .f32⟩ : BufTy).Contents (Elt F)),
   StableHlo.unary main_v26 main_v51 (broadcastInDim S32x64x1x128 ![0, 1, 3] bcast_S32x64x128_S32x64x1x128_0_1_3 : (⟨S32x64x128, .f32⟩ : BufTy).Contents (Elt F) → (⟨S32x64x1x128, .f32⟩ : BufTy).Contents (Elt F)),
   StableHlo.binary main_v50 main_v51 main_v52 ((fun l r => Host.dotGeneral dot_S32x64x1_S32x64x1x128_S32x64x128_2_2_n_3_01_01 none l r) : (⟨S32x64x1, .f32⟩ : BufTy).Contents (Elt F) → (⟨S32x64x1x128, .f32⟩ : BufTy).Contents (Elt F) → (⟨S32x64x128, .f32⟩ : BufTy).Contents (Elt F)),
   StableHlo.binary main_v52 main_v32 main_v53 ((fun l r => Host.dotGeneral dot_S32x64x128_S32x64x128_S32x128x128_1_1_2_2_0_0 none l r) : (⟨S32x64x128, .f32⟩ : BufTy).Contents (Elt F) → (⟨S32x64x128, .f32⟩ : BufTy).Contents (Elt F) → (⟨S32x128x128, .f32⟩ : BufTy).Contents (Elt F)),
   StableHlo.binary main_v49 main_v53 main_v54 (addf : (⟨S32x128x128, .f32⟩ : BufTy).Contents (Elt F) → (⟨S32x128x128, .f32⟩ : BufTy).Contents (Elt F) → (⟨S32x128x128, .f32⟩ : BufTy).Contents (Elt F)),
   StableHlo.unary main_v40 main_v55 (broadcastInDim S32x64x1 ![0, 1] bcast_S32x64_S32x64x1_0_1 : (⟨S32x64, .f32⟩ : BufTy).Contents (Elt F) → (⟨S32x64x1, .f32⟩ : BufTy).Contents (Elt F))]

/-- The operations of the last product and the sum. -/
def opsM2 : List (HloOp τ sig (Elt F)) :=
  [StableHlo.unary main_v32 main_v56 (broadcastInDim S32x64x1x128 ![0, 1, 3] bcast_S32x64x128_S32x64x1x128_0_1_3 : (⟨S32x64x128, .f32⟩ : BufTy).Contents (Elt F) → (⟨S32x64x1x128, .f32⟩ : BufTy).Contents (Elt F)),
   StableHlo.binary main_v55 main_v56 main_v57 ((fun l r => Host.dotGeneral dot_S32x64x1_S32x64x1x128_S32x64x128_2_2_n_3_01_01 none l r) : (⟨S32x64x1, .f32⟩ : BufTy).Contents (Elt F) → (⟨S32x64x1x128, .f32⟩ : BufTy).Contents (Elt F) → (⟨S32x64x128, .f32⟩ : BufTy).Contents (Elt F)),
   StableHlo.binary main_v57 main_v32 main_v58 ((fun l r => Host.dotGeneral dot_S32x64x128_S32x64x128_S32x128x128_1_1_2_2_0_0 none l r) : (⟨S32x64x128, .f32⟩ : BufTy).Contents (Elt F) → (⟨S32x64x128, .f32⟩ : BufTy).Contents (Elt F) → (⟨S32x128x128, .f32⟩ : BufTy).Contents (Elt F)),
   StableHlo.binary main_v54 main_v58 main_v59 (addf : (⟨S32x128x128, .f32⟩ : BufTy).Contents (Elt F) → (⟨S32x128x128, .f32⟩ : BufTy).Contents (Elt F) → (⟨S32x128x128, .f32⟩ : BufTy).Contents (Elt F))]

/-- The operations after the calls. -/
def opsC : List (HloOp τ sig (Elt F)) :=
  [StableHlo.binary main_v14 main_v60 main_v61 ((fun a b => concatenate S8192x4096 0 [⟨S3584x4096, a⟩, ⟨S4608x4096, b⟩] concatenates_S3584x4096_S4608x4096_S8192x4096_d0) : (⟨S3584x4096, .f32⟩ : BufTy).Contents (Elt F) → (⟨S4608x4096, .f32⟩ : BufTy).Contents (Elt F) → (⟨S8192x4096, .f32⟩ : BufTy).Contents (Elt F))]

theorem opsP1_tc : ∀ op ∈ opsP1 (F := F), op.bufs ⊆ StableHlo.tcRefs τ sig :=
  List.forall_mem_cons.2 ⟨StableHlo.reshape_bufs_sub .., List.forall_mem_cons.2 ⟨StableHlo.nullary_bufs_sub .., fun _ h => absurd h List.not_mem_nil⟩⟩

theorem opsP1_fresh : ∀ op ∈ opsP1 (F := F), op.fresh = ∅ :=
  List.forall_mem_cons.2 ⟨rfl, List.forall_mem_cons.2 ⟨rfl, fun _ h => absurd h List.not_mem_nil⟩⟩

theorem opsP2_tc : ∀ op ∈ opsP2 (F := F), op.bufs ⊆ StableHlo.tcRefs τ sig :=
  List.forall_mem_cons.2 ⟨StableHlo.unary_bufs_sub .., List.forall_mem_cons.2 ⟨StableHlo.nullary_bufs_sub .., List.forall_mem_cons.2 ⟨StableHlo.binary_bufs_sub .., List.forall_mem_cons.2 ⟨StableHlo.nullary_bufs_sub .., List.forall_mem_cons.2 ⟨StableHlo.ternary_bufs_sub .., List.forall_mem_cons.2 ⟨StableHlo.unary_bufs_sub .., List.forall_mem_cons.2 ⟨StableHlo.binary_bufs_sub .., List.forall_mem_cons.2 ⟨StableHlo.nullary_bufs_sub .., List.forall_mem_cons.2 ⟨StableHlo.unary_bufs_sub .., List.forall_mem_cons.2 ⟨StableHlo.binary_bufs_sub .., List.forall_mem_cons.2 ⟨StableHlo.nullary_bufs_sub .., List.forall_mem_cons.2 ⟨StableHlo.unary_bufs_sub .., List.forall_mem_cons.2 ⟨StableHlo.binary_bufs_sub .., List.forall_mem_cons.2 ⟨StableHlo.nullary_bufs_sub .., List.forall_mem_cons.2 ⟨StableHlo.binary_bufs_sub .., List.forall_mem_cons.2 ⟨StableHlo.unary_bufs_sub .., List.forall_mem_cons.2 ⟨StableHlo.binary_bufs_sub .., List.forall_mem_cons.2 ⟨StableHlo.binary_bufs_sub .., List.forall_mem_cons.2 ⟨StableHlo.unary_bufs_sub .., List.forall_mem_cons.2 ⟨StableHlo.binary_bufs_sub .., List.forall_mem_cons.2 ⟨StableHlo.ternary_bufs_sub .., fun _ h => absurd h List.not_mem_nil⟩⟩⟩⟩⟩⟩⟩⟩⟩⟩⟩⟩⟩⟩⟩⟩⟩⟩⟩⟩⟩

theorem opsP2_fresh : ∀ op ∈ opsP2 (F := F), op.fresh = ∅ :=
  List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, fun _ h => absurd h List.not_mem_nil⟩⟩⟩⟩⟩⟩⟩⟩⟩⟩⟩⟩⟩⟩⟩⟩⟩⟩⟩⟩⟩

theorem opsP3_tc : ∀ op ∈ opsP3 (F := F), op.bufs ⊆ StableHlo.tcRefs τ sig :=
  List.forall_mem_cons.2 ⟨StableHlo.reshape_bufs_sub .., List.forall_mem_cons.2 ⟨StableHlo.nullary_bufs_sub .., fun _ h => absurd h List.not_mem_nil⟩⟩

theorem opsP3_fresh : ∀ op ∈ opsP3 (F := F), op.fresh = ∅ :=
  List.forall_mem_cons.2 ⟨rfl, List.forall_mem_cons.2 ⟨rfl, fun _ h => absurd h List.not_mem_nil⟩⟩

theorem opsP4_tc : ∀ op ∈ opsP4 (F := F), op.bufs ⊆ StableHlo.tcRefs τ sig :=
  List.forall_mem_cons.2 ⟨StableHlo.unary_bufs_sub .., List.forall_mem_cons.2 ⟨StableHlo.nullary_bufs_sub .., List.forall_mem_cons.2 ⟨StableHlo.binary_bufs_sub .., List.forall_mem_cons.2 ⟨StableHlo.nullary_bufs_sub .., List.forall_mem_cons.2 ⟨StableHlo.ternary_bufs_sub .., List.forall_mem_cons.2 ⟨StableHlo.unary_bufs_sub .., List.forall_mem_cons.2 ⟨StableHlo.binary_bufs_sub .., List.forall_mem_cons.2 ⟨StableHlo.nullary_bufs_sub .., List.forall_mem_cons.2 ⟨StableHlo.unary_bufs_sub .., List.forall_mem_cons.2 ⟨StableHlo.binary_bufs_sub .., List.forall_mem_cons.2 ⟨StableHlo.nullary_bufs_sub .., List.forall_mem_cons.2 ⟨StableHlo.unary_bufs_sub .., List.forall_mem_cons.2 ⟨StableHlo.binary_bufs_sub .., List.forall_mem_cons.2 ⟨StableHlo.nullary_bufs_sub .., List.forall_mem_cons.2 ⟨StableHlo.binary_bufs_sub .., List.forall_mem_cons.2 ⟨StableHlo.unary_bufs_sub .., List.forall_mem_cons.2 ⟨StableHlo.binary_bufs_sub .., List.forall_mem_cons.2 ⟨StableHlo.binary_bufs_sub .., List.forall_mem_cons.2 ⟨StableHlo.unary_bufs_sub .., List.forall_mem_cons.2 ⟨StableHlo.binary_bufs_sub .., List.forall_mem_cons.2 ⟨StableHlo.ternary_bufs_sub .., fun _ h => absurd h List.not_mem_nil⟩⟩⟩⟩⟩⟩⟩⟩⟩⟩⟩⟩⟩⟩⟩⟩⟩⟩⟩⟩⟩

theorem opsP4_fresh : ∀ op ∈ opsP4 (F := F), op.fresh = ∅ :=
  List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, fun _ h => absurd h List.not_mem_nil⟩⟩⟩⟩⟩⟩⟩⟩⟩⟩⟩⟩⟩⟩⟩⟩⟩⟩⟩⟩⟩

theorem opsP5_tc : ∀ op ∈ opsP5 (F := F), op.bufs ⊆ StableHlo.tcRefs τ sig :=
  List.forall_mem_cons.2 ⟨StableHlo.reshape_bufs_sub .., fun _ h => absurd h List.not_mem_nil⟩

theorem opsP5_fresh : ∀ op ∈ opsP5 (F := F), op.fresh = ∅ :=
  List.forall_mem_cons.2 ⟨rfl, fun _ h => absurd h List.not_mem_nil⟩

theorem opsQ_tc : ∀ op ∈ opsQ (F := F), op.bufs ⊆ StableHlo.tcRefs τ sig :=
  List.forall_mem_cons.2 ⟨StableHlo.nullary_bufs_sub .., List.forall_mem_cons.2 ⟨StableHlo.unary_bufs_sub .., List.forall_mem_cons.2 ⟨StableHlo.unary_bufs_sub .., List.forall_mem_cons.2 ⟨StableHlo.unary_bufs_sub .., List.forall_mem_cons.2 ⟨StableHlo.unary_bufs_sub .., List.forall_mem_cons.2 ⟨StableHlo.binary_bufs_sub .., List.forall_mem_cons.2 ⟨StableHlo.unary_bufs_sub .., List.forall_mem_cons.2 ⟨StableHlo.unary_bufs_sub .., List.forall_mem_cons.2 ⟨StableHlo.unary_bufs_sub .., List.forall_mem_cons.2 ⟨StableHlo.unary_bufs_sub .., List.forall_mem_cons.2 ⟨StableHlo.unary_bufs_sub .., List.forall_mem_cons.2 ⟨StableHlo.binary_bufs_sub .., List.forall_mem_cons.2 ⟨StableHlo.unary_bufs_sub .., fun _ h => absurd h List.not_mem_nil⟩⟩⟩⟩⟩⟩⟩⟩⟩⟩⟩⟩⟩

theorem opsQ_fresh : ∀ op ∈ opsQ (F := F), op.fresh = ∅ :=
  List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, fun _ h => absurd h List.not_mem_nil⟩⟩⟩⟩⟩⟩⟩⟩⟩⟩⟩⟩⟩

theorem opsR_tc : ∀ op ∈ opsR (F := F), op.bufs ⊆ StableHlo.tcRefs τ sig :=
  List.forall_mem_cons.2 ⟨StableHlo.binary_bufs_sub .., List.forall_mem_cons.2 ⟨StableHlo.binary_bufs_sub .., List.forall_mem_cons.2 ⟨StableHlo.reshape_bufs_sub .., List.forall_mem_cons.2 ⟨StableHlo.reshape_bufs_sub .., List.forall_mem_cons.2 ⟨StableHlo.binary_bufs_sub .., List.forall_mem_cons.2 ⟨StableHlo.binary_bufs_sub .., List.forall_mem_cons.2 ⟨StableHlo.binary_bufs_sub .., List.forall_mem_cons.2 ⟨StableHlo.binary_bufs_sub .., fun _ h => absurd h List.not_mem_nil⟩⟩⟩⟩⟩⟩⟩⟩

theorem opsR_fresh : ∀ op ∈ opsR (F := F), op.fresh = ∅ :=
  List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, fun _ h => absurd h List.not_mem_nil⟩⟩⟩⟩⟩⟩⟩⟩

theorem opsM1_tc : ∀ op ∈ opsM1 (F := F), op.bufs ⊆ StableHlo.tcRefs τ sig :=
  List.forall_mem_cons.2 ⟨StableHlo.unary_bufs_sub .., List.forall_mem_cons.2 ⟨StableHlo.unary_bufs_sub .., List.forall_mem_cons.2 ⟨StableHlo.binary_bufs_sub .., List.forall_mem_cons.2 ⟨StableHlo.binary_bufs_sub .., List.forall_mem_cons.2 ⟨StableHlo.unary_bufs_sub .., List.forall_mem_cons.2 ⟨StableHlo.unary_bufs_sub .., List.forall_mem_cons.2 ⟨StableHlo.binary_bufs_sub .., List.forall_mem_cons.2 ⟨StableHlo.binary_bufs_sub .., List.forall_mem_cons.2 ⟨StableHlo.binary_bufs_sub .., List.forall_mem_cons.2 ⟨StableHlo.unary_bufs_sub .., List.forall_mem_cons.2 ⟨StableHlo.unary_bufs_sub .., List.forall_mem_cons.2 ⟨StableHlo.binary_bufs_sub .., List.forall_mem_cons.2 ⟨StableHlo.binary_bufs_sub .., List.forall_mem_cons.2 ⟨StableHlo.binary_bufs_sub .., List.forall_mem_cons.2 ⟨StableHlo.unary_bufs_sub .., fun _ h => absurd h List.not_mem_nil⟩⟩⟩⟩⟩⟩⟩⟩⟩⟩⟩⟩⟩⟩⟩

theorem opsM1_fresh : ∀ op ∈ opsM1 (F := F), op.fresh = ∅ :=
  List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, fun _ h => absurd h List.not_mem_nil⟩⟩⟩⟩⟩⟩⟩⟩⟩⟩⟩⟩⟩⟩⟩

theorem opsM2_tc : ∀ op ∈ opsM2 (F := F), op.bufs ⊆ StableHlo.tcRefs τ sig :=
  List.forall_mem_cons.2 ⟨StableHlo.unary_bufs_sub .., List.forall_mem_cons.2 ⟨StableHlo.binary_bufs_sub .., List.forall_mem_cons.2 ⟨StableHlo.binary_bufs_sub .., List.forall_mem_cons.2 ⟨StableHlo.binary_bufs_sub .., fun _ h => absurd h List.not_mem_nil⟩⟩⟩⟩

theorem opsM2_fresh : ∀ op ∈ opsM2 (F := F), op.fresh = ∅ :=
  List.forall_mem_cons.2 ⟨rfl, List.forall_mem_cons.2 ⟨rfl, List.forall_mem_cons.2 ⟨rfl, List.forall_mem_cons.2 ⟨rfl, fun _ h => absurd h List.not_mem_nil⟩⟩⟩⟩

theorem opsC_tc : ∀ op ∈ opsC (F := F), op.bufs ⊆ StableHlo.tcRefs τ sig :=
  List.forall_mem_cons.2 ⟨StableHlo.binary_bufs_sub .., fun _ h => absurd h List.not_mem_nil⟩

theorem opsC_fresh : ∀ op ∈ opsC (F := F), op.fresh = ∅ :=
  List.forall_mem_cons.2 ⟨rfl, fun _ h => absurd h List.not_mem_nil⟩

/-! ## The function -/

theorem rem0_eq : fn_remainder.body (F := F) (.of main_v8) (.of main_c_0) main_call0 = StableHlo.seq opsP2 := by chain_rfl
theorem rem1_eq : fn_remainder.body (F := F) (.of main_v9) (.of main_c_1) main_call1 = StableHlo.seq opsP4 := by chain_rfl

theorem part0_eq (d : Dev nD) : main_part0 (F := F) d = Pipeline.chainK
    [StableHlo.seq opsA, (K (F := F)).run d 0, StableHlo.seq opsP1, fn_remainder.body (.of main_v8) (.of main_c_0) main_call0,
      StableHlo.seq opsP3, fn_remainder.body (.of main_v9) (.of main_c_1) main_call1] (StableHlo.seq (opsP5 ++ (opsQ ++ (opsR ++ opsM1)))) := by
  rewrite [StableHlo.chainK_seq_cons, Pipeline.chainK_cons, StableHlo.chainK_seq_cons, Pipeline.chainK_cons, StableHlo.chainK_seq_cons, Pipeline.chainK_cons]
  chain_rfl

theorem part1_eq (d : Dev nD) : main_part1 (F := F) d = Pipeline.chain
    [StableHlo.seq opsM2, SparseCore.liftProg (Prog.lift (.customCall (Pipeline.entry (0 : Fin 1)) ())), StableHlo.seq opsC] := by
  rewrite [StableHlo.chain_seq_cons, Pipeline.chain_cons, StableHlo.chain_seq_cons]
  chain_rfl

/-- The operations between the two calls. -/
abbrev opsB : List (HloOp τ sig (Elt F)) := opsP1 ++ (opsP2 ++ (opsP3 ++ (opsP4 ++ (opsP5 ++ (opsQ ++ (opsR ++ (opsM1 ++ opsM2)))))))

/-- The function is its operations around the two calls. -/
theorem main_eq (d : Dev nD) : main (F := F) d = StableHlo.seq opsA >>= fun _ => (K (F := F)).run d 0 >>= fun _ =>
    StableHlo.seq opsB >>= fun _ => SparseCore.liftProg (Prog.lift (.customCall (Pipeline.entry (0 : Fin 1)) ())) >>= fun _ => StableHlo.seq opsC >>= fun _ => pure ⟨⟩ := by
  refine (Pipeline.chain_of_window (part0_eq d) (part1_eq d)).trans ?_
  simp only [List.cons_append, List.nil_append, Pipeline.chain_cons, Pipeline.chain_nil, rem0_eq, rem1_eq, StableHlo.seq_append, bind_assoc]

/-! ## What the operations leave alone -/

def opsP1W : List (Ref sig .tc) := [main_v15, main_c_0]
theorem opsP1_keep (W : Valuation τ sig (Elt F)) (b : Ref sig .tc) (h : b ∉ opsP1W) : StableHlo.after opsP1 W (rA b) = W (rA b) :=
  StableHlo.after_of_writes_sub opsP1 W (StableHlo.forall_writes_sub_of_map (W := opsP1W) rfl) h

def opsP2W : List (Ref sig .tc) := [main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v16]
theorem opsP2_keep (W : Valuation τ sig (Elt F)) (b : Ref sig .tc) (h : b ∉ opsP2W) : StableHlo.after opsP2 W (rA b) = W (rA b) :=
  StableHlo.after_of_writes_sub opsP2 W (StableHlo.forall_writes_sub_of_map (W := opsP2W) rfl) h

def opsP3W : List (Ref sig .tc) := [main_v17, main_c_1]
theorem opsP3_keep (W : Valuation τ sig (Elt F)) (b : Ref sig .tc) (h : b ∉ opsP3W) : StableHlo.after opsP3 W (rA b) = W (rA b) :=
  StableHlo.after_of_writes_sub opsP3 W (StableHlo.forall_writes_sub_of_map (W := opsP3W) rfl) h

def opsP4W : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v18]
theorem opsP4_keep (W : Valuation τ sig (Elt F)) (b : Ref sig .tc) (h : b ∉ opsP4W) : StableHlo.after opsP4 W (rA b) = W (rA b) :=
  StableHlo.after_of_writes_sub opsP4 W (StableHlo.forall_writes_sub_of_map (W := opsP4W) rfl) h

def opsP5W : List (Ref sig .tc) := [main_v19]
theorem opsP5_keep (W : Valuation τ sig (Elt F)) (b : Ref sig .tc) (h : b ∉ opsP5W) : StableHlo.after opsP5 W (rA b) = W (rA b) :=
  StableHlo.after_of_writes_sub opsP5 W (StableHlo.forall_writes_sub_of_map (W := opsP5W) rfl) h

def opsQW : List (Ref sig .tc) := [main_v20, main_v21, main_v22, main_v23, main_v24, main_v25, main_v26, main_v27, main_v28, main_v29, main_v30, main_v31, main_v32]
theorem opsQ_keep (W : Valuation τ sig (Elt F)) (b : Ref sig .tc) (h : b ∉ opsQW) : StableHlo.after opsQ W (rA b) = W (rA b) :=
  StableHlo.after_of_writes_sub opsQ W (StableHlo.forall_writes_sub_of_map (W := opsQW) rfl) h

def opsRW : List (Ref sig .tc) := [main_v33, main_v34, main_v35, main_v36, main_v37, main_v38, main_v39, main_v40]
theorem opsR_keep (W : Valuation τ sig (Elt F)) (b : Ref sig .tc) (h : b ∉ opsRW) : StableHlo.after opsR W (rA b) = W (rA b) :=
  StableHlo.after_of_writes_sub opsR W (StableHlo.forall_writes_sub_of_map (W := opsRW) rfl) h

def opsM1W : List (Ref sig .tc) := [main_v41, main_v42, main_v43, main_v44, main_v45, main_v46, main_v47, main_v48, main_v49, main_v50, main_v51, main_v52, main_v53, main_v54, main_v55]
theorem opsM1_keep (W : Valuation τ sig (Elt F)) (b : Ref sig .tc) (h : b ∉ opsM1W) : StableHlo.after opsM1 W (rA b) = W (rA b) :=
  StableHlo.after_of_writes_sub opsM1 W (StableHlo.forall_writes_sub_of_map (W := opsM1W) rfl) h

def opsM2W : List (Ref sig .tc) := [main_v56, main_v57, main_v58, main_v59]
theorem opsM2_keep (W : Valuation τ sig (Elt F)) (b : Ref sig .tc) (h : b ∉ opsM2W) : StableHlo.after opsM2 W (rA b) = W (rA b) :=
  StableHlo.after_of_writes_sub opsM2 W (StableHlo.forall_writes_sub_of_map (W := opsM2W) rfl) h

/-- The operations between the calls leave a buffer none of them writes as it was. -/
theorem opsB_keep (W : Valuation τ sig (Elt F)) (b : Ref sig .tc)
    (h : b ∉ opsP1W ∧ b ∉ opsP2W ∧ b ∉ opsP3W ∧ b ∉ opsP4W ∧ b ∉ opsP5W ∧ b ∉ opsQW ∧ b ∉ opsRW ∧ b ∉ opsM1W ∧ b ∉ opsM2W) :
    StableHlo.after opsB W (rA b) = W (rA b) := by
  obtain ⟨h1, h2, h3, h4, h5, h6, h7, h8, h9⟩ := h
  simp only [opsB, StableHlo.after_append]
  rw [opsM2_keep _ b h9, opsM1_keep _ b h8, opsR_keep _ b h7, opsQ_keep _ b h6, opsP5_keep _ b h5, opsP4_keep _ b h4, opsP3_keep _ b h3, opsP2_keep _ b h2, opsP1_keep _ b h1]

theorem opsB_tc : ∀ op ∈ opsB (F := F), op.bufs ⊆ StableHlo.tcRefs τ sig :=
  List.forall_mem_append.2 ⟨opsP1_tc, List.forall_mem_append.2 ⟨opsP2_tc, List.forall_mem_append.2 ⟨opsP3_tc, List.forall_mem_append.2 ⟨opsP4_tc, List.forall_mem_append.2 ⟨opsP5_tc, List.forall_mem_append.2 ⟨opsQ_tc, List.forall_mem_append.2 ⟨opsR_tc, List.forall_mem_append.2 ⟨opsM1_tc, opsM2_tc⟩⟩⟩⟩⟩⟩⟩⟩
theorem opsB_fresh : ∀ op ∈ opsB (F := F), op.fresh = ∅ :=
  List.forall_mem_append.2 ⟨opsP1_fresh, List.forall_mem_append.2 ⟨opsP2_fresh, List.forall_mem_append.2 ⟨opsP3_fresh, List.forall_mem_append.2 ⟨opsP4_fresh, List.forall_mem_append.2 ⟨opsP5_fresh, List.forall_mem_append.2 ⟨opsQ_fresh, List.forall_mem_append.2 ⟨opsR_fresh, List.forall_mem_append.2 ⟨opsM1_fresh, opsM2_fresh⟩⟩⟩⟩⟩⟩⟩⟩
theorem opsB_sub : ∀ op ∈ opsB (F := F), op.bufs ⊆ Pipeline.ucRefs τ sig := fun op h => Pipeline.sub_ucRefs op (opsB_tc op h)
theorem opsC_sub : ∀ op ∈ opsC (F := F), op.bufs ⊆ Pipeline.ucRefs τ sig := fun op h => Pipeline.sub_ucRefs op (opsC_tc op h)

/-! ## The matrices as a function of the call's operands -/

/-- The divisor of a remainder, one where it is zero. -/
def divOf (n : IVec S_ 32) : IVec S_ 32 := select (cmpi .eq n (constantI S_ 32 0#32)) (constantI S_ 32 1#32) n
/-- A remainder moved up by the divisor where the two differ in sign and it is not zero. -/
def fixOf (r : IVec S2048 32) (n : IVec S_ 32) : IVec S2048 32 :=
  select (andi (cmpi .ne (cmpi .slt r (broadcastInDim S2048 ![] bcast_S_S2048 (constantI S_ 32 0#32))) (broadcastInDim S2048 ![] bcast_S_S2048 (cmpi .slt n (constantI S_ 32 0#32))))
      (cmpi .ne r (broadcastInDim S2048 ![] bcast_S_S2048 (constantI S_ 32 0#32))))
    (addi r (broadcastInDim S2048 ![] bcast_S_S2048 n)) r
/-- The remainder of each entry by the divisor. -/
def remOf (x : IVec S2048 32) (n : IVec S_ 32) : IVec S2048 32 := fixOf (Host.remsi x (broadcastInDim S2048 ![] bcast_S_S2048 (divOf n))) (divOf n)
/-- One at each pair's column, zero at the others. -/
def markOf (k : IVec S32x64 32) : FVec F S32x64x128 .f32 :=
  uitofp .f32 (cmpi .eq (broadcastInDim S32x64x128 ![0, 1, 2] bcast_S32x64x1_S32x64x128_0_1_2 (broadcastInDim S32x64x1 ![0, 1] bcast_S32x64_S32x64x1_0_1 k))
    (broadcastInDim S32x64x128 ![0, 1, 2] bcast_S1x1x128_S32x64x128_0_1_2 (broadcastInDim S1x1x128 ![2] bcast_S128_S1x1x128_2 (iotaInDim S128 32 0))))
/-- The scale of each pair's column. -/
def scaleOf (o : FVec F S32x64x128 .f32) (s : FVec F S32x128 .f32) : FVec F S32x64 .f32 :=
  Host.dotGeneral dot_S32x64x128_S32x128_S32x64_2_1_1_n_0_0 none o s
/-- The sum over the pairs of a coefficient at the row one mark names and the column the other does. -/
def termOf (a : FVec F S32x64 .f32) (o o' : FVec F S32x64x128 .f32) : FVec F S32x128x128 .f32 :=
  Host.dotGeneral dot_S32x64x128_S32x64x128_S32x128x128_1_1_2_2_0_0 none
    (Host.dotGeneral dot_S32x64x1_S32x64x1x128_S32x64x128_2_2_n_3_01_01 none (broadcastInDim S32x64x1 ![0, 1] bcast_S32x64_S32x64x1_0_1 a)
      (broadcastInDim S32x64x1x128 ![0, 1, 3] bcast_S32x64x128_S32x64x1x128_0_1_3 o)) o'
/-- The matrices, from the coefficients and the marks. -/
def matOf (a b d e : FVec F S32x64 .f32) (o o' : FVec F S32x64x128 .f32) : FVec F S32x128x128 .f32 :=
  addf (addf (subf (termOf a o o) (termOf b o' o)) (termOf d o o')) (termOf e o' o')

/-- The marks of a column of each pair. -/
def marksOf (x : IVec S2048 32) : FVec F S32x64x128 .f32 := markOf (shapeCast S32x64 (remOf x (constantI S_ 32 128#32)) shapeCasts_S2048_S32x64)
/-- A coefficient of each pair times the scale of one of its columns. -/
def coefOf (t : FVec F S2048 .f32) (o : FVec F S32x64x128 .f32) (s : FVec F S4096 .f32) : FVec F S32x64 .f32 :=
  mulf (shapeCast S32x64 t shapeCasts_S2048_S32x64) (scaleOf o (shapeCast S32x128 s shapeCasts_S4096_S32x128))
/-- The matrices. -/
def bmatOf (V : Vals F) : FVec F S32x128x128 .f32 :=
  matOf (coefOf V.C (marksOf V.I0) V.SC) (coefOf V.Sn (marksOf V.I1) V.SC) (coefOf V.Sn (marksOf V.I0) V.SC) (coefOf V.C (marksOf V.I1) V.SC) (marksOf V.I0) (marksOf V.I1)

section Stages
variable (W : Valuation τ sig (Elt F))
theorem opsP1_v15 : StableHlo.after opsP1 W (rA main_v15) = (shapeCast S32x128 (W (rA main_v13) : FVec F S4096 .f32) shapeCasts_S4096_S32x128 : FVec F S32x128 .f32) := by unfold opsP1; after_results; rfl
theorem opsP1_c0 : StableHlo.after opsP1 W (rA main_c_0) = constantI S_ 32 128#32 := by unfold opsP1; after_results
theorem opsP2_v16 : StableHlo.after opsP2 W (rA main_v16) = remOf (W (rA main_v8)) (W (rA main_c_0)) := by unfold opsP2; after_results_simp; rfl
theorem opsP3_v17 : StableHlo.after opsP3 W (rA main_v17) = (shapeCast S32x64 (W (rA main_v16) : IVec S2048 32) shapeCasts_S2048_S32x64 : IVec S32x64 32) := by unfold opsP3; after_results; rfl
theorem opsP3_c1 : StableHlo.after opsP3 W (rA main_c_1) = constantI S_ 32 128#32 := by unfold opsP3; after_results
theorem opsP4_v18 : StableHlo.after opsP4 W (rA main_v18) = remOf (W (rA main_v9)) (W (rA main_c_1)) := by unfold opsP4; after_results_simp; rfl
theorem opsP5_v19 : StableHlo.after opsP5 W (rA main_v19) = (shapeCast S32x64 (W (rA main_v18) : IVec S2048 32) shapeCasts_S2048_S32x64 : IVec S32x64 32) := by unfold opsP5; after_results; rfl
theorem opsQ_v26 : StableHlo.after opsQ W (rA main_v26) = markOf (W (rA main_v17)) := by unfold opsQ; after_results_simp; rfl
theorem opsQ_v32 : StableHlo.after opsQ W (rA main_v32) = markOf (W (rA main_v19)) := by unfold opsQ; after_results_simp; rfl
theorem opsR_v37 : StableHlo.after opsR W (rA main_v37) = mulf (shapeCast S32x64 (W (rA main_v11) : FVec F S2048 .f32) shapeCasts_S2048_S32x64) (scaleOf (W (rA main_v26)) (W (rA main_v15))) := by unfold opsR; after_results_simp; rfl
theorem opsR_v38 : StableHlo.after opsR W (rA main_v38) = mulf (shapeCast S32x64 (W (rA main_v12) : FVec F S2048 .f32) shapeCasts_S2048_S32x64) (scaleOf (W (rA main_v32)) (W (rA main_v15))) := by unfold opsR; after_results_simp; rfl
theorem opsR_v39 : StableHlo.after opsR W (rA main_v39) = mulf (shapeCast S32x64 (W (rA main_v12) : FVec F S2048 .f32) shapeCasts_S2048_S32x64) (scaleOf (W (rA main_v26)) (W (rA main_v15))) := by unfold opsR; after_results_simp; rfl
theorem opsR_v40 : StableHlo.after opsR W (rA main_v40) = mulf (shapeCast S32x64 (W (rA main_v11) : FVec F S2048 .f32) shapeCasts_S2048_S32x64) (scaleOf (W (rA main_v32)) (W (rA main_v15))) := by unfold opsR; after_results_simp; rfl
theorem opsM_v59 : StableHlo.after opsM2 (StableHlo.after opsM1 W) (rA main_v59)
    = matOf (W (rA main_v37)) (W (rA main_v38)) (W (rA main_v39)) (W (rA main_v40)) (W (rA main_v26)) (W (rA main_v32)) := by
  unfold opsM2 opsM1; after_results_simp; rfl

end Stages

section
variable (W : Valuation τ sig (Elt F)) (V : Vals F)

/-- The matrices the operations between the calls leave. -/
theorem opsB_v59 (h8 : W (rA main_v8) = V.I0) (h9 : W (rA main_v9) = V.I1) (h11 : W (rA main_v11) = V.C) (h12 : W (rA main_v12) = V.Sn) (h13 : W (rA main_v13) = V.SC) :
    StableHlo.after opsB W (rA main_v59) = bmatOf V := by
  simp only [opsB, StableHlo.after_append]
  rw [opsM_v59, opsR_v37, opsR_v38, opsR_v39, opsR_v40]
  rw [opsR_keep _ main_v26 (by decide), opsR_keep _ main_v32 (by decide), opsQ_v26, opsQ_v32, opsQ_keep _ main_v11 (by decide), opsQ_keep _ main_v12 (by decide), opsQ_keep _ main_v15 (by decide)]
  rw [opsP5_v19, opsP5_keep _ main_v17 (by decide), opsP5_keep _ main_v11 (by decide), opsP5_keep _ main_v12 (by decide), opsP5_keep _ main_v15 (by decide)]
  rw [opsP4_v18, opsP4_keep _ main_v17 (by decide), opsP4_keep _ main_v11 (by decide), opsP4_keep _ main_v12 (by decide), opsP4_keep _ main_v15 (by decide)]
  rw [opsP3_v17, opsP3_c1, opsP3_keep _ main_v9 (by decide), opsP3_keep _ main_v11 (by decide), opsP3_keep _ main_v12 (by decide), opsP3_keep _ main_v15 (by decide)]
  rw [opsP2_v16, opsP2_keep _ main_v9 (by decide), opsP2_keep _ main_v11 (by decide), opsP2_keep _ main_v12 (by decide), opsP2_keep _ main_v15 (by decide)]
  rw [opsP1_v15, opsP1_c0, opsP1_keep _ main_v8 (by decide), opsP1_keep _ main_v9 (by decide), opsP1_keep _ main_v11 (by decide), opsP1_keep _ main_v12 (by decide)]
  rw [h8, h9, h11, h12, h13]
  rfl

end

/-- The function's result from the two calls'. -/
theorem opsC_v61 (W : Valuation τ sig (Elt F)) : StableHlo.after opsC W (rA main_v61)
    = concatenate S8192x4096 0 [⟨S3584x4096, (W (rA main_v14) : FVec F S3584x4096 .f32)⟩, ⟨S4608x4096, (W (rA main_v60) : FVec F S4608x4096 .f32)⟩] concatenates_S3584x4096_S4608x4096_S8192x4096_d0 := by
  unfold opsC; after_results
theorem opsC_keep (W : Valuation τ sig (Elt F)) (b : Ref sig .tc) (h : b ∉ [main_v61]) : StableHlo.after opsC W (rA b) = W (rA b) :=
  StableHlo.after_of_writes_sub opsC W (StableHlo.forall_writes_sub_of_map (W := [main_v61]) rfl) h

end Cert.Proof.Tile

end
-- ==== Proof.Tc.lean ====
/-
  The call on the TensorCore: what its body leaves in the output's staging buffer, the body's triple, the proof data at an
  entry valuation, and the region entered from every unscoped buffer at a valuation.
-/
module

public import proofs.«01_k».proof.Proof.Setup
public import proofs.«01_k».proof.Proof.Gen.KernelIdeal.Skeleton
public import Idealize.ShloMosaic.Lib.Pipeline.Regions
public import Idealize.ShloMosaic.Lib.Pipeline.FrameBody
public import Idealize.ShloMosaic.Lib.Claim
public import Idealize.ShloMosaic.Lib.Ring
public import Idealize.ShloMosaic.Lib.WordCmp

@[expose] public section

set_option maxRecDepth 16384

noncomputable section

namespace Cert.Proof.Tc

open Cert.KernelIdeal Cert.KernelIdeal.Gen
open Cert.Proof.Tile (UH UP UU K D)
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The ghost state of the windows' rounds. -/
def EP : Emb UP (MT nD τ sig (HIx 1) (Elt F) ℕ UU ℕ) := (Emb.inl : Emb UP (UP × Counters)).trans embR

omit [FloatOps F] in
instance EP_landsIn : (EP (F := F)).LandsIn upEmb := by unfold EP; infer_instance

/-! ## The layout -/

/-- The staging semaphores, window by window and slot by slot. -/
abbrev sems : Fin 1 → List (DmaSem sig) := fun | 0 => Pipeline.specSems spec1 | ⟨_ + 1, h⟩ => absurd h (Nat.not_lt.2 (Nat.le_add_left _ _))
theorem sems_nodup : ∀ p : Fin 1, (sems p).Nodup := by decide
theorem sems_disjoint : ∀ p p' : Fin 1, p ≠ p' → (sems p).Forall (· ∉ sems p') := by decide
theorem cellOf_inj : Function.Injective (cellOf (nD := nD) (τ := τ) cfgs) :=
  Pipeline.cellOf_injective_of_table cfgs sems (fun | 0 => rfl | ⟨_ + 1, h⟩ => absurd h (Nat.not_lt.2 (Nat.le_add_left _ _))) sems_nodup sems_disjoint

theorem winFacts : Pipeline.WinFacts spec1 := by decide
theorem block_pos : ∀ w : Fin 3, 0 < (spec1 w).block.numel := by decide
theorem arr_whole : ∀ w : Fin 3, (spec1 w).arr.IsWhole
  | 0 => Memref.isWhole_whole _ | 1 => Memref.isWhole_whole _ | 2 => Memref.isWhole_whole _ | ⟨_ + 3, h⟩ => absurd h (Nat.not_lt.2 (Nat.le_add_left _ _))
theorem stage_whole : ∀ (w : Fin 3) (s : Fin (spec1 w).nbuf), ((spec1 w).stage s).IsWhole
  | 0 => fun s => hstage1_0 (s.cast nbuf1_0) | 1 => fun s => hstage1_1 (s.cast nbuf1_1) | 2 => fun s => hstage1_2 (s.cast nbuf1_2)
  | ⟨_ + 3, h⟩ => absurd h (Nat.not_lt.2 (Nat.le_add_left _ _))
theorem layout : Pipeline.LaunchFacts (nD := nD) (τ := τ) cfgs 0 := ⟨cellOf_inj, winFacts, block_pos, arr_whole, stage_whole⟩

theorem bigSep_W {M : Type} [URA M] (Φ : Fin 3 → sProp M) : bigSep Finset.univ Φ = iprop(Φ (0 : Fin 3) ∗ Φ (1 : Fin 3) ∗ Φ (2 : Fin 3)) :=
  bigSep_univ_eq_bigSepL [(0 : Fin 3), (1 : Fin 3), (2 : Fin 3)] (by decide) (by decide) Φ

/-- The staging memref of each window at point `t`, and the body there. -/
abbrev st0 (t : Fin cfg1.N) := (cfg1.win 0).stage (cfg1.slots t 0)
abbrev st1 (t : Fin cfg1.N) := (cfg1.win 1).stage (cfg1.slots t 1)
abbrev st2 (t : Fin cfg1.N) := (cfg1.win 2).stage (cfg1.slots t 2)
abbrev bodyAt (t : Fin cfg1.N) : Prog (TpuEff nD τ sig (Elt F) Λ₀ .tc) PUnit :=
  cc1_tc_body (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2))

/-! ## What the body leaves -/

/-- The columns of group `g` and its matrix. -/
abbrev qx0 : Rect S512x4096 := Rect.unit (s := S512x4096) ![0, 0] S512x128.size inb_S512x4096_S512x128_0_0
abbrev qb0 : Rect S32x128x128 := Rect.unit (s := S32x128x128) ![0, 0, 0] S1x128x128.size inb_S32x128x128_S1x128x128_0_0_0
abbrev qx1 : Rect S512x4096 := Rect.unit (s := S512x4096) ![0, 128] S512x128.size inb_S512x4096_S512x128_0_128
abbrev qb1 : Rect S32x128x128 := Rect.unit (s := S32x128x128) ![1, 0, 0] S1x128x128.size inb_S32x128x128_S1x128x128_1_0_0
abbrev qx2 : Rect S512x4096 := Rect.unit (s := S512x4096) ![0, 256] S512x128.size inb_S512x4096_S512x128_0_256
abbrev qb2 : Rect S32x128x128 := Rect.unit (s := S32x128x128) ![2, 0, 0] S1x128x128.size inb_S32x128x128_S1x128x128_2_0_0
abbrev qx3 : Rect S512x4096 := Rect.unit (s := S512x4096) ![0, 384] S512x128.size inb_S512x4096_S512x128_0_384
abbrev qb3 : Rect S32x128x128 := Rect.unit (s := S32x128x128) ![3, 0, 0] S1x128x128.size inb_S32x128x128_S1x128x128_3_0_0
abbrev qx4 : Rect S512x4096 := Rect.unit (s := S512x4096) ![0, 512] S512x128.size inb_S512x4096_S512x128_0_512
abbrev qb4 : Rect S32x128x128 := Rect.unit (s := S32x128x128) ![4, 0, 0] S1x128x128.size inb_S32x128x128_S1x128x128_4_0_0
abbrev qx5 : Rect S512x4096 := Rect.unit (s := S512x4096) ![0, 640] S512x128.size inb_S512x4096_S512x128_0_640
abbrev qb5 : Rect S32x128x128 := Rect.unit (s := S32x128x128) ![5, 0, 0] S1x128x128.size inb_S32x128x128_S1x128x128_5_0_0
abbrev qx6 : Rect S512x4096 := Rect.unit (s := S512x4096) ![0, 768] S512x128.size inb_S512x4096_S512x128_0_768
abbrev qb6 : Rect S32x128x128 := Rect.unit (s := S32x128x128) ![6, 0, 0] S1x128x128.size inb_S32x128x128_S1x128x128_6_0_0
abbrev qx7 : Rect S512x4096 := Rect.unit (s := S512x4096) ![0, 896] S512x128.size inb_S512x4096_S512x128_0_896
abbrev qb7 : Rect S32x128x128 := Rect.unit (s := S32x128x128) ![7, 0, 0] S1x128x128.size inb_S32x128x128_S1x128x128_7_0_0
abbrev qx8 : Rect S512x4096 := Rect.unit (s := S512x4096) ![0, 1024] S512x128.size inb_S512x4096_S512x128_0_1024
abbrev qb8 : Rect S32x128x128 := Rect.unit (s := S32x128x128) ![8, 0, 0] S1x128x128.size inb_S32x128x128_S1x128x128_8_0_0
abbrev qx9 : Rect S512x4096 := Rect.unit (s := S512x4096) ![0, 1152] S512x128.size inb_S512x4096_S512x128_0_1152
abbrev qb9 : Rect S32x128x128 := Rect.unit (s := S32x128x128) ![9, 0, 0] S1x128x128.size inb_S32x128x128_S1x128x128_9_0_0
abbrev qx10 : Rect S512x4096 := Rect.unit (s := S512x4096) ![0, 1280] S512x128.size inb_S512x4096_S512x128_0_1280
abbrev qb10 : Rect S32x128x128 := Rect.unit (s := S32x128x128) ![10, 0, 0] S1x128x128.size inb_S32x128x128_S1x128x128_10_0_0
abbrev qx11 : Rect S512x4096 := Rect.unit (s := S512x4096) ![0, 1408] S512x128.size inb_S512x4096_S512x128_0_1408
abbrev qb11 : Rect S32x128x128 := Rect.unit (s := S32x128x128) ![11, 0, 0] S1x128x128.size inb_S32x128x128_S1x128x128_11_0_0
abbrev qx12 : Rect S512x4096 := Rect.unit (s := S512x4096) ![0, 1536] S512x128.size inb_S512x4096_S512x128_0_1536
abbrev qb12 : Rect S32x128x128 := Rect.unit (s := S32x128x128) ![12, 0, 0] S1x128x128.size inb_S32x128x128_S1x128x128_12_0_0
abbrev qx13 : Rect S512x4096 := Rect.unit (s := S512x4096) ![0, 1664] S512x128.size inb_S512x4096_S512x128_0_1664
abbrev qb13 : Rect S32x128x128 := Rect.unit (s := S32x128x128) ![13, 0, 0] S1x128x128.size inb_S32x128x128_S1x128x128_13_0_0
abbrev qx14 : Rect S512x4096 := Rect.unit (s := S512x4096) ![0, 1792] S512x128.size inb_S512x4096_S512x128_0_1792
abbrev qb14 : Rect S32x128x128 := Rect.unit (s := S32x128x128) ![14, 0, 0] S1x128x128.size inb_S32x128x128_S1x128x128_14_0_0
abbrev qx15 : Rect S512x4096 := Rect.unit (s := S512x4096) ![0, 1920] S512x128.size inb_S512x4096_S512x128_0_1920
abbrev qb15 : Rect S32x128x128 := Rect.unit (s := S32x128x128) ![15, 0, 0] S1x128x128.size inb_S32x128x128_S1x128x128_15_0_0
abbrev qx16 : Rect S512x4096 := Rect.unit (s := S512x4096) ![0, 2048] S512x128.size inb_S512x4096_S512x128_0_2048
abbrev qb16 : Rect S32x128x128 := Rect.unit (s := S32x128x128) ![16, 0, 0] S1x128x128.size inb_S32x128x128_S1x128x128_16_0_0
abbrev qx17 : Rect S512x4096 := Rect.unit (s := S512x4096) ![0, 2176] S512x128.size inb_S512x4096_S512x128_0_2176
abbrev qb17 : Rect S32x128x128 := Rect.unit (s := S32x128x128) ![17, 0, 0] S1x128x128.size inb_S32x128x128_S1x128x128_17_0_0
abbrev qx18 : Rect S512x4096 := Rect.unit (s := S512x4096) ![0, 2304] S512x128.size inb_S512x4096_S512x128_0_2304
abbrev qb18 : Rect S32x128x128 := Rect.unit (s := S32x128x128) ![18, 0, 0] S1x128x128.size inb_S32x128x128_S1x128x128_18_0_0
abbrev qx19 : Rect S512x4096 := Rect.unit (s := S512x4096) ![0, 2432] S512x128.size inb_S512x4096_S512x128_0_2432
abbrev qb19 : Rect S32x128x128 := Rect.unit (s := S32x128x128) ![19, 0, 0] S1x128x128.size inb_S32x128x128_S1x128x128_19_0_0
abbrev qx20 : Rect S512x4096 := Rect.unit (s := S512x4096) ![0, 2560] S512x128.size inb_S512x4096_S512x128_0_2560
abbrev qb20 : Rect S32x128x128 := Rect.unit (s := S32x128x128) ![20, 0, 0] S1x128x128.size inb_S32x128x128_S1x128x128_20_0_0
abbrev qx21 : Rect S512x4096 := Rect.unit (s := S512x4096) ![0, 2688] S512x128.size inb_S512x4096_S512x128_0_2688
abbrev qb21 : Rect S32x128x128 := Rect.unit (s := S32x128x128) ![21, 0, 0] S1x128x128.size inb_S32x128x128_S1x128x128_21_0_0
abbrev qx22 : Rect S512x4096 := Rect.unit (s := S512x4096) ![0, 2816] S512x128.size inb_S512x4096_S512x128_0_2816
abbrev qb22 : Rect S32x128x128 := Rect.unit (s := S32x128x128) ![22, 0, 0] S1x128x128.size inb_S32x128x128_S1x128x128_22_0_0
abbrev qx23 : Rect S512x4096 := Rect.unit (s := S512x4096) ![0, 2944] S512x128.size inb_S512x4096_S512x128_0_2944
abbrev qb23 : Rect S32x128x128 := Rect.unit (s := S32x128x128) ![23, 0, 0] S1x128x128.size inb_S32x128x128_S1x128x128_23_0_0
abbrev qx24 : Rect S512x4096 := Rect.unit (s := S512x4096) ![0, 3072] S512x128.size inb_S512x4096_S512x128_0_3072
abbrev qb24 : Rect S32x128x128 := Rect.unit (s := S32x128x128) ![24, 0, 0] S1x128x128.size inb_S32x128x128_S1x128x128_24_0_0
abbrev qx25 : Rect S512x4096 := Rect.unit (s := S512x4096) ![0, 3200] S512x128.size inb_S512x4096_S512x128_0_3200
abbrev qb25 : Rect S32x128x128 := Rect.unit (s := S32x128x128) ![25, 0, 0] S1x128x128.size inb_S32x128x128_S1x128x128_25_0_0
abbrev qx26 : Rect S512x4096 := Rect.unit (s := S512x4096) ![0, 3328] S512x128.size inb_S512x4096_S512x128_0_3328
abbrev qb26 : Rect S32x128x128 := Rect.unit (s := S32x128x128) ![26, 0, 0] S1x128x128.size inb_S32x128x128_S1x128x128_26_0_0
abbrev qx27 : Rect S512x4096 := Rect.unit (s := S512x4096) ![0, 3456] S512x128.size inb_S512x4096_S512x128_0_3456
abbrev qb27 : Rect S32x128x128 := Rect.unit (s := S32x128x128) ![27, 0, 0] S1x128x128.size inb_S32x128x128_S1x128x128_27_0_0
abbrev qx28 : Rect S512x4096 := Rect.unit (s := S512x4096) ![0, 3584] S512x128.size inb_S512x4096_S512x128_0_3584
abbrev qb28 : Rect S32x128x128 := Rect.unit (s := S32x128x128) ![28, 0, 0] S1x128x128.size inb_S32x128x128_S1x128x128_28_0_0
abbrev qx29 : Rect S512x4096 := Rect.unit (s := S512x4096) ![0, 3712] S512x128.size inb_S512x4096_S512x128_0_3712
abbrev qb29 : Rect S32x128x128 := Rect.unit (s := S32x128x128) ![29, 0, 0] S1x128x128.size inb_S32x128x128_S1x128x128_29_0_0
abbrev qx30 : Rect S512x4096 := Rect.unit (s := S512x4096) ![0, 3840] S512x128.size inb_S512x4096_S512x128_0_3840
abbrev qb30 : Rect S32x128x128 := Rect.unit (s := S32x128x128) ![30, 0, 0] S1x128x128.size inb_S32x128x128_S1x128x128_30_0_0
abbrev qx31 : Rect S512x4096 := Rect.unit (s := S512x4096) ![0, 3968] S512x128.size inb_S512x4096_S512x128_0_3968
abbrev qb31 : Rect S32x128x128 := Rect.unit (s := S32x128x128) ![31, 0, 0] S1x128x128.size inb_S32x128x128_S1x128x128_31_0_0

/-- The output's staging buffer after the body: the product of each group's columns by the group's matrix, the last store first. -/
def out (x0 : Vec F S512x4096 .f32) (x1 : Vec F S32x128x128 .f32) : Vec F S512x4096 .f32 :=
  View.canon [⟨qx31, k1_pay2 (View.ld x0 qx31) (View.ld x1 qb31)⟩,
    ⟨qx30, k1_pay1 (View.ld x0 qx30) (View.ld x1 qb30)⟩,
    ⟨qx29, k1_pay33 (View.ld x0 qx29) (View.ld x1 qb29)⟩,
    ⟨qx28, k1_pay32 (View.ld x0 qx28) (View.ld x1 qb28)⟩,
    ⟨qx27, k1_pay31 (View.ld x0 qx27) (View.ld x1 qb27)⟩,
    ⟨qx26, k1_pay30 (View.ld x0 qx26) (View.ld x1 qb26)⟩,
    ⟨qx25, k1_pay29 (View.ld x0 qx25) (k1_pay28 (View.ld x1 qb25)) (constant S512x128 .f32 0x00000000#32)⟩,
    ⟨qx24, k1_pay27 (View.ld x0 qx24) (View.ld x1 qb24)⟩,
    ⟨qx23, k1_pay26 (View.ld x0 qx23) (View.ld x1 qb23)⟩,
    ⟨qx22, k1_pay25 (View.ld x0 qx22) (View.ld x1 qb22)⟩,
    ⟨qx21, k1_pay24 (View.ld x0 qx21) (View.ld x1 qb21)⟩,
    ⟨qx20, k1_pay23 (View.ld x0 qx20) (View.ld x1 qb20)⟩,
    ⟨qx19, k1_pay22 (View.ld x0 qx19) (View.ld x1 qb19)⟩,
    ⟨qx18, k1_pay21 (View.ld x0 qx18) (View.ld x1 qb18)⟩,
    ⟨qx17, k1_pay20 (View.ld x0 qx17) (View.ld x1 qb17)⟩,
    ⟨qx16, k1_pay19 (View.ld x0 qx16) (View.ld x1 qb16)⟩,
    ⟨qx15, k1_pay18 (View.ld x0 qx15) (View.ld x1 qb15)⟩,
    ⟨qx14, k1_pay17 (View.ld x0 qx14) (View.ld x1 qb14)⟩,
    ⟨qx13, k1_pay16 (View.ld x0 qx13) (View.ld x1 qb13)⟩,
    ⟨qx12, k1_pay15 (View.ld x0 qx12) (View.ld x1 qb12)⟩,
    ⟨qx11, k1_pay14 (View.ld x0 qx11) (View.ld x1 qb11)⟩,
    ⟨qx10, k1_pay13 (View.ld x0 qx10) (View.ld x1 qb10)⟩,
    ⟨qx9, k1_pay12 (View.ld x0 qx9) (View.ld x1 qb9)⟩,
    ⟨qx8, k1_pay11 (View.ld x0 qx8) (View.ld x1 qb8)⟩,
    ⟨qx7, k1_pay10 (View.ld x0 qx7) (View.ld x1 qb7)⟩,
    ⟨qx6, k1_pay9 (View.ld x0 qx6) (View.ld x1 qb6)⟩,
    ⟨qx5, k1_pay8 (View.ld x0 qx5) (View.ld x1 qb5)⟩,
    ⟨qx4, k1_pay7 (View.ld x0 qx4) (View.ld x1 qb4)⟩,
    ⟨qx3, k1_pay6 (View.ld x0 qx3) (View.ld x1 qb3)⟩,
    ⟨qx2, k1_pay5 (View.ld x0 qx2) (View.ld x1 qb2)⟩,
    ⟨qx1, k1_pay4 (View.ld x0 qx1) (View.ld x1 qb1)⟩,
    ⟨qx0, k1_pay3 (View.ld x0 qx0) (View.ld x1 qb0)⟩]

/-- The groups' columns are all the columns. -/
theorem cover (p0 p1 p2 p3 p4 p5 p6 p7 p8 p9 p10 p11 p12 p13 p14 p15 p16 p17 p18 p19 p20 p21 p22 p23 p24 p25 p26 p27 p28 p29 p30 p31 : Vec F S512x128 .f32) (y : S512x4096.Idx) :
    ∃ pc ∈ ([⟨qx31, p31⟩, ⟨qx30, p30⟩, ⟨qx29, p29⟩, ⟨qx28, p28⟩, ⟨qx27, p27⟩, ⟨qx26, p26⟩, ⟨qx25, p25⟩, ⟨qx24, p24⟩, ⟨qx23, p23⟩, ⟨qx22, p22⟩, ⟨qx21, p21⟩, ⟨qx20, p20⟩, ⟨qx19, p19⟩, ⟨qx18, p18⟩, ⟨qx17, p17⟩, ⟨qx16, p16⟩, ⟨qx15, p15⟩, ⟨qx14, p14⟩, ⟨qx13, p13⟩, ⟨qx12, p12⟩, ⟨qx11, p11⟩, ⟨qx10, p10⟩, ⟨qx9, p9⟩, ⟨qx8, p8⟩, ⟨qx7, p7⟩, ⟨qx6, p6⟩, ⟨qx5, p5⟩, ⟨qx4, p4⟩, ⟨qx3, p3⟩, ⟨qx2, p2⟩, ⟨qx1, p1⟩, ⟨qx0, p0⟩] : List (View.Piece (Elt F) S512x4096 .f32)), y ∈ pc.1.set :=
  View.cover_of_tiled [⟨qx31, p31⟩, ⟨qx30, p30⟩, ⟨qx29, p29⟩, ⟨qx28, p28⟩, ⟨qx27, p27⟩, ⟨qx26, p26⟩, ⟨qx25, p25⟩, ⟨qx24, p24⟩, ⟨qx23, p23⟩, ⟨qx22, p22⟩, ⟨qx21, p21⟩, ⟨qx20, p20⟩, ⟨qx19, p19⟩, ⟨qx18, p18⟩, ⟨qx17, p17⟩, ⟨qx16, p16⟩, ⟨qx15, p15⟩, ⟨qx14, p14⟩, ⟨qx13, p13⟩, ⟨qx12, p12⟩, ⟨qx11, p11⟩, ⟨qx10, p10⟩, ⟨qx9, p9⟩, ⟨qx8, p8⟩, ⟨qx7, p7⟩, ⟨qx6, p6⟩, ⟨qx5, p5⟩, ⟨qx4, p4⟩, ⟨qx3, p3⟩, ⟨qx2, p2⟩, ⟨qx1, p1⟩, ⟨qx0, p0⟩] S512x128.size (by rfl) y

set_option maxHeartbeats 1000000 in
/-- The body on whole staging memrefs: the inputs as they were, the output at `out` of them. -/
theorem body_triple (c : Dev nD) (E : Set ℕ) (i : grid1.Coords) (arg1 : Memref sig .tc .vmem S512x4096 .f32) (harg1 : arg1.IsWhole) (arg2 : Memref sig .tc .vmem S32x128x128 .f32) (harg2 : arg2.IsWhole) (arg3 : Memref sig .tc .vmem S512x4096 .f32) (harg3 : arg3.IsWhole)
    (x0 : Vec F S512x4096 .f32) (x1 : Vec F S32x128x128 .f32) (Q : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out x0 x1)) -∗ Q ⟨⟩))
      ⊢ wp frame (wpE (defs₀ (F := F)) Variants.none c none) E (cc1_tc_body i arg1 harg1 arg2 harg2 arg3 harg3) Q := by
  simp only [cc1_tc_body_eq_skeleton]; unfold cc1_tc_body_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _ _ _ _ _ _ _ _ _ _ _ _ _ _ _ _ _ _ _ _ _ _ _ _ _ _ _ _ _ _ _ _)

/-! ## The proof data, at an entry valuation -/

variable (V : (c : Dev nD) → (b : Ref sig .tc) → Buf (Elt F) ((c : Thread nD τ).loc b))

/-- Window `w`'s block at point `t`. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat (c : Dev nD) : Dat τ (Elt F) (HIx 1) ℕ UU ℕ cfg1 c where
  A w := V c (Pipeline.arrRef spec1 w)
  after w t := match w with
    | ⟨0, _⟩ => blk V c 0 t
    | ⟨1, _⟩ => blk V c 1 t
    | ⟨2, _⟩ => out (blk V c 0 t) (blk V c 1 t)
  Φ _ := Pipeline.scopedRest (Ix := HIx 1) (Name := ℕ) (U := UU) (Lvl := ℕ) (Val := Elt F) spec1 c
  q _ := fullShare
  owed _ := 0

theorem dat_A (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = out (blk V c 0 t) (blk V c 1 t) := by dsimp only [dat]

theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [dat_A]; try rfl) t d).trans
    (by unfold Dat.fetched Dat.blockOf blk; rw [dat_A]; try rfl)

def bodyPre (c : Dev nD) (t : Fin cfg1.N) : sProp 𝕄 :=
  iprop((dat V c).Φ t.castSucc ∗ (dat V c).owesAt none t.castSucc
    ∗ (∃ d, owns (c : Thread nD τ) (st0 t) fullShare ((dat V c).before 0 t d))
    ∗ (∃ d, owns (c : Thread nD τ) (st1 t) fullShare ((dat V c).before 1 t d))
    ∗ (∃ d, owns (c : Thread nD τ) (st2 t) fullShare ((dat V c).before 2 t d)))

def bodyPost (c : Dev nD) (t : Fin cfg1.N) : sProp 𝕄 :=
  iprop((dat V c).Φ t.succ ∗ (dat V c).owesAt none t.succ
    ∗ owns (c : Thread nD τ) (st0 t) fullShare ((dat V c).after 0 t)
    ∗ owns (c : Thread nD τ) (st1 t) fullShare ((dat V c).after 1 t)
    ∗ owns (c : Thread nD τ) (st2 t) fullShare ((dat V c).after 2 t))

theorem body_at (c : Dev nD) (t : Fin cfg1.N) :
    bodyPre V c t ⊢ wp frame (wpE (defs₀ (F := F)) Variants.none c none) Set.univ (bodyAt t) (fun _ => bodyPost V c t) := by
  unfold bodyPre bodyPost bodyAt
  simp only [before_0, before_1]
  rw [show (dat V c).Φ t.succ = (dat V c).Φ t.castSucc from rfl,
    show (dat V c).owesAt none t.succ = (dat V c).owesAt none t.castSucc from rfl,
    after_0, after_1, after_2]
  iintro ⟨HΦ, Ho, ⟨%d0, H0⟩, ⟨%d1, H1⟩, ⟨%d2, H2⟩⟩
  iapply (body_triple c Set.univ (grid1.coords t) _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row (t : Fin cfg1.N) : defs₀ (F := F) .tc cfg1.body (cfg1.bodyArgs t (cfg1.slots t)) = bodyAt t := rfl

theorem body_obligation (c : Dev nD) : BodyObligation (dat V c) (defs₀ (F := F)) Variants.none none Set.univ := fun t => by
  rw [bigSep_W, bigSep_W, defs₀_row]
  exact triple_restated (body_at V c t) rfl .rfl fun _ => .rfl

/-! ## The region -/

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

/-- The output's array after the region. -/
def result (c : Dev nD) : Buf (Elt F) ((c : Thread nD τ).loc main_v60) := (dat V c).arrAt 2 cfg1.N

variable (Vp : (c : Dev nD) → (b : Ref sig .tc) → Buf (Elt F) ((c : Thread nD τ).loc b))

set_option backward.isDefEq.respectTransparency.types false in
/-- The region entered from every unscoped buffer at `V c` beside what the core owes (nothing), left with the output's array
    at `result`. -/
def reg (R : Dev nD → sProp 𝕄) (hVp_out : ∀ c, Vp c main_v60 = result V c) (hVp_ne : ∀ c (b : Ref sig .tc), b ≠ main_v60 → Vp c b = V c b) :
    Pipeline.RegionSeg (pcfgs (F := F)) adm (pdats V adm) none defs₀ Variants.none (K (F := F)).L (K (F := F)).lev 0 where
  win := winFacts.to₀
  block_pos := block_pos
  stage_whole := stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ ∃ W, owes (c : Thread nD τ) (0 : CellTallies nD τ sig (HIx 1)) W)
  post c := iprop(unscopedBufs c (Vp c) ∗ R c ∗ ∃ W, owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V adm) winFacts arr_whole c
      ((pdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats V adm 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V adm 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) winFacts arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_arg0 (by decide)).symm
        · exact ((pdats V adm 0 c).arrAt_in 1 rfl _).trans (hVp_ne c main_v59 (by decide)).symm
        · exact (hVp_out c).symm)
      (fun b hb => hVp_ne c b fun h => hb (h ▸ Finset.mem_image.mpr ⟨2, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.Proof.Tc

end
-- ==== Proof.Launch.lean ====
/-
  The run of the kernel: the launch theorem's obligations, the function on the TensorCore, and what every run leaves.
-/
module

public import proofs.«01_k».proof.Proof.Host
public import proofs.«01_k».proof.Proof.Deal
public import proofs.«01_k».proof.Proof.Mat
public import proofs.«01_k».proof.Proof.Tc

@[expose] public section

noncomputable section

namespace Cert.Proof.Tile

open Cert.KernelIdeal Cert.KernelIdeal.Gen
open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Cert.Proof.Spec

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the handshakes carry -/

/-- What task `t` of device `d` is handed, and what it hands back. -/
def goT (d : Dev nD) (t : Tk) : sProp 𝕄 := iprop(Ops d (Lt t) (shr t) (vals m d) ∗ Rows d (Lt t) (m (at_ d main_v14)))
def tdT (d : Dev nD) (t : Tk) : sProp 𝕄 := iprop(Ops d (Lt t) (shr t) (vals m d) ∗ Rows d (Lt t) (vals m d).out)

instance goT_storable (d : Dev nD) (t : Tk) : BI.Storable (upEmb : UEmb _ 𝕄) (goT m d t) := by
  unfold goT Ops Rows Arg OutCh; infer_instance
instance tdT_storable (d : Dev nD) (t : Tk) : BI.Storable (upEmb : UEmb _ 𝕄) (tdT m d t) := by
  unfold tdT Ops Rows Arg OutCh; infer_instance

omit [FloatOps F] in
theorem nCore_lt (q : Fin 1) (c : Fin ((K (F := F)).nCore q)) : c.val < 2 := match q, c with | 0, c => c.isLt
omit [FloatOps F] in
theorem nSub_lt (q : Fin 1) (i : Fin ((K (F := F)).nSub q)) : i.val < 16 := match q, i with | 0, i => i.isLt

/-- The task of a core and a subcore of the call's grid. -/
abbrev tk {q : Fin 1} (c : Fin ((K (F := F)).nCore q)) (i : Fin ((K (F := F)).nSub q)) : Tk := (⟨c.val, nCore_lt q c⟩, ⟨i.val, nSub_lt q i⟩)

/-- What a core is handed for its tasks, and what it hands back. -/
def stC (d : Dev nD) {q : Fin 1} (c : Fin ((K (F := F)).nCore q)) : sProp 𝕄 := bigSep Finset.univ fun i : Fin ((K (F := F)).nSub q) => goT m d (tk c i)
def dnC (d : Dev nD) {q : Fin 1} (c : Fin ((K (F := F)).nCore q)) : sProp 𝕄 := bigSep Finset.univ fun i : Fin ((K (F := F)).nSub q) => tdT m d (tk c i)

instance stC_storable (d : Dev nD) {q : Fin 1} (c : Fin ((K (F := F)).nCore q)) : BI.Storable (upEmb : UEmb _ 𝕄) (stC m d c) := by unfold stC; infer_instance
instance dnC_storable (d : Dev nD) {q : Fin 1} (c : Fin ((K (F := F)).nCore q)) : BI.Storable (upEmb : UEmb _ 𝕄) (dnC m d c) := by unfold dnC; infer_instance

def P : (K (F := F)).Pay (nD := nD) (Val := Elt F) (Name := ℕ) (U := UU) where
  st := fun _ d c => stC m d c
  dn := fun _ d c => dnC m d c
  go := fun _ d c i => goT m d (tk c i)
  td := fun _ d c i => tdT m d (tk c i)
  x := fun _ _ => iprop(emp)

instance P_storable : (P (F := F) m).IsStorable where
  st _ d c := stC_storable m d c
  dn _ d c := dnC_storable m d c
  go _ d c i := goT_storable m d (tk c i)
  td _ d c i := tdT_storable m d (tk c i)

/-! ## A task -/

theorem defs₀_vector (c : Fin τ.nSC) (s : Fin τ.nSub) :
    defs₀ (F := F) (.scVector c s) 0 ()
      = SparseCore.onTile hcore0 hsub0 (fun c s => cc0_body (F := F) (coordsV c s) xV (Memref.isWhole_whole _) gI0 (Memref.isWhole_whole _) gI1 (Memref.isWhole_whole _) gC (Memref.isWhole_whole _) gS (Memref.isWhole_whole _) gSc (Memref.isWhole_whole _) oV (Memref.isWhole_whole _) xb0 (Memref.isWhole_whole _) xb1 (Memref.isWhole_whole _) xb2 (Memref.isWhole_whole _) xb3 (Memref.isWhole_whole _) i0v (Memref.isWhole_whole _) i1v (Memref.isWhole_whole _) ccv (Memref.isWhole_whole _) ssv (Memref.isWhole_whole _) scv (Memref.isWhole_whole _) av (Memref.isWhole_whole _) bv (Memref.isWhole_whole _) dv (Memref.isWhole_whole _) ev (Memref.isWhole_whole _) cc0_scratch13 cc0_scratch14 cc0_scratch15 cc0_scratch16 cc0_scratch17 cc0_scratch18 cc0_scratch19 cc0_scratch20 cc0_scoped0 cc0_scoped1 cc0_scoped2 cc0_scoped3 cc0_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

omit [FloatOps F] in
theorem obl_pre {A B C E X : sProp 𝕄} : iprop(A ∗ X ∗ B ∗ C ∗ E) ⊢ iprop(A ∗ B ∗ C ∗ E) := by
  iintro ⟨HA, -, HB⟩
  isplitl [HA]; · iexact HA
  iexact HB

theorem tileObl (hF : (K (F := F)).Facts) (hok : ∀ d, (vals m d).Ok) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact obl_pre.trans ((tile_body d (coordsV ⟨_, hc.1⟩ ⟨_, hc.2⟩) hF (shr (tk c i)) (vals m d) (hok d) (m (at_ d main_v14)) O W hO).trans (wp_mono frame _ _ fun _ => obl_post))

theorem vecSplit : (K (F := F)).VecSplit' (P m) 0 := by
  intro d c
  show stC m d c ⊢ |={Set.univ}=> iprop(stC m d c ∗ (dnC m d c -∗ dnC m d c))
  iintro H; imodintro
  isplitl [H]; · iexact H
  iintro H; iexact H

/-! ## The launch element -/

/-- No window's placement depends on a table. -/
def adm (p : Fin 1) : (pcfgs (F := F) p).Adm := (cfgs p).toPCfg_adm

omit [FloatOps F] in
theorem cellOf_adm : Function.Injective (Pipeline.cellOf (nD := nD) (τ := τ) (Pipeline.pin (pcfgs (F := F)) adm)) := Tc.cellOf_inj

def u₀ : UU := (initOf (K (F := F)).hsCells (K (F := F)).hsToks,
  (initOf (Pipeline.cells (Pipeline.pin (pcfgs (F := F)) adm) cellOf_adm) (Pipeline.launchToks (Pipeline.pin (pcfgs (F := F)) adm) cellOf_adm), 1))

/-- The rounds of the windows of the call on the TensorCore, and their transfers' tokens, on device `d`. -/
def Ghost (d : Dev nD) : sProp 𝕄 :=
  iprop(Pipeline.cellsGhost (Pipeline.pin (pcfgs (F := F)) adm) Tc.EP 0 d ∗ Pipeline.toksInit (Pipeline.pin (pcfgs (F := F)) adm) Tc.EP 0 d)

omit [FloatOps F] in
theorem bigSep_emp' {I : Type} (s : Finset I) : (bigSep s fun _ => iprop(emp)) = (iprop(emp) : sProp 𝕄) := bigSep_emp_const s

omit [FloatOps F] in
theorem bigSep_one (Φ : Fin 1 → sProp 𝕄) : bigSep Finset.univ Φ = Φ 0 := by
  rw [show (Finset.univ : Finset (Fin 1)) = {0} from rfl, bigSep_singleton]

omit [FloatOps F] in
theorem fund : (BI.own ((Tc.EP (F := F)) (initOf (Pipeline.cells (Pipeline.pin (pcfgs (F := F)) adm) cellOf_adm) (Pipeline.launchToks (Pipeline.pin (pcfgs (F := F)) adm) cellOf_adm))) : sProp 𝕄)
    ⊢ |==> bigSep Finset.univ fun d : Dev nD => Ghost (F := F) d := by
  refine (Pipeline.fund_ghost (Pipeline.pin (pcfgs (F := F)) adm) Tc.EP cellOf_adm).trans (bupd_mono ?_)
  unfold Ghost
  rw [bigSep_sep']
  simp only [bigSep_one]
  exact BI.Entails.refl _

theorem hu₀ : (ownU (u₀ (F := F)) : sProp 𝕄)
    ⊢ |={Set.univ}=> iprop(BI.own (EH (initOf (K (F := F)).hsCells (K (F := F)).hsToks)) ∗ (bigSep Finset.univ fun d : Dev nD => Ghost (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP' := (show BI.own (((Emb.inl : Emb UP (UP × Counters)).trans embR) _) ⊢ _ from fund (F := F)) $$ HP
  imod HP' with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The function on the TensorCore -/

omit [FloatOps F] in
theorem bigSep_fin {n k : ℕ} (hn : n = 2) (hk : k = 16) (Φ : Tk → sProp 𝕄) :
    (bigSep Finset.univ fun c : Fin n => bigSep Finset.univ fun i : Fin k => Φ (⟨c.val, hn ▸ c.isLt⟩, ⟨i.val, hk ▸ i.isLt⟩)) = bigSep Finset.univ Φ := by
  subst hn; subst hk
  rw [← Finset.univ_product_univ, SparseCore.bigSep_product]

omit [FloatOps F] in
theorem nCore_zero : (K (F := F)).nCore 0 = 2 := rfl
omit [FloatOps F] in
theorem nSub_zero : (K (F := F)).nSub 0 = 16 := rfl

theorem stC_eq (d : Dev nD) : (bigSep Finset.univ fun c : Fin ((K (F := F)).nCore 0) => stC m d c) = bigSep Finset.univ (goT m d) :=
  bigSep_fin nCore_zero nSub_zero (goT m d)
theorem dnC_eq (d : Dev nD) : (bigSep Finset.univ fun c : Fin ((K (F := F)).nCore 0) => dnC m d c) = bigSep Finset.univ (tdT m d) :=
  bigSep_fin nCore_zero nSub_zero (tdT m d)

theorem st0_eq (d : Dev nD) : (bigSep Finset.univ fun c : Fin ((K (F := F)).nCore 0) => (P m).st 0 d c) = Whole d (vals m d) (m (at_ d main_v14)) := by
  rw [whole_deal]; exact stC_eq m d
theorem dn0_eq (d : Dev nD) : (bigSep Finset.univ fun c : Fin ((K (F := F)).nCore 0) => (P m).dn 0 d c) = Whole d (vals m d) (vals m d).out := by
  rw [whole_deal]; exact dnC_eq m d

/-- The buffers the proof looks at after the operations. -/
abbrev S10 : Finset (DevRef τ sig) := {rA main_arg0, rA main_arg1, rA main_arg2, rA main_arg3, rA main_v8, rA main_v9, rA main_v11, rA main_v12, rA main_v13, rA main_v14}

theorem S10_sub : S10 ⊆ Pipeline.ucRefs τ sig := by decide

theorem held_S10 (d : Dev nD) :
    (held (SparseCore.T d) S10 (VA m d) : sProp 𝕄) = iprop((at_ d main_arg0 ↦{fullShare} (vals m d).X) ∗ (at_ d main_arg1 ↦{fullShare} m (at_ d main_arg1)) ∗ (at_ d main_arg2 ↦{fullShare} m (at_ d main_arg2)) ∗ (at_ d main_arg3 ↦{fullShare} m (at_ d main_arg3))
      ∗ (at_ d main_v8 ↦{fullShare} (vals m d).I0) ∗ (at_ d main_v9 ↦{fullShare} (vals m d).I1) ∗ (at_ d main_v11 ↦{fullShare} (vals m d).C) ∗ (at_ d main_v12 ↦{fullShare} (vals m d).Sn) ∗ (at_ d main_v13 ↦{fullShare} (vals m d).SC)
      ∗ (at_ d main_v14 ↦{fullShare} m (at_ d main_v14))) := by
  unfold held S10
  rw [SparseCore.bigSep_insert' (by decide), SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton,
    VA_arg0, VA_arg1, VA_arg2, VA_arg3, VA_v8, VA_v9, VA_v11, VA_v12, VA_v13, VA_v14]
  rfl

theorem held_uc (d : Dev nD) :
    (held (d.tc : Thread nD τ) (Pipeline.ucRefs τ sig) (StableHlo.after opsA (V0 m d)) : sProp 𝕄)
      = iprop(((at_ d main_arg0 ↦{fullShare} (vals m d).X) ∗ (at_ d main_arg1 ↦{fullShare} m (at_ d main_arg1)) ∗ (at_ d main_arg2 ↦{fullShare} m (at_ d main_arg2)) ∗ (at_ d main_arg3 ↦{fullShare} m (at_ d main_arg3))
      ∗ (at_ d main_v8 ↦{fullShare} (vals m d).I0) ∗ (at_ d main_v9 ↦{fullShare} (vals m d).I1) ∗ (at_ d main_v11 ↦{fullShare} (vals m d).C) ∗ (at_ d main_v12 ↦{fullShare} (vals m d).Sn) ∗ (at_ d main_v13 ↦{fullShare} (vals m d).SC)
      ∗ (at_ d main_v14 ↦{fullShare} m (at_ d main_v14))) ∗ held (SparseCore.T d) (Pipeline.ucRefs τ sig \ S10) (VA m d)) :=
  (StableHlo.held_sub_split (SparseCore.T d) S10_sub (VA m d)).trans (congrArg (fun A : sProp 𝕄 => iprop(A ∗ _)) (held_S10 m d))

/-! The memory of device `d` after the call on the SparseCores, at the call on the TensorCore, after it, and at the end. -/

def VB (d : Dev nD) : Valuation τ sig (Elt F) := Function.update (VA m d) (rA main_v14) (vals m d).out
def VM (d : Dev nD) : Valuation τ sig (Elt F) := StableHlo.after opsB (VB m d)
/-- The rows the TensorCore makes. -/
def rowsOfT (d : Dev nD) : FVec F S4608x4096 .f32 := Tc.result (fun c b => VM m c (rA b)) d
def VT (d : Dev nD) : Valuation τ sig (Elt F) := Function.update (VM m d) (rA main_v60) (rowsOfT m d)
def VF (d : Dev nD) : Valuation τ sig (Elt F) := StableHlo.after opsC (VT m d)

/-- The function's result. -/
def wholeOf (d : Dev nD) : FVec F S8192x4096 .f32 :=
  concatenate S8192x4096 0 [⟨S3584x4096, (vals m d).out⟩, ⟨S4608x4096, rowsOfT m d⟩] concatenates_S3584x4096_S4608x4096_S8192x4096_d0

theorem VB_v14 (d : Dev nD) : VB m d (rA main_v14) = (vals m d).out := Function.update_self ..
theorem VB_ne (d : Dev nD) (b : Ref sig .tc) (h : b ≠ main_v14) : VB m d (rA b) = VA m d (rA b) := Function.update_of_ne ((Proc.devRef_injective _).ne h) ..
theorem VT_v60 (d : Dev nD) : VT m d (rA main_v60) = rowsOfT m d := Function.update_self ..
theorem VT_ne (d : Dev nD) (b : Ref sig .tc) (h : b ≠ main_v60) : VT m d (rA b) = VM m d (rA b) := Function.update_of_ne ((Proc.devRef_injective _).ne h) ..

theorem VM_arg0 (d : Dev nD) : VM m d (rA main_arg0) = m (at_ d main_arg0) :=
  (opsB_keep (VB m d) main_arg0 (by decide)).trans ((VB_ne m d main_arg0 (by decide)).trans (VA_arg0 m d))
theorem VM_v59 (d : Dev nD) : VM m d (rA main_v59) = bmatOf (vals m d) :=
  opsB_v59 (VB m d) (vals m d) ((VB_ne m d main_v8 (by decide)).trans (VA_v8 m d)) ((VB_ne m d main_v9 (by decide)).trans (VA_v9 m d)) ((VB_ne m d main_v11 (by decide)).trans (VA_v11 m d))
    ((VB_ne m d main_v12 (by decide)).trans (VA_v12 m d)) ((VB_ne m d main_v13 (by decide)).trans (VA_v13 m d))

theorem VF_arg (d : Dev nD) (b : Ref sig .tc) (hC : b ∉ [main_v61]) (h60 : b ≠ main_v60)
    (hB : b ∉ opsP1W ∧ b ∉ opsP2W ∧ b ∉ opsP3W ∧ b ∉ opsP4W ∧ b ∉ opsP5W ∧ b ∉ opsQW ∧ b ∉ opsRW ∧ b ∉ opsM1W ∧ b ∉ opsM2W) (h14 : b ≠ main_v14) :
    VF m d (rA b) = VA m d (rA b) :=
  (opsC_keep (VT m d) b hC).trans ((VT_ne m d b h60).trans ((opsB_keep (VB m d) b hB).trans (VB_ne m d b h14)))
theorem VF_arg0 (d : Dev nD) : VF m d (rA main_arg0) = m (at_ d main_arg0) := (VF_arg m d main_arg0 (by decide) (by decide) (by decide) (by decide)).trans (VA_arg0 m d)
theorem VF_arg1 (d : Dev nD) : VF m d (rA main_arg1) = m (at_ d main_arg1) := (VF_arg m d main_arg1 (by decide) (by decide) (by decide) (by decide)).trans (VA_arg1 m d)
theorem VF_arg2 (d : Dev nD) : VF m d (rA main_arg2) = m (at_ d main_arg2) := (VF_arg m d main_arg2 (by decide) (by decide) (by decide) (by decide)).trans (VA_arg2 m d)
theorem VF_arg3 (d : Dev nD) : VF m d (rA main_arg3) = m (at_ d main_arg3) := (VF_arg m d main_arg3 (by decide) (by decide) (by decide) (by decide)).trans (VA_arg3 m d)
theorem VF_v61 (d : Dev nD) : VF m d (rA main_v61) = wholeOf m d := by
  unfold VF wholeOf
  rw [opsC_v61, VT_v60, VT_ne m d main_v14 (by decide)]
  have h : VM m d (rA main_v14) = (vals m d).out := (opsB_keep (VB m d) main_v14 (by decide)).trans (VB_v14 m d)
  rw [h]

theorem held_ucB (d : Dev nD) :
    (held (d.tc : Thread nD τ) (Pipeline.ucRefs τ sig) (VB m d) : sProp 𝕄)
      = iprop(((at_ d main_arg0 ↦{fullShare} (vals m d).X) ∗ (at_ d main_arg1 ↦{fullShare} m (at_ d main_arg1)) ∗ (at_ d main_arg2 ↦{fullShare} m (at_ d main_arg2)) ∗ (at_ d main_arg3 ↦{fullShare} m (at_ d main_arg3))
      ∗ (at_ d main_v8 ↦{fullShare} (vals m d).I0) ∗ (at_ d main_v9 ↦{fullShare} (vals m d).I1) ∗ (at_ d main_v11 ↦{fullShare} (vals m d).C) ∗ (at_ d main_v12 ↦{fullShare} (vals m d).Sn) ∗ (at_ d main_v13 ↦{fullShare} (vals m d).SC)
      ∗ (at_ d main_v14 ↦{fullShare} (vals m d).out)) ∗ held (SparseCore.T d) (Pipeline.ucRefs τ sig \ S10) (VA m d)) := by
  refine (StableHlo.held_sub_split (SparseCore.T d) S10_sub (VB m d)).trans ?_
  rw [StableHlo.held_congr (SparseCore.T d) (S := Pipeline.ucRefs τ sig \ S10) (V := VB m d) (V' := VA m d) fun b hb => Function.update_of_ne (fun h => (Finset.mem_sdiff.1 hb).2 (by rw [h]; decide)) ..]
  refine congrArg (fun A : sProp 𝕄 => iprop(A ∗ _)) ?_
  unfold held S10
  rw [SparseCore.bigSep_insert' (by decide), SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton,
    VB_ne m d main_arg0 (by decide), VB_ne m d main_arg1 (by decide), VB_ne m d main_arg2 (by decide), VB_ne m d main_arg3 (by decide), VB_ne m d main_v8 (by decide), VB_ne m d main_v9 (by decide),
    VB_ne m d main_v11 (by decide), VB_ne m d main_v12 (by decide), VB_ne m d main_v13 (by decide), VB_v14,
    VA_arg0, VA_arg1, VA_arg2, VA_arg3, VA_v8, VA_v9, VA_v11, VA_v12, VA_v13]
  rfl

/-- What the function leaves the claim. -/
def FIN (d : Dev nD) : sProp 𝕄 :=
  iprop((at_ d main_arg0 ↦{fullShare} m (at_ d main_arg0)) ∗ (at_ d main_arg1 ↦{fullShare} m (at_ d main_arg1)) ∗ (at_ d main_arg2 ↦{fullShare} m (at_ d main_arg2)) ∗ (at_ d main_arg3 ↦{fullShare} m (at_ d main_arg3))
    ∗ (at_ d main_v61 ↦{fullShare} wholeOf m d))

/-- The buffers the claim is about. -/
abbrev S5 : Finset (DevRef τ sig) := {rA main_arg0, rA main_arg1, rA main_arg2, rA main_arg3, rA main_v61}
theorem S5_sub : S5 ⊆ Pipeline.ucRefs τ sig := by decide
theorem held_FIN (d : Dev nD) : (held (d.tc : Thread nD τ) (Pipeline.ucRefs τ sig) (VF m d) : sProp 𝕄) = iprop(FIN m d ∗ held (SparseCore.T d) (Pipeline.ucRefs τ sig \ S5) (VF m d)) := by
  refine (StableHlo.held_sub_split (SparseCore.T d) S5_sub (VF m d)).trans (congrArg (fun A : sProp 𝕄 => iprop(A ∗ _)) ?_)
  unfold held S5
  rw [SparseCore.bigSep_insert' (by decide), SparseCore.bigSep_insert' (by decide), SparseCore.bigSep_insert' (by decide), SparseCore.bigSep_insert' (by decide), bigSep_singleton,
    VF_arg0, VF_arg1, VF_arg2, VF_arg3, VF_v61]
  rfl

/-- The call on the TensorCore, entered from the memory at it and left with its rows written. -/
def seg : Pipeline.RegionSeg (pcfgs (F := F)) adm (Tc.pdats (fun c b => VM m c (rA b)) adm) none defs₀ Variants.none (K (F := F)).L (K (F := F)).lev 0 :=
  Tc.reg (fun c b => VM m c (rA b)) adm (fun c b => VT m c (rA b)) (fun _ => iprop(emp)) (fun c => VT_v60 m c) (fun c b h => VT_ne m c b h)

omit [FloatOps F] in
theorem below (d : Dev nD) (W : Waits sig (HIx 1)) : (K (F := F)).WBelow (SparseCore.T d) W (8 * 1) := by
  rintro ⟨g, q⟩ -
  cases q with
  | none => exact Nat.zero_le _
  | some q => exact ((K (F := F)).lev_some_le _ q).trans (by have := q.isLt; show 8 * q.val + 7 ≤ 8; omega)

set_option backward.isDefEq.respectTransparency.types false in
/-- The call on the TensorCore, from the boundary, the memory at it, the core's state after the first call and the windows' rounds. -/
theorem tcCall [∀ e, Nonempty (Elt F e)] (κ : GSem nD τ sig → ℕ) (d : Dev nD) (Φ : PUnit → sProp 𝕄) :
    iprop((K (F := F)).ctx EH (P m) κ ∗ boundary (SparseCore.T d) ∗ held (d.tc : Thread nD τ) (Pipeline.ucRefs τ sig) (VM m d) ∗ (K (F := F)).tcSt EH d 1 ∗ Ghost d
        ∗ ((boundary (SparseCore.T d) ∗ held (d.tc : Thread nD τ) (Pipeline.ucRefs τ sig) (VT m d) ∗ (K (F := F)).tcSt EH d 1) -∗ Φ ⟨⟩))
      ⊢ wp frame (wpE ((K (F := F)).defs (D (F := F))) 𝒱 (SparseCore.T d) none) Set.univ
          (SparseCore.liftProg (Prog.lift (.customCall (Pipeline.entry (0 : Fin 1)) ()))) Φ := by
  refine BI.Entails.trans ?_ ((K (F := F)).wp_liftProg (D (F := F)) 𝒱 (SparseCore.T d) Set.univ none _ _)
  have hwp := Pipeline.RegionSeg.wp (pcfgs (F := F)) adm (Tc.pdats (fun c b => VM m c (rA b)) adm) none cellOf_adm (Tc.EP (F := F)) defs₀ Variants.none (K (F := F)).L (K (F := F)).lev
    (seg m) d none (fun u h => nomatch h) (fun _ => .ret ⟨⟩) Φ
  refine BI.Entails.trans ?_ hwp
  have hO : (K (F := F)).Otc d 1 = 0 := by
    unfold SparseCore.Cfg.Otc
    exact Finset.sum_eq_zero fun q _ => if_neg (by have := q.isLt; omega)
  unfold SparseCore.Cfg.tcSt Ghost
  rw [hO]
  change (_ : sProp 𝕄) ⊢ (_ : sProp 𝕄)
  iintro ⟨#Hctx, Hb, Hheld, ⟨⟨%W, -, HO⟩, Hrest⟩, ⟨Hc, Ht⟩, HΦ⟩
  isplitl [Hrest HΦ]
  · iintro ⟨Hb, Hpost⟩
    rw [wp_ret]
    unfold seg Tc.reg
    icases Hpost with ⟨Hub, -, ⟨%W', HO⟩⟩
    imodintro
    iapply HΦ
    isplitl [Hb]; · iexact Hb
    isplitl [Hub]
    · iapply (Entails.of_eq (Pipeline.unscopedBufs_held d (VT m d))); iexact Hub
    isplitl [HO]
    · iexists W'; isplitr; · ipureintro; exact below d W'
      iexact HO
    iexact Hrest
  isplitl [Hb]; · iexact Hb
  isplitl [Hheld HO]
  · unfold seg Tc.reg
    isplitl [Hheld]
    · iapply (Entails.of_eq (Pipeline.unscopedBufs_held d (VM m d)).symm); iexact Hheld
    isplitr; · iempintro
    iexists W; iexact HO
  isplitr; · iapply ((K (F := F)).ctx_levAts κ); iexact Hctx
  isplitl [Hc] <;> iassumption

set_option backward.isDefEq.respectTransparency.types false in
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (Pipeline.ucRefs τ sig) (V0 m d) from
    Pipeline.unscopedBufs_held d (V0 m d)]
  iintro ⟨#Hctx, Hst, ⟨Hb, Hheld, Hts, -⟩, Hg⟩
  iapply (StableHlo.wp_seq 𝒱 none Set.univ d (Pipeline.ucRefs τ sig) _ opsA opsA_sub opsA_fresh (V0 m d)) $$ [Hb Hheld]
  · isplitl [Hb]; · iexact Hb
    iexact Hheld
  iintro ⟨Hb, Hheld⟩
  ihave Hh := (Entails.of_eq (held_uc m d)) $$ Hheld
  icases Hh with ⟨⟨H0, H1, H2, H3, H8, H9, H11, H12, H13, H14⟩, Hr⟩
  rw [wp_bind]
  iapply ((K (F := F)).wp_run (D (F := F)) 𝒱 (EH := EH) (P := P m) κ d 0) $$ [Hst H0 H1 H2 H3 H8 H9 H11 H12 H13 H14 Hr Hb Hts Hg]
  isplitr; · iexact Hctx
  isplitl [Hst]; · iexact Hst
  isplitl [H0 H8 H9 H11 H12 H13 H14]
  · rw [st0_eq]; unfold Whole
    isplitr [H14]
    · isplitl [H0]; · iexact H0
      isplitl [H8]; · iexact H8
      isplitl [H9]; · iexact H9
      isplitl [H11]; · iexact H11
      isplitl [H12]; · iexact H12
      iexact H13
    · iexact H14
  iintro ⟨Hst, Hdn⟩
  ihave Hdn' := (Entails.of_eq (dn0_eq m d)) $$ Hdn
  unfold Whole
  icases Hdn' with ⟨⟨H0, H8, H9, H11, H12, H13⟩, H14⟩
  ihave Hheld := (Entails.of_eq (held_ucB m d).symm) $$ [H0 H1 H2 H3 H8 H9 H11 H12 H13 H14 Hr]
  · isplitr [Hr]
    · isplitl [H0]; · iexact H0
      isplitl [H1]; · iexact H1
      isplitl [H2]; · iexact H2
      isplitl [H3]; · iexact H3
      isplitl [H8]; · iexact H8
      isplitl [H9]; · iexact H9
      isplitl [H11]; · iexact H11
      isplitl [H12]; · iexact H12
      isplitl [H13]; · iexact H13
      iexact H14
    · iexact Hr
  iapply (StableHlo.wp_seq 𝒱 none Set.univ d (Pipeline.ucRefs τ sig) _ opsB opsB_sub opsB_fresh (VB m d)) $$ [Hb Hheld]
  · isplitl [Hb]; · iexact Hb
    iexact Hheld
  iintro ⟨Hb, Hheld⟩
  rw [wp_bind]
  iapply (tcCall m κ d) $$ [Hst Hheld Hb Hts Hg]
  isplitr; · iexact Hctx
  isplitl [Hb]; · iexact Hb
  isplitl [Hheld]; · iexact Hheld
  isplitl [Hst]; · iexact Hst
  isplitl [Hg]; · iexact Hg
  iintro ⟨Hb, Hheld, Hst⟩
  iapply (StableHlo.wp_seq 𝒱 none Set.univ d (Pipeline.ucRefs τ sig) _ opsC opsC_sub opsC_fresh (VT m d)) $$ [Hb Hheld]
  · isplitl [Hb]; · iexact Hb
    iexact Hheld
  iintro ⟨Hb, Hheld⟩
  ihave Hh := (Entails.of_eq (show (held (d.tc : Thread nD τ) (Pipeline.ucRefs τ sig) (StableHlo.after opsC (VT m d)) : sProp 𝕄) = _ from held_FIN m d)) $$ Hheld
  icases Hh with ⟨HF, -⟩
  rw [wp_pure]
  imodintro
  isplitl [Hst]; · iexact Hst
  isplitl [HF]; · iexact HF
  isplitl [Hb] <;> iassumption

def fq (d : Dev nD) (s' : Phys nD τ sig (Elt F)) : Prop :=
  s'.mem.mem (at_ d main_arg0) = m (at_ d main_arg0) ∧ s'.mem.mem (at_ d main_arg1) = m (at_ d main_arg1) ∧ s'.mem.mem (at_ d main_arg2) = m (at_ d main_arg2)
    ∧ s'.mem.mem (at_ d main_arg3) = m (at_ d main_arg3) ∧ s'.mem.mem (at_ d main_v61) = wholeOf m d

theorem hfin (d : Dev nD) (s' : Phys nD τ sig (Elt F)) : iprop(FIN m d ∗ SI s') ⊢ (⌜fq m d s'⌝ : sProp 𝕄) := by
  unfold FIN
  iintro ⟨⟨H0, H1, H2, H3, H14⟩, HSI⟩
  ihave H := (persistent_entails_right (SI_pointsTo_agree (st := s') (ℓ := at_ d main_arg0) (I := Finset.univ) (q := fullShare) (f := m (at_ d main_arg0)))) $$ [HSI H0]
  · isplitl [HSI] <;> iassumption
  icases H with ⟨%h0, HSI, -⟩
  ihave H := (persistent_entails_right (SI_pointsTo_agree (st := s') (ℓ := at_ d main_arg1) (I := Finset.univ) (q := fullShare) (f := m (at_ d main_arg1)))) $$ [HSI H1]
  · isplitl [HSI] <;> iassumption
  icases H with ⟨%h1, HSI, -⟩
  ihave H := (persistent_entails_right (SI_pointsTo_agree (st := s') (ℓ := at_ d main_arg2) (I := Finset.univ) (q := fullShare) (f := m (at_ d main_arg2)))) $$ [HSI H2]
  · isplitl [HSI] <;> iassumption
  icases H with ⟨%h2, HSI, -⟩
  ihave H := (persistent_entails_right (SI_pointsTo_agree (st := s') (ℓ := at_ d main_arg3) (I := Finset.univ) (q := fullShare) (f := m (at_ d main_arg3)))) $$ [HSI H3]
  · isplitl [HSI] <;> iassumption
  icases H with ⟨%h3, HSI, -⟩
  ihave H := (SI_pointsTo_agree (st := s') (ℓ := at_ d main_v61) (I := Finset.univ) (q := fullShare) (f := wholeOf m d)) $$ [HSI H14]
  · isplitl [HSI] <;> iassumption
  icases H with %h4
  ipureintro
  exact ⟨funext fun i => h0 i (Finset.mem_univ i), funext fun i => h1 i (Finset.mem_univ i), funext fun i => h2 i (Finset.mem_univ i),
    funext fun i => h3 i (Finset.mem_univ i), funext fun i => h4 i (Finset.mem_univ i)⟩

/-! ## The run -/

/-- Every argument as it was, the result as computed, every semaphore at zero. -/
def QC : PUnit × MemSt nD τ sig (Elt F) → Prop := fun r =>
  (∀ d : Dev nD, r.2.mem (at_ d main_arg0) = m (at_ d main_arg0) ∧ r.2.mem (at_ d main_arg1) = m (at_ d main_arg1) ∧ r.2.mem (at_ d main_arg2) = m (at_ d main_arg2)
    ∧ r.2.mem (at_ d main_arg3) = m (at_ d main_arg3) ∧ r.2.mem (at_ d main_v61) = wholeOf m d) ∧ r.2.sem = fun _ => 0

theorem run_main [∀ e, Nonempty (Elt F e)] (hok : ∀ d, (vals m d).Ok) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hok)
    (fun q _ => match q with | 0 => SparseCore.Cfg.VecSplit.of_plain (vecSplit m))
    m ρ main (fun d => Ghost d) (FIN m) (u₀ (F := F)) (sep_elim_left.trans (hu₀ m)) (hmain m ρ) (fq m) (hfin m) (QC m) (fun _ h hz => ⟨h, hz⟩)

end Cert.Proof.Tile

end
-- ==== Proof.Frames.lean ====
/-
  The frames: over either kind of float value, with pair words in range the kernel terminates, leaves its arguments as
  they were and every semaphore at zero.
-/
module

public import proofs.«01_k».proof.Defs
public import proofs.«01_k».proof.Proof.Cols
public import proofs.«01_k».proof.Proof.Launch
public import proofs.«01_k».proof.Proof.Gen.Kernel
public import proofs.«01_k».proof.Proof.Gen.Pre_in_range
public import proofs.«01_k».proof.Proof.Gen.Pre_drawn

@[expose] public section

noncomputable section

namespace Cert.Proof.Tile

open Cert.KernelIdeal Cert.KernelIdeal.Gen
open Idealize.ShloMosaic Idealize.SL.Sem

variable {F : FTy → Type} [FloatOps F]

/-- The precondition says that every pair word is below 128. -/
theorem range_of_pre {A0 : Vec F S8192x4096 .f32} {P : IVec S8x4096 32} {A2 : Vec F S8x2048 .f32} {A3 : Vec F S1x4096 .f32}
    (h : Cert.Pre_in_range.fn (F := F) A0 P A2 A3 = fun _ => 1#1) (j : S8x4096.Idx) : (P j).toNat < 128 := word_lt (congrFun h j)

/-- The frame of the program read at the ideal instance, over words instead. -/
def frameBits : Prop :=
  ∀ (m : (ℓ : Loc nD τ sig) → Buf (Elt Bits) ℓ) (g : Dev nD → PrngReg),
    (∀ c : Dev nD, Cert.Pre_in_range.fn (F := Bits) (m ((c.tc : Thread nD τ).loc main_arg0)) (m ((c.tc : Thread nD τ).loc main_arg1))
      (m ((c.tc : Thread nD τ).loc main_arg2)) (m ((c.tc : Thread nD τ).loc main_arg3)) = fun _ => 1#1) →
    θ_run (Cert.KernelIdeal.defs (F := Bits)) (Cert.KernelIdeal.threads (F := Bits)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The two programs are the same over words. -/
theorem frame_eq : Cert.quiescent_Kernel = frameBits := by chain_rfl

theorem frame_bits : frameBits := fun m ρ h =>
  (θ_run Cert.KernelIdeal.defs _ _).mono (fun _ hr => ⟨fun c => ⟨(hr.1 c).1, (hr.1 c).2.1, (hr.1 c).2.2.1, (hr.1 c).2.2.2.1⟩, hr.2⟩)
    (run_main (F := Bits) m ρ fun d => ok_of_range fun i => range_of_pre (h d) (atP 0 i))

theorem frame_kernel : Cert.quiescent_Kernel := frame_eq.mpr frame_bits

theorem frame_kernelIdeal : Cert.quiescent_KernelIdeal := fun m ρ h =>
  (θ_run Cert.KernelIdeal.defs _ _).mono (fun _ hr => ⟨fun c => ⟨(hr.1 c).1, (hr.1 c).2.1, (hr.1 c).2.2.1, (hr.1 c).2.2.2.1⟩, hr.2⟩)
    (run_main (F := Ideal) m ρ fun d => ok_of_range fun i => range_of_pre (h d) (atP 0 i))

end Cert.Proof.Tile

end
-- ==== Proof.Drawn.lean ====
/-
  What the drawn precondition says of the arguments: the floats are finite, the pair words are below 128, every layer has
  the same pairs, and inside a group of 128 entries the words are distinct. So the columns the pairs name are distinct,
  and every column is named.
-/
module

public import proofs.«01_k».proof.Proof.Cols
public import proofs.«01_k».proof.Proof.Gen.Pre_drawn
public import Idealize.ShloMosaic.PureOps.Ideal.Laws

@[expose] public section

noncomputable section

namespace Cert.Proof.Tile

open Cert.KernelIdeal Cert.KernelIdeal.Gen
open Idealize.ShloMosaic Idealize.ShloMosaic.Pipeline Idealize.ShloMosaic.ValueIdx
open Cert.Proof.Spec

/-- The arguments as they are drawn. -/
structure Drawn (X : S8192x4096.Idx → EReal) (P : IVec S8x4096 32) (TH : S8x2048.Idx → EReal) (SC : S1x4096.Idx → EReal) : Prop where
  finX : ∀ j, ∃ r : ℝ, X j = (r : EReal)
  finT : ∀ j, ∃ r : ℝ, TH j = (r : EReal)
  finS : ∀ j, ∃ r : ℝ, SC j = (r : EReal)
  range : ∀ k i, (P (atP k i)).toNat < 128
  shared : ∀ k i, P (atP k i) = P (atP 0 i)
  distinct : ∀ i j : Fin 4096, i.val / 128 = j.val / 128 → i ≠ j → P (atP 0 i) ≠ P (atP 0 j)

/-- A value whose size is below the pattern of infinity is a real number. -/
theorem real_of_abs {v : EReal} (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  have h' : max v (-v) < ⊤ := by
    by_contra hn
    have : Ideal.cmp .olt (max v (-v)) ⊤ = 0#1 := by
      unfold Ideal.cmp
      simp only [hn, decide_false]; rfl
    rw [this] at h
    exact absurd h (by decide)
  have a := lt_of_le_of_lt (le_max_left _ _) h'
  have b := lt_of_le_of_lt (le_max_right _ _) h'
  induction v using EReal.rec with
  | bot => exact absurd b (by simp)
  | top => exact absurd a (by simp)
  | coe r => exact ⟨r, rfl⟩

theorem or_one {a b : BitVec 1} (h : IntOp.ori a b = 1#1) : a = 1#1 ∨ b = 1#1 := by revert h; revert a b; decide

instance : Subsingleton S_.Idx := ⟨fun a b => funext fun i => i.elim0⟩

theorem drawn_of_pre {X : FVec Ideal S8192x4096 .f32} {P : IVec S8x4096 32} {TH : FVec Ideal S8x2048 .f32} {SC : FVec Ideal S1x4096 .f32}
    (h : Cert.Pre_drawn.fn (F := Ideal) X P TH SC = fun _ => 1#1) : Drawn X P TH SC := by
  have e := congrFun h (fun a => a.elim0)
  unfold Cert.Pre_drawn.fn Cert.Pre_drawn.fn_part1 Cert.Pre_drawn.fn_part2 at e
  obtain ⟨e, hd⟩ := IntOp.andi_eq_one.1 e
  obtain ⟨e, hs⟩ := IntOp.andi_eq_one.1 e
  obtain ⟨e, hr⟩ := IntOp.andi_eq_one.1 e
  obtain ⟨e, h3⟩ := IntOp.andi_eq_one.1 e
  obtain ⟨h0, h2⟩ := IntOp.andi_eq_one.1 e
  have R := fun i => Host.reduce_andi_all _ _ _ _ _ hr i
  have S := fun i => Host.reduce_andi_all _ _ _ _ _ hs i
  have D := fun i => Host.reduce_andi_all _ _ _ _ _ hd i
  refine ⟨fun j => real_of_abs (Host.reduce_andi_all _ _ _ _ _ h0 j), fun j => real_of_abs (Host.reduce_andi_all _ _ _ _ _ h2 j),
    fun j => real_of_abs (Host.reduce_andi_all _ _ _ _ _ h3 j), fun k i => word_lt (R (atP k i)), fun k i => ?_, ?_⟩
  · have s := IntOp.cmpi_eq.1 (S (atP k i))
    rw [s, broadcastInDim_apply _ _ _ _ (ix2 (0 : Fin 1) i) (fun a => match a with | 0 => rfl | 1 => rfl)]
    unfold extractStridedSlice
    refine congrArg P (funext fun a => ?_)
    match a with
    | 0 => rfl
    | 1 => exact Fin.ext (by show 0 + i.val = i.val; omega)
  · intro i j hg hij heq
    have hi := i.isLt
    have hj := j.isLt
    have d := D (ix3 (⟨i.val / 128, by omega⟩ : Fin 32) (⟨i.val % 128, by omega⟩ : Fin 128) (⟨j.val % 128, by omega⟩ : Fin 128))
    have perm : ∀ g : Fin 32, ∀ q : Fin 128, ∀ n : Fin 4096, g.val * 128 + q.val = n.val →
        shapeCast Cert.Pre_drawn.S32x128 (shapeCast S4096 (extractStridedSlice S1x4096 ![0, 0] P Cert.Pre_drawn.Facts.slices_S8x4096_S1x4096_0_0) Cert.Pre_drawn.Facts.shapeCasts_S1x4096_S4096)
          Cert.Pre_drawn.Facts.shapeCasts_S4096_S32x128 (ix2 g q) = P (atP 0 n) := by
      intro g q n hn
      rw [shapeCast_apply _ _ _ (ix4 n) (by rw [Shape.rowMajor_val_two, Shape.rowMajor_val_one]; exact hn.symm)]
      exact pair_row P 0 _ rfl _ _ n
    rcases or_one d with d | d
    · have d := IntOp.cmpi_ne.1 d
      rw [broadcastInDim_apply _ _ _ _ (ix3 (⟨i.val / 128, by omega⟩ : Fin 32) (⟨i.val % 128, by omega⟩ : Fin 128) (0 : Fin 1)) (fun a => match a with | 0 => rfl | 1 => rfl | 2 => rfl),
        broadcastInDim_apply _ _ _ _ (ix2 (⟨i.val / 128, by omega⟩ : Fin 32) (⟨i.val % 128, by omega⟩ : Fin 128)) (fun a => match a with | 0 => rfl | 1 => rfl),
        broadcastInDim_apply _ _ _ _ (ix3 (⟨i.val / 128, by omega⟩ : Fin 32) (0 : Fin 1) (⟨j.val % 128, by omega⟩ : Fin 128)) (fun a => match a with | 0 => rfl | 1 => rfl | 2 => rfl),
        broadcastInDim_apply _ _ _ _ (ix2 (⟨i.val / 128, by omega⟩ : Fin 32) (⟨j.val % 128, by omega⟩ : Fin 128)) (fun a => match a with | 0 => rfl | 1 => rfl),
        perm _ _ i (by show i.val / 128 * 128 + i.val % 128 = i.val; omega), perm _ _ j (by show i.val / 128 * 128 + j.val % 128 = j.val; omega)] at d
      exact d heq
    · have d : BitVec.ofNat 32 (i.val % 128) = BitVec.ofNat 32 (j.val % 128) := IntOp.cmpi_eq.1 d
      have d := congrArg BitVec.toNat d
      rw [BitVec.toNat_ofNat, BitVec.toNat_ofNat] at d
      exact hij (Fin.ext (by omega))

/-- The column entry `i` of the table names. -/
def colAt (P : IVec S8x4096 32) (i : Fin 4096) : Fin 4096 := colOf (cols P (ix4 i))

section Cols
variable {X : S8192x4096.Idx → EReal} {P : IVec S8x4096 32} {TH : S8x2048.Idx → EReal} {SC : S1x4096.Idx → EReal} (D : Drawn X P TH SC)
include D

theorem Drawn.cols_lt (i : Fin 4096) : (cols P (ix4 i)).toNat < 4096 := by
  have := i.isLt; have := D.range 0 i; rw [cols_toNat i (D.range 0 i)]; omega

theorem Drawn.colAt_val (i : Fin 4096) : (colAt P i).val = (P (atP 0 i)).toNat + 128 * (i.val / 128) := by
  unfold colAt; rw [colOf_val (D.cols_lt i), cols_toNat i (D.range 0 i)]

theorem Drawn.inj : Function.Injective (colAt P) := by
  intro i j h
  by_contra hij
  have h := congrArg Fin.val h
  rw [D.colAt_val, D.colAt_val] at h
  have := D.range 0 i; have := D.range 0 j
  have hg : i.val / 128 = j.val / 128 := by omega
  exact D.distinct i j hg hij (BitVec.eq_of_toNat_eq (by omega))

theorem Drawn.surj : Function.Surjective (colAt P) := Finite.injective_iff_surjective.1 D.inj

end Cols

end Cert.Proof.Tile

end
-- ==== Proof.Layer.lean ====
/-
  One layer of the reference, read at an entry: with in-range, pairwise distinct columns, the two columns of pair `p` end at
  the two rotated values of the layer's input.
-/
module

public import proofs.«01_k».proof.Proof.Gen.ReferenceIdeal
public import Idealize.ShloMosaic.Lib.Routing.OpsSet
public import Idealize.ShloMosaic.Lib.Routing.OpsPair
public import Idealize.ShloMosaic.Lib.Pipeline.Value
public import Idealize.ShloMosaic.Lib.ValueIdx
public import Idealize.ShloMosaic.Lib.ReduceAll

@[expose] public section

noncomputable section

namespace Cert.Proof.Ref

open Cert.ReferenceIdeal Cert.ReferenceIdeal.Gen
open Idealize.ShloMosaic Idealize.ShloMosaic.Pipeline Idealize.ShloMosaic.ValueIdx

variable {F : FTy → Type} [FloatOps F]

/-! ## The layer -/

/-- The columns, a negative one counted from the end, as start indices. -/
def starts (I : IVec S2048 32) : IVec S2048x1 32 :=
  broadcastInDim S2048x1 ![0] bcast_S2048_S2048x1_0 (select (cmpi .slt I (broadcastInDim S2048 ![] bcast_S_S2048 (constantI S_ 32 0#32)))
    (addi I (broadcastInDim S2048 ![] bcast_S_S2048 (constantI S_ 32 4096#32))) I)

/-- The columns `I` of `Y`. -/
def pick (Y : FVec F S8192x4096 .f32) (N : IVec S2048x1 32) : FVec F S8192x2048 .f32 :=
  select (broadcastInDim S8192x2048 ![1] bcast_S2048_S8192x2048_1
      (Host.reduce IntOp.andi (andi (cmpi .sge N (broadcastInDim S2048x1 ![] bcast_S_S2048x1 (constantI S_ 32 0#32)))
        (cmpi .sle N (broadcastInDim S2048x1 ![0, 1] bcast_S1x1_S2048x1_0_1 (broadcastInDim S1x1 ![1] bcast_S1_S1x1_1 (constantI S1 32 4095#32)))))
        (constantI S_ 1 1#1) reducesTo_S2048x1_S2048_d1 h_S_))
    (Host.gather gather_S8192x4096_S2048x1_S8192x2048_0_1_n_n_1_1_81921 Y N) (broadcastInDim S8192x2048 ![] bcast_S_S8192x2048 (constant S_ .f32 0x7FC00000#32))

/-- A vector over the pairs, on every row. -/
def onRows (C : FVec F S2048 .f32) : FVec F S8192x2048 .f32 :=
  broadcastInDim S8192x2048 ![0, 1] bcast_S1x2048_S8192x2048_0_1 (broadcastInDim S1x2048 ![1] bcast_S2048_S1x2048_1 C)

/-- One layer. -/
def layer (Y : FVec F S8192x4096 .f32) (I0 I1 : IVec S2048 32) (C Sn : FVec F S2048 .f32) : FVec F S8192x4096 .f32 :=
  Host.scatter scatter_S8192x4096_S2048x1_S8192x2048_0_1_1_1 (fun _ b => b)
    (Host.scatter scatter_S8192x4096_S2048x1_S8192x2048_0_1_1_1 (fun _ b => b) Y (starts I0)
      (subf (mulf (onRows C) (pick Y (starts I0))) (mulf (onRows Sn) (pick Y (starts I1)))))
    (starts I1) (addf (mulf (onRows Sn) (pick Y (starts I0))) (mulf (onRows C) (pick Y (starts I1))))

/-! ## Its parts at an entry -/

theorem starts_at {I : IVec S2048 32} {p : Fin 2048} (h : (I (ix1 p)).toNat < 4096) : starts I (ix2 p (0 : Fin 1)) = I (ix1 p) := by
  unfold starts
  rw [broadcastInDim_apply _ _ _ _ (ix1 p) (fun a => match a with | 0 => rfl)]
  exact Routing.wrap_of_lt _ _ (by omega)

theorem onRows_at (C : FVec F S2048 .f32) (r : Fin 8192) (p : Fin 2048) : onRows C (ix2 r p) = C (ix1 p) := by
  unfold onRows
  rw [broadcastInDim_apply _ _ _ _ (ix2 (0 : Fin 1) p) (fun a => match a with | 0 => rfl | 1 => rfl),
    broadcastInDim_apply _ _ _ _ (ix1 p) (fun a => match a with | 0 => rfl)]

theorem gather_at {α : Type} (Y : S8192x4096.Idx → α) (N : IVec S2048x1 32) (r : Fin 8192) (p : Fin 2048) (c : Fin 4096)
    (h : (N (ix2 p (0 : Fin 1))).toInt = (c.val : Int)) :
    Host.gather gather_S8192x4096_S2048x1_S8192x2048_0_1_n_n_1_1_81921 Y N (ix2 r p) = Y (ix2 r c) := by
  unfold Host.gather
  refine congrArg Y (funext fun a => Fin.ext ?_)
  show GatherDims.start _ _ N a + GatherDims.batchCoord _ _ a + GatherDims.offCoord _ _ a = _
  rw [GatherDims.batchCoord_eq_zero _ _ _ List.not_mem_nil, Nat.add_zero]
  match a with
  | ⟨0, _⟩ =>
    have e1 : GatherDims.start gather_S8192x4096_S2048x1_S8192x2048_0_1_n_n_1_1_81921 (ix2 r p) N (0 : Fin 2) = 0 := by
      unfold GatherDims.start; exact dif_neg (by decide)
    have e2 : GatherDims.offCoord gather_S8192x4096_S2048x1_S8192x2048_0_1_n_n_1_1_81921 (ix2 r p) (0 : Fin 2) = r.val := by
      unfold GatherDims.offCoord; rw [dif_pos (by decide)]; rfl
    exact (congrArg₂ (· + ·) e1 e2).trans (Nat.zero_add _)
  | ⟨1, _⟩ =>
    have hc := c.isLt
    have e1 : GatherDims.start gather_S8192x4096_S2048x1_S8192x2048_0_1_n_n_1_1_81921 (ix2 r p) N (1 : Fin 2) = c.val := by
      unfold GatherDims.start
      rw [dif_pos (by decide)]
      have hsi : ∀ q, GatherDims.siIdx gather_S8192x4096_S2048x1_S8192x2048_0_1_n_n_1_1_81921 (ix2 r p) q = ix2 p (0 : Fin 1) := fun q => by
        funext b; refine Fin.ext ?_
        match b with
        | ⟨0, _⟩ => rfl
        | ⟨1, _⟩ => exact Nat.lt_one_iff.1 q.isLt
      rw [hsi, h]
      show min (Int.toNat (c.val : Int)) 4095 = c.val
      rw [Int.toNat_natCast]; omega
    have e2 : GatherDims.offCoord gather_S8192x4096_S2048x1_S8192x2048_0_1_n_n_1_1_81921 (ix2 r p) (1 : Fin 2) = 0 := by
      unfold GatherDims.offCoord; exact dif_neg (by decide)
    exact (congrArg₂ (· + ·) e1 e2).trans (Nat.add_zero _)

theorem lands (N : IVec S2048x1 32) (r' r : Fin 8192) (p : Fin 2048) (c : Fin 4096) :
    scatter_S8192x4096_S2048x1_S8192x2048_0_1_1_1.resultIdx? (ix2 r' p) N = some (ix2 r c) ↔ r' = r ∧ (N (ix2 p (0 : Fin 1))).toInt = (c.val : Int) := by
  have w0 : ScatterDims.window scatter_S8192x4096_S2048x1_S8192x2048_0_1_1_1 (ix2 r' p) (0 : Fin 2) = r'.val := by
    unfold ScatterDims.window; rw [dif_pos (by decide)]; rfl
  have w1 : ScatterDims.window scatter_S8192x4096_S2048x1_S8192x2048_0_1_1_1 (ix2 r' p) (1 : Fin 2) = 0 := by
    unfold ScatterDims.window; exact dif_neg (by decide)
  have s0 : ScatterDims.start scatter_S8192x4096_S2048x1_S8192x2048_0_1_1_1 (ix2 r' p) N (0 : Fin 2) = 0 := by
    unfold ScatterDims.start; exact dif_neg (by decide)
  have s1 : ScatterDims.start scatter_S8192x4096_S2048x1_S8192x2048_0_1_1_1 (ix2 r' p) N (1 : Fin 2) = (N (ix2 p (0 : Fin 1))).toInt := by
    unfold ScatterDims.start
    rw [dif_pos (by decide)]
    have hsi : ∀ q, ScatterDims.siIdx scatter_S8192x4096_S2048x1_S8192x2048_0_1_1_1 (ix2 r' p) q = ix2 p (0 : Fin 1) := fun q => by
      funext b; refine Fin.ext ?_
      match b with
      | ⟨0, _⟩ => rfl
      | ⟨1, _⟩ => exact Nat.lt_one_iff.1 q.isLt
    rw [hsi]
  refine (Routing.resultIdx?_ix2 (R := 8192) (C := 4096) scatter_S8192x4096_S2048x1_S8192x2048_0_1_1_1 (ix2 r' p) N r c).trans ?_
  rw [w0, w1, s0, s1]
  constructor
  · rintro ⟨h0, h1⟩; exact ⟨Fin.ext (by omega), by omega⟩
  · rintro ⟨rfl, h1⟩; exact ⟨by omega, by omega⟩

section Scatter
variable {α : Type} (Y : S8192x4096.Idx → α) (N : IVec S2048x1 32) (U : S8192x2048.Idx → α) {c : Fin 2048 → Fin 4096}
  (hN : ∀ p, (N (ix2 p (0 : Fin 1))).toInt = ((c p).val : Int))
include hN

/-- A column that pair `p` names takes pair `p`'s update. -/
theorem scatter_hit (hc : Function.Injective c) (r : Fin 8192) (p : Fin 2048) :
    Host.scatter scatter_S8192x4096_S2048x1_S8192x2048_0_1_1_1 (fun _ b => b) Y N U (ix2 r (c p)) = U (ix2 r p) := by
  refine Routing.scatter_set_hit _ _ _ _ _ _ (fun k hk => ?_) (ix2 r p) ((lands N r r p (c p)).2 ⟨rfl, hN p⟩)
  obtain ⟨r', p', rfl⟩ : ∃ (r' : Fin 8192) (p' : Fin 2048), k = ix2 r' p' := ⟨k 0, k 1, eq_ix2 k⟩
  obtain ⟨rfl, h⟩ := (lands N _ _ _ _).1 hk
  rw [hN] at h
  rw [hc (Fin.ext (by omega) : c p' = c p)]

/-- A column that no pair names is left as it was. -/
theorem scatter_miss (r : Fin 8192) (j : Fin 4096) (hj : ∀ p, c p ≠ j) :
    Host.scatter scatter_S8192x4096_S2048x1_S8192x2048_0_1_1_1 (fun _ b => b) Y N U (ix2 r j) = Y (ix2 r j) := by
  refine Routing.scatter_set_miss _ _ _ _ _ fun k hk => ?_
  obtain ⟨r', p', rfl⟩ : ∃ (r' : Fin 8192) (p' : Fin 2048), k = ix2 r' p' := ⟨k 0, k 1, eq_ix2 k⟩
  obtain ⟨-, h⟩ := (lands N _ _ _ _).1 hk
  rw [hN] at h
  exact hj p' (Fin.ext (by omega))

end Scatter

/-- The mask of the columns in range. -/
theorem pick_at (Y : FVec F S8192x4096 .f32) (N : IVec S2048x1 32) {c : Fin 2048 → Fin 4096} (hN : ∀ p, (N (ix2 p (0 : Fin 1))).toInt = ((c p).val : Int))
    (r : Fin 8192) (p : Fin 2048) : pick Y N (ix2 r p) = Y (ix2 r (c p)) := by
  have g := gather_at Y N r p (c p) (hN p)
  unfold pick
  show Scalar.select _ _ _ = _
  rw [broadcastInDim_apply _ _ _ _ (ix1 p) (fun a => match a with | 0 => rfl), Host.reduce_andi_one _ _ _ _ _ rfl, g]
  · rfl
  · intro i
    obtain ⟨q, z, rfl⟩ : ∃ (q : Fin 2048) (z : Fin 1), i = ix2 q z := ⟨i 0, i 1, eq_ix2 i⟩
    obtain rfl : z = 0 := Subsingleton.elim _ _
    have := (c q).isLt
    refine IntOp.andi_eq_one.2 ⟨IntOp.cmpi_sge.2 ?_, IntOp.cmpi_sle.2 ?_⟩
    · show (0#32 : BitVec 32).toInt ≤ _
      rw [hN, show (0#32 : BitVec 32).toInt = 0 by decide]; omega
    · show _ ≤ (4095#32 : BitVec 32).toInt
      rw [hN, show (4095#32 : BitVec 32).toInt = 4095 by decide]; omega

/-- A layer at the two columns of pair `p`. -/
theorem layer_at (Y : FVec F S8192x4096 .f32) {I0 I1 : IVec S2048 32} (C Sn : FVec F S2048 .f32) {c0 c1 : Fin 2048 → Fin 4096}
    (h0 : ∀ p, (I0 (ix1 p)).toNat = (c0 p).val) (h1 : ∀ p, (I1 (ix1 p)).toNat = (c1 p).val)
    (i0 : Function.Injective c0) (i1 : Function.Injective c1) (ne : ∀ p q, c0 p ≠ c1 q) (r : Fin 8192) (p : Fin 2048) :
    layer Y I0 I1 C Sn (ix2 r (c0 p)) = FloatOps.subf (FloatOps.mulf (C (ix1 p)) (Y (ix2 r (c0 p)))) (FloatOps.mulf (Sn (ix1 p)) (Y (ix2 r (c1 p))))
    ∧ layer Y I0 I1 C Sn (ix2 r (c1 p)) = FloatOps.addf (FloatOps.mulf (Sn (ix1 p)) (Y (ix2 r (c0 p)))) (FloatOps.mulf (C (ix1 p)) (Y (ix2 r (c1 p)))) := by
  have st : ∀ (I : IVec S2048 32) (c : Fin 2048 → Fin 4096), (∀ p, (I (ix1 p)).toNat = (c p).val) → ∀ p, (starts I (ix2 p (0 : Fin 1))).toInt = ((c p).val : Int) := by
    intro I c h p
    have := (c p).isLt
    rw [starts_at (by rw [h]; omega), BitVec.toInt_eq_toNat_of_lt (by rw [h]; omega), h]
  have n0 := st I0 c0 h0
  have n1 := st I1 c1 h1
  unfold layer
  constructor
  · rw [scatter_miss _ _ _ n1 r (c0 p) (fun q => (ne p q).symm), scatter_hit _ _ _ n0 i0 r p]
    show FloatOps.subf (FloatOps.mulf (onRows C (ix2 r p)) (pick Y (starts I0) (ix2 r p))) (FloatOps.mulf (onRows Sn (ix2 r p)) (pick Y (starts I1) (ix2 r p))) = _
    rw [onRows_at, onRows_at, pick_at Y _ n0, pick_at Y _ n1]
  · rw [scatter_hit _ _ _ n1 i1 r p]
    show FloatOps.addf (FloatOps.mulf (onRows Sn (ix2 r p)) (pick Y (starts I0) (ix2 r p))) (FloatOps.mulf (onRows C (ix2 r p)) (pick Y (starts I1) (ix2 r p))) = _
    rw [onRows_at, onRows_at, pick_at Y _ n0, pick_at Y _ n1]

end Cert.Proof.Ref

end
-- ==== Proof.Turn.lean ====
/-
  The mathematics: turning a pair of numbers by one angle after another turns it by the angles' sum. The kernel turns by the
  sum at once, with the channel scales multiplied into the coefficients.
-/
module

public import proofs.«01_k».proof.Proof.Drawn
public import proofs.«01_k».proof.Proof.Layer
public import Idealize.ShloMosaic.Lib.IdealHost

@[expose] public section

noncomputable section

namespace Cert.Proof.Tile

open Cert.KernelIdeal Cert.KernelIdeal.Gen
open Idealize.ShloMosaic Idealize.ShloMosaic.Pipeline Idealize.ShloMosaic.ValueIdx
open Cert.Proof.Spec Cert.Proof.Ref

theorem ix_eq (p : Fin 2048) : ix p = ix1 p := by funext a; match a with | 0 => rfl
theorem ix4_eq (c : Fin 4096) : ix4 c = ix1 c := by funext a; match a with | 0 => rfl
theorem atP_eq (k : Fin 8) (i : Fin 4096) : atP k i = ix2 k i := by funext a; match a with | 0 => rfl | 1 => rfl
theorem atX_eq (r : Fin 8192) (c : Fin 4096) : atX r c = ix2 r c := by funext a; match a with | 0 => rfl | 1 => rfl

/-- The two columns of pair `p`. -/
def c0 (P : IVec S8x4096 32) (p : Fin 2048) : Fin 4096 := colAt P ⟨0 + 2 * p.val, by have := p.isLt; omega⟩
def c1 (P : IVec S8x4096 32) (p : Fin 2048) : Fin 4096 := colAt P ⟨1 + 2 * p.val, by have := p.isLt; omega⟩

section Facts
variable {X : S8192x4096.Idx → EReal} {P : IVec S8x4096 32} {TH : S8x2048.Idx → EReal} {SC : S1x4096.Idx → EReal} (D : Drawn X P TH SC)
include D

theorem Drawn.c0_inj : Function.Injective (c0 P) := fun p q h => by
  have h := congrArg Fin.val (D.inj h); simp only at h; exact Fin.ext (by omega)
theorem Drawn.c1_inj : Function.Injective (c1 P) := fun p q h => by
  have h := congrArg Fin.val (D.inj h); simp only at h; exact Fin.ext (by omega)
theorem Drawn.c_ne (p q : Fin 2048) : c0 P p ≠ c1 P q := fun h => by
  have h := congrArg Fin.val (D.inj h); simp only at h; omega

/-- Every column is one of a pair's two. -/
theorem Drawn.cover (j : Fin 4096) : ∃ p, j = c0 P p ∨ j = c1 P p := by
  obtain ⟨i, rfl⟩ := D.surj j
  have hi := i.isLt
  refine ⟨⟨i.val / 2, by omega⟩, ?_⟩
  rcases Nat.mod_two_eq_zero_or_one i.val with h | h
  · exact .inl (congrArg (colAt P) (Fin.ext (by show i.val = 0 + 2 * (i.val / 2); omega)))
  · exact .inr (congrArg (colAt P) (Fin.ext (by show i.val = 1 + 2 * (i.val / 2); omega)))

/-- The column words of any layer. -/
theorem Drawn.words (k : Fin 8) (off : Fin 2 → ℕ) (ho : off = ![k.val, 0]) (h : S8x4096.Slices off S1x4096) (h' : S1x4096.ShapeCasts S4096)
    (o : ℕ) (ho' : o < 2) (so : Fin 1 → ℕ) (hso : so = ![o]) (hs : S4096.SlicesBy so ![2] S2048) (p : Fin 2048) :
    (Host.slice S2048 so ![2] (addi (shapeCast S4096 (extractStridedSlice S1x4096 off P h) h') offs) hs (ix1 p)).toNat
      = (colAt P ⟨o + 2 * p.val, by have := p.isLt; omega⟩).val := by
  rw [← ix_eq, slice_at _ o ho' so hso hs p]
  generalize (⟨o + 2 * p.val, _⟩ : Fin 4096) = i
  show (_ + _ : BitVec 32).toNat = _
  rw [pair_row P k off ho h h', D.shared k i]
  unfold colAt
  rw [colOf_val (D.cols_lt i), cols_at, offs_at]

end Facts

/-- A row of the angles, flattened. -/
theorem angle_row (TH : S8x2048.Idx → EReal) (k : Fin 8) (off : Fin 2 → ℕ) (ho : off = ![k.val, 0]) (h : S8x2048.Slices off ⟨2, ![1, 2048]⟩)
    (h' : (⟨2, ![1, 2048]⟩ : Shape).ShapeCasts S2048) (p : Fin 2048) : shapeCast S2048 (extractStridedSlice ⟨2, ![1, 2048]⟩ off TH h) h' (ix1 p) = TH (ix2 k p) := by
  subst ho
  rw [shapeCast_apply _ h' (ix1 p) (ix2 (0 : Fin 1) p) (by
    rw [Shape.rowMajor_val_two, Shape.rowMajor_val_one]; show 0 * 2048 + p.val = p.val; omega)]
  unfold extractStridedSlice
  refine congrArg TH (funext fun a => ?_)
  match a with
  | 0 => exact Fin.ext (by show k.val + 0 = k.val; omega)
  | 1 => exact Fin.ext (by show 0 + p.val = p.val; omega)

/-! ## Turning a row -/

/-- Row `r` of `Y` is `(a, b)` turned, pair by pair, by the angles `τ`. -/
def Turned (P : IVec S8x4096 32) (r : Fin 8192) (a b τ : Fin 2048 → ℝ) (Y : FVec Ideal S8192x4096 .f32) : Prop :=
  ∀ p, Y (ix2 r (c0 P p)) = ((Real.cos (τ p) * a p - Real.sin (τ p) * b p : ℝ) : EReal)
    ∧ Y (ix2 r (c1 P p)) = ((Real.sin (τ p) * a p + Real.cos (τ p) * b p : ℝ) : EReal)

/-- A layer turns by its angles. -/
theorem Turned.step {X : S8192x4096.Idx → EReal} {P : IVec S8x4096 32} {TH : S8x2048.Idx → EReal} {SC : S1x4096.Idx → EReal} (D : Drawn X P TH SC)
    {r : Fin 8192} {a b τ : Fin 2048 → ℝ} {Y : FVec Ideal S8192x4096 .f32} (hY : Turned P r a b τ Y) {I0 I1 : IVec S2048 32} {C Sn : FVec Ideal S2048 .f32}
    (h0 : ∀ p, (I0 (ix1 p)).toNat = (c0 P p).val) (h1 : ∀ p, (I1 (ix1 p)).toNat = (c1 P p).val) {k : Fin 8} {θ : Fin 2048 → ℝ} (hθ : ∀ p, TH (ix2 k p) = (θ p : EReal))
    (hC : ∀ p, C (ix1 p) = Ideal.cos (TH (ix2 k p))) (hS : ∀ p, Sn (ix1 p) = Ideal.sin (TH (ix2 k p))) :
    Turned P r a b (fun p => τ p + θ p) (layer Y I0 I1 C Sn) := by
  intro p
  obtain ⟨e0, e1⟩ := layer_at Y C Sn h0 h1 D.c0_inj D.c1_inj D.c_ne r p
  obtain ⟨y0, y1⟩ := hY p
  have hc : C (ix1 p) = ((Real.cos (θ p) : ℝ) : EReal) := by rw [hC, hθ]; rfl
  have hs : Sn (ix1 p) = ((Real.sin (θ p) : ℝ) : EReal) := by rw [hS, hθ]; rfl
  rw [e0, e1, y0, y1, hc, hs]
  constructor
  · show ((_ : ℝ) : EReal) * ((_ : ℝ) : EReal) - ((_ : ℝ) : EReal) * ((_ : ℝ) : EReal) = _
    rw [← EReal.coe_mul, ← EReal.coe_mul, ← EReal.coe_sub, Real.cos_add, Real.sin_add]
    exact congrArg _ (by ring)
  · show ((_ : ℝ) : EReal) * ((_ : ℝ) : EReal) + ((_ : ℝ) : EReal) * ((_ : ℝ) : EReal) = _
    rw [← EReal.coe_mul, ← EReal.coe_mul, ← EReal.coe_add, Real.cos_add, Real.sin_add]
    exact congrArg _ (by ring)

/-- The angle of pair `p` in the kernel. -/
theorem angle_at (TH : FVec Ideal S8x2048 .f32) (p : Fin 2048) : angle (F := Ideal) TH (ix1 p) = ∑ k : Fin 8, TH (ix2 k p) := by
  unfold angle
  rw [hostReduceAdd_apply]
  have hr : S8x2048.Reduces [0] S2048 := by decide
  refine (Ideal.hostReduceAdd_single reducesTo_S8x2048_S2048_d0 hr TH _ (ix1 p)).trans ?_
  show Ideal.ofBits .f32 0x00000000#32 + _ = _
  rw [Ideal.ofBits_zero_f32, zero_add]
  refine Finset.sum_congr rfl fun k _ => congrArg TH (funext fun a => ?_)
  match a with
  | 0 => rfl
  | 1 => rfl

/-- What the kernel leaves at row `r`: the scaled row turned by the angles' sum. -/
theorem out_turned {X : FVec Ideal S8192x4096 .f32} {P : IVec S8x4096 32} {TH : FVec Ideal S8x2048 .f32} {SC : FVec Ideal S1x4096 .f32} (D : Drawn X P TH SC)
    (r : Fin 8192) {a b x0 x1 s0 s1 : Fin 2048 → ℝ} (ha : ∀ p, a p = x0 p * s0 p) (hb : ∀ p, b p = x1 p * s1 p)
    (hx0 : ∀ p, X (ix2 r (c0 P p)) = (x0 p : EReal)) (hx1 : ∀ p, X (ix2 r (c1 P p)) = (x1 p : EReal))
    (hs0 : ∀ p, SC (ix2 (0 : Fin 1) (c0 P p)) = (s0 p : EReal)) (hs1 : ∀ p, SC (ix2 (0 : Fin 1) (c1 P p)) = (s1 p : EReal))
    {τ : Fin 2048 → ℝ} (hτ : ∀ p, ∑ k : Fin 8, TH (ix2 k p) = (τ p : EReal)) (p : Fin 2048) :
    trips (valsOf (F := Ideal) X P TH SC).tab 128 (rowX (F := Ideal) X r) (c0 P p) = ((Real.cos (τ p) * a p - Real.sin (τ p) * b p : ℝ) : EReal)
    ∧ trips (valsOf (F := Ideal) X P TH SC).tab 128 (rowX (F := Ideal) X r) (c1 P p) = ((Real.sin (τ p) * a p + Real.cos (τ p) * b p : ℝ) : EReal) := by
  have w0 : ∀ p, (valsOf (F := Ideal) X P TH SC).tab.i0 p = c0 P p := fun p => congrArg colOf (slice_at (cols P) 0 (by omega) ![0] rfl slicesBy_S4096_S2048_0s2 p)
  have w1 : ∀ p, (valsOf (F := Ideal) X P TH SC).tab.i1 p = c1 P p := fun p => congrArg colOf (slice_at (cols P) 1 (by omega) ![1] rfl slicesBy_S4096_S2048_1s2 p)
  have hD : (valsOf (F := Ideal) X P TH SC).tab.Distinct :=
    ⟨fun p q h => D.c0_inj (by rw [← w0, ← w0]; exact h), fun p q h => D.c1_inj (by rw [← w1, ← w1]; exact h), fun p q h => D.c_ne p q (by rw [← w0, ← w1]; exact h)⟩
  obtain ⟨t0, t1⟩ := (trips_spec hD (rowX (F := Ideal) X r) 128 (le_refl _)).1 p (by have := p.isLt; omega)
  rw [w0, w1] at t0 t1
  have sc : ∀ c : Fin 4096, (valsOf (F := Ideal) X P TH SC).SC (ix4 c) = SC (ix2 (0 : Fin 1) c) := fun c =>
    shapeCast_apply _ shapeCasts_S1x4096_S4096 (ix4 c) (ix2 (0 : Fin 1) c) (by
      rw [Shape.rowMajor_val_two, Shape.rowMajor_val_one]; show 0 * 4096 + c.val = c.val; omega)
  have hc : (valsOf (F := Ideal) X P TH SC).C (ix p) = ((Real.cos (τ p) : ℝ) : EReal) := by
    show Ideal.cos (angle (F := Ideal) TH (ix p)) = _
    rw [ix_eq, angle_at, hτ]; rfl
  have hs : (valsOf (F := Ideal) X P TH SC).Sn (ix p) = ((Real.sin (τ p) : ℝ) : EReal) := by
    show Ideal.sin (angle (F := Ideal) TH (ix p)) = _
    rw [ix_eq, angle_at, hτ]; rfl
  have k0 : (valsOf (F := Ideal) X P TH SC).SC (ix4 (colOf ((valsOf (F := Ideal) X P TH SC).I0 (ix p)))) = (s0 p : EReal) := by
    rw [sc, ← hs0]; exact congrArg (fun c => SC (ix2 (0 : Fin 1) c)) (w0 p)
  have k1 : (valsOf (F := Ideal) X P TH SC).SC (ix4 (colOf ((valsOf (F := Ideal) X P TH SC).I1 (ix p)))) = (s1 p : EReal) := by
    rw [sc, ← hs1]; exact congrArg (fun c => SC (ix2 (0 : Fin 1) c)) (w1 p)
  have A : (valsOf (F := Ideal) X P TH SC).tab.a p = ((Real.cos (τ p) * s0 p : ℝ) : EReal) := by
    rw [EReal.coe_mul, ← hc, ← k0]; rfl
  have B : (valsOf (F := Ideal) X P TH SC).tab.b p = ((Real.sin (τ p) * s1 p : ℝ) : EReal) := by
    rw [EReal.coe_mul, ← hs, ← k1]; rfl
  have Dd : (valsOf (F := Ideal) X P TH SC).tab.d p = ((Real.sin (τ p) * s0 p : ℝ) : EReal) := by
    rw [EReal.coe_mul, ← hs, ← k0]; rfl
  have E : (valsOf (F := Ideal) X P TH SC).tab.e p = ((Real.cos (τ p) * s1 p : ℝ) : EReal) := by
    rw [EReal.coe_mul, ← hc, ← k1]; rfl
  have g0 : rowX (F := Ideal) X r (c0 P p) = (x0 p : EReal) := by rw [← hx0, ← atX_eq]; rfl
  have g1 : rowX (F := Ideal) X r (c1 P p) = (x1 p : EReal) := by rw [← hx1, ← atX_eq]; rfl
  rw [g0, g1, A, B] at t0
  rw [g0, g1, Dd, E] at t1
  rw [t0, t1, ha, hb]
  constructor
  · show ((_ : ℝ) : EReal) * ((_ : ℝ) : EReal) - ((_ : ℝ) : EReal) * ((_ : ℝ) : EReal) = _
    rw [← EReal.coe_mul, ← EReal.coe_mul, ← EReal.coe_sub]
    exact congrArg _ (by ring)
  · show ((_ : ℝ) : EReal) * ((_ : ℝ) : EReal) + ((_ : ℝ) : EReal) * ((_ : ℝ) : EReal) = _
    rw [← EReal.coe_mul, ← EReal.coe_mul, ← EReal.coe_add]
    exact congrArg _ (by ring)

end Cert.Proof.Tile

end
-- ==== Proof.Bmat.lean ====
/-
  The matrices of the TensorCore's call over the extended reals. A pair's marks are one at its two columns, so the scales come
  out by the sums over the columns, and a row by a group's matrix is the row turned by the group's pairs.
-/
module

public import proofs.«01_k».proof.Proof.Mat
public import proofs.«01_k».proof.Proof.Turn
public import Idealize.ShloMosaic.Lib.Affine

@[expose] public section

noncomputable section

namespace Cert.Proof.Tile

open Cert.KernelIdeal Cert.KernelIdeal.Gen
open Idealize.ShloMosaic Idealize.ShloMosaic.Pipeline Idealize.ShloMosaic.ValueIdx
open Cert.Proof.Spec

/-! ## Sums of reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- One where `a` is `k`. -/
def mk (a k : ℕ) : ℝ := if a = k then 1 else 0

/-- A row by a group's matrix, at the two columns of a pair. -/
theorem turn_sum (x : Fin 128 → ℝ) (A B D E : Fin 64 → ℝ) (u v : Fin 64 → Fin 128) (hu : Function.Injective u) (hv : Function.Injective v) (huv : ∀ i j, u i ≠ v j) (j : Fin 64) :
    ∑ k : Fin 128, x k * (∑ i, A i * mk (u i) k * mk (u i) (u j) - ∑ i, B i * mk (v i) k * mk (u i) (u j) + ∑ i, D i * mk (u i) k * mk (v i) (u j) + ∑ i, E i * mk (v i) k * mk (v i) (u j))
        = A j * x (u j) - B j * x (v j)
    ∧ ∑ k : Fin 128, x k * (∑ i, A i * mk (u i) k * mk (u i) (v j) - ∑ i, B i * mk (v i) k * mk (u i) (v j) + ∑ i, D i * mk (u i) k * mk (v i) (v j) + ∑ i, E i * mk (v i) k * mk (v i) (v j))
        = D j * x (u j) + E j * x (v j) := by
  have e0 : ∀ i, mk (u i) (u j) = if i = j then 1 else 0 := fun i => by
    unfold mk; exact if_congr ⟨fun h => hu (Fin.ext h), fun h => congrArg (fun i => (u i).val) h⟩ rfl rfl
  have e1 : ∀ i, mk (v i) (v j) = if i = j then 1 else 0 := fun i => by
    unfold mk; exact if_congr ⟨fun h => hv (Fin.ext h), fun h => congrArg (fun i => (v i).val) h⟩ rfl rfl
  have e2 : ∀ i, mk (v i) (u j) = 0 := fun i => if_neg fun h => huv j i (Fin.ext h.symm)
  have e3 : ∀ i, mk (u i) (v j) = 0 := fun i => if_neg fun h => huv i j (Fin.ext h)
  have s : ∀ (c : ℝ) (w : Fin 128), ∑ k : Fin 128, x k * (c * mk w k) = c * x w := fun c w => by
    rw [Finset.sum_eq_single w]
    · unfold mk; rw [if_pos rfl]; ring
    · intro k _ hk; unfold mk; rw [if_neg fun h => hk (Fin.ext h.symm)]; ring
    · intro h; exact absurd (Finset.mem_univ w) h
  constructor
  · simp only [e0, e2, mul_ite, mul_one, mul_zero, Finset.sum_ite_eq', Finset.mem_univ, if_true, Finset.sum_const_zero, add_zero, mul_sub, Finset.sum_sub_distrib, s]
  · simp only [e1, e3, mul_ite, mul_one, mul_zero, Finset.sum_ite_eq', Finset.mem_univ, if_true, Finset.sum_const_zero, sub_zero, zero_add, mul_add, Finset.sum_add_distrib, s]

theorem pick_sum (s : Fin 128 → ℝ) (w : Fin 128) : ∑ k : Fin 128, mk w k * s k = s w := by
  rw [Finset.sum_eq_single w]
  · unfold mk; rw [if_pos rfl, one_mul]
  · intro k _ hk; unfold mk; rw [if_neg fun h => hk (Fin.ext h.symm), zero_mul]
  · intro h; exact absurd (Finset.mem_univ w) h

/-! ## The marks -/

theorem divOf_at : divOf (constantI S_ 32 128#32) = fun _ => 128#32 := rfl

/-- Remainders of columns by 128. -/
theorem remOf_at (x : IVec S2048 32) (j : S2048.Idx) (h : (x j).toNat < 4096) : (remOf x (constantI S_ 32 128#32) j).toNat = (x j).toNat % 128 := by
  unfold remOf
  rw [divOf_at]
  have hr : (IntOp.remsi .host (x j) 128#32).toNat = (x j).toNat % 128 := IntOp.toNat_remsi .host (by omega) 128 (by decide) (by decide)
  show (Scalar.select (IntOp.andi (IntOp.cmpi .ne (IntOp.cmpi .slt (IntOp.remsi .host (x j) 128#32) 0#32) (IntOp.cmpi .slt 128#32 0#32)) (IntOp.cmpi .ne (IntOp.remsi .host (x j) 128#32) 0#32))
    (IntOp.addi (IntOp.remsi .host (x j) 128#32) 128#32) (IntOp.remsi .host (x j) 128#32)).toNat = _
  generalize IntOp.remsi .host (x j) 128#32 = r at hr ⊢
  have hs : IntOp.cmpi .slt r 0#32 = 0#1 := by
    refine eq_zero_of_ne_one fun h' => ?_
    rw [IntOp.cmpi_slt, BitVec.toInt_eq_toNat_cond] at h'
    have h0 : (0#32 : BitVec 32).toInt = 0 := by decide
    rw [h0] at h'; split at h' <;> omega
  have hn : IntOp.cmpi .slt (128#32 : BitVec 32) 0#32 = 0#1 := by decide
  have ha : ∀ b : BitVec 1, IntOp.andi (IntOp.cmpi .ne (0#1 : BitVec 1) 0#1) b = 0#1 := by decide
  rw [hs, hn, ha]
  exact hr

/-- The pair of a group's lane. -/
def pairOf (g : Fin 32) (j : Fin 64) : Fin 2048 := ⟨64 * g.val + j.val, by omega⟩

theorem markOf_at (q : IVec S32x64 32) (g : Fin 32) (j : Fin 64) (k : Fin 128) :
    markOf (F := Ideal) q (ix3 g j k) = (((IntOp.cmpi .eq (q (ix2 g j)) (BitVec.ofNat 32 k.val) : BitVec 1).toNat : ℝ) : EReal) := by
  have e0 : broadcastInDim S32x64x128 ![0, 1, 2] bcast_S32x64x1_S32x64x128_0_1_2 (broadcastInDim S32x64x1 ![0, 1] bcast_S32x64_S32x64x1_0_1 q) (ix3 g j k) = q (ix2 g j) := by
    rw [broadcastInDim_apply _ _ _ _ (ix3 g j (0 : Fin 1)) (fun a => match a with | 0 => rfl | 1 => rfl | 2 => rfl),
      broadcastInDim_apply _ _ _ _ (ix2 g j) (fun a => match a with | 0 => rfl | 1 => rfl)]
  have e1 : broadcastInDim S32x64x128 ![0, 1, 2] bcast_S1x1x128_S32x64x128_0_1_2 (broadcastInDim S1x1x128 ![2] bcast_S128_S1x1x128_2 (iotaInDim S128 32 0)) (ix3 g j k) = BitVec.ofNat 32 k.val := by
    rw [broadcastInDim_apply _ _ _ _ (ix3 (0 : Fin 1) (0 : Fin 1) k) (fun a => match a with | 0 => rfl | 1 => rfl | 2 => rfl),
      broadcastInDim_apply _ _ _ _ (ix1 k) (fun a => match a with | 0 => rfl)]
    rfl
  rw [← e0, ← e1]
  rfl

theorem coe_bit (b : Prop) [Decidable b] (w : BitVec 1) (h : w = 1#1 ↔ b) : ((w.toNat : ℝ) : EReal) = (((if b then 1 else 0 : ℝ) : ℝ) : EReal) := by
  by_cases e : b
  · rw [if_pos e, h.2 e]; simp
  · rw [if_neg e, eq_zero_of_ne_one (fun h' => e (h.1 h'))]; simp

/-- A pair's mark at a column. -/
theorem marksOf_at (x : IVec S2048 32) (g : Fin 32) (j : Fin 64) (k : Fin 128) (h : (x (ix1 (pairOf g j))).toNat < 4096) :
    marksOf (F := Ideal) x (ix3 g j k) = ((mk ((x (ix1 (pairOf g j))).toNat % 128) k.val : ℝ) : EReal) := by
  have hk := k.isLt
  have hr := remOf_at x (ix1 (pairOf g j)) h
  unfold marksOf
  generalize remOf x (constantI S_ 32 128#32) = y at hr ⊢
  rw [markOf_at, shapeCast_apply y _ _ (ix1 (pairOf g j)) (by rw [Shape.rowMajor_val_two, Shape.rowMajor_val_one]; show 64 * g.val + j.val = g.val * 64 + j.val; omega)]
  refine coe_bit _ _ (IntOp.cmpi_eq.trans ⟨fun h' => ?_, fun h' => BitVec.eq_of_toNat_eq ?_⟩)
  · have := congrArg BitVec.toNat h'
    rw [hr, BitVec.toNat_ofNat] at this; omega
  · rw [hr, BitVec.toNat_ofNat]; omega

/-! ## The products -/

theorem scaleOf_at (o : FVec Ideal S32x64x128 .f32) (s : FVec Ideal S32x128 .f32) (g : Fin 32) (j : Fin 64) :
    scaleOf o s (ix2 g j) = ∑ k : Fin 128, o (ix3 g j k) * s (ix2 g k) := by
  unfold scaleOf
  rw [Host.dotGeneral, Ideal.dotGeneral_apply, ← Equiv.sum_comp (contrEquiv1 dot_S32x64x128_S32x128_S32x64_2_1_1_n_0_0 128 rfl rfl).symm]
  refine Finset.sum_congr rfl fun k _ => ?_
  have hk := contrEquiv1_symm_val dot_S32x64x128_S32x128_S32x64_2_1_1_n_0_0 128 rfl rfl k
  refine congrArg₂ (fun u v : EReal => u * v) (congrArg o (funext fun a => Fin.ext ?_)) (congrArg s (funext fun a => Fin.ext ?_))
  · match a with
    | 0 => rfl
    | 1 => rfl
    | 2 => exact hk
  · match a with
    | 0 => rfl
    | 1 => exact hk

theorem outer_at (a : FVec Ideal S32x64x1 .f32) (o : FVec Ideal S32x64x1x128 .f32) (g : Fin 32) (j : Fin 64) (r : Fin 128) :
    Host.dotGeneral dot_S32x64x1_S32x64x1x128_S32x64x128_2_2_n_3_01_01 none a o (ix3 g j r) = a (ix3 g j (0 : Fin 1)) * o (ValueIdx.ix4 g j (0 : Fin 1) r) := by
  rw [Host.dotGeneral, Ideal.dotGeneral_apply, ← Equiv.sum_comp (contrEquiv1 dot_S32x64x1_S32x64x1x128_S32x64x128_2_2_n_3_01_01 1 rfl rfl).symm, Fin.sum_univ_one]
  have hk := contrEquiv1_symm_val dot_S32x64x1_S32x64x1x128_S32x64x128_2_2_n_3_01_01 1 rfl rfl 0
  refine congrArg₂ (fun u v : EReal => u * v) (congrArg a (funext fun b => Fin.ext ?_)) (congrArg o (funext fun b => Fin.ext ?_))
  · match b with
    | 0 => rfl
    | 1 => rfl
    | 2 => exact hk
  · match b with
    | 0 => rfl
    | 1 => rfl
    | 2 => exact hk
    | 3 => rfl

theorem inner_at (u o : FVec Ideal S32x64x128 .f32) (g : Fin 32) (r c : Fin 128) :
    Host.dotGeneral dot_S32x64x128_S32x64x128_S32x128x128_1_1_2_2_0_0 none u o (ix3 g r c) = ∑ j : Fin 64, u (ix3 g j r) * o (ix3 g j c) := by
  rw [Host.dotGeneral, Ideal.dotGeneral_apply, ← Equiv.sum_comp (contrEquiv1 dot_S32x64x128_S32x64x128_S32x128x128_1_1_2_2_0_0 64 rfl rfl).symm]
  refine Finset.sum_congr rfl fun k _ => ?_
  have hk := contrEquiv1_symm_val dot_S32x64x128_S32x64x128_S32x128x128_1_1_2_2_0_0 64 rfl rfl k
  refine congrArg₂ (fun u v : EReal => u * v) (congrArg u (funext fun a => Fin.ext ?_)) (congrArg o (funext fun a => Fin.ext ?_))
  · match a with
    | 0 => rfl
    | 1 => exact hk
    | 2 => rfl
  · match a with
    | 0 => rfl
    | 1 => exact hk
    | 2 => rfl

/-- A term at reals. -/
theorem termOf_at {a : FVec Ideal S32x64 .f32} {o o' : FVec Ideal S32x64x128 .f32} {g : Fin 32} {A : Fin 64 → ℝ} {u v : Fin 64 → Fin 128}
    (ha : ∀ j, a (ix2 g j) = (A j : EReal)) (ho : ∀ j k, o (ix3 g j k) = ((mk (u j) k.val : ℝ) : EReal)) (ho' : ∀ j k, o' (ix3 g j k) = ((mk (v j) k.val : ℝ) : EReal)) (r c : Fin 128) :
    termOf a o o' (ix3 g r c) = ((∑ j, A j * mk (u j) r * mk (v j) c : ℝ) : EReal) := by
  unfold termOf
  rw [inner_at, ← coe_sum]
  refine Finset.sum_congr rfl fun j _ => ?_
  rw [outer_at, ho', broadcastInDim_apply _ _ _ _ (ix2 g j) (fun a => match a with | 0 => rfl | 1 => rfl),
    broadcastInDim_apply _ _ _ _ (ix3 g j r) (fun a => match a with | 0 => rfl | 1 => rfl | 2 => rfl), ha, ho, ← EReal.coe_mul, ← EReal.coe_mul]

/-- The matrices at reals. -/
theorem matOf_at {a b d e : FVec Ideal S32x64 .f32} {o o' : FVec Ideal S32x64x128 .f32} {g : Fin 32} {A B D E : Fin 64 → ℝ} {u v : Fin 64 → Fin 128}
    (ha : ∀ j, a (ix2 g j) = (A j : EReal)) (hb : ∀ j, b (ix2 g j) = (B j : EReal)) (hd : ∀ j, d (ix2 g j) = (D j : EReal)) (he : ∀ j, e (ix2 g j) = (E j : EReal))
    (ho : ∀ j k, o (ix3 g j k) = ((mk (u j) k.val : ℝ) : EReal)) (ho' : ∀ j k, o' (ix3 g j k) = ((mk (v j) k.val : ℝ) : EReal)) (r c : Fin 128) :
    matOf a b d e o o' (ix3 g r c) = ((∑ j, A j * mk (u j) r * mk (u j) c - ∑ j, B j * mk (v j) r * mk (u j) c + ∑ j, D j * mk (u j) r * mk (v j) c + ∑ j, E j * mk (v j) r * mk (v j) c : ℝ) : EReal) := by
  unfold matOf
  show ((termOf a o o (ix3 g r c) : EReal) - termOf b o' o (ix3 g r c)) + termOf d o o' (ix3 g r c) + termOf e o' o' (ix3 g r c) = _
  rw [termOf_at ha ho ho, termOf_at hb ho' ho, termOf_at hd ho ho', termOf_at he ho' ho', ← EReal.coe_sub, ← EReal.coe_add, ← EReal.coe_add]

/-- A coefficient at reals. -/
theorem coefOf_at {t : FVec Ideal S2048 .f32} {o : FVec Ideal S32x64x128 .f32} {s : FVec Ideal S4096 .f32} {g : Fin 32} {T : Fin 2048 → ℝ} {S : Fin 4096 → ℝ} {u : Fin 64 → Fin 128}
    (ht : ∀ p, t (ix1 p) = (T p : EReal)) (hs : ∀ n, s (ix1 n) = (S n : EReal)) (ho : ∀ j k, o (ix3 g j k) = ((mk (u j) k.val : ℝ) : EReal)) (j : Fin 64) :
    coefOf t o s (ix2 g j) = ((T (pairOf g j) * S ⟨128 * g.val + (u j).val, by omega⟩ : ℝ) : EReal) := by
  unfold coefOf
  show shapeCast S32x64 t shapeCasts_S2048_S32x64 (ix2 g j) * scaleOf o (shapeCast S32x128 s shapeCasts_S4096_S32x128) (ix2 g j) = _
  rw [scaleOf_at, shapeCast_apply t _ _ (ix1 (pairOf g j)) (by rw [Shape.rowMajor_val_two, Shape.rowMajor_val_one]; show 64 * g.val + j.val = g.val * 64 + j.val; omega), ht, EReal.coe_mul]
  refine congrArg (fun v : EReal => (T (pairOf g j) : EReal) * v) ?_
  rw [← pick_sum (fun k : Fin 128 => S ⟨128 * g.val + k.val, by omega⟩) (u j), ← coe_sum]
  refine Finset.sum_congr rfl fun k _ => ?_
  rw [ho, shapeCast_apply s _ _ (ix1 (⟨128 * g.val + k.val, by omega⟩ : Fin 4096)) (by rw [Shape.rowMajor_val_two, Shape.rowMajor_val_one]; show 128 * g.val + k.val = g.val * 128 + k.val; omega), hs, ← EReal.coe_mul]

end Cert.Proof.Tile

end
-- ==== Proof.TcValue.lean ====
/-
  What the call on the TensorCore leaves, over the extended reals: entry (r, q) of its array is the product of row 3584 + r of
  the first operand, at the columns of q's group, by the column of the group's matrix that q names.
-/
module

public import proofs.«01_k».proof.Proof.Tc
public import Idealize.ShloMosaic.Lib.MatmulPlain
public import Idealize.ShloMosaic.Lib.Pipeline.ValueKit
public import Idealize.ShloMosaic.Lib.Pipeline.Value
public import Idealize.ShloMosaic.PureOps.Ideal.Laws

@[expose] public section

noncomputable section

namespace Cert.Proof.Tc

open Cert.KernelIdeal Cert.KernelIdeal.Gen
open Idealize.ShloMosaic hiding ix1 ix2 ix3 ix4 eq_ix2 eq_ix3
open Idealize.ShloMosaic.TcCoe Idealize.ShloMosaic.Pipeline Idealize.ShloMosaic.ValueIdx

/-- A row by a matrix. -/
theorem pay_at (u : FVec Ideal S512x128 .f32) (v : FVec Ideal S1x128x128 .f32) (i : Fin 512) (c : Fin 128) :
    matmul (φ₁ := .f32) (φ₂ := .f32) dot_S512x128_S128x128_S512x128_1_0_0_1_n_n none u (shapeCast S128x128 v shapeCasts_S1x128x128_S128x128) (constant (F := Ideal) S512x128 .f32 0x00000000#32) (ix2 i c)
      = ∑ k : Fin 128, u (ix2 i k) * v (ix3 (0 : Fin 1) k c) := by
  refine (Ideal.matmul_plain_apply (M := 512) (K := 128) (N := 128) none u (shapeCast S128x128 v shapeCasts_S1x128x128_S128x128) (constant (F := Ideal) S512x128 .f32 0x00000000#32) i c).trans ?_
  rw [show (constant (F := Ideal) S512x128 .f32 0x00000000#32) (ix2 i c) = 0 from Ideal.ofBits_zero_f32, zero_add]
  refine Finset.sum_congr rfl fun k _ => congrArg (u (ix2 i k) * ·) ?_
  exact shapeCast_apply _ shapeCasts_S1x128x128_S128x128 (ix2 k c) (ix3 (0 : Fin 1) k c) (by
    rw [Shape.rowMajor_val_three, Shape.rowMajor_val_two]; show (0 * 128 + k.val) * 128 + c.val = k.val * 128 + c.val; omega)

/-- The product at an entry. -/
def val (x0 : Vec Ideal S512x4096 .f32) (x1 : Vec Ideal S32x128x128 .f32) (i : Fin 512) (q : Fin 4096) : EReal :=
  ∑ k : Fin 128, (x0 (ix2 i (⟨128 * (q.val / 128) + k.val, by have := q.isLt; have := k.isLt; omega⟩ : Fin 4096)) : EReal)
    * x1 (ix3 (⟨q.val / 128, by have := q.isLt; omega⟩ : Fin 32) k (⟨q.val % 128, by omega⟩ : Fin 128))

/-- One group's piece. -/
theorem piece_at (x0 : Vec Ideal S512x4096 .f32) (x1 : Vec Ideal S32x128x128 .f32) (i : Fin 512) (q : Fin 4096) (g o : ℕ) (ho : o = 128 * g)
    (hx : ∀ a, (![0, o] : Fin 2 → ℕ) a + S512x128.size a ≤ S512x4096.size a) (hb : ∀ a, (![g, 0, 0] : Fin 3 → ℕ) a + S1x128x128.size a ≤ S32x128x128.size a)
    (x : S512x128.Idx) (h0 : i.val = (x 0).val) (h1 : q.val = o + (x 1).val) :
    matmul (φ₁ := .f32) (φ₂ := .f32) dot_S512x128_S128x128_S512x128_1_0_0_1_n_n none (View.ld x0 (Rect.unit (s := S512x4096) ![0, o] S512x128.size hx) : FVec Ideal S512x128 .f32)
        (shapeCast S128x128 (View.ld x1 (Rect.unit (s := S32x128x128) ![g, 0, 0] S1x128x128.size hb) : FVec Ideal S1x128x128 .f32) shapeCasts_S1x128x128_S128x128)
        (constant (F := Ideal) S512x128 .f32 0x00000000#32) x
      = val x0 x1 i q := by
  obtain ⟨a, c, rfl⟩ : ∃ (a : Fin 512) (c : Fin 128), x = ix2 a c := ⟨x 0, x 1, eq_ix2 x⟩
  change i.val = a.val at h0
  change q.val = o + c.val at h1
  have hc := c.isLt
  rw [pay_at]
  unfold val
  refine Finset.sum_congr rfl fun k _ => ?_
  have hk := k.isLt
  refine congrArg₂ (fun u v : EReal => u * v) ?_ ?_
  · refine congrArg x0 (funext fun b => ?_)
    match b with
    | 0 => exact Fin.ext (by show 0 + 1 * a.val = i.val; omega)
    | 1 => exact Fin.ext (by show o + 1 * k.val = 128 * (q.val / 128) + k.val; omega)
  · refine congrArg x1 (funext fun b => ?_)
    match b with
    | 0 => exact Fin.ext (by show g + 1 * 0 = q.val / 128; omega)
    | 1 => exact Fin.ext (by show 0 + 1 * k.val = k.val; omega)
    | 2 => exact Fin.ext (by show 0 + 1 * c.val = q.val % 128; omega)

/-- What the body leaves, at an entry. -/
theorem out_at (x0 : Vec Ideal S512x4096 .f32) (x1 : Vec Ideal S32x128x128 .f32) (y : S512x4096.Idx) : out (F := Ideal) x0 x1 y = val x0 x1 (y 0) (y 1) := by
  unfold out
  refine View.canon_eq_of_allAt _ _ _ (cover _ _ _ _ _ _ _ _ _ _ _ _ _ _ _ _ _ _ _ _ _ _ _ _ _ _ _ _ _ _ _ _ y) ?_
  refine View.allAt_cons_unit _ _ _ _ _ (fun x hx => piece_at x0 x1 (y 0) (y 1) 31 3968 rfl _ _ x ((hx 0).trans (Nat.zero_add _)) (hx 1)) ?_
  refine View.allAt_cons_unit _ _ _ _ _ (fun x hx => piece_at x0 x1 (y 0) (y 1) 30 3840 rfl _ _ x ((hx 0).trans (Nat.zero_add _)) (hx 1)) ?_
  refine View.allAt_cons_unit _ _ _ _ _ (fun x hx => piece_at x0 x1 (y 0) (y 1) 29 3712 rfl _ _ x ((hx 0).trans (Nat.zero_add _)) (hx 1)) ?_
  refine View.allAt_cons_unit _ _ _ _ _ (fun x hx => piece_at x0 x1 (y 0) (y 1) 28 3584 rfl _ _ x ((hx 0).trans (Nat.zero_add _)) (hx 1)) ?_
  refine View.allAt_cons_unit _ _ _ _ _ (fun x hx => piece_at x0 x1 (y 0) (y 1) 27 3456 rfl _ _ x ((hx 0).trans (Nat.zero_add _)) (hx 1)) ?_
  refine View.allAt_cons_unit _ _ _ _ _ (fun x hx => piece_at x0 x1 (y 0) (y 1) 26 3328 rfl _ _ x ((hx 0).trans (Nat.zero_add _)) (hx 1)) ?_
  refine View.allAt_cons_unit _ _ _ _ _ (fun x hx => piece_at x0 x1 (y 0) (y 1) 25 3200 rfl _ _ x ((hx 0).trans (Nat.zero_add _)) (hx 1)) ?_
  refine View.allAt_cons_unit _ _ _ _ _ (fun x hx => piece_at x0 x1 (y 0) (y 1) 24 3072 rfl _ _ x ((hx 0).trans (Nat.zero_add _)) (hx 1)) ?_
  refine View.allAt_cons_unit _ _ _ _ _ (fun x hx => piece_at x0 x1 (y 0) (y 1) 23 2944 rfl _ _ x ((hx 0).trans (Nat.zero_add _)) (hx 1)) ?_
  refine View.allAt_cons_unit _ _ _ _ _ (fun x hx => piece_at x0 x1 (y 0) (y 1) 22 2816 rfl _ _ x ((hx 0).trans (Nat.zero_add _)) (hx 1)) ?_
  refine View.allAt_cons_unit _ _ _ _ _ (fun x hx => piece_at x0 x1 (y 0) (y 1) 21 2688 rfl _ _ x ((hx 0).trans (Nat.zero_add _)) (hx 1)) ?_
  refine View.allAt_cons_unit _ _ _ _ _ (fun x hx => piece_at x0 x1 (y 0) (y 1) 20 2560 rfl _ _ x ((hx 0).trans (Nat.zero_add _)) (hx 1)) ?_
  refine View.allAt_cons_unit _ _ _ _ _ (fun x hx => piece_at x0 x1 (y 0) (y 1) 19 2432 rfl _ _ x ((hx 0).trans (Nat.zero_add _)) (hx 1)) ?_
  refine View.allAt_cons_unit _ _ _ _ _ (fun x hx => piece_at x0 x1 (y 0) (y 1) 18 2304 rfl _ _ x ((hx 0).trans (Nat.zero_add _)) (hx 1)) ?_
  refine View.allAt_cons_unit _ _ _ _ _ (fun x hx => piece_at x0 x1 (y 0) (y 1) 17 2176 rfl _ _ x ((hx 0).trans (Nat.zero_add _)) (hx 1)) ?_
  refine View.allAt_cons_unit _ _ _ _ _ (fun x hx => piece_at x0 x1 (y 0) (y 1) 16 2048 rfl _ _ x ((hx 0).trans (Nat.zero_add _)) (hx 1)) ?_
  refine View.allAt_cons_unit _ _ _ _ _ (fun x hx => piece_at x0 x1 (y 0) (y 1) 15 1920 rfl _ _ x ((hx 0).trans (Nat.zero_add _)) (hx 1)) ?_
  refine View.allAt_cons_unit _ _ _ _ _ (fun x hx => piece_at x0 x1 (y 0) (y 1) 14 1792 rfl _ _ x ((hx 0).trans (Nat.zero_add _)) (hx 1)) ?_
  refine View.allAt_cons_unit _ _ _ _ _ (fun x hx => piece_at x0 x1 (y 0) (y 1) 13 1664 rfl _ _ x ((hx 0).trans (Nat.zero_add _)) (hx 1)) ?_
  refine View.allAt_cons_unit _ _ _ _ _ (fun x hx => piece_at x0 x1 (y 0) (y 1) 12 1536 rfl _ _ x ((hx 0).trans (Nat.zero_add _)) (hx 1)) ?_
  refine View.allAt_cons_unit _ _ _ _ _ (fun x hx => piece_at x0 x1 (y 0) (y 1) 11 1408 rfl _ _ x ((hx 0).trans (Nat.zero_add _)) (hx 1)) ?_
  refine View.allAt_cons_unit _ _ _ _ _ (fun x hx => piece_at x0 x1 (y 0) (y 1) 10 1280 rfl _ _ x ((hx 0).trans (Nat.zero_add _)) (hx 1)) ?_
  refine View.allAt_cons_unit _ _ _ _ _ (fun x hx => piece_at x0 x1 (y 0) (y 1) 9 1152 rfl _ _ x ((hx 0).trans (Nat.zero_add _)) (hx 1)) ?_
  refine View.allAt_cons_unit _ _ _ _ _ (fun x hx => piece_at x0 x1 (y 0) (y 1) 8 1024 rfl _ _ x ((hx 0).trans (Nat.zero_add _)) (hx 1)) ?_
  refine View.allAt_cons_unit _ _ _ _ _ (fun x hx => piece_at x0 x1 (y 0) (y 1) 7 896 rfl _ _ x ((hx 0).trans (Nat.zero_add _)) (hx 1)) ?_
  refine View.allAt_cons_unit _ _ _ _ _ (fun x hx => piece_at x0 x1 (y 0) (y 1) 6 768 rfl _ _ x ((hx 0).trans (Nat.zero_add _)) (hx 1)) ?_
  refine View.allAt_cons_unit _ _ _ _ _ (fun x hx => piece_at x0 x1 (y 0) (y 1) 5 640 rfl _ _ x ((hx 0).trans (Nat.zero_add _)) (hx 1)) ?_
  refine View.allAt_cons_unit _ _ _ _ _ (fun x hx => piece_at x0 x1 (y 0) (y 1) 4 512 rfl _ _ x ((hx 0).trans (Nat.zero_add _)) (hx 1)) ?_
  refine View.allAt_cons_unit _ _ _ _ _ (fun x hx => piece_at x0 x1 (y 0) (y 1) 3 384 rfl _ _ x ((hx 0).trans (Nat.zero_add _)) (hx 1)) ?_
  refine View.allAt_cons_unit _ _ _ _ _ (fun x hx => piece_at x0 x1 (y 0) (y 1) 2 256 rfl _ _ x ((hx 0).trans (Nat.zero_add _)) (hx 1)) ?_
  refine View.allAt_cons_unit _ _ _ _ _ (fun x hx => piece_at x0 x1 (y 0) (y 1) 1 128 rfl _ _ x ((hx 0).trans (Nat.zero_add _)) (hx 1)) ?_
  refine View.allAt_cons_unit _ _ _ _ _ (fun x hx => piece_at x0 x1 (y 0) (y 1) 0 0 rfl _ _ x ((hx 0).trans (Nat.zero_add _)) (hx 1)) ?_
  exact View.allAt_nil _ _

variable (V : (c : Dev nD) → (b : Ref sig .tc) → Buf (Elt Ideal) ((c : Thread nD τ).loc b))

/-- The call's array. -/
def rows (X : FVec Ideal S8192x4096 .f32) (B : FVec Ideal S32x128x128 .f32) : FVec Ideal S4608x4096 .f32 := fun j =>
  ∑ k : Fin 128, (X (ix2 (⟨3584 + (j 0).val, by have : (j 0).val < 4608 := (j 0).isLt; omega⟩ : Fin 8192)
      (⟨128 * ((j 1).val / 128) + k.val, by have : (j 1).val < 4096 := (j 1).isLt; have := k.isLt; omega⟩ : Fin 4096)) : EReal)
    * B (ix3 (⟨(j 1).val / 128, by have : (j 1).val < 4096 := (j 1).isLt; omega⟩ : Fin 32) k (⟨(j 1).val % 128, by omega⟩ : Fin 128))

theorem index0 : ∀ t : Fin cfg1.N, win1_0.index t = ![(grid1.coords t 0).val + 7, 0] := (by decide +kernel : ∀ t : Fin grid1.N, _)
theorem index1 : ∀ t : Fin cfg1.N, win1_1.index t = ![0, 0, 0] := (by decide +kernel : ∀ t : Fin grid1.N, _)
theorem index2 : ∀ t : Fin cfg1.N, win1_2.index t = ![(grid1.coords t 0).val, 0] := (by decide +kernel : ∀ t : Fin grid1.N, _)

theorem val_rows {x0 : Vec Ideal S512x4096 .f32} {x1 : Vec Ideal S32x128x128 .f32} {i : Fin 512} {q : Fin 4096} {X : FVec Ideal S8192x4096 .f32} {B : FVec Ideal S32x128x128 .f32}
    (j : S4608x4096.Idx) (h0 : ∀ n : Fin 4096, x0 (ix2 i n) = X (ix2 (⟨3584 + (j 0).val, by have : (j 0).val < 4608 := (j 0).isLt; omega⟩ : Fin 8192) n)) (h1 : ∀ z, x1 z = B z)
    (hq : q = j 1) : val x0 x1 i q = rows X B j := by
  subst hq
  unfold val rows
  exact Finset.sum_congr rfl fun k _ => congrArg₂ (fun u v : EReal => u * v) (h0 _) (h1 _)

theorem result_eq (c : Dev nD) {X : FVec Ideal S8192x4096 .f32} {B : FVec Ideal S32x128x128 .f32} (hX : V c main_arg0 = X) (hB : V c main_v59 = B) :
    result V c = rows X B := by
  subst hX hB
  unfold result
  refine (dat V c).arrAt_eq_of_covers 2 _ (by decide +kernel) fun t hf y => ?_
  blk_simp
  rw [after_2, out_at]
  refine val_rows _ (fun n => ?_) (fun z => ?_) ?_
  · blk_ext [blk, index0 t, index2 t]
    show ((grid1.coords t 0).val + 7) * 512 + (y 0).val = 3584 + ((grid1.coords t 0).val * 512 + (y 0).val)
    omega
  · blk_ext [blk, index1 t]
  · refine Fin.ext ?_
    blk_simp [index2 t]

end Cert.Proof.Tc

end
-- ==== Proof.Value.lean ====
/-
  The reference's result: its eight layers turn the scaled rows by each layer's angles, so its rows are the scaled rows turned
  by the angles' sum.
-/
module

public import proofs.«01_k».proof.Proof.Turn
public import proofs.«01_k».proof.Proof.Gen.ReferenceIdeal.Run

@[expose] public section

noncomputable section

namespace Cert.Proof.Ref

open Cert.ReferenceIdeal Cert.ReferenceIdeal.Gen Cert.ReferenceIdeal.Value
open Idealize.ShloMosaic Idealize.ShloMosaic.Pipeline Idealize.ShloMosaic.ValueIdx
open Cert.Proof.Tile

section Layers
variable {F : FTy → Type} [FloatOps F] (V : Valuation τ sig (Elt F))

theorem layer0 : res_main_v47 V = layer (res_main_v6 V) (res_main_v10 V) (res_main_v11 V) (res_main_v14 V) (res_main_v17 V) := rfl
theorem layer1 : res_main_v88 V = layer (res_main_v47 V) (res_main_v51 V) (res_main_v52 V) (res_main_v55 V) (res_main_v58 V) := rfl
theorem layer2 : res_main_v129 V = layer (res_main_v88 V) (res_main_v92 V) (res_main_v93 V) (res_main_v96 V) (res_main_v99 V) := rfl
theorem layer3 : res_main_v170 V = layer (res_main_v129 V) (res_main_v133 V) (res_main_v134 V) (res_main_v137 V) (res_main_v140 V) := rfl
theorem layer4 : res_main_v211 V = layer (res_main_v170 V) (res_main_v174 V) (res_main_v175 V) (res_main_v178 V) (res_main_v181 V) := rfl
theorem layer5 : res_main_v252 V = layer (res_main_v211 V) (res_main_v215 V) (res_main_v216 V) (res_main_v219 V) (res_main_v222 V) := rfl
theorem layer6 : res_main_v293 V = layer (res_main_v252 V) (res_main_v256 V) (res_main_v257 V) (res_main_v260 V) (res_main_v263 V) := rfl

/-- The last layer's result. -/
def last : FVec F S8192x4096 .f32 := layer (res_main_v293 V) (res_main_v297 V) (res_main_v298 V) (res_main_v301 V) (res_main_v304 V)

end Layers

section Value
variable {V : Valuation τ sig (Elt Ideal)} {X : FVec Ideal S8192x4096 .f32} {P : IVec S8x4096 32} {TH : FVec Ideal S8x2048 .f32} {SC : FVec Ideal S1x4096 .f32}
  (hX : V (Proc.devRef .tc main_arg0) = X) (hP : V (Proc.devRef .tc main_arg1) = P) (hT : V (Proc.devRef .tc main_arg2) = TH) (hS : V (Proc.devRef .tc main_arg3) = SC)
  (D : Drawn X P TH SC)

include hX hS in
/-- The scaled argument. -/
theorem scaled_at (r : Fin 8192) (c : Fin 4096) : res_main_v6 V (ix2 r c) = X (ix2 r c) * SC (ix2 (0 : Fin 1) c) := by
  unfold res_main_v6
  rw [hX, hS]
  show X (ix2 r c) * broadcastInDim S8192x4096 ![0, 1] bcast_S1x4096_S8192x4096_0_1 SC (ix2 r c) = _
  rw [broadcastInDim_apply _ _ _ _ (ix2 (0 : Fin 1) c) (fun a => match a with | 0 => rfl | 1 => rfl)]

include hP hT D in
theorem turned_last {r : Fin 8192} {a b : Fin 2048 → ℝ} {θ : Fin 8 → Fin 2048 → ℝ} (hθ : ∀ k p, TH (ix2 k p) = (θ k p : EReal))
    (h : Turned P r a b (fun _ => 0) (res_main_v6 V)) :
    Turned P r a b (fun p => 0 + θ 0 p + θ 1 p + θ 2 p + θ 3 p + θ 4 p + θ 5 p + θ 6 p + θ 7 p) (last V) := by
  subst hP hT
  have h0 : Turned (V (Proc.devRef .tc main_arg1)) r a b (fun p => 0 + θ 0 p) (res_main_v47 V) := by
    rw [layer0 V]
    exact Turned.step D h (k := 0)
      (fun p => D.words 0 ![0, 0] rfl slices_S8x4096_S1x4096_0_0 shapeCasts_S1x4096_S4096 0 (by omega) ![0] rfl slicesBy_S4096_S2048_0s2 p)
      (fun p => D.words 0 ![0, 0] rfl slices_S8x4096_S1x4096_0_0 shapeCasts_S1x4096_S4096 1 (by omega) ![1] rfl slicesBy_S4096_S2048_1s2 p)
      (hθ 0)
      (fun p => congrArg Ideal.cos (angle_row _ 0 ![0, 0] rfl slices_S8x2048_S1x2048_0_0 shapeCasts_S1x2048_S2048 p))
      (fun p => congrArg Ideal.sin (angle_row _ 0 ![0, 0] rfl slices_S8x2048_S1x2048_0_0 shapeCasts_S1x2048_S2048 p))
  have h1 : Turned (V (Proc.devRef .tc main_arg1)) r a b (fun p => 0 + θ 0 p + θ 1 p) (res_main_v88 V) := by
    rw [layer1 V]
    exact Turned.step D h0 (k := 1)
      (fun p => D.words 1 ![1, 0] rfl slices_S8x4096_S1x4096_1_0 shapeCasts_S1x4096_S4096 0 (by omega) ![0] rfl slicesBy_S4096_S2048_0s2 p)
      (fun p => D.words 1 ![1, 0] rfl slices_S8x4096_S1x4096_1_0 shapeCasts_S1x4096_S4096 1 (by omega) ![1] rfl slicesBy_S4096_S2048_1s2 p)
      (hθ 1)
      (fun p => congrArg Ideal.cos (angle_row _ 1 ![1, 0] rfl slices_S8x2048_S1x2048_1_0 shapeCasts_S1x2048_S2048 p))
      (fun p => congrArg Ideal.sin (angle_row _ 1 ![1, 0] rfl slices_S8x2048_S1x2048_1_0 shapeCasts_S1x2048_S2048 p))
  have h2 : Turned (V (Proc.devRef .tc main_arg1)) r a b (fun p => 0 + θ 0 p + θ 1 p + θ 2 p) (res_main_v129 V) := by
    rw [layer2 V]
    exact Turned.step D h1 (k := 2)
      (fun p => D.words 2 ![2, 0] rfl slices_S8x4096_S1x4096_2_0 shapeCasts_S1x4096_S4096 0 (by omega) ![0] rfl slicesBy_S4096_S2048_0s2 p)
      (fun p => D.words 2 ![2, 0] rfl slices_S8x4096_S1x4096_2_0 shapeCasts_S1x4096_S4096 1 (by omega) ![1] rfl slicesBy_S4096_S2048_1s2 p)
      (hθ 2)
      (fun p => congrArg Ideal.cos (angle_row _ 2 ![2, 0] rfl slices_S8x2048_S1x2048_2_0 shapeCasts_S1x2048_S2048 p))
      (fun p => congrArg Ideal.sin (angle_row _ 2 ![2, 0] rfl slices_S8x2048_S1x2048_2_0 shapeCasts_S1x2048_S2048 p))
  have h3 : Turned (V (Proc.devRef .tc main_arg1)) r a b (fun p => 0 + θ 0 p + θ 1 p + θ 2 p + θ 3 p) (res_main_v170 V) := by
    rw [layer3 V]
    exact Turned.step D h2 (k := 3)
      (fun p => D.words 3 ![3, 0] rfl slices_S8x4096_S1x4096_3_0 shapeCasts_S1x4096_S4096 0 (by omega) ![0] rfl slicesBy_S4096_S2048_0s2 p)
      (fun p => D.words 3 ![3, 0] rfl slices_S8x4096_S1x4096_3_0 shapeCasts_S1x4096_S4096 1 (by omega) ![1] rfl slicesBy_S4096_S2048_1s2 p)
      (hθ 3)
      (fun p => congrArg Ideal.cos (angle_row _ 3 ![3, 0] rfl slices_S8x2048_S1x2048_3_0 shapeCasts_S1x2048_S2048 p))
      (fun p => congrArg Ideal.sin (angle_row _ 3 ![3, 0] rfl slices_S8x2048_S1x2048_3_0 shapeCasts_S1x2048_S2048 p))
  have h4 : Turned (V (Proc.devRef .tc main_arg1)) r a b (fun p => 0 + θ 0 p + θ 1 p + θ 2 p + θ 3 p + θ 4 p) (res_main_v211 V) := by
    rw [layer4 V]
    exact Turned.step D h3 (k := 4)
      (fun p => D.words 4 ![4, 0] rfl slices_S8x4096_S1x4096_4_0 shapeCasts_S1x4096_S4096 0 (by omega) ![0] rfl slicesBy_S4096_S2048_0s2 p)
      (fun p => D.words 4 ![4, 0] rfl slices_S8x4096_S1x4096_4_0 shapeCasts_S1x4096_S4096 1 (by omega) ![1] rfl slicesBy_S4096_S2048_1s2 p)
      (hθ 4)
      (fun p => congrArg Ideal.cos (angle_row _ 4 ![4, 0] rfl slices_S8x2048_S1x2048_4_0 shapeCasts_S1x2048_S2048 p))
      (fun p => congrArg Ideal.sin (angle_row _ 4 ![4, 0] rfl slices_S8x2048_S1x2048_4_0 shapeCasts_S1x2048_S2048 p))
  have h5 : Turned (V (Proc.devRef .tc main_arg1)) r a b (fun p => 0 + θ 0 p + θ 1 p + θ 2 p + θ 3 p + θ 4 p + θ 5 p) (res_main_v252 V) := by
    rw [layer5 V]
    exact Turned.step D h4 (k := 5)
      (fun p => D.words 5 ![5, 0] rfl slices_S8x4096_S1x4096_5_0 shapeCasts_S1x4096_S4096 0 (by omega) ![0] rfl slicesBy_S4096_S2048_0s2 p)
      (fun p => D.words 5 ![5, 0] rfl slices_S8x4096_S1x4096_5_0 shapeCasts_S1x4096_S4096 1 (by omega) ![1] rfl slicesBy_S4096_S2048_1s2 p)
      (hθ 5)
      (fun p => congrArg Ideal.cos (angle_row _ 5 ![5, 0] rfl slices_S8x2048_S1x2048_5_0 shapeCasts_S1x2048_S2048 p))
      (fun p => congrArg Ideal.sin (angle_row _ 5 ![5, 0] rfl slices_S8x2048_S1x2048_5_0 shapeCasts_S1x2048_S2048 p))
  have h6 : Turned (V (Proc.devRef .tc main_arg1)) r a b (fun p => 0 + θ 0 p + θ 1 p + θ 2 p + θ 3 p + θ 4 p + θ 5 p + θ 6 p) (res_main_v293 V) := by
    rw [layer6 V]
    exact Turned.step D h5 (k := 6)
      (fun p => D.words 6 ![6, 0] rfl slices_S8x4096_S1x4096_6_0 shapeCasts_S1x4096_S4096 0 (by omega) ![0] rfl slicesBy_S4096_S2048_0s2 p)
      (fun p => D.words 6 ![6, 0] rfl slices_S8x4096_S1x4096_6_0 shapeCasts_S1x4096_S4096 1 (by omega) ![1] rfl slicesBy_S4096_S2048_1s2 p)
      (hθ 6)
      (fun p => congrArg Ideal.cos (angle_row _ 6 ![6, 0] rfl slices_S8x2048_S1x2048_6_0 shapeCasts_S1x2048_S2048 p))
      (fun p => congrArg Ideal.sin (angle_row _ 6 ![6, 0] rfl slices_S8x2048_S1x2048_6_0 shapeCasts_S1x2048_S2048 p))
  exact Turned.step D h6 (k := 7)
      (fun p => D.words 7 ![7, 0] rfl slices_S8x4096_S1x4096_7_0 shapeCasts_S1x4096_S4096 0 (by omega) ![0] rfl slicesBy_S4096_S2048_0s2 p)
      (fun p => D.words 7 ![7, 0] rfl slices_S8x4096_S1x4096_7_0 shapeCasts_S1x4096_S4096 1 (by omega) ![1] rfl slicesBy_S4096_S2048_1s2 p)
      (hθ 7)
      (fun p => congrArg Ideal.cos (angle_row _ 7 ![7, 0] rfl slices_S8x2048_S1x2048_7_0 shapeCasts_S1x2048_S2048 p))
      (fun p => congrArg Ideal.sin (angle_row _ 7 ![7, 0] rfl slices_S8x2048_S1x2048_7_0 shapeCasts_S1x2048_S2048 p))

end Value

end Cert.Proof.Ref

end
-- ==== Proof.Whole.lean ====
/-
  The two results are one: the rows the SparseCores write and the rows the TensorCore writes are both the scaled rows turned by
  the angles' sum, and so are the reference's.
-/
module

public import proofs.«01_k».proof.Proof.Bmat
public import proofs.«01_k».proof.Proof.Launch
public import proofs.«01_k».proof.Proof.TcValue
public import proofs.«01_k».proof.Proof.Value

@[expose] public section

noncomputable section

namespace Cert.Proof.Tile

open Cert.KernelIdeal Cert.KernelIdeal.Gen
open Idealize.ShloMosaic hiding ix1 ix2 ix3 ix4 eq_ix2 eq_ix3
open Idealize.ShloMosaic.Pipeline Idealize.ShloMosaic.ValueIdx
open Cert.Proof.Spec

section Rows
variable {X : FVec Ideal S8192x4096 .f32} {P : IVec S8x4096 32} {TH : FVec Ideal S8x2048 .f32} {SC : FVec Ideal S1x4096 .f32} (D : Drawn X P TH SC)
include D

/-- A pair's columns lie in the pair's group. -/
theorem Drawn.c0_group (p : Fin 2048) : (c0 P p).val / 128 = p.val / 64 := by
  have := D.range 0 ⟨0 + 2 * p.val, by have := p.isLt; omega⟩
  unfold c0; rw [D.colAt_val]; show (_ + 128 * ((0 + 2 * p.val) / 128)) / 128 = _; omega
theorem Drawn.c1_group (p : Fin 2048) : (c1 P p).val / 128 = p.val / 64 := by
  have := D.range 0 ⟨1 + 2 * p.val, by have := p.isLt; omega⟩
  unfold c1; rw [D.colAt_val]; show (_ + 128 * ((1 + 2 * p.val) / 128)) / 128 = _; omega

/-- The words of the kernel's tables. -/
theorem Drawn.word0 (p : Fin 2048) : ((valsOf (F := Ideal) X P TH SC).I0 (ix1 p)).toNat = (c0 P p).val := by
  rw [← ix_eq]
  show (Host.slice S2048 ![0] ![2] (cols P) slicesBy_S4096_S2048_0s2 (ix p)).toNat = _
  rw [slice_at (cols P) 0 (by omega) ![0] rfl]
  exact (colOf_val (D.cols_lt _)).symm
theorem Drawn.word1 (p : Fin 2048) : ((valsOf (F := Ideal) X P TH SC).I1 (ix1 p)).toNat = (c1 P p).val := by
  rw [← ix_eq]
  show (Host.slice S2048 ![1] ![2] (cols P) slicesBy_S4096_S2048_1s2 (ix p)).toNat = _
  rw [slice_at (cols P) 1 (by omega) ![1] rfl]
  exact (colOf_val (D.cols_lt _)).symm

/-- What the call on the TensorCore leaves at a row: the scaled row turned by the angles' sum. -/
theorem rows_turned (r' : Fin 4608) (r : Fin 8192) (hr : r.val = 3584 + r'.val) {x s : Fin 4096 → ℝ} (hx : ∀ n, X (ix2 r n) = (x n : EReal)) (hs : ∀ n, SC (ix2 (0 : Fin 1) n) = (s n : EReal))
    {τ : Fin 2048 → ℝ} (hτ : ∀ p, ∑ k : Fin 8, TH (ix2 k p) = (τ p : EReal)) (p : Fin 2048) :
    Tc.rows X (bmatOf (valsOf (F := Ideal) X P TH SC)) (ix2 r' (c0 P p)) = ((Real.cos (τ p) * (x (c0 P p) * s (c0 P p)) - Real.sin (τ p) * (x (c1 P p) * s (c1 P p)) : ℝ) : EReal)
    ∧ Tc.rows X (bmatOf (valsOf (F := Ideal) X P TH SC)) (ix2 r' (c1 P p)) = ((Real.sin (τ p) * (x (c0 P p) * s (c0 P p)) + Real.cos (τ p) * (x (c1 P p) * s (c1 P p)) : ℝ) : EReal) := by
  have hp := p.isLt
  obtain ⟨g, hg⟩ : ∃ g : Fin 32, g.val = p.val / 64 := ⟨⟨p.val / 64, by omega⟩, rfl⟩
  obtain ⟨j, hj⟩ : ∃ j : Fin 64, j.val = p.val % 64 := ⟨⟨p.val % 64, by omega⟩, rfl⟩
  have hgl := g.isLt
  have hpj : pairOf g j = p := Fin.ext (by show 64 * g.val + j.val = p.val; omega)
  have grp : ∀ i : Fin 64, (pairOf g i).val / 64 = g.val := fun i => by show (64 * g.val + i.val) / 64 = g.val; have := i.isLt; omega
  obtain ⟨u, hu⟩ : ∃ u : Fin 64 → Fin 128, ∀ i, (u i).val = (c0 P (pairOf g i)).val % 128 := ⟨fun i => ⟨(c0 P (pairOf g i)).val % 128, by omega⟩, fun _ => rfl⟩
  obtain ⟨v, hv⟩ : ∃ v : Fin 64 → Fin 128, ∀ i, (v i).val = (c1 P (pairOf g i)).val % 128 := ⟨fun i => ⟨(c1 P (pairOf g i)).val % 128, by omega⟩, fun _ => rfl⟩
  have cu : ∀ i, (⟨128 * g.val + (u i).val, by omega⟩ : Fin 4096) = c0 P (pairOf g i) := fun i => Fin.ext (by
    have h1 := D.c0_group (pairOf g i); have h2 := hu i; have h3 := grp i; show 128 * g.val + (u i).val = _; omega)
  have cv : ∀ i, (⟨128 * g.val + (v i).val, by omega⟩ : Fin 4096) = c1 P (pairOf g i) := fun i => Fin.ext (by
    have h1 := D.c1_group (pairOf g i); have h2 := hv i; have h3 := grp i; show 128 * g.val + (v i).val = _; omega)
  have pinj : ∀ i k : Fin 64, pairOf g i = pairOf g k → i = k := fun i k h => by
    have := congrArg Fin.val h; change 64 * g.val + i.val = 64 * g.val + k.val at this; exact Fin.ext (by omega)
  have uinj : Function.Injective u := fun i k h => pinj i k (D.c0_inj (by rw [← cu, ← cu]; exact Fin.ext (by show 128 * g.val + (u i).val = 128 * g.val + (u k).val; rw [h])))
  have vinj : Function.Injective v := fun i k h => pinj i k (D.c1_inj (by rw [← cv, ← cv]; exact Fin.ext (by show 128 * g.val + (v i).val = 128 * g.val + (v k).val; rw [h])))
  have uv : ∀ i k, u i ≠ v k := fun i k h => D.c_ne (pairOf g i) (pairOf g k) (by rw [← cu, ← cv]; exact Fin.ext (by show 128 * g.val + (u i).val = 128 * g.val + (v k).val; rw [h]))
  have hC : ∀ q, (valsOf (F := Ideal) X P TH SC).C (ix1 q) = ((Real.cos (τ q) : ℝ) : EReal) := fun q => by
    show Ideal.cos (angle (F := Ideal) TH (ix1 q)) = _
    rw [angle_at, hτ]; rfl
  have hS : ∀ q, (valsOf (F := Ideal) X P TH SC).Sn (ix1 q) = ((Real.sin (τ q) : ℝ) : EReal) := fun q => by
    show Ideal.sin (angle (F := Ideal) TH (ix1 q)) = _
    rw [angle_at, hτ]; rfl
  have hsc : ∀ n, (valsOf (F := Ideal) X P TH SC).SC (ix1 n) = (s n : EReal) := fun n => by
    rw [← hs]
    exact shapeCast_apply _ shapeCasts_S1x4096_S4096 (ix1 n) (ix2 (0 : Fin 1) n) (by rw [Shape.rowMajor_val_two, Shape.rowMajor_val_one]; show 0 * 4096 + n.val = n.val; omega)
  have ho : ∀ i k, marksOf (F := Ideal) (valsOf (F := Ideal) X P TH SC).I0 (ix3 g i k) = ((mk (u i) k.val : ℝ) : EReal) := fun i k => by
    rw [marksOf_at _ g i k (by rw [D.word0]; exact (c0 P _).isLt), D.word0, hu]
  have ho' : ∀ i k, marksOf (F := Ideal) (valsOf (F := Ideal) X P TH SC).I1 (ix3 g i k) = ((mk (v i) k.val : ℝ) : EReal) := fun i k => by
    rw [marksOf_at _ g i k (by rw [D.word1]; exact (c1 P _).isLt), D.word1, hv]
  have B := matOf_at (coefOf_at hC hsc ho) (coefOf_at hS hsc ho') (coefOf_at hS hsc ho) (coefOf_at hC hsc ho') ho ho'
  have T := turn_sum (fun k => x ⟨128 * g.val + k.val, by omega⟩)
    (fun i => Real.cos (τ (pairOf g i)) * s ⟨128 * g.val + (u i).val, by omega⟩) (fun i => Real.sin (τ (pairOf g i)) * s ⟨128 * g.val + (v i).val, by omega⟩)
    (fun i => Real.sin (τ (pairOf g i)) * s ⟨128 * g.val + (u i).val, by omega⟩) (fun i => Real.cos (τ (pairOf g i)) * s ⟨128 * g.val + (v i).val, by omega⟩) u v uinj vinj uv j
  have key : ∀ (q : Fin 4096) (w : Fin 128), q.val = 128 * g.val + w.val → Tc.rows X (bmatOf (valsOf (F := Ideal) X P TH SC)) (ix2 r' q)
      = ∑ k : Fin 128, X (ix2 r (⟨128 * g.val + k.val, by omega⟩ : Fin 4096)) * bmatOf (valsOf (F := Ideal) X P TH SC) (ix3 g k w) := fun q w hq => by
    have hw := w.isLt
    unfold Tc.rows
    refine Finset.sum_congr rfl fun k _ => congrArg₂ (fun a b : EReal => a * b) (congrArg X (funext fun b => Fin.ext ?_)) (congrArg (bmatOf (valsOf (F := Ideal) X P TH SC)) (funext fun b => Fin.ext ?_))
    · match b with
      | 0 => exact hr.symm
      | 1 => show 128 * (q.val / 128) + k.val = 128 * g.val + k.val; omega
    · match b with
      | 0 => show q.val / 128 = g.val; omega
      | 1 => rfl
      | 2 => show q.val % 128 = w.val; omega
  have red : ∀ w : Fin 128, ∑ k : Fin 128, X (ix2 r (⟨128 * g.val + k.val, by omega⟩ : Fin 4096)) * bmatOf (valsOf (F := Ideal) X P TH SC) (ix3 g k w) = _ := fun w =>
    (Finset.sum_congr rfl fun k _ => by
      rw [hx]
      exact (congrArg (fun b : EReal => ((x ⟨128 * g.val + k.val, by omega⟩ : ℝ) : EReal) * b) (B k w)).trans (EReal.coe_mul _ _).symm).trans (coe_sum Finset.univ _)
  simp only [cu, cv, hpj] at T
  constructor
  · rw [key (c0 P p) (u j) (by rw [← hpj, ← cu]), red]
    simp only [cu, cv]
    rw [T.1]
    exact congrArg _ (by ring)
  · rw [key (c1 P p) (v j) (by rw [← hpj, ← cv]), red]
    simp only [cu, cv]
    rw [T.2]
    exact congrArg _ (by ring)

end Rows

/-- The kernel's result of its arguments: the SparseCores' rows above the TensorCore's. -/
def wholeV (X : FVec Ideal S8192x4096 .f32) (P : IVec S8x4096 32) (TH : FVec Ideal S8x2048 .f32) (SC : FVec Ideal S1x4096 .f32) : FVec Ideal S8192x4096 .f32 :=
  concatenate S8192x4096 0 [⟨S3584x4096, (valsOf (F := Ideal) X P TH SC).out⟩, ⟨S4608x4096, Tc.rows X (bmatOf (valsOf (F := Ideal) X P TH SC))⟩]
    concatenates_S3584x4096_S4608x4096_S8192x4096_d0

theorem wholeOf_eq (m : (ℓ : Loc nD τ sig) → Buf (Elt Ideal) ℓ) (d : Dev nD) :
    wholeOf (F := Ideal) m d = wholeV (m ((SparseCore.T d).loc main_arg0)) (m ((SparseCore.T d).loc main_arg1)) (m ((SparseCore.T d).loc main_arg2)) (m ((SparseCore.T d).loc main_arg3)) := by
  have h : rowsOfT (F := Ideal) m d = Tc.rows (m ((SparseCore.T d).loc main_arg0)) (bmatOf (vals m d)) :=
    Tc.result_eq (fun c b => VM m c (rA b)) d (VM_arg0 m d) (VM_v59 m d)
  unfold wholeOf wholeV
  rw [h]
  rfl

theorem wholeV_top (X : FVec Ideal S8192x4096 .f32) (P : IVec S8x4096 32) (TH : FVec Ideal S8x2048 .f32) (SC : FVec Ideal S1x4096 .f32) (r : Fin 8192) (h : r.val < 3584) (c : Fin 4096) :
    wholeV X P TH SC (ix2 r c) = Spec.trips (valsOf (F := Ideal) X P TH SC).tab 128 (rowX (F := Ideal) X r) c := by
  unfold wholeV
  rw [concatenate_pair_apply_left (t := S8192x4096) (s₁ := S3584x4096) (s₂ := S4608x4096) 0 _ _ _ (ix2 r c) rfl (ix2 (⟨r.val, h⟩ : Fin 3584) c) (fun b => by
    match b with
    | 0 => rfl
    | 1 => rfl)]
  rfl

theorem wholeV_rest (X : FVec Ideal S8192x4096 .f32) (P : IVec S8x4096 32) (TH : FVec Ideal S8x2048 .f32) (SC : FVec Ideal S1x4096 .f32) (r : Fin 8192) (r' : Fin 4608) (h : r.val = 3584 + r'.val) (c : Fin 4096) :
    wholeV X P TH SC (ix2 r c) = Tc.rows X (bmatOf (valsOf (F := Ideal) X P TH SC)) (ix2 r' c) := by
  unfold wholeV
  exact concatenate_pair_apply_right (t := S8192x4096) (s₁ := S3584x4096) (s₂ := S4608x4096) 0 _ _ _ (ix2 r c) rfl rfl (ix2 r' c) (fun b hb => by
    match b, hb with
    | 0, hb => exact absurd rfl hb
    | 1, _ => rfl) (by show r'.val + 3584 = r.val; omega)

section Equal
variable {V : Valuation Cert.ReferenceIdeal.τ Cert.ReferenceIdeal.sig (Elt Ideal)}
  {X : FVec Ideal S8192x4096 .f32} {P : IVec S8x4096 32} {TH : FVec Ideal S8x2048 .f32} {SC : FVec Ideal S1x4096 .f32}

/-- The reference's result is the kernel's. -/
theorem whole_eq (hX : V (Proc.devRef .tc Cert.ReferenceIdeal.main_arg0) = X) (hP : V (Proc.devRef .tc Cert.ReferenceIdeal.main_arg1) = P)
    (hT : V (Proc.devRef .tc Cert.ReferenceIdeal.main_arg2) = TH) (hS : V (Proc.devRef .tc Cert.ReferenceIdeal.main_arg3) = SC) (D : Drawn X P TH SC) :
    Cert.Proof.Ref.last V = wholeV X P TH SC := by
  funext j
  obtain ⟨r, c, rfl⟩ : ∃ (r : Fin 8192) (c : Fin 4096), j = ix2 r c := ⟨j 0, j 1, eq_ix2 j⟩
  choose x hx using D.finX
  choose t ht using D.finT
  choose s hs using D.finS
  have hY : Turned P r (fun p => x (ix2 r (c0 P p)) * s (ix2 (0 : Fin 1) (c0 P p))) (fun p => x (ix2 r (c1 P p)) * s (ix2 (0 : Fin 1) (c1 P p))) (fun _ => 0) (Cert.ReferenceIdeal.Value.res_main_v6 V) := by
    intro p
    rw [Cert.Proof.Ref.scaled_at hX hS, Cert.Proof.Ref.scaled_at hX hS, hx, hx, hs, hs, ← EReal.coe_mul, ← EReal.coe_mul, Real.cos_zero, Real.sin_zero]
    exact ⟨congrArg _ (by ring), congrArg _ (by ring)⟩
  have hL := Cert.Proof.Ref.turned_last hP hT D (θ := fun k p => t (ix2 k p)) (fun k p => ht _) hY
  have hτ : ∀ p : Fin 2048, ∑ k : Fin 8, TH (ix2 k p) = ((0 + t (ix2 0 p) + t (ix2 1 p) + t (ix2 2 p) + t (ix2 3 p) + t (ix2 4 p) + t (ix2 5 p) + t (ix2 6 p) + t (ix2 7 p) : ℝ) : EReal) := fun p => by
    rw [Fin.sum_univ_eight, ht, ht, ht, ht, ht, ht, ht, ht]
    simp only [← EReal.coe_add, zero_add]
  obtain ⟨p, hp⟩ := D.cover c
  by_cases hr : r.val < 3584
  · rw [wholeV_top X P TH SC r hr c]
    have hR := out_turned D r (fun _ => rfl) (fun _ => rfl) (fun p => hx (ix2 r (c0 P p))) (fun p => hx (ix2 r (c1 P p)))
      (fun p => hs (ix2 (0 : Fin 1) (c0 P p))) (fun p => hs (ix2 (0 : Fin 1) (c1 P p))) hτ p
    obtain rfl | rfl := hp
    · exact (hL p).1.trans hR.1.symm
    · exact (hL p).2.trans hR.2.symm
  · obtain ⟨r', hr'⟩ : ∃ r' : Fin 4608, r.val = 3584 + r'.val := ⟨⟨r.val - 3584, by have := r.isLt; omega⟩, by show r.val = 3584 + (r.val - 3584); omega⟩
    rw [wholeV_rest X P TH SC r r' hr' c]
    have hR := rows_turned D r' r hr' (x := fun n => x (ix2 r n)) (s := fun n => s (ix2 (0 : Fin 1) n)) (fun n => hx _) (fun n => hs _) hτ p
    obtain rfl | rfl := hp
    · exact (hL p).1.trans hR.1.symm
    · exact (hL p).2.trans hR.2.symm

end Equal

end Cert.Proof.Tile

end
-- ==== Proof.lean ====
/-
  The proof of `Cert.Claim`: the kernel's run (Proof/Launch.lean) gives its frames and its result; the reference's generated
  run gives the reference's; Proof/Whole.lean says that the two results are one.
-/
module

public import proofs.«01_k».proof.Defs
public import proofs.«01_k».proof.Proof.Frames
public import proofs.«01_k».proof.Proof.Whole
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run

@[expose] public section

noncomputable section

namespace Cert.Proof

open Idealize.ShloMosaic Idealize.SL.Sem
open Cert.Proof.Tile

theorem frame_kernelIdeal_drawn : Cert.quiescent_KernelIdeal_pre_drawn := fun m ρ h =>
  (θ_run Cert.KernelIdeal.defs _ _).mono (fun _ hr => ⟨fun c => ⟨(hr.1 c).1, (hr.1 c).2.1, (hr.1 c).2.2.1, (hr.1 c).2.2.2.1⟩, hr.2⟩)
    (run_main (F := Ideal) m ρ fun d => ok_of_range fun i => (drawn_of_pre (h d)).range 0 i)

theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

theorem frame_referenceIdeal_drawn : Cert.quiescent_ReferenceIdeal_pre_drawn := fun m ρ _ => frame_referenceIdeal m ρ trivial

/-- The reference's result from `m'` is what the kernel leaves from `m`, where their arguments agree. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    {X : FVec Ideal Cert.KernelIdeal.S8192x4096 .f32} {P : IVec Cert.KernelIdeal.S8x4096 32} {TH : FVec Ideal Cert.KernelIdeal.S8x2048 .f32} {SC : FVec Ideal Cert.KernelIdeal.S1x4096 .f32}
    (h0 : StableHlo.launchContents m' c (Proc.devRef .tc Cert.ReferenceIdeal.main_arg0) = X)
    (h1 : StableHlo.launchContents m' c (Proc.devRef .tc Cert.ReferenceIdeal.main_arg1) = P)
    (h2 : StableHlo.launchContents m' c (Proc.devRef .tc Cert.ReferenceIdeal.main_arg2) = TH)
    (h3 : StableHlo.launchContents m' c (Proc.devRef .tc Cert.ReferenceIdeal.main_arg3) = SC) (D : Drawn X P TH SC) :
    Cert.Proof.Ref.last (StableHlo.launchContents m' c) = wholeV X P TH SC :=
  whole_eq h0 h1 h2 h3 D

/-- On equal arguments as drawn, the kernel's result is the reference's. -/
theorem algebraic : Cert.algebraic_KernelIdeal_ReferenceIdeal_pre_drawn := by
  intro m ρ m' ρ' h hm
  refine ⟨fun c => wholeOf m c, ?_, ?_⟩
  · exact (θ_run Cert.KernelIdeal.defs _ _).mono (fun _ hr c => ⟨(hr.1 c).2.2.2.2, (hr.1 c).1, (hr.1 c).2.1, (hr.1 c).2.2.1, (hr.1 c).2.2.2.1⟩)
      (run_main (F := Ideal) m ρ fun d => ok_of_range fun i => (drawn_of_pre (h d)).range 0 i)
  · exact (θ_run Cert.ReferenceIdeal.defs _ _).mono
      (fun _ hr c => ⟨(hr c).1.trans ((result_eq m m' c (hm c).1 (hm c).2.1 (hm c).2.2.1 (hm c).2.2.2 (drawn_of_pre (h c))).trans (wholeOf_eq m c).symm), (hr c).2⟩)
      (Cert.ReferenceIdeal.Value.run m' ρ')

theorem claim : Cert.Claim :=
  ⟨Cert.Kernel.Gen.facts, Cert.KernelIdeal.Gen.facts, Cert.ReferenceIdeal.Gen.facts, Cert.Pre_in_range.Gen.facts, Cert.Pre_drawn.Gen.facts,
    frame_kernel, frame_kernelIdeal, frame_kernelIdeal_drawn, frame_referenceIdeal, frame_referenceIdeal_drawn, trivial, algebraic⟩

end Cert.Proof

end
